-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_OutBwdKernel (m : (ℓ : Loc Cert.OutBwdKernel.nD Cert.OutBwdKernel.τ Cert.OutBwdKernel.sig) → Buf (Elt Bits) ℓ) : Prop :=
  True

def Pre_OutBwdKernelIdeal (m : (ℓ : Loc Cert.OutBwdKernelIdeal.nD Cert.OutBwdKernelIdeal.τ Cert.OutBwdKernelIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_FlashBwdKernel (m : (ℓ : Loc Cert.FlashBwdKernel.nD Cert.FlashBwdKernel.τ Cert.FlashBwdKernel.sig) → Buf (Elt Bits) ℓ) : Prop :=
  True

def Pre_FlashBwdKernelIdeal (m : (ℓ : Loc Cert.FlashBwdKernelIdeal.nD Cert.FlashBwdKernelIdeal.τ Cert.FlashBwdKernelIdeal.sig) → Buf (Elt Ideal) ℓ) : Prop :=
  True

def Pre_FlashBwdKernelIdeal_flash_finite [hPre_flash_finite : Cert.Pre_flash_finite.Facts] (m : (ℓ : Loc Cert.FlashBwdKernelIdeal.nD Cert.FlashBwdKernelIdeal.τ Cert.FlashBwdKernelIdeal.sig) → Buf (Elt Ideal) ℓ) : Prop :=
  ∀ c : Dev Cert.FlashBwdKernelIdeal.nD,
    (Cert.Pre_flash_finite.fn (F := Ideal) (m ((c.tc : Thread Cert.FlashBwdKernelIdeal.nD Cert.FlashBwdKernelIdeal.τ).loc Cert.FlashBwdKernelIdeal.main_arg0)) (m ((c.tc : Thread Cert.FlashBwdKernelIdeal.nD Cert.FlashBwdKernelIdeal.τ).loc Cert.FlashBwdKernelIdeal.main_arg1)) (m ((c.tc : Thread Cert.FlashBwdKernelIdeal.nD Cert.FlashBwdKernelIdeal.τ).loc Cert.FlashBwdKernelIdeal.main_arg2)) (m ((c.tc : Thread Cert.FlashBwdKernelIdeal.nD Cert.FlashBwdKernelIdeal.τ).loc Cert.FlashBwdKernelIdeal.main_arg3))).1 = (fun _ => 1#1)
    ∧ (Cert.Pre_flash_finite.fn (F := Ideal) (m ((c.tc : Thread Cert.FlashBwdKernelIdeal.nD Cert.FlashBwdKernelIdeal.τ).loc Cert.FlashBwdKernelIdeal.main_arg0)) (m ((c.tc : Thread Cert.FlashBwdKernelIdeal.nD Cert.FlashBwdKernelIdeal.τ).loc Cert.FlashBwdKernelIdeal.main_arg1)) (m ((c.tc : Thread Cert.FlashBwdKernelIdeal.nD Cert.FlashBwdKernelIdeal.τ).loc Cert.FlashBwdKernelIdeal.main_arg2)) (m ((c.tc : Thread Cert.FlashBwdKernelIdeal.nD Cert.FlashBwdKernelIdeal.τ).loc Cert.FlashBwdKernelIdeal.main_arg3))).2.1 = (fun _ => 1#1)
    ∧ (Cert.Pre_flash_finite.fn (F := Ideal) (m ((c.tc : Thread Cert.FlashBwdKernelIdeal.nD Cert.FlashBwdKernelIdeal.τ).loc Cert.FlashBwdKernelIdeal.main_arg0)) (m ((c.tc : Thread Cert.FlashBwdKernelIdeal.nD Cert.FlashBwdKernelIdeal.τ).loc Cert.FlashBwdKernelIdeal.main_arg1)) (m ((c.tc : Thread Cert.FlashBwdKernelIdeal.nD Cert.FlashBwdKernelIdeal.τ).loc Cert.FlashBwdKernelIdeal.main_arg2)) (m ((c.tc : Thread Cert.FlashBwdKernelIdeal.nD Cert.FlashBwdKernelIdeal.τ).loc Cert.FlashBwdKernelIdeal.main_arg3))).2.2.1 = (fun _ => 1#1)
    ∧ (Cert.Pre_flash_finite.fn (F := Ideal) (m ((c.tc : Thread Cert.FlashBwdKernelIdeal.nD Cert.FlashBwdKernelIdeal.τ).loc Cert.FlashBwdKernelIdeal.main_arg0)) (m ((c.tc : Thread Cert.FlashBwdKernelIdeal.nD Cert.FlashBwdKernelIdeal.τ).loc Cert.FlashBwdKernelIdeal.main_arg1)) (m ((c.tc : Thread Cert.FlashBwdKernelIdeal.nD Cert.FlashBwdKernelIdeal.τ).loc Cert.FlashBwdKernelIdeal.main_arg2)) (m ((c.tc : Thread Cert.FlashBwdKernelIdeal.nD Cert.FlashBwdKernelIdeal.τ).loc Cert.FlashBwdKernelIdeal.main_arg3))).2.2.2 = (fun _ => 1#1)

def Pre_FlashBwdRefIdeal (m : (ℓ : Loc Cert.FlashBwdRefIdeal.nD Cert.FlashBwdRefIdeal.τ Cert.FlashBwdRefIdeal.sig) → Buf (Elt Ideal) ℓ) : Prop :=
  True

def Pre_FlashBwdRefIdeal_flash_finite [hPre_flash_finite : Cert.Pre_flash_finite.Facts] (m : (ℓ : Loc Cert.FlashBwdRefIdeal.nD Cert.FlashBwdRefIdeal.τ Cert.FlashBwdRefIdeal.sig) → Buf (Elt Ideal) ℓ) : Prop :=
  ∀ c : Dev Cert.FlashBwdRefIdeal.nD,
    (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.1 = (fun _ => 1#1)
    ∧ (Cert.Pre_flash_finite.fn (F := Ideal) (m ((c.tc : Thread Cert.FlashBwdRefIdeal.nD Cert.FlashBwdRefIdeal.τ).loc Cert.FlashBwdRefIdeal.main_arg0)) (m ((c.tc : Thread Cert.FlashBwdRefIdeal.nD Cert.FlashBwdRefIdeal.τ).loc Cert.FlashBwdRefIdeal.main_arg1)) (m ((c.tc : Thread Cert.FlashBwdRefIdeal.nD Cert.FlashBwdRefIdeal.τ).loc Cert.FlashBwdRefIdeal.main_arg2)) (m ((c.tc : Thread Cert.FlashBwdRefIdeal.nD Cert.FlashBwdRefIdeal.τ).loc Cert.FlashBwdRefIdeal.main_arg3))).2.2.2 = (fun _ => 1#1)

def Pre_FfnBwdKernel (m : (ℓ : Loc Cert.FfnBwdKernel.nD Cert.FfnBwdKernel.τ Cert.FfnBwdKernel.sig) → Buf (Elt Bits) ℓ) : Prop :=
  True

def Pre_FfnBwdKernelIdeal (m : (ℓ : Loc Cert.FfnBwdKernelIdeal.nD Cert.FfnBwdKernelIdeal.τ Cert.FfnBwdKernelIdeal.sig) → Buf (Elt Ideal) ℓ) : Prop :=
  True

def Pre_FfnBwdKernelIdeal_ffn_finite [hPre_ffn_finite : Cert.Pre_ffn_finite.Facts] (m : (ℓ : Loc Cert.FfnBwdKernelIdeal.nD Cert.FfnBwdKernelIdeal.τ Cert.FfnBwdKernelIdeal.sig) → Buf (Elt Ideal) ℓ) : Prop :=
  ∀ c : Dev Cert.FfnBwdKernelIdeal.nD,
    (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).1 = (fun _ => 1#1)
    ∧ (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).2.1 = (fun _ => 1#1)
    ∧ (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).2.2.1 = (fun _ => 1#1)
    ∧ (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).2.2.2.1 = (fun _ => 1#1)
    ∧ (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).2.2.2.2.1 = (fun _ => 1#1)
    ∧ (Cert.Pre_ffn_finite.fn (F := Ideal) (m ((c.tc : Thread Cert.FfnBwdKernelIdeal.nD Cert.FfnBwdKernelIdeal.τ).loc Cert.FfnBwdKernelIdeal.main_arg0)) (m ((c.tc : Thread Cert.FfnBwdKernelIdeal.nD Cert.FfnBwdKernelIdeal.τ).loc Cert.FfnBwdKernelIdeal.main_arg1)) (m ((c.tc : Thread Cert.FfnBwdKernelIdeal.nD Cert.FfnBwdKernelIdeal.τ).loc Cert.FfnBwdKernelIdeal.main_arg2)) (m ((c.tc : Thread Cert.FfnBwdKernelIdeal.nD Cert.FfnBwdKernelIdeal.τ).loc Cert.FfnBwdKernelIdeal.main_arg3)) (m ((c.tc : Thread Cert.FfnBwdKernelIdeal.nD Cert.FfnBwdKernelIdeal.τ).loc Cert.FfnBwdKernelIdeal.main_arg4)) (m ((c.tc : Thread Cert.FfnBwdKernelIdeal.nD Cert.FfnBwdKernelIdeal.τ).loc Cert.FfnBwdKernelIdeal.main_arg5)) (m ((c.tc : Thread Cert.FfnBwdKernelIdeal.nD Cert.FfnBwdKernelIdeal.τ).loc Cert.FfnBwdKernelIdeal.main_arg6)) (m ((c.tc : Thread Cert.FfnBwdKernelIdeal.nD Cert.FfnBwdKernelIdeal.τ).loc Cert.FfnBwdKernelIdeal.main_arg7)) (m ((c.tc : Thread Cert.FfnBwdKernelIdeal.nD Cert.FfnBwdKernelIdeal.τ).loc Cert.FfnBwdKernelIdeal.main_arg8))).2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_ffn_finite [hPre_ffn_finite : Cert.Pre_ffn_finite.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).2.2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).2.2.2.2.1 = (fun _ => 1#1)
    ∧ (Cert.Pre_ffn_finite.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6)) (m ((c.tc : Thread Cert.FfnBwdRefIdeal.nD Cert.FfnBwdRefIdeal.τ).loc Cert.FfnBwdRefIdeal.main_arg7)) (m ((c.tc : Thread Cert.FfnBwdRefIdeal.nD Cert.FfnBwdRefIdeal.τ).loc Cert.FfnBwdRefIdeal.main_arg8))).2.2.2.2.2 = (fun _ => 1#1)

def Pre_PoolBwdKernel (m : (ℓ : Loc Cert.PoolBwdKernel.nD Cert.PoolBwdKernel.τ Cert.PoolBwdKernel.sig) → Buf (Elt Bits) ℓ) : Prop :=
  True

def Pre_PoolBwdKernelIdeal (m : (ℓ : Loc Cert.PoolBwdKernelIdeal.nD Cert.PoolBwdKernelIdeal.τ Cert.PoolBwdKernelIdeal.sig) → Buf (Elt Ideal) ℓ) : Prop :=
  True

def Pre_PoolBwdRefIdeal (m : (ℓ : Loc Cert.PoolBwdRefIdeal.nD Cert.PoolBwdRefIdeal.τ Cert.PoolBwdRefIdeal.sig) → Buf (Elt Ideal) ℓ) : Prop :=
  True

def Pre_FlashFwdKernel (m : (ℓ : Loc Cert.FlashFwdKernel.nD Cert.FlashFwdKernel.τ Cert.FlashFwdKernel.sig) → Buf (Elt Bits) ℓ) : Prop :=
  True

def Pre_FlashFwdKernelIdeal (m : (ℓ : Loc Cert.FlashFwdKernelIdeal.nD Cert.FlashFwdKernelIdeal.τ Cert.FlashFwdKernelIdeal.sig) → Buf (Elt Ideal) ℓ) : Prop :=
  True

def Pre_FlashFwdKernelIdeal_flashf_finite [hPre_flashf_finite : Cert.Pre_flashf_finite.Facts] (m : (ℓ : Loc Cert.FlashFwdKernelIdeal.nD Cert.FlashFwdKernelIdeal.τ Cert.FlashFwdKernelIdeal.sig) → Buf (Elt Ideal) ℓ) : Prop :=
  ∀ c : Dev Cert.FlashFwdKernelIdeal.nD,
    (Cert.Pre_flashf_finite.fn (F := Ideal) (m ((c.tc : Thread Cert.FlashFwdKernelIdeal.nD Cert.FlashFwdKernelIdeal.τ).loc Cert.FlashFwdKernelIdeal.main_arg0)) (m ((c.tc : Thread Cert.FlashFwdKernelIdeal.nD Cert.FlashFwdKernelIdeal.τ).loc Cert.FlashFwdKernelIdeal.main_arg1)) (m ((c.tc : Thread Cert.FlashFwdKernelIdeal.nD Cert.FlashFwdKernelIdeal.τ).loc Cert.FlashFwdKernelIdeal.main_arg2))).1 = (fun _ => 1#1)
    ∧ (Cert.Pre_flashf_finite.fn (F := Ideal) (m ((c.tc : Thread Cert.FlashFwdKernelIdeal.nD Cert.FlashFwdKernelIdeal.τ).loc Cert.FlashFwdKernelIdeal.main_arg0)) (m ((c.tc : Thread Cert.FlashFwdKernelIdeal.nD Cert.FlashFwdKernelIdeal.τ).loc Cert.FlashFwdKernelIdeal.main_arg1)) (m ((c.tc : Thread Cert.FlashFwdKernelIdeal.nD Cert.FlashFwdKernelIdeal.τ).loc Cert.FlashFwdKernelIdeal.main_arg2))).2.1 = (fun _ => 1#1)
    ∧ (Cert.Pre_flashf_finite.fn (F := Ideal) (m ((c.tc : Thread Cert.FlashFwdKernelIdeal.nD Cert.FlashFwdKernelIdeal.τ).loc Cert.FlashFwdKernelIdeal.main_arg0)) (m ((c.tc : Thread Cert.FlashFwdKernelIdeal.nD Cert.FlashFwdKernelIdeal.τ).loc Cert.FlashFwdKernelIdeal.main_arg1)) (m ((c.tc : Thread Cert.FlashFwdKernelIdeal.nD Cert.FlashFwdKernelIdeal.τ).loc Cert.FlashFwdKernelIdeal.main_arg2))).2.2 = (fun _ => 1#1)

def Pre_FlashFwdRefIdeal (m : (ℓ : Loc Cert.FlashFwdRefIdeal.nD Cert.FlashFwdRefIdeal.τ Cert.FlashFwdRefIdeal.sig) → Buf (Elt Ideal) ℓ) : Prop :=
  True

def Pre_FlashFwdRefIdeal_flashf_finite [hPre_flashf_finite : Cert.Pre_flashf_finite.Facts] (m : (ℓ : Loc Cert.FlashFwdRefIdeal.nD Cert.FlashFwdRefIdeal.τ Cert.FlashFwdRefIdeal.sig) → Buf (Elt Ideal) ℓ) : Prop :=
  ∀ c : Dev Cert.FlashFwdRefIdeal.nD,
    (Cert.Pre_flashf_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).1 = (fun _ => 1#1)
    ∧ (Cert.Pre_flashf_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.1 = (fun _ => 1#1)
    ∧ (Cert.Pre_flashf_finite.fn (F := Ideal) (m ((c.tc : Thread Cert.FlashFwdRefIdeal.nD Cert.FlashFwdRefIdeal.τ).loc Cert.FlashFwdRefIdeal.main_arg0)) (m ((c.tc : Thread Cert.FlashFwdRefIdeal.nD Cert.FlashFwdRefIdeal.τ).loc Cert.FlashFwdRefIdeal.main_arg1)) (m ((c.tc : Thread Cert.FlashFwdRefIdeal.nD Cert.FlashFwdRefIdeal.τ).loc Cert.FlashFwdRefIdeal.main_arg2))).2.2 = (fun _ => 1#1)

def Pre_FfnFwdKernel (m : (ℓ : Loc Cert.FfnFwdKernel.nD Cert.FfnFwdKernel.τ Cert.FfnFwdKernel.sig) → Buf (Elt Bits) ℓ) : Prop :=
  True

def Pre_FfnFwdKernelIdeal (m : (ℓ : Loc Cert.FfnFwdKernelIdeal.nD Cert.FfnFwdKernelIdeal.τ Cert.FfnFwdKernelIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_OutBwdKernel [hOutBwdKernel : Cert.OutBwdKernel.Facts] : Prop :=
  ∀ (m : (ℓ : Loc Cert.OutBwdKernel.nD Cert.OutBwdKernel.τ Cert.OutBwdKernel.sig) → Buf (Elt Bits) ℓ) (g : Dev Cert.OutBwdKernel.nD → PrngReg), Pre_OutBwdKernel m →
    θ_run (Cert.OutBwdKernel.defs (F := Bits)) (onTc (τ := Cert.OutBwdKernel.τ) (Cert.OutBwdKernel.main (F := Bits))) ⟨m, fun _ => 0, g⟩ (fun r => (∀ c : Dev Cert.OutBwdKernel.nD,
      r.2.mem ((c.tc : Thread Cert.OutBwdKernel.nD Cert.OutBwdKernel.τ).loc Cert.OutBwdKernel.main_arg0) = m ((c.tc : Thread Cert.OutBwdKernel.nD Cert.OutBwdKernel.τ).loc Cert.OutBwdKernel.main_arg0)
      ∧ r.2.mem ((c.tc : Thread Cert.OutBwdKernel.nD Cert.OutBwdKernel.τ).loc Cert.OutBwdKernel.main_arg1) = m ((c.tc : Thread Cert.OutBwdKernel.nD Cert.OutBwdKernel.τ).loc Cert.OutBwdKernel.main_arg1)
      ∧ r.2.mem ((c.tc : Thread Cert.OutBwdKernel.nD Cert.OutBwdKernel.τ).loc Cert.OutBwdKernel.main_arg2) = m ((c.tc : Thread Cert.OutBwdKernel.nD Cert.OutBwdKernel.τ).loc Cert.OutBwdKernel.main_arg2))
      ∧ r.2.sem = fun _ => 0)

def quiescent_OutBwdKernelIdeal [hOutBwdKernelIdeal : Cert.OutBwdKernelIdeal.Facts] : Prop :=
  ∀ (m : (ℓ : Loc Cert.OutBwdKernelIdeal.nD Cert.OutBwdKernelIdeal.τ Cert.OutBwdKernelIdeal.sig) → Buf (Elt Ideal) ℓ) (g : Dev Cert.OutBwdKernelIdeal.nD → PrngReg), Pre_OutBwdKernelIdeal m →
    θ_run (Cert.OutBwdKernelIdeal.defs (F := Ideal)) (onTc (τ := Cert.OutBwdKernelIdeal.τ) (Cert.OutBwdKernelIdeal.main (F := Ideal))) ⟨m, fun _ => 0, g⟩ (fun r => (∀ c : Dev Cert.OutBwdKernelIdeal.nD,
      r.2.mem ((c.tc : Thread Cert.OutBwdKernelIdeal.nD Cert.OutBwdKernelIdeal.τ).loc Cert.OutBwdKernelIdeal.main_arg0) = m ((c.tc : Thread Cert.OutBwdKernelIdeal.nD Cert.OutBwdKernelIdeal.τ).loc Cert.OutBwdKernelIdeal.main_arg0)
      ∧ r.2.mem ((c.tc : Thread Cert.OutBwdKernelIdeal.nD Cert.OutBwdKernelIdeal.τ).loc Cert.OutBwdKernelIdeal.main_arg1) = m ((c.tc : Thread Cert.OutBwdKernelIdeal.nD Cert.OutBwdKernelIdeal.τ).loc Cert.OutBwdKernelIdeal.main_arg1)
      ∧ r.2.mem ((c.tc : Thread Cert.OutBwdKernelIdeal.nD Cert.OutBwdKernelIdeal.τ).loc Cert.OutBwdKernelIdeal.main_arg2) = m ((c.tc : Thread Cert.OutBwdKernelIdeal.nD Cert.OutBwdKernelIdeal.τ).loc Cert.OutBwdKernelIdeal.main_arg2))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2))
      ∧ r.2.sem = fun _ => 0)

def quiescent_FlashBwdKernel [hFlashBwdKernel : Cert.FlashBwdKernel.Facts] : Prop :=
  ∀ (m : (ℓ : Loc Cert.FlashBwdKernel.nD Cert.FlashBwdKernel.τ Cert.FlashBwdKernel.sig) → Buf (Elt Bits) ℓ) (g : Dev Cert.FlashBwdKernel.nD → PrngReg), Pre_FlashBwdKernel m →
    θ_run (Cert.FlashBwdKernel.defs (F := Bits)) (onTc (τ := Cert.FlashBwdKernel.τ) (Cert.FlashBwdKernel.main (F := Bits))) ⟨m, fun _ => 0, g⟩ (fun r => (∀ c : Dev Cert.FlashBwdKernel.nD,
      r.2.mem ((c.tc : Thread Cert.FlashBwdKernel.nD Cert.FlashBwdKernel.τ).loc Cert.FlashBwdKernel.main_arg0) = m ((c.tc : Thread Cert.FlashBwdKernel.nD Cert.FlashBwdKernel.τ).loc Cert.FlashBwdKernel.main_arg0)
      ∧ r.2.mem ((c.tc : Thread Cert.FlashBwdKernel.nD Cert.FlashBwdKernel.τ).loc Cert.FlashBwdKernel.main_arg1) = m ((c.tc : Thread Cert.FlashBwdKernel.nD Cert.FlashBwdKernel.τ).loc Cert.FlashBwdKernel.main_arg1)
      ∧ r.2.mem ((c.tc : Thread Cert.FlashBwdKernel.nD Cert.FlashBwdKernel.τ).loc Cert.FlashBwdKernel.main_arg2) = m ((c.tc : Thread Cert.FlashBwdKernel.nD Cert.FlashBwdKernel.τ).loc Cert.FlashBwdKernel.main_arg2)
      ∧ r.2.mem ((c.tc : Thread Cert.FlashBwdKernel.nD Cert.FlashBwdKernel.τ).loc Cert.FlashBwdKernel.main_arg3) = m ((c.tc : Thread Cert.FlashBwdKernel.nD Cert.FlashBwdKernel.τ).loc Cert.FlashBwdKernel.main_arg3))
      ∧ r.2.sem = fun _ => 0)

def quiescent_FlashBwdKernelIdeal [hFlashBwdKernelIdeal : Cert.FlashBwdKernelIdeal.Facts] : Prop :=
  ∀ (m : (ℓ : Loc Cert.FlashBwdKernelIdeal.nD Cert.FlashBwdKernelIdeal.τ Cert.FlashBwdKernelIdeal.sig) → Buf (Elt Ideal) ℓ) (g : Dev Cert.FlashBwdKernelIdeal.nD → PrngReg), Pre_FlashBwdKernelIdeal m →
    θ_run (Cert.FlashBwdKernelIdeal.defs (F := Ideal)) (onTc (τ := Cert.FlashBwdKernelIdeal.τ) (Cert.FlashBwdKernelIdeal.main (F := Ideal))) ⟨m, fun _ => 0, g⟩ (fun r => (∀ c : Dev Cert.FlashBwdKernelIdeal.nD,
      r.2.mem ((c.tc : Thread Cert.FlashBwdKernelIdeal.nD Cert.FlashBwdKernelIdeal.τ).loc Cert.FlashBwdKernelIdeal.main_arg0) = m ((c.tc : Thread Cert.FlashBwdKernelIdeal.nD Cert.FlashBwdKernelIdeal.τ).loc Cert.FlashBwdKernelIdeal.main_arg0)
      ∧ r.2.mem ((c.tc : Thread Cert.FlashBwdKernelIdeal.nD Cert.FlashBwdKernelIdeal.τ).loc Cert.FlashBwdKernelIdeal.main_arg1) = m ((c.tc : Thread Cert.FlashBwdKernelIdeal.nD Cert.FlashBwdKernelIdeal.τ).loc Cert.FlashBwdKernelIdeal.main_arg1)
      ∧ r.2.mem ((c.tc : Thread Cert.FlashBwdKernelIdeal.nD Cert.FlashBwdKernelIdeal.τ).loc Cert.FlashBwdKernelIdeal.main_arg2) = m ((c.tc : Thread Cert.FlashBwdKernelIdeal.nD Cert.FlashBwdKernelIdeal.τ).loc Cert.FlashBwdKernelIdeal.main_arg2)
      ∧ r.2.mem ((c.tc : Thread Cert.FlashBwdKernelIdeal.nD Cert.FlashBwdKernelIdeal.τ).loc Cert.FlashBwdKernelIdeal.main_arg3) = m ((c.tc : Thread Cert.FlashBwdKernelIdeal.nD Cert.FlashBwdKernelIdeal.τ).loc Cert.FlashBwdKernelIdeal.main_arg3))
      ∧ r.2.sem = fun _ => 0)

def quiescent_FlashBwdKernelIdeal_pre_flash_finite [hFlashBwdKernelIdeal : Cert.FlashBwdKernelIdeal.Facts] [hPre_flash_finite : Cert.Pre_flash_finite.Facts] : Prop :=
  ∀ (m : (ℓ : Loc Cert.FlashBwdKernelIdeal.nD Cert.FlashBwdKernelIdeal.τ Cert.FlashBwdKernelIdeal.sig) → Buf (Elt Ideal) ℓ) (g : Dev Cert.FlashBwdKernelIdeal.nD → PrngReg), Pre_FlashBwdKernelIdeal_flash_finite m →
    θ_run (Cert.FlashBwdKernelIdeal.defs (F := Ideal)) (onTc (τ := Cert.FlashBwdKernelIdeal.τ) (Cert.FlashBwdKernelIdeal.main (F := Ideal))) ⟨m, fun _ => 0, g⟩ (fun r => (∀ c : Dev Cert.FlashBwdKernelIdeal.nD,
      r.2.mem ((c.tc : Thread Cert.FlashBwdKernelIdeal.nD Cert.FlashBwdKernelIdeal.τ).loc Cert.FlashBwdKernelIdeal.main_arg0) = m ((c.tc : Thread Cert.FlashBwdKernelIdeal.nD Cert.FlashBwdKernelIdeal.τ).loc Cert.FlashBwdKernelIdeal.main_arg0)
      ∧ r.2.mem ((c.tc : Thread Cert.FlashBwdKernelIdeal.nD Cert.FlashBwdKernelIdeal.τ).loc Cert.FlashBwdKernelIdeal.main_arg1) = m ((c.tc : Thread Cert.FlashBwdKernelIdeal.nD Cert.FlashBwdKernelIdeal.τ).loc Cert.FlashBwdKernelIdeal.main_arg1)
      ∧ r.2.mem ((c.tc : Thread Cert.FlashBwdKernelIdeal.nD Cert.FlashBwdKernelIdeal.τ).loc Cert.FlashBwdKernelIdeal.main_arg2) = m ((c.tc : Thread Cert.FlashBwdKernelIdeal.nD Cert.FlashBwdKernelIdeal.τ).loc Cert.FlashBwdKernelIdeal.main_arg2)
      ∧ r.2.mem ((c.tc : Thread Cert.FlashBwdKernelIdeal.nD Cert.FlashBwdKernelIdeal.τ).loc Cert.FlashBwdKernelIdeal.main_arg3) = m ((c.tc : Thread Cert.FlashBwdKernelIdeal.nD Cert.FlashBwdKernelIdeal.τ).loc Cert.FlashBwdKernelIdeal.main_arg3))
      ∧ r.2.sem = fun _ => 0)

def quiescent_FlashBwdRefIdeal [hFlashBwdRefIdeal : Cert.FlashBwdRefIdeal.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FlashBwdRefIdeal_pre_flash_finite [hFlashBwdRefIdeal : Cert.FlashBwdRefIdeal.Facts] [hPre_flash_finite : Cert.Pre_flash_finite.Facts] : Prop :=
  ∀ (m : (ℓ : Loc Cert.FlashBwdRefIdeal.nD Cert.FlashBwdRefIdeal.τ Cert.FlashBwdRefIdeal.sig) → Buf (Elt Ideal) ℓ) (g : Dev Cert.FlashBwdRefIdeal.nD → PrngReg), Pre_FlashBwdRefIdeal_flash_finite m →
    θ_run (Cert.FlashBwdRefIdeal.defs (F := Ideal)) (onTc (τ := Cert.FlashBwdRefIdeal.τ) (Cert.FlashBwdRefIdeal.main (F := Ideal))) ⟨m, fun _ => 0, g⟩ (fun r => (∀ c : Dev Cert.FlashBwdRefIdeal.nD,
      r.2.mem ((c.tc : Thread Cert.FlashBwdRefIdeal.nD Cert.FlashBwdRefIdeal.τ).loc Cert.FlashBwdRefIdeal.main_arg0) = m ((c.tc : Thread Cert.FlashBwdRefIdeal.nD Cert.FlashBwdRefIdeal.τ).loc Cert.FlashBwdRefIdeal.main_arg0)
      ∧ r.2.mem ((c.tc : Thread Cert.FlashBwdRefIdeal.nD Cert.FlashBwdRefIdeal.τ).loc Cert.FlashBwdRefIdeal.main_arg1) = m ((c.tc : Thread Cert.FlashBwdRefIdeal.nD Cert.FlashBwdRefIdeal.τ).loc Cert.FlashBwdRefIdeal.main_arg1)
      ∧ r.2.mem ((c.tc : Thread Cert.FlashBwdRefIdeal.nD Cert.FlashBwdRefIdeal.τ).loc Cert.FlashBwdRefIdeal.main_arg2) = m ((c.tc : Thread Cert.FlashBwdRefIdeal.nD Cert.FlashBwdRefIdeal.τ).loc Cert.FlashBwdRefIdeal.main_arg2)
      ∧ r.2.mem ((c.tc : Thread Cert.FlashBwdRefIdeal.nD Cert.FlashBwdRefIdeal.τ).loc Cert.FlashBwdRefIdeal.main_arg3) = m ((c.tc : Thread Cert.FlashBwdRefIdeal.nD Cert.FlashBwdRefIdeal.τ).loc Cert.FlashBwdRefIdeal.main_arg3))
      ∧ r.2.sem = fun _ => 0)

def quiescent_FfnBwdKernel [hFfnBwdKernel : Cert.FfnBwdKernel.Facts] : Prop :=
  ∀ (m : (ℓ : Loc Cert.FfnBwdKernel.nD Cert.FfnBwdKernel.τ Cert.FfnBwdKernel.sig) → Buf (Elt Bits) ℓ) (g : Dev Cert.FfnBwdKernel.nD → PrngReg), Pre_FfnBwdKernel m →
    θ_run (Cert.FfnBwdKernel.defs (F := Bits)) (onTc (τ := Cert.FfnBwdKernel.τ) (Cert.FfnBwdKernel.main (F := Bits))) ⟨m, fun _ => 0, g⟩ (fun r => (∀ c : Dev Cert.FfnBwdKernel.nD,
      r.2.mem ((c.tc : Thread Cert.FfnBwdKernel.nD Cert.FfnBwdKernel.τ).loc Cert.FfnBwdKernel.main_arg0) = m ((c.tc : Thread Cert.FfnBwdKernel.nD Cert.FfnBwdKernel.τ).loc Cert.FfnBwdKernel.main_arg0)
      ∧ r.2.mem ((c.tc : Thread Cert.FfnBwdKernel.nD Cert.FfnBwdKernel.τ).loc Cert.FfnBwdKernel.main_arg1) = m ((c.tc : Thread Cert.FfnBwdKernel.nD Cert.FfnBwdKernel.τ).loc Cert.FfnBwdKernel.main_arg1)
      ∧ r.2.mem ((c.tc : Thread Cert.FfnBwdKernel.nD Cert.FfnBwdKernel.τ).loc Cert.FfnBwdKernel.main_arg2) = m ((c.tc : Thread Cert.FfnBwdKernel.nD Cert.FfnBwdKernel.τ).loc Cert.FfnBwdKernel.main_arg2)
      ∧ r.2.mem ((c.tc : Thread Cert.FfnBwdKernel.nD Cert.FfnBwdKernel.τ).loc Cert.FfnBwdKernel.main_arg3) = m ((c.tc : Thread Cert.FfnBwdKernel.nD Cert.FfnBwdKernel.τ).loc Cert.FfnBwdKernel.main_arg3)
      ∧ r.2.mem ((c.tc : Thread Cert.FfnBwdKernel.nD Cert.FfnBwdKernel.τ).loc Cert.FfnBwdKernel.main_arg4) = m ((c.tc : Thread Cert.FfnBwdKernel.nD Cert.FfnBwdKernel.τ).loc Cert.FfnBwdKernel.main_arg4)
      ∧ r.2.mem ((c.tc : Thread Cert.FfnBwdKernel.nD Cert.FfnBwdKernel.τ).loc Cert.FfnBwdKernel.main_arg5) = m ((c.tc : Thread Cert.FfnBwdKernel.nD Cert.FfnBwdKernel.τ).loc Cert.FfnBwdKernel.main_arg5)
      ∧ r.2.mem ((c.tc : Thread Cert.FfnBwdKernel.nD Cert.FfnBwdKernel.τ).loc Cert.FfnBwdKernel.main_arg6) = m ((c.tc : Thread Cert.FfnBwdKernel.nD Cert.FfnBwdKernel.τ).loc Cert.FfnBwdKernel.main_arg6)
      ∧ r.2.mem ((c.tc : Thread Cert.FfnBwdKernel.nD Cert.FfnBwdKernel.τ).loc Cert.FfnBwdKernel.main_arg7) = m ((c.tc : Thread Cert.FfnBwdKernel.nD Cert.FfnBwdKernel.τ).loc Cert.FfnBwdKernel.main_arg7)
      ∧ r.2.mem ((c.tc : Thread Cert.FfnBwdKernel.nD Cert.FfnBwdKernel.τ).loc Cert.FfnBwdKernel.main_arg8) = m ((c.tc : Thread Cert.FfnBwdKernel.nD Cert.FfnBwdKernel.τ).loc Cert.FfnBwdKernel.main_arg8))
      ∧ r.2.sem = fun _ => 0)

def quiescent_FfnBwdKernelIdeal [hFfnBwdKernelIdeal : Cert.FfnBwdKernelIdeal.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4)
      ∧ r.2.mem ((c.tc : Thread Cert.FfnBwdKernelIdeal.nD Cert.FfnBwdKernelIdeal.τ).loc Cert.FfnBwdKernelIdeal.main_arg5) = m ((c.tc : Thread Cert.FfnBwdKernelIdeal.nD Cert.FfnBwdKernelIdeal.τ).loc Cert.FfnBwdKernelIdeal.main_arg5)
      ∧ r.2.mem ((c.tc : Thread Cert.FfnBwdKernelIdeal.nD Cert.FfnBwdKernelIdeal.τ).loc Cert.FfnBwdKernelIdeal.main_arg6) = m ((c.tc : Thread Cert.FfnBwdKernelIdeal.nD Cert.FfnBwdKernelIdeal.τ).loc Cert.FfnBwdKernelIdeal.main_arg6)
      ∧ r.2.mem ((c.tc : Thread Cert.FfnBwdKernelIdeal.nD Cert.FfnBwdKernelIdeal.τ).loc Cert.FfnBwdKernelIdeal.main_arg7) = m ((c.tc : Thread Cert.FfnBwdKernelIdeal.nD Cert.FfnBwdKernelIdeal.τ).loc Cert.FfnBwdKernelIdeal.main_arg7)
      ∧ r.2.mem ((c.tc : Thread Cert.FfnBwdKernelIdeal.nD Cert.FfnBwdKernelIdeal.τ).loc Cert.FfnBwdKernelIdeal.main_arg8) = m ((c.tc : Thread Cert.FfnBwdKernelIdeal.nD Cert.FfnBwdKernelIdeal.τ).loc Cert.FfnBwdKernelIdeal.main_arg8))
      ∧ r.2.sem = fun _ => 0)

def quiescent_FfnBwdKernelIdeal_pre_ffn_finite [hFfnBwdKernelIdeal : Cert.FfnBwdKernelIdeal.Facts] [hPre_ffn_finite : Cert.Pre_ffn_finite.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg), Pre_FfnBwdKernelIdeal_ffn_finite m →
    θ_run (Cert.FfnBwdKernelIdeal.defs (F := Ideal)) (onTc (τ := Cert.FfnBwdKernelIdeal.τ) (Cert.FfnBwdKernelIdeal.main (F := Ideal))) ⟨m, fun _ => 0, g⟩ (fun r => (∀ c : Dev Cert.FfnBwdKernelIdeal.nD,
      r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
      ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
      ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
      ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
      ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4)
      ∧ r.2.mem ((c.tc : Thread Cert.FfnBwdKernelIdeal.nD Cert.FfnBwdKernelIdeal.τ).loc Cert.FfnBwdKernelIdeal.main_arg5) = m ((c.tc : Thread Cert.FfnBwdKernelIdeal.nD Cert.FfnBwdKernelIdeal.τ).loc Cert.FfnBwdKernelIdeal.main_arg5)
      ∧ r.2.mem ((c.tc : Thread Cert.FfnBwdKernelIdeal.nD Cert.FfnBwdKernelIdeal.τ).loc Cert.FfnBwdKernelIdeal.main_arg6) = m ((c.tc : Thread Cert.FfnBwdKernelIdeal.nD Cert.FfnBwdKernelIdeal.τ).loc Cert.FfnBwdKernelIdeal.main_arg6)
      ∧ r.2.mem ((c.tc : Thread Cert.FfnBwdKernelIdeal.nD Cert.FfnBwdKernelIdeal.τ).loc Cert.FfnBwdKernelIdeal.main_arg7) = m ((c.tc : Thread Cert.FfnBwdKernelIdeal.nD Cert.FfnBwdKernelIdeal.τ).loc Cert.FfnBwdKernelIdeal.main_arg7)
      ∧ r.2.mem ((c.tc : Thread Cert.FfnBwdKernelIdeal.nD Cert.FfnBwdKernelIdeal.τ).loc Cert.FfnBwdKernelIdeal.main_arg8) = m ((c.tc : Thread Cert.FfnBwdKernelIdeal.nD Cert.FfnBwdKernelIdeal.τ).loc Cert.FfnBwdKernelIdeal.main_arg8))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8))
      ∧ r.2.sem = fun _ => 0)

def quiescent_FfnBwdRefIdeal_pre_ffn_finite [hFfnBwdRefIdeal : Cert.FfnBwdRefIdeal.Facts] [hPre_ffn_finite : Cert.Pre_ffn_finite.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_ffn_finite m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6)
      ∧ r.2.mem ((c.tc : Thread Cert.FfnBwdRefIdeal.nD Cert.FfnBwdRefIdeal.τ).loc Cert.FfnBwdRefIdeal.main_arg7) = m ((c.tc : Thread Cert.FfnBwdRefIdeal.nD Cert.FfnBwdRefIdeal.τ).loc Cert.FfnBwdRefIdeal.main_arg7)
      ∧ r.2.mem ((c.tc : Thread Cert.FfnBwdRefIdeal.nD Cert.FfnBwdRefIdeal.τ).loc Cert.FfnBwdRefIdeal.main_arg8) = m ((c.tc : Thread Cert.FfnBwdRefIdeal.nD Cert.FfnBwdRefIdeal.τ).loc Cert.FfnBwdRefIdeal.main_arg8))
      ∧ r.2.sem = fun _ => 0)

def quiescent_PoolBwdKernel [hPoolBwdKernel : Cert.PoolBwdKernel.Facts] : Prop :=
  ∀ (m : (ℓ : Loc Cert.PoolBwdKernel.nD Cert.PoolBwdKernel.τ Cert.PoolBwdKernel.sig) → Buf (Elt Bits) ℓ) (g : Dev Cert.PoolBwdKernel.nD → PrngReg), Pre_PoolBwdKernel m →
    θ_run (Cert.PoolBwdKernel.defs (F := Bits)) (onTc (τ := Cert.PoolBwdKernel.τ) (Cert.PoolBwdKernel.main (F := Bits))) ⟨m, fun _ => 0, g⟩ (fun r => (∀ c : Dev Cert.PoolBwdKernel.nD,
      r.2.mem ((c.tc : Thread Cert.PoolBwdKernel.nD Cert.PoolBwdKernel.τ).loc Cert.PoolBwdKernel.main_arg0) = m ((c.tc : Thread Cert.PoolBwdKernel.nD Cert.PoolBwdKernel.τ).loc Cert.PoolBwdKernel.main_arg0)
      ∧ r.2.mem ((c.tc : Thread Cert.PoolBwdKernel.nD Cert.PoolBwdKernel.τ).loc Cert.PoolBwdKernel.main_arg1) = m ((c.tc : Thread Cert.PoolBwdKernel.nD Cert.PoolBwdKernel.τ).loc Cert.PoolBwdKernel.main_arg1)
      ∧ r.2.mem ((c.tc : Thread Cert.PoolBwdKernel.nD Cert.PoolBwdKernel.τ).loc Cert.PoolBwdKernel.main_arg2) = m ((c.tc : Thread Cert.PoolBwdKernel.nD Cert.PoolBwdKernel.τ).loc Cert.PoolBwdKernel.main_arg2)
      ∧ r.2.mem ((c.tc : Thread Cert.PoolBwdKernel.nD Cert.PoolBwdKernel.τ).loc Cert.PoolBwdKernel.main_arg3) = m ((c.tc : Thread Cert.PoolBwdKernel.nD Cert.PoolBwdKernel.τ).loc Cert.PoolBwdKernel.main_arg3)
      ∧ r.2.mem ((c.tc : Thread Cert.PoolBwdKernel.nD Cert.PoolBwdKernel.τ).loc Cert.PoolBwdKernel.main_arg4) = m ((c.tc : Thread Cert.PoolBwdKernel.nD Cert.PoolBwdKernel.τ).loc Cert.PoolBwdKernel.main_arg4))
      ∧ r.2.sem = fun _ => 0)

def quiescent_PoolBwdKernelIdeal [hPoolBwdKernelIdeal : Cert.PoolBwdKernelIdeal.Facts] : Prop :=
  ∀ (m : (ℓ : Loc Cert.PoolBwdKernelIdeal.nD Cert.PoolBwdKernelIdeal.τ Cert.PoolBwdKernelIdeal.sig) → Buf (Elt Ideal) ℓ) (g : Dev Cert.PoolBwdKernelIdeal.nD → PrngReg), Pre_PoolBwdKernelIdeal m →
    θ_run (Cert.PoolBwdKernelIdeal.defs (F := Ideal)) (onTc (τ := Cert.PoolBwdKernelIdeal.τ) (Cert.PoolBwdKernelIdeal.main (F := Ideal))) ⟨m, fun _ => 0, g⟩ (fun r => (∀ c : Dev Cert.PoolBwdKernelIdeal.nD,
      r.2.mem ((c.tc : Thread Cert.PoolBwdKernelIdeal.nD Cert.PoolBwdKernelIdeal.τ).loc Cert.PoolBwdKernelIdeal.main_arg0) = m ((c.tc : Thread Cert.PoolBwdKernelIdeal.nD Cert.PoolBwdKernelIdeal.τ).loc Cert.PoolBwdKernelIdeal.main_arg0)
      ∧ r.2.mem ((c.tc : Thread Cert.PoolBwdKernelIdeal.nD Cert.PoolBwdKernelIdeal.τ).loc Cert.PoolBwdKernelIdeal.main_arg1) = m ((c.tc : Thread Cert.PoolBwdKernelIdeal.nD Cert.PoolBwdKernelIdeal.τ).loc Cert.PoolBwdKernelIdeal.main_arg1)
      ∧ r.2.mem ((c.tc : Thread Cert.PoolBwdKernelIdeal.nD Cert.PoolBwdKernelIdeal.τ).loc Cert.PoolBwdKernelIdeal.main_arg2) = m ((c.tc : Thread Cert.PoolBwdKernelIdeal.nD Cert.PoolBwdKernelIdeal.τ).loc Cert.PoolBwdKernelIdeal.main_arg2)
      ∧ r.2.mem ((c.tc : Thread Cert.PoolBwdKernelIdeal.nD Cert.PoolBwdKernelIdeal.τ).loc Cert.PoolBwdKernelIdeal.main_arg3) = m ((c.tc : Thread Cert.PoolBwdKernelIdeal.nD Cert.PoolBwdKernelIdeal.τ).loc Cert.PoolBwdKernelIdeal.main_arg3)
      ∧ r.2.mem ((c.tc : Thread Cert.PoolBwdKernelIdeal.nD Cert.PoolBwdKernelIdeal.τ).loc Cert.PoolBwdKernelIdeal.main_arg4) = m ((c.tc : Thread Cert.PoolBwdKernelIdeal.nD Cert.PoolBwdKernelIdeal.τ).loc Cert.PoolBwdKernelIdeal.main_arg4))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4))
      ∧ r.2.sem = fun _ => 0)

def quiescent_FlashFwdKernel [hFlashFwdKernel : Cert.FlashFwdKernel.Facts] : Prop :=
  ∀ (m : (ℓ : Loc Cert.FlashFwdKernel.nD Cert.FlashFwdKernel.τ Cert.FlashFwdKernel.sig) → Buf (Elt Bits) ℓ) (g : Dev Cert.FlashFwdKernel.nD → PrngReg), Pre_FlashFwdKernel m →
    θ_run (Cert.FlashFwdKernel.defs (F := Bits)) (onTc (τ := Cert.FlashFwdKernel.τ) (Cert.FlashFwdKernel.main (F := Bits))) ⟨m, fun _ => 0, g⟩ (fun r => (∀ c : Dev Cert.FlashFwdKernel.nD,
      r.2.mem ((c.tc : Thread Cert.FlashFwdKernel.nD Cert.FlashFwdKernel.τ).loc Cert.FlashFwdKernel.main_arg0) = m ((c.tc : Thread Cert.FlashFwdKernel.nD Cert.FlashFwdKernel.τ).loc Cert.FlashFwdKernel.main_arg0)
      ∧ r.2.mem ((c.tc : Thread Cert.FlashFwdKernel.nD Cert.FlashFwdKernel.τ).loc Cert.FlashFwdKernel.main_arg1) = m ((c.tc : Thread Cert.FlashFwdKernel.nD Cert.FlashFwdKernel.τ).loc Cert.FlashFwdKernel.main_arg1)
      ∧ r.2.mem ((c.tc : Thread Cert.FlashFwdKernel.nD Cert.FlashFwdKernel.τ).loc Cert.FlashFwdKernel.main_arg2) = m ((c.tc : Thread Cert.FlashFwdKernel.nD Cert.FlashFwdKernel.τ).loc Cert.FlashFwdKernel.main_arg2))
      ∧ r.2.sem = fun _ => 0)

def quiescent_FlashFwdKernelIdeal [hFlashFwdKernelIdeal : Cert.FlashFwdKernelIdeal.Facts] : Prop :=
  ∀ (m : (ℓ : Loc Cert.FlashFwdKernelIdeal.nD Cert.FlashFwdKernelIdeal.τ Cert.FlashFwdKernelIdeal.sig) → Buf (Elt Ideal) ℓ) (g : Dev Cert.FlashFwdKernelIdeal.nD → PrngReg), Pre_FlashFwdKernelIdeal m →
    θ_run (Cert.FlashFwdKernelIdeal.defs (F := Ideal)) (onTc (τ := Cert.FlashFwdKernelIdeal.τ) (Cert.FlashFwdKernelIdeal.main (F := Ideal))) ⟨m, fun _ => 0, g⟩ (fun r => (∀ c : Dev Cert.FlashFwdKernelIdeal.nD,
      r.2.mem ((c.tc : Thread Cert.FlashFwdKernelIdeal.nD Cert.FlashFwdKernelIdeal.τ).loc Cert.FlashFwdKernelIdeal.main_arg0) = m ((c.tc : Thread Cert.FlashFwdKernelIdeal.nD Cert.FlashFwdKernelIdeal.τ).loc Cert.FlashFwdKernelIdeal.main_arg0)
      ∧ r.2.mem ((c.tc : Thread Cert.FlashFwdKernelIdeal.nD Cert.FlashFwdKernelIdeal.τ).loc Cert.FlashFwdKernelIdeal.main_arg1) = m ((c.tc : Thread Cert.FlashFwdKernelIdeal.nD Cert.FlashFwdKernelIdeal.τ).loc Cert.FlashFwdKernelIdeal.main_arg1)
      ∧ r.2.mem ((c.tc : Thread Cert.FlashFwdKernelIdeal.nD Cert.FlashFwdKernelIdeal.τ).loc Cert.FlashFwdKernelIdeal.main_arg2) = m ((c.tc : Thread Cert.FlashFwdKernelIdeal.nD Cert.FlashFwdKernelIdeal.τ).loc Cert.FlashFwdKernelIdeal.main_arg2))
      ∧ r.2.sem = fun _ => 0)

def quiescent_FlashFwdKernelIdeal_pre_flashf_finite [hFlashFwdKernelIdeal : Cert.FlashFwdKernelIdeal.Facts] [hPre_flashf_finite : Cert.Pre_flashf_finite.Facts] : Prop :=
  ∀ (m : (ℓ : Loc Cert.FlashFwdKernelIdeal.nD Cert.FlashFwdKernelIdeal.τ Cert.FlashFwdKernelIdeal.sig) → Buf (Elt Ideal) ℓ) (g : Dev Cert.FlashFwdKernelIdeal.nD → PrngReg), Pre_FlashFwdKernelIdeal_flashf_finite m →
    θ_run (Cert.FlashFwdKernelIdeal.defs (F := Ideal)) (onTc (τ := Cert.FlashFwdKernelIdeal.τ) (Cert.FlashFwdKernelIdeal.main (F := Ideal))) ⟨m, fun _ => 0, g⟩ (fun r => (∀ c : Dev Cert.FlashFwdKernelIdeal.nD,
      r.2.mem ((c.tc : Thread Cert.FlashFwdKernelIdeal.nD Cert.FlashFwdKernelIdeal.τ).loc Cert.FlashFwdKernelIdeal.main_arg0) = m ((c.tc : Thread Cert.FlashFwdKernelIdeal.nD Cert.FlashFwdKernelIdeal.τ).loc Cert.FlashFwdKernelIdeal.main_arg0)
      ∧ r.2.mem ((c.tc : Thread Cert.FlashFwdKernelIdeal.nD Cert.FlashFwdKernelIdeal.τ).loc Cert.FlashFwdKernelIdeal.main_arg1) = m ((c.tc : Thread Cert.FlashFwdKernelIdeal.nD Cert.FlashFwdKernelIdeal.τ).loc Cert.FlashFwdKernelIdeal.main_arg1)
      ∧ r.2.mem ((c.tc : Thread Cert.FlashFwdKernelIdeal.nD Cert.FlashFwdKernelIdeal.τ).loc Cert.FlashFwdKernelIdeal.main_arg2) = m ((c.tc : Thread Cert.FlashFwdKernelIdeal.nD Cert.FlashFwdKernelIdeal.τ).loc Cert.FlashFwdKernelIdeal.main_arg2))
      ∧ r.2.sem = fun _ => 0)

def quiescent_FlashFwdRefIdeal [hFlashFwdRefIdeal : Cert.FlashFwdRefIdeal.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FlashFwdRefIdeal_pre_flashf_finite [hFlashFwdRefIdeal : Cert.FlashFwdRefIdeal.Facts] [hPre_flashf_finite : Cert.Pre_flashf_finite.Facts] : Prop :=
  ∀ (m : (ℓ : Loc Cert.FlashFwdRefIdeal.nD Cert.FlashFwdRefIdeal.τ Cert.FlashFwdRefIdeal.sig) → Buf (Elt Ideal) ℓ) (g : Dev Cert.FlashFwdRefIdeal.nD → PrngReg), Pre_FlashFwdRefIdeal_flashf_finite m →
    θ_run (Cert.FlashFwdRefIdeal.defs (F := Ideal)) (onTc (τ := Cert.FlashFwdRefIdeal.τ) (Cert.FlashFwdRefIdeal.main (F := Ideal))) ⟨m, fun _ => 0, g⟩ (fun r => (∀ c : Dev Cert.FlashFwdRefIdeal.nD,
      r.2.mem ((c.tc : Thread Cert.FlashFwdRefIdeal.nD Cert.FlashFwdRefIdeal.τ).loc Cert.FlashFwdRefIdeal.main_arg0) = m ((c.tc : Thread Cert.FlashFwdRefIdeal.nD Cert.FlashFwdRefIdeal.τ).loc Cert.FlashFwdRefIdeal.main_arg0)
      ∧ r.2.mem ((c.tc : Thread Cert.FlashFwdRefIdeal.nD Cert.FlashFwdRefIdeal.τ).loc Cert.FlashFwdRefIdeal.main_arg1) = m ((c.tc : Thread Cert.FlashFwdRefIdeal.nD Cert.FlashFwdRefIdeal.τ).loc Cert.FlashFwdRefIdeal.main_arg1)
      ∧ r.2.mem ((c.tc : Thread Cert.FlashFwdRefIdeal.nD Cert.FlashFwdRefIdeal.τ).loc Cert.FlashFwdRefIdeal.main_arg2) = m ((c.tc : Thread Cert.FlashFwdRefIdeal.nD Cert.FlashFwdRefIdeal.τ).loc Cert.FlashFwdRefIdeal.main_arg2))
      ∧ r.2.sem = fun _ => 0)

def quiescent_FfnFwdKernel [hFfnFwdKernel : Cert.FfnFwdKernel.Facts] : Prop :=
  ∀ (m : (ℓ : Loc Cert.FfnFwdKernel.nD Cert.FfnFwdKernel.τ Cert.FfnFwdKernel.sig) → Buf (Elt Bits) ℓ) (g : Dev Cert.FfnFwdKernel.nD → PrngReg), Pre_FfnFwdKernel m →
    θ_run (Cert.FfnFwdKernel.defs (F := Bits)) (onTc (τ := Cert.FfnFwdKernel.τ) (Cert.FfnFwdKernel.main (F := Bits))) ⟨m, fun _ => 0, g⟩ (fun r => (∀ c : Dev Cert.FfnFwdKernel.nD,
      r.2.mem ((c.tc : Thread Cert.FfnFwdKernel.nD Cert.FfnFwdKernel.τ).loc Cert.FfnFwdKernel.main_arg0) = m ((c.tc : Thread Cert.FfnFwdKernel.nD Cert.FfnFwdKernel.τ).loc Cert.FfnFwdKernel.main_arg0)
      ∧ r.2.mem ((c.tc : Thread Cert.FfnFwdKernel.nD Cert.FfnFwdKernel.τ).loc Cert.FfnFwdKernel.main_arg1) = m ((c.tc : Thread Cert.FfnFwdKernel.nD Cert.FfnFwdKernel.τ).loc Cert.FfnFwdKernel.main_arg1)
      ∧ r.2.mem ((c.tc : Thread Cert.FfnFwdKernel.nD Cert.FfnFwdKernel.τ).loc Cert.FfnFwdKernel.main_arg2) = m ((c.tc : Thread Cert.FfnFwdKernel.nD Cert.FfnFwdKernel.τ).loc Cert.FfnFwdKernel.main_arg2)
      ∧ r.2.mem ((c.tc : Thread Cert.FfnFwdKernel.nD Cert.FfnFwdKernel.τ).loc Cert.FfnFwdKernel.main_arg3) = m ((c.tc : Thread Cert.FfnFwdKernel.nD Cert.FfnFwdKernel.τ).loc Cert.FfnFwdKernel.main_arg3)
      ∧ r.2.mem ((c.tc : Thread Cert.FfnFwdKernel.nD Cert.FfnFwdKernel.τ).loc Cert.FfnFwdKernel.main_arg4) = m ((c.tc : Thread Cert.FfnFwdKernel.nD Cert.FfnFwdKernel.τ).loc Cert.FfnFwdKernel.main_arg4)
      ∧ r.2.mem ((c.tc : Thread Cert.FfnFwdKernel.nD Cert.FfnFwdKernel.τ).loc Cert.FfnFwdKernel.main_arg5) = m ((c.tc : Thread Cert.FfnFwdKernel.nD Cert.FfnFwdKernel.τ).loc Cert.FfnFwdKernel.main_arg5)
      ∧ r.2.mem ((c.tc : Thread Cert.FfnFwdKernel.nD Cert.FfnFwdKernel.τ).loc Cert.FfnFwdKernel.main_arg6) = m ((c.tc : Thread Cert.FfnFwdKernel.nD Cert.FfnFwdKernel.τ).loc Cert.FfnFwdKernel.main_arg6)
      ∧ r.2.mem ((c.tc : Thread Cert.FfnFwdKernel.nD Cert.FfnFwdKernel.τ).loc Cert.FfnFwdKernel.main_arg7) = m ((c.tc : Thread Cert.FfnFwdKernel.nD Cert.FfnFwdKernel.τ).loc Cert.FfnFwdKernel.main_arg7))
      ∧ r.2.sem = fun _ => 0)

def quiescent_FfnFwdKernelIdeal [hFfnFwdKernelIdeal : Cert.FfnFwdKernelIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg), Pre_FfnFwdKernelIdeal m →
    θ_run (Cert.FfnFwdKernelIdeal.defs (F := Ideal)) (onTc (τ := Cert.FfnFwdKernelIdeal.τ) (Cert.FfnFwdKernelIdeal.main (F := Ideal))) ⟨m, fun _ => 0, g⟩ (fun r => (∀ c : Dev Cert.FfnFwdKernelIdeal.nD,
      r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
      ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
      ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
      ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
      ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
      ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
      ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6)
      ∧ r.2.mem ((c.tc : Thread Cert.FfnFwdKernelIdeal.nD Cert.FfnFwdKernelIdeal.τ).loc Cert.FfnFwdKernelIdeal.main_arg7) = m ((c.tc : Thread Cert.FfnFwdKernelIdeal.nD Cert.FfnFwdKernelIdeal.τ).loc Cert.FfnFwdKernelIdeal.main_arg7))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7))
      ∧ r.2.sem = fun _ => 0)

def preserves_LossKernel_LossKernelIdeal : Prop :=
  True

def algebraic_LossKernelIdeal_LossRefIdeal [hLossKernelIdeal : Cert.LossKernelIdeal.Facts] [hLossRefIdeal : Cert.LossRefIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v9) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_OutBwdKernel_OutBwdKernelIdeal : Prop :=
  True

def algebraic_OutBwdKernelIdeal_OutBwdRefIdeal [hOutBwdKernelIdeal : Cert.OutBwdKernelIdeal.Facts] [hOutBwdRefIdeal : Cert.OutBwdRefIdeal.Facts] : Prop :=
  ∀ (m : (ℓ : Loc Cert.OutBwdKernelIdeal.nD Cert.OutBwdKernelIdeal.τ Cert.OutBwdKernelIdeal.sig) → Buf (Elt Ideal) ℓ) (g : Dev Cert.OutBwdKernelIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdKernelIdeal m →
    (∀ c : Dev Cert.OutBwdKernelIdeal.nD,
      m' ((c.tc : Thread Cert.OutBwdRefIdeal.nD Cert.OutBwdRefIdeal.τ).loc Cert.OutBwdRefIdeal.main_arg0) = m ((c.tc : Thread Cert.OutBwdKernelIdeal.nD Cert.OutBwdKernelIdeal.τ).loc Cert.OutBwdKernelIdeal.main_arg0)
      ∧ m' ((c.tc : Thread Cert.OutBwdRefIdeal.nD Cert.OutBwdRefIdeal.τ).loc Cert.OutBwdRefIdeal.main_arg1) = m ((c.tc : Thread Cert.OutBwdKernelIdeal.nD Cert.OutBwdKernelIdeal.τ).loc Cert.OutBwdKernelIdeal.main_arg1)
      ∧ m' ((c.tc : Thread Cert.OutBwdRefIdeal.nD Cert.OutBwdRefIdeal.τ).loc Cert.OutBwdRefIdeal.main_arg2) = m ((c.tc : Thread Cert.OutBwdKernelIdeal.nD Cert.OutBwdKernelIdeal.τ).loc Cert.OutBwdKernelIdeal.main_arg2)) →
    ∃ (v0 : (c : Dev Cert.OutBwdKernelIdeal.nD) → Buf (Elt Ideal) ((c.tc : Thread Cert.OutBwdKernelIdeal.nD Cert.OutBwdKernelIdeal.τ).loc Cert.OutBwdKernelIdeal.main_v1_0)) (v1 : (c : Dev Cert.OutBwdKernelIdeal.nD) → Buf (Elt Ideal) ((c.tc : Thread Cert.OutBwdKernelIdeal.nD Cert.OutBwdKernelIdeal.τ).loc Cert.OutBwdKernelIdeal.main_v1_1)) (v2 : (c : Dev Cert.OutBwdKernelIdeal.nD) → Buf (Elt Ideal) ((c.tc : Thread Cert.OutBwdKernelIdeal.nD Cert.OutBwdKernelIdeal.τ).loc Cert.OutBwdKernelIdeal.main_v1_2)),
      θ_run (Cert.OutBwdKernelIdeal.defs (F := Ideal)) (onTc (τ := Cert.OutBwdKernelIdeal.τ) (Cert.OutBwdKernelIdeal.main (F := Ideal))) ⟨m, fun _ => 0, g⟩ (fun r => ∀ c : Dev Cert.OutBwdKernelIdeal.nD,
          r.2.mem ((c.tc : Thread Cert.OutBwdKernelIdeal.nD Cert.OutBwdKernelIdeal.τ).loc Cert.OutBwdKernelIdeal.main_v1_0) = v0 c
          ∧ r.2.mem ((c.tc : Thread Cert.OutBwdKernelIdeal.nD Cert.OutBwdKernelIdeal.τ).loc Cert.OutBwdKernelIdeal.main_v1_1) = v1 c
          ∧ r.2.mem ((c.tc : Thread Cert.OutBwdKernelIdeal.nD Cert.OutBwdKernelIdeal.τ).loc Cert.OutBwdKernelIdeal.main_v1_2) = v2 c
          ∧ r.2.mem ((c.tc : Thread Cert.OutBwdKernelIdeal.nD Cert.OutBwdKernelIdeal.τ).loc Cert.OutBwdKernelIdeal.main_arg0) = m ((c.tc : Thread Cert.OutBwdKernelIdeal.nD Cert.OutBwdKernelIdeal.τ).loc Cert.OutBwdKernelIdeal.main_arg0)
          ∧ r.2.mem ((c.tc : Thread Cert.OutBwdKernelIdeal.nD Cert.OutBwdKernelIdeal.τ).loc Cert.OutBwdKernelIdeal.main_arg1) = m ((c.tc : Thread Cert.OutBwdKernelIdeal.nD Cert.OutBwdKernelIdeal.τ).loc Cert.OutBwdKernelIdeal.main_arg1)
          ∧ r.2.mem ((c.tc : Thread Cert.OutBwdKernelIdeal.nD Cert.OutBwdKernelIdeal.τ).loc Cert.OutBwdKernelIdeal.main_arg2) = m ((c.tc : Thread Cert.OutBwdKernelIdeal.nD Cert.OutBwdKernelIdeal.τ).loc Cert.OutBwdKernelIdeal.main_arg2))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v9) = v0 c
          ∧ r.2.mem ((c.tc : Thread Cert.OutBwdRefIdeal.nD Cert.OutBwdRefIdeal.τ).loc Cert.OutBwdRefIdeal.main_v10) = v1 c
          ∧ r.2.mem ((c.tc : Thread Cert.OutBwdRefIdeal.nD Cert.OutBwdRefIdeal.τ).loc Cert.OutBwdRefIdeal.main_v3) = v2 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2))

def preserves_FlashBwdKernel_FlashBwdKernelIdeal : Prop :=
  True

def algebraic_FlashBwdKernelIdeal_FlashBwdRefIdeal_pre_flash_finite [hFlashBwdKernelIdeal : Cert.FlashBwdKernelIdeal.Facts] [hFlashBwdRefIdeal : Cert.FlashBwdRefIdeal.Facts] [hPre_flash_finite : Cert.Pre_flash_finite.Facts] : Prop :=
  ∀ (m : (ℓ : Loc Cert.FlashBwdKernelIdeal.nD Cert.FlashBwdKernelIdeal.τ Cert.FlashBwdKernelIdeal.sig) → Buf (Elt Ideal) ℓ) (g : Dev Cert.FlashBwdKernelIdeal.nD → PrngReg)
    (m' : (ℓ : Loc Cert.FlashBwdRefIdeal.nD Cert.FlashBwdRefIdeal.τ Cert.FlashBwdRefIdeal.sig) → Buf (Elt Ideal) ℓ) (g' : Dev Cert.FlashBwdRefIdeal.nD → PrngReg), Pre_FlashBwdKernelIdeal_flash_finite m →
    (∀ c : Dev Cert.FlashBwdKernelIdeal.nD,
      m' ((c.tc : Thread Cert.FlashBwdRefIdeal.nD Cert.FlashBwdRefIdeal.τ).loc Cert.FlashBwdRefIdeal.main_arg0) = m ((c.tc : Thread Cert.FlashBwdKernelIdeal.nD Cert.FlashBwdKernelIdeal.τ).loc Cert.FlashBwdKernelIdeal.main_arg0)
      ∧ m' ((c.tc : Thread Cert.FlashBwdRefIdeal.nD Cert.FlashBwdRefIdeal.τ).loc Cert.FlashBwdRefIdeal.main_arg1) = m ((c.tc : Thread Cert.FlashBwdKernelIdeal.nD Cert.FlashBwdKernelIdeal.τ).loc Cert.FlashBwdKernelIdeal.main_arg1)
      ∧ m' ((c.tc : Thread Cert.FlashBwdRefIdeal.nD Cert.FlashBwdRefIdeal.τ).loc Cert.FlashBwdRefIdeal.main_arg2) = m ((c.tc : Thread Cert.FlashBwdKernelIdeal.nD Cert.FlashBwdKernelIdeal.τ).loc Cert.FlashBwdKernelIdeal.main_arg2)
      ∧ m' ((c.tc : Thread Cert.FlashBwdRefIdeal.nD Cert.FlashBwdRefIdeal.τ).loc Cert.FlashBwdRefIdeal.main_arg3) = m ((c.tc : Thread Cert.FlashBwdKernelIdeal.nD Cert.FlashBwdKernelIdeal.τ).loc Cert.FlashBwdKernelIdeal.main_arg3)) →
    ∃ (v0 : (c : Dev Cert.FlashBwdKernelIdeal.nD) → Buf (Elt Ideal) ((c.tc : Thread Cert.FlashBwdKernelIdeal.nD Cert.FlashBwdKernelIdeal.τ).loc Cert.FlashBwdKernelIdeal.main_v35_0)) (v1 : (c : Dev Cert.FlashBwdKernelIdeal.nD) → Buf (Elt Ideal) ((c.tc : Thread Cert.FlashBwdKernelIdeal.nD Cert.FlashBwdKernelIdeal.τ).loc Cert.FlashBwdKernelIdeal.main_v35_1)) (v2 : (c : Dev Cert.FlashBwdKernelIdeal.nD) → Buf (Elt Ideal) ((c.tc : Thread Cert.FlashBwdKernelIdeal.nD Cert.FlashBwdKernelIdeal.τ).loc Cert.FlashBwdKernelIdeal.main_v35_2)),
      θ_run (Cert.FlashBwdKernelIdeal.defs (F := Ideal)) (onTc (τ := Cert.FlashBwdKernelIdeal.τ) (Cert.FlashBwdKernelIdeal.main (F := Ideal))) ⟨m, fun _ => 0, g⟩ (fun r => ∀ c : Dev Cert.FlashBwdKernelIdeal.nD,
          r.2.mem ((c.tc : Thread Cert.FlashBwdKernelIdeal.nD Cert.FlashBwdKernelIdeal.τ).loc Cert.FlashBwdKernelIdeal.main_v35_0) = v0 c
          ∧ r.2.mem ((c.tc : Thread Cert.FlashBwdKernelIdeal.nD Cert.FlashBwdKernelIdeal.τ).loc Cert.FlashBwdKernelIdeal.main_v35_1) = v1 c
          ∧ r.2.mem ((c.tc : Thread Cert.FlashBwdKernelIdeal.nD Cert.FlashBwdKernelIdeal.τ).loc Cert.FlashBwdKernelIdeal.main_v35_2) = v2 c
          ∧ r.2.mem ((c.tc : Thread Cert.FlashBwdKernelIdeal.nD Cert.FlashBwdKernelIdeal.τ).loc Cert.FlashBwdKernelIdeal.main_arg0) = m ((c.tc : Thread Cert.FlashBwdKernelIdeal.nD Cert.FlashBwdKernelIdeal.τ).loc Cert.FlashBwdKernelIdeal.main_arg0)
          ∧ r.2.mem ((c.tc : Thread Cert.FlashBwdKernelIdeal.nD Cert.FlashBwdKernelIdeal.τ).loc Cert.FlashBwdKernelIdeal.main_arg1) = m ((c.tc : Thread Cert.FlashBwdKernelIdeal.nD Cert.FlashBwdKernelIdeal.τ).loc Cert.FlashBwdKernelIdeal.main_arg1)
          ∧ r.2.mem ((c.tc : Thread Cert.FlashBwdKernelIdeal.nD Cert.FlashBwdKernelIdeal.τ).loc Cert.FlashBwdKernelIdeal.main_arg2) = m ((c.tc : Thread Cert.FlashBwdKernelIdeal.nD Cert.FlashBwdKernelIdeal.τ).loc Cert.FlashBwdKernelIdeal.main_arg2)
          ∧ r.2.mem ((c.tc : Thread Cert.FlashBwdKernelIdeal.nD Cert.FlashBwdKernelIdeal.τ).loc Cert.FlashBwdKernelIdeal.main_arg3) = m ((c.tc : Thread Cert.FlashBwdKernelIdeal.nD Cert.FlashBwdKernelIdeal.τ).loc Cert.FlashBwdKernelIdeal.main_arg3))
      ∧ θ_run (Cert.FlashBwdRefIdeal.defs (F := Ideal)) (onTc (τ := Cert.FlashBwdRefIdeal.τ) (Cert.FlashBwdRefIdeal.main (F := Ideal))) ⟨m', fun _ => 0, g'⟩ (fun r => ∀ c : Dev Cert.FlashBwdRefIdeal.nD,
          r.2.mem ((c.tc : Thread Cert.FlashBwdRefIdeal.nD Cert.FlashBwdRefIdeal.τ).loc Cert.FlashBwdRefIdeal.main_v66) = v0 c
          ∧ r.2.mem ((c.tc : Thread Cert.FlashBwdRefIdeal.nD Cert.FlashBwdRefIdeal.τ).loc Cert.FlashBwdRefIdeal.main_v61) = v1 c
          ∧ r.2.mem ((c.tc : Thread Cert.FlashBwdRefIdeal.nD Cert.FlashBwdRefIdeal.τ).loc Cert.FlashBwdRefIdeal.main_v67) = v2 c
          ∧ r.2.mem ((c.tc : Thread Cert.FlashBwdRefIdeal.nD Cert.FlashBwdRefIdeal.τ).loc Cert.FlashBwdRefIdeal.main_arg0) = m' ((c.tc : Thread Cert.FlashBwdRefIdeal.nD Cert.FlashBwdRefIdeal.τ).loc Cert.FlashBwdRefIdeal.main_arg0)
          ∧ r.2.mem ((c.tc : Thread Cert.FlashBwdRefIdeal.nD Cert.FlashBwdRefIdeal.τ).loc Cert.FlashBwdRefIdeal.main_arg1) = m' ((c.tc : Thread Cert.FlashBwdRefIdeal.nD Cert.FlashBwdRefIdeal.τ).loc Cert.FlashBwdRefIdeal.main_arg1)
          ∧ r.2.mem ((c.tc : Thread Cert.FlashBwdRefIdeal.nD Cert.FlashBwdRefIdeal.τ).loc Cert.FlashBwdRefIdeal.main_arg2) = m' ((c.tc : Thread Cert.FlashBwdRefIdeal.nD Cert.FlashBwdRefIdeal.τ).loc Cert.FlashBwdRefIdeal.main_arg2)
          ∧ r.2.mem ((c.tc : Thread Cert.FlashBwdRefIdeal.nD Cert.FlashBwdRefIdeal.τ).loc Cert.FlashBwdRefIdeal.main_arg3) = m' ((c.tc : Thread Cert.FlashBwdRefIdeal.nD Cert.FlashBwdRefIdeal.τ).loc Cert.FlashBwdRefIdeal.main_arg3))

def preserves_FfnBwdKernel_FfnBwdKernelIdeal : Prop :=
  True

def algebraic_FfnBwdKernelIdeal_FfnBwdRefIdeal_pre_ffn_finite [hFfnBwdKernelIdeal : Cert.FfnBwdKernelIdeal.Facts] [hFfnBwdRefIdeal : Cert.FfnBwdRefIdeal.Facts] [hPre_ffn_finite : Cert.Pre_ffn_finite.Facts] : Prop :=
  ∀ (m : (ℓ : Loc Cert.FfnBwdKernelIdeal.nD Cert.FfnBwdKernelIdeal.τ Cert.FfnBwdKernelIdeal.sig) → Buf (Elt Ideal) ℓ) (g : Dev Cert.FfnBwdKernelIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdKernelIdeal_ffn_finite m →
    (∀ c : Dev Cert.FfnBwdKernelIdeal.nD,
      m' ((c.tc : Thread Cert.FfnBwdRefIdeal.nD Cert.FfnBwdRefIdeal.τ).loc Cert.FfnBwdRefIdeal.main_arg0) = m ((c.tc : Thread Cert.FfnBwdKernelIdeal.nD Cert.FfnBwdKernelIdeal.τ).loc Cert.FfnBwdKernelIdeal.main_arg0)
      ∧ m' ((c.tc : Thread Cert.FfnBwdRefIdeal.nD Cert.FfnBwdRefIdeal.τ).loc Cert.FfnBwdRefIdeal.main_arg1) = m ((c.tc : Thread Cert.FfnBwdKernelIdeal.nD Cert.FfnBwdKernelIdeal.τ).loc Cert.FfnBwdKernelIdeal.main_arg1)
      ∧ m' ((c.tc : Thread Cert.FfnBwdRefIdeal.nD Cert.FfnBwdRefIdeal.τ).loc Cert.FfnBwdRefIdeal.main_arg2) = m ((c.tc : Thread Cert.FfnBwdKernelIdeal.nD Cert.FfnBwdKernelIdeal.τ).loc Cert.FfnBwdKernelIdeal.main_arg2)
      ∧ m' ((c.tc : Thread Cert.FfnBwdRefIdeal.nD Cert.FfnBwdRefIdeal.τ).loc Cert.FfnBwdRefIdeal.main_arg3) = m ((c.tc : Thread Cert.FfnBwdKernelIdeal.nD Cert.FfnBwdKernelIdeal.τ).loc Cert.FfnBwdKernelIdeal.main_arg3)
      ∧ m' ((c.tc : Thread Cert.FfnBwdRefIdeal.nD Cert.FfnBwdRefIdeal.τ).loc Cert.FfnBwdRefIdeal.main_arg4) = m ((c.tc : Thread Cert.FfnBwdKernelIdeal.nD Cert.FfnBwdKernelIdeal.τ).loc Cert.FfnBwdKernelIdeal.main_arg4)
      ∧ m' ((c.tc : Thread Cert.FfnBwdRefIdeal.nD Cert.FfnBwdRefIdeal.τ).loc Cert.FfnBwdRefIdeal.main_arg5) = m ((c.tc : Thread Cert.FfnBwdKernelIdeal.nD Cert.FfnBwdKernelIdeal.τ).loc Cert.FfnBwdKernelIdeal.main_arg5)
      ∧ m' ((c.tc : Thread Cert.FfnBwdRefIdeal.nD Cert.FfnBwdRefIdeal.τ).loc Cert.FfnBwdRefIdeal.main_arg6) = m ((c.tc : Thread Cert.FfnBwdKernelIdeal.nD Cert.FfnBwdKernelIdeal.τ).loc Cert.FfnBwdKernelIdeal.main_arg6)
      ∧ m' ((c.tc : Thread Cert.FfnBwdRefIdeal.nD Cert.FfnBwdRefIdeal.τ).loc Cert.FfnBwdRefIdeal.main_arg7) = m ((c.tc : Thread Cert.FfnBwdKernelIdeal.nD Cert.FfnBwdKernelIdeal.τ).loc Cert.FfnBwdKernelIdeal.main_arg7)
      ∧ m' ((c.tc : Thread Cert.FfnBwdRefIdeal.nD Cert.FfnBwdRefIdeal.τ).loc Cert.FfnBwdRefIdeal.main_arg8) = m ((c.tc : Thread Cert.FfnBwdKernelIdeal.nD Cert.FfnBwdKernelIdeal.τ).loc Cert.FfnBwdKernelIdeal.main_arg8)) →
    ∃ (v0 : (c : Dev Cert.FfnBwdKernelIdeal.nD) → Buf (Elt Ideal) ((c.tc : Thread Cert.FfnBwdKernelIdeal.nD Cert.FfnBwdKernelIdeal.τ).loc Cert.FfnBwdKernelIdeal.main_v32_0)) (v1 : (c : Dev Cert.FfnBwdKernelIdeal.nD) → Buf (Elt Ideal) ((c.tc : Thread Cert.FfnBwdKernelIdeal.nD Cert.FfnBwdKernelIdeal.τ).loc Cert.FfnBwdKernelIdeal.main_v32_1)) (v2 : (c : Dev Cert.FfnBwdKernelIdeal.nD) → Buf (Elt Ideal) ((c.tc : Thread Cert.FfnBwdKernelIdeal.nD Cert.FfnBwdKernelIdeal.τ).loc Cert.FfnBwdKernelIdeal.main_v32_2)) (v3 : (c : Dev Cert.FfnBwdKernelIdeal.nD) → Buf (Elt Ideal) ((c.tc : Thread Cert.FfnBwdKernelIdeal.nD Cert.FfnBwdKernelIdeal.τ).loc Cert.FfnBwdKernelIdeal.main_v32_3)) (v4 : (c : Dev Cert.FfnBwdKernelIdeal.nD) → Buf (Elt Ideal) ((c.tc : Thread Cert.FfnBwdKernelIdeal.nD Cert.FfnBwdKernelIdeal.τ).loc Cert.FfnBwdKernelIdeal.main_v32_4)) (v5 : (c : Dev Cert.FfnBwdKernelIdeal.nD) → Buf (Elt Ideal) ((c.tc : Thread Cert.FfnBwdKernelIdeal.nD Cert.FfnBwdKernelIdeal.τ).loc Cert.FfnBwdKernelIdeal.main_v32_5)),
      θ_run (Cert.FfnBwdKernelIdeal.defs (F := Ideal)) (onTc (τ := Cert.FfnBwdKernelIdeal.τ) (Cert.FfnBwdKernelIdeal.main (F := Ideal))) ⟨m, fun _ => 0, g⟩ (fun r => ∀ c : Dev Cert.FfnBwdKernelIdeal.nD,
          r.2.mem ((c.tc : Thread Cert.FfnBwdKernelIdeal.nD Cert.FfnBwdKernelIdeal.τ).loc Cert.FfnBwdKernelIdeal.main_v32_0) = v0 c
          ∧ r.2.mem ((c.tc : Thread Cert.FfnBwdKernelIdeal.nD Cert.FfnBwdKernelIdeal.τ).loc Cert.FfnBwdKernelIdeal.main_v32_1) = v1 c
          ∧ r.2.mem ((c.tc : Thread Cert.FfnBwdKernelIdeal.nD Cert.FfnBwdKernelIdeal.τ).loc Cert.FfnBwdKernelIdeal.main_v32_2) = v2 c
          ∧ r.2.mem ((c.tc : Thread Cert.FfnBwdKernelIdeal.nD Cert.FfnBwdKernelIdeal.τ).loc Cert.FfnBwdKernelIdeal.main_v32_3) = v3 c
          ∧ r.2.mem ((c.tc : Thread Cert.FfnBwdKernelIdeal.nD Cert.FfnBwdKernelIdeal.τ).loc Cert.FfnBwdKernelIdeal.main_v32_4) = v4 c
          ∧ r.2.mem ((c.tc : Thread Cert.FfnBwdKernelIdeal.nD Cert.FfnBwdKernelIdeal.τ).loc Cert.FfnBwdKernelIdeal.main_v32_5) = v5 c
          ∧ r.2.mem ((c.tc : Thread Cert.FfnBwdKernelIdeal.nD Cert.FfnBwdKernelIdeal.τ).loc Cert.FfnBwdKernelIdeal.main_arg0) = m ((c.tc : Thread Cert.FfnBwdKernelIdeal.nD Cert.FfnBwdKernelIdeal.τ).loc Cert.FfnBwdKernelIdeal.main_arg0)
          ∧ r.2.mem ((c.tc : Thread Cert.FfnBwdKernelIdeal.nD Cert.FfnBwdKernelIdeal.τ).loc Cert.FfnBwdKernelIdeal.main_arg1) = m ((c.tc : Thread Cert.FfnBwdKernelIdeal.nD Cert.FfnBwdKernelIdeal.τ).loc Cert.FfnBwdKernelIdeal.main_arg1)
          ∧ r.2.mem ((c.tc : Thread Cert.FfnBwdKernelIdeal.nD Cert.FfnBwdKernelIdeal.τ).loc Cert.FfnBwdKernelIdeal.main_arg2) = m ((c.tc : Thread Cert.FfnBwdKernelIdeal.nD Cert.FfnBwdKernelIdeal.τ).loc Cert.FfnBwdKernelIdeal.main_arg2)
          ∧ r.2.mem ((c.tc : Thread Cert.FfnBwdKernelIdeal.nD Cert.FfnBwdKernelIdeal.τ).loc Cert.FfnBwdKernelIdeal.main_arg3) = m ((c.tc : Thread Cert.FfnBwdKernelIdeal.nD Cert.FfnBwdKernelIdeal.τ).loc Cert.FfnBwdKernelIdeal.main_arg3)
          ∧ r.2.mem ((c.tc : Thread Cert.FfnBwdKernelIdeal.nD Cert.FfnBwdKernelIdeal.τ).loc Cert.FfnBwdKernelIdeal.main_arg4) = m ((c.tc : Thread Cert.FfnBwdKernelIdeal.nD Cert.FfnBwdKernelIdeal.τ).loc Cert.FfnBwdKernelIdeal.main_arg4)
          ∧ r.2.mem ((c.tc : Thread Cert.FfnBwdKernelIdeal.nD Cert.FfnBwdKernelIdeal.τ).loc Cert.FfnBwdKernelIdeal.main_arg5) = m ((c.tc : Thread Cert.FfnBwdKernelIdeal.nD Cert.FfnBwdKernelIdeal.τ).loc Cert.FfnBwdKernelIdeal.main_arg5)
          ∧ r.2.mem ((c.tc : Thread Cert.FfnBwdKernelIdeal.nD Cert.FfnBwdKernelIdeal.τ).loc Cert.FfnBwdKernelIdeal.main_arg6) = m ((c.tc : Thread Cert.FfnBwdKernelIdeal.nD Cert.FfnBwdKernelIdeal.τ).loc Cert.FfnBwdKernelIdeal.main_arg6)
          ∧ r.2.mem ((c.tc : Thread Cert.FfnBwdKernelIdeal.nD Cert.FfnBwdKernelIdeal.τ).loc Cert.FfnBwdKernelIdeal.main_arg7) = m ((c.tc : Thread Cert.FfnBwdKernelIdeal.nD Cert.FfnBwdKernelIdeal.τ).loc Cert.FfnBwdKernelIdeal.main_arg7)
          ∧ r.2.mem ((c.tc : Thread Cert.FfnBwdKernelIdeal.nD Cert.FfnBwdKernelIdeal.τ).loc Cert.FfnBwdKernelIdeal.main_arg8) = m ((c.tc : Thread Cert.FfnBwdKernelIdeal.nD Cert.FfnBwdKernelIdeal.τ).loc Cert.FfnBwdKernelIdeal.main_arg8))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v62) = v0 c
          ∧ r.2.mem ((c.tc : Thread Cert.FfnBwdRefIdeal.nD Cert.FfnBwdRefIdeal.τ).loc Cert.FfnBwdRefIdeal.main_v61) = v1 c
          ∧ r.2.mem ((c.tc : Thread Cert.FfnBwdRefIdeal.nD Cert.FfnBwdRefIdeal.τ).loc Cert.FfnBwdRefIdeal.main_v63) = v2 c
          ∧ r.2.mem ((c.tc : Thread Cert.FfnBwdRefIdeal.nD Cert.FfnBwdRefIdeal.τ).loc Cert.FfnBwdRefIdeal.main_v66) = v3 c
          ∧ r.2.mem ((c.tc : Thread Cert.FfnBwdRefIdeal.nD Cert.FfnBwdRefIdeal.τ).loc Cert.FfnBwdRefIdeal.main_v69) = v4 c
          ∧ r.2.mem ((c.tc : Thread Cert.FfnBwdRefIdeal.nD Cert.FfnBwdRefIdeal.τ).loc Cert.FfnBwdRefIdeal.main_v74) = v5 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6)
          ∧ r.2.mem ((c.tc : Thread Cert.FfnBwdRefIdeal.nD Cert.FfnBwdRefIdeal.τ).loc Cert.FfnBwdRefIdeal.main_arg7) = m' ((c.tc : Thread Cert.FfnBwdRefIdeal.nD Cert.FfnBwdRefIdeal.τ).loc Cert.FfnBwdRefIdeal.main_arg7)
          ∧ r.2.mem ((c.tc : Thread Cert.FfnBwdRefIdeal.nD Cert.FfnBwdRefIdeal.τ).loc Cert.FfnBwdRefIdeal.main_arg8) = m' ((c.tc : Thread Cert.FfnBwdRefIdeal.nD Cert.FfnBwdRefIdeal.τ).loc Cert.FfnBwdRefIdeal.main_arg8))

def preserves_PoolBwdKernel_PoolBwdKernelIdeal : Prop :=
  True

def preserves_FlashFwdKernel_FlashFwdKernelIdeal : Prop :=
  True

def algebraic_FlashFwdKernelIdeal_FlashFwdRefIdeal_pre_flashf_finite [hFlashFwdKernelIdeal : Cert.FlashFwdKernelIdeal.Facts] [hFlashFwdRefIdeal : Cert.FlashFwdRefIdeal.Facts] [hPre_flashf_finite : Cert.Pre_flashf_finite.Facts] : Prop :=
  ∀ (m : (ℓ : Loc Cert.FlashFwdKernelIdeal.nD Cert.FlashFwdKernelIdeal.τ Cert.FlashFwdKernelIdeal.sig) → Buf (Elt Ideal) ℓ) (g : Dev Cert.FlashFwdKernelIdeal.nD → PrngReg)
    (m' : (ℓ : Loc Cert.FlashFwdRefIdeal.nD Cert.FlashFwdRefIdeal.τ Cert.FlashFwdRefIdeal.sig) → Buf (Elt Ideal) ℓ) (g' : Dev Cert.FlashFwdRefIdeal.nD → PrngReg), Pre_FlashFwdKernelIdeal_flashf_finite m →
    (∀ c : Dev Cert.FlashFwdKernelIdeal.nD,
      m' ((c.tc : Thread Cert.FlashFwdRefIdeal.nD Cert.FlashFwdRefIdeal.τ).loc Cert.FlashFwdRefIdeal.main_arg0) = m ((c.tc : Thread Cert.FlashFwdKernelIdeal.nD Cert.FlashFwdKernelIdeal.τ).loc Cert.FlashFwdKernelIdeal.main_arg0)
      ∧ m' ((c.tc : Thread Cert.FlashFwdRefIdeal.nD Cert.FlashFwdRefIdeal.τ).loc Cert.FlashFwdRefIdeal.main_arg1) = m ((c.tc : Thread Cert.FlashFwdKernelIdeal.nD Cert.FlashFwdKernelIdeal.τ).loc Cert.FlashFwdKernelIdeal.main_arg1)
      ∧ m' ((c.tc : Thread Cert.FlashFwdRefIdeal.nD Cert.FlashFwdRefIdeal.τ).loc Cert.FlashFwdRefIdeal.main_arg2) = m ((c.tc : Thread Cert.FlashFwdKernelIdeal.nD Cert.FlashFwdKernelIdeal.τ).loc Cert.FlashFwdKernelIdeal.main_arg2)) →
    ∃ (v0 : (c : Dev Cert.FlashFwdKernelIdeal.nD) → Buf (Elt Ideal) ((c.tc : Thread Cert.FlashFwdKernelIdeal.nD Cert.FlashFwdKernelIdeal.τ).loc Cert.FlashFwdKernelIdeal.main_v9_0)) (v1 : (c : Dev Cert.FlashFwdKernelIdeal.nD) → Buf (Elt Ideal) ((c.tc : Thread Cert.FlashFwdKernelIdeal.nD Cert.FlashFwdKernelIdeal.τ).loc Cert.FlashFwdKernelIdeal.main_v9_1)),
      θ_run (Cert.FlashFwdKernelIdeal.defs (F := Ideal)) (onTc (τ := Cert.FlashFwdKernelIdeal.τ) (Cert.FlashFwdKernelIdeal.main (F := Ideal))) ⟨m, fun _ => 0, g⟩ (fun r => ∀ c : Dev Cert.FlashFwdKernelIdeal.nD,
          r.2.mem ((c.tc : Thread Cert.FlashFwdKernelIdeal.nD Cert.FlashFwdKernelIdeal.τ).loc Cert.FlashFwdKernelIdeal.main_v9_0) = v0 c
          ∧ r.2.mem ((c.tc : Thread Cert.FlashFwdKernelIdeal.nD Cert.FlashFwdKernelIdeal.τ).loc Cert.FlashFwdKernelIdeal.main_v9_1) = v1 c
          ∧ r.2.mem ((c.tc : Thread Cert.FlashFwdKernelIdeal.nD Cert.FlashFwdKernelIdeal.τ).loc Cert.FlashFwdKernelIdeal.main_arg0) = m ((c.tc : Thread Cert.FlashFwdKernelIdeal.nD Cert.FlashFwdKernelIdeal.τ).loc Cert.FlashFwdKernelIdeal.main_arg0)
          ∧ r.2.mem ((c.tc : Thread Cert.FlashFwdKernelIdeal.nD Cert.FlashFwdKernelIdeal.τ).loc Cert.FlashFwdKernelIdeal.main_arg1) = m ((c.tc : Thread Cert.FlashFwdKernelIdeal.nD Cert.FlashFwdKernelIdeal.τ).loc Cert.FlashFwdKernelIdeal.main_arg1)
          ∧ r.2.mem ((c.tc : Thread Cert.FlashFwdKernelIdeal.nD Cert.FlashFwdKernelIdeal.τ).loc Cert.FlashFwdKernelIdeal.main_arg2) = m ((c.tc : Thread Cert.FlashFwdKernelIdeal.nD Cert.FlashFwdKernelIdeal.τ).loc Cert.FlashFwdKernelIdeal.main_arg2))
      ∧ θ_run (Cert.FlashFwdRefIdeal.defs (F := Ideal)) (onTc (τ := Cert.FlashFwdRefIdeal.τ) (Cert.FlashFwdRefIdeal.main (F := Ideal))) ⟨m', fun _ => 0, g'⟩ (fun r => ∀ c : Dev Cert.FlashFwdRefIdeal.nD,
          r.2.mem ((c.tc : Thread Cert.FlashFwdRefIdeal.nD Cert.FlashFwdRefIdeal.τ).loc Cert.FlashFwdRefIdeal.main_v31) = v0 c
          ∧ r.2.mem ((c.tc : Thread Cert.FlashFwdRefIdeal.nD Cert.FlashFwdRefIdeal.τ).loc Cert.FlashFwdRefIdeal.main_v32) = v1 c
          ∧ r.2.mem ((c.tc : Thread Cert.FlashFwdRefIdeal.nD Cert.FlashFwdRefIdeal.τ).loc Cert.FlashFwdRefIdeal.main_arg0) = m' ((c.tc : Thread Cert.FlashFwdRefIdeal.nD Cert.FlashFwdRefIdeal.τ).loc Cert.FlashFwdRefIdeal.main_arg0)
          ∧ r.2.mem ((c.tc : Thread Cert.FlashFwdRefIdeal.nD Cert.FlashFwdRefIdeal.τ).loc Cert.FlashFwdRefIdeal.main_arg1) = m' ((c.tc : Thread Cert.FlashFwdRefIdeal.nD Cert.FlashFwdRefIdeal.τ).loc Cert.FlashFwdRefIdeal.main_arg1)
          ∧ r.2.mem ((c.tc : Thread Cert.FlashFwdRefIdeal.nD Cert.FlashFwdRefIdeal.τ).loc Cert.FlashFwdRefIdeal.main_arg2) = m' ((c.tc : Thread Cert.FlashFwdRefIdeal.nD Cert.FlashFwdRefIdeal.τ).loc Cert.FlashFwdRefIdeal.main_arg2))

def preserves_FfnFwdKernel_FfnFwdKernelIdeal : Prop :=
  True

def algebraic_FfnFwdKernelIdeal_FfnFwdRefIdeal [hFfnFwdKernelIdeal : Cert.FfnFwdKernelIdeal.Facts] [hFfnFwdRefIdeal : Cert.FfnFwdRefIdeal.Facts] : Prop :=
  ∀ (m : (ℓ : Loc Cert.FfnFwdKernelIdeal.nD Cert.FfnFwdKernelIdeal.τ Cert.FfnFwdKernelIdeal.sig) → Buf (Elt Ideal) ℓ) (g : Dev Cert.FfnFwdKernelIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdKernelIdeal m →
    (∀ c : Dev Cert.FfnFwdKernelIdeal.nD,
      m' ((c.tc : Thread Cert.FfnFwdRefIdeal.nD Cert.FfnFwdRefIdeal.τ).loc Cert.FfnFwdRefIdeal.main_arg0) = m ((c.tc : Thread Cert.FfnFwdKernelIdeal.nD Cert.FfnFwdKernelIdeal.τ).loc Cert.FfnFwdKernelIdeal.main_arg0)
      ∧ m' ((c.tc : Thread Cert.FfnFwdRefIdeal.nD Cert.FfnFwdRefIdeal.τ).loc Cert.FfnFwdRefIdeal.main_arg1) = m ((c.tc : Thread Cert.FfnFwdKernelIdeal.nD Cert.FfnFwdKernelIdeal.τ).loc Cert.FfnFwdKernelIdeal.main_arg1)
      ∧ m' ((c.tc : Thread Cert.FfnFwdRefIdeal.nD Cert.FfnFwdRefIdeal.τ).loc Cert.FfnFwdRefIdeal.main_arg2) = m ((c.tc : Thread Cert.FfnFwdKernelIdeal.nD Cert.FfnFwdKernelIdeal.τ).loc Cert.FfnFwdKernelIdeal.main_arg2)
      ∧ m' ((c.tc : Thread Cert.FfnFwdRefIdeal.nD Cert.FfnFwdRefIdeal.τ).loc Cert.FfnFwdRefIdeal.main_arg3) = m ((c.tc : Thread Cert.FfnFwdKernelIdeal.nD Cert.FfnFwdKernelIdeal.τ).loc Cert.FfnFwdKernelIdeal.main_arg3)
      ∧ m' ((c.tc : Thread Cert.FfnFwdRefIdeal.nD Cert.FfnFwdRefIdeal.τ).loc Cert.FfnFwdRefIdeal.main_arg4) = m ((c.tc : Thread Cert.FfnFwdKernelIdeal.nD Cert.FfnFwdKernelIdeal.τ).loc Cert.FfnFwdKernelIdeal.main_arg4)
      ∧ m' ((c.tc : Thread Cert.FfnFwdRefIdeal.nD Cert.FfnFwdRefIdeal.τ).loc Cert.FfnFwdRefIdeal.main_arg5) = m ((c.tc : Thread Cert.FfnFwdKernelIdeal.nD Cert.FfnFwdKernelIdeal.τ).loc Cert.FfnFwdKernelIdeal.main_arg5)
      ∧ m' ((c.tc : Thread Cert.FfnFwdRefIdeal.nD Cert.FfnFwdRefIdeal.τ).loc Cert.FfnFwdRefIdeal.main_arg6) = m ((c.tc : Thread Cert.FfnFwdKernelIdeal.nD Cert.FfnFwdKernelIdeal.τ).loc Cert.FfnFwdKernelIdeal.main_arg6)
      ∧ m' ((c.tc : Thread Cert.FfnFwdRefIdeal.nD Cert.FfnFwdRefIdeal.τ).loc Cert.FfnFwdRefIdeal.main_arg7) = m ((c.tc : Thread Cert.FfnFwdKernelIdeal.nD Cert.FfnFwdKernelIdeal.τ).loc Cert.FfnFwdKernelIdeal.main_arg7)) →
    ∃ (v0 : (c : Dev Cert.FfnFwdKernelIdeal.nD) → Buf (Elt Ideal) ((c.tc : Thread Cert.FfnFwdKernelIdeal.nD Cert.FfnFwdKernelIdeal.τ).loc Cert.FfnFwdKernelIdeal.main_v9_0)) (v1 : (c : Dev Cert.FfnFwdKernelIdeal.nD) → Buf (Elt Ideal) ((c.tc : Thread Cert.FfnFwdKernelIdeal.nD Cert.FfnFwdKernelIdeal.τ).loc Cert.FfnFwdKernelIdeal.main_v9_1)) (v2 : (c : Dev Cert.FfnFwdKernelIdeal.nD) → Buf (Elt Ideal) ((c.tc : Thread Cert.FfnFwdKernelIdeal.nD Cert.FfnFwdKernelIdeal.τ).loc Cert.FfnFwdKernelIdeal.main_v9_2)) (v3 : (c : Dev Cert.FfnFwdKernelIdeal.nD) → Buf (Elt Ideal) ((c.tc : Thread Cert.FfnFwdKernelIdeal.nD Cert.FfnFwdKernelIdeal.τ).loc Cert.FfnFwdKernelIdeal.main_v9_3)),
      θ_run (Cert.FfnFwdKernelIdeal.defs (F := Ideal)) (onTc (τ := Cert.FfnFwdKernelIdeal.τ) (Cert.FfnFwdKernelIdeal.main (F := Ideal))) ⟨m, fun _ => 0, g⟩ (fun r => ∀ c : Dev Cert.FfnFwdKernelIdeal.nD,
          r.2.mem ((c.tc : Thread Cert.FfnFwdKernelIdeal.nD Cert.FfnFwdKernelIdeal.τ).loc Cert.FfnFwdKernelIdeal.main_v9_0) = v0 c
          ∧ r.2.mem ((c.tc : Thread Cert.FfnFwdKernelIdeal.nD Cert.FfnFwdKernelIdeal.τ).loc Cert.FfnFwdKernelIdeal.main_v9_1) = v1 c
          ∧ r.2.mem ((c.tc : Thread Cert.FfnFwdKernelIdeal.nD Cert.FfnFwdKernelIdeal.τ).loc Cert.FfnFwdKernelIdeal.main_v9_2) = v2 c
          ∧ r.2.mem ((c.tc : Thread Cert.FfnFwdKernelIdeal.nD Cert.FfnFwdKernelIdeal.τ).loc Cert.FfnFwdKernelIdeal.main_v9_3) = v3 c
          ∧ r.2.mem ((c.tc : Thread Cert.FfnFwdKernelIdeal.nD Cert.FfnFwdKernelIdeal.τ).loc Cert.FfnFwdKernelIdeal.main_arg0) = m ((c.tc : Thread Cert.FfnFwdKernelIdeal.nD Cert.FfnFwdKernelIdeal.τ).loc Cert.FfnFwdKernelIdeal.main_arg0)
          ∧ r.2.mem ((c.tc : Thread Cert.FfnFwdKernelIdeal.nD Cert.FfnFwdKernelIdeal.τ).loc Cert.FfnFwdKernelIdeal.main_arg1) = m ((c.tc : Thread Cert.FfnFwdKernelIdeal.nD Cert.FfnFwdKernelIdeal.τ).loc Cert.FfnFwdKernelIdeal.main_arg1)
          ∧ r.2.mem ((c.tc : Thread Cert.FfnFwdKernelIdeal.nD Cert.FfnFwdKernelIdeal.τ).loc Cert.FfnFwdKernelIdeal.main_arg2) = m ((c.tc : Thread Cert.FfnFwdKernelIdeal.nD Cert.FfnFwdKernelIdeal.τ).loc Cert.FfnFwdKernelIdeal.main_arg2)
          ∧ r.2.mem ((c.tc : Thread Cert.FfnFwdKernelIdeal.nD Cert.FfnFwdKernelIdeal.τ).loc Cert.FfnFwdKernelIdeal.main_arg3) = m ((c.tc : Thread Cert.FfnFwdKernelIdeal.nD Cert.FfnFwdKernelIdeal.τ).loc Cert.FfnFwdKernelIdeal.main_arg3)
          ∧ r.2.mem ((c.tc : Thread Cert.FfnFwdKernelIdeal.nD Cert.FfnFwdKernelIdeal.τ).loc Cert.FfnFwdKernelIdeal.main_arg4) = m ((c.tc : Thread Cert.FfnFwdKernelIdeal.nD Cert.FfnFwdKernelIdeal.τ).loc Cert.FfnFwdKernelIdeal.main_arg4)
          ∧ r.2.mem ((c.tc : Thread Cert.FfnFwdKernelIdeal.nD Cert.FfnFwdKernelIdeal.τ).loc Cert.FfnFwdKernelIdeal.main_arg5) = m ((c.tc : Thread Cert.FfnFwdKernelIdeal.nD Cert.FfnFwdKernelIdeal.τ).loc Cert.FfnFwdKernelIdeal.main_arg5)
          ∧ r.2.mem ((c.tc : Thread Cert.FfnFwdKernelIdeal.nD Cert.FfnFwdKernelIdeal.τ).loc Cert.FfnFwdKernelIdeal.main_arg6) = m ((c.tc : Thread Cert.FfnFwdKernelIdeal.nD Cert.FfnFwdKernelIdeal.τ).loc Cert.FfnFwdKernelIdeal.main_arg6)
          ∧ r.2.mem ((c.tc : Thread Cert.FfnFwdKernelIdeal.nD Cert.FfnFwdKernelIdeal.τ).loc Cert.FfnFwdKernelIdeal.main_arg7) = m ((c.tc : Thread Cert.FfnFwdKernelIdeal.nD Cert.FfnFwdKernelIdeal.τ).loc Cert.FfnFwdKernelIdeal.main_arg7))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v27) = v0 c
          ∧ r.2.mem ((c.tc : Thread Cert.FfnFwdRefIdeal.nD Cert.FfnFwdRefIdeal.τ).loc Cert.FfnFwdRefIdeal.main_v28) = v1 c
          ∧ r.2.mem ((c.tc : Thread Cert.FfnFwdRefIdeal.nD Cert.FfnFwdRefIdeal.τ).loc Cert.FfnFwdRefIdeal.main_v31) = v2 c
          ∧ r.2.mem ((c.tc : Thread Cert.FfnFwdRefIdeal.nD Cert.FfnFwdRefIdeal.τ).loc Cert.FfnFwdRefIdeal.main_v34) = v3 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7))

def Claim : Prop :=
  ∃ (hLossKernel : Cert.LossKernel.Facts) (hLossKernelIdeal : Cert.LossKernelIdeal.Facts) (hLossRefIdeal : Cert.LossRefIdeal.Facts) (hOutBwdKernel : Cert.OutBwdKernel.Facts) (hOutBwdKernelIdeal : Cert.OutBwdKernelIdeal.Facts) (hOutBwdRefIdeal : Cert.OutBwdRefIdeal.Facts) (hFlashBwdKernel : Cert.FlashBwdKernel.Facts) (hFlashBwdKernelIdeal : Cert.FlashBwdKernelIdeal.Facts) (hFlashBwdRefIdeal : Cert.FlashBwdRefIdeal.Facts) (hFfnBwdKernel : Cert.FfnBwdKernel.Facts) (hFfnBwdKernelIdeal : Cert.FfnBwdKernelIdeal.Facts) (hFfnBwdRefIdeal : Cert.FfnBwdRefIdeal.Facts) (hPoolBwdKernel : Cert.PoolBwdKernel.Facts) (hPoolBwdKernelIdeal : Cert.PoolBwdKernelIdeal.Facts) (hPoolBwdRefIdeal : Cert.PoolBwdRefIdeal.Facts) (hFlashFwdKernel : Cert.FlashFwdKernel.Facts) (hFlashFwdKernelIdeal : Cert.FlashFwdKernelIdeal.Facts) (hFlashFwdRefIdeal : Cert.FlashFwdRefIdeal.Facts) (hFfnFwdKernel : Cert.FfnFwdKernel.Facts) (hFfnFwdKernelIdeal : Cert.FfnFwdKernelIdeal.Facts) (hFfnFwdRefIdeal : Cert.FfnFwdRefIdeal.Facts) (hPre_flash_finite : Cert.Pre_flash_finite.Facts) (hPre_ffn_finite : Cert.Pre_ffn_finite.Facts) (hPre_flashf_finite : Cert.Pre_flashf_finite.Facts),
    quiescent_LossKernel (hLossKernel := hLossKernel)
    ∧ quiescent_LossKernelIdeal (hLossKernelIdeal := hLossKernelIdeal)
    ∧ quiescent_LossRefIdeal (hLossRefIdeal := hLossRefIdeal)
    ∧ quiescent_OutBwdKernel (hOutBwdKernel := hOutBwdKernel)
    ∧ quiescent_OutBwdKernelIdeal (hOutBwdKernelIdeal := hOutBwdKernelIdeal)
    ∧ quiescent_OutBwdRefIdeal (hOutBwdRefIdeal := hOutBwdRefIdeal)
    ∧ quiescent_FlashBwdKernel (hFlashBwdKernel := hFlashBwdKernel)
    ∧ quiescent_FlashBwdKernelIdeal (hFlashBwdKernelIdeal := hFlashBwdKernelIdeal)
    ∧ quiescent_FlashBwdKernelIdeal_pre_flash_finite (hFlashBwdKernelIdeal := hFlashBwdKernelIdeal) (hPre_flash_finite := hPre_flash_finite)
    ∧ quiescent_FlashBwdRefIdeal (hFlashBwdRefIdeal := hFlashBwdRefIdeal)
    ∧ quiescent_FlashBwdRefIdeal_pre_flash_finite (hFlashBwdRefIdeal := hFlashBwdRefIdeal) (hPre_flash_finite := hPre_flash_finite)
    ∧ quiescent_FfnBwdKernel (hFfnBwdKernel := hFfnBwdKernel)
    ∧ quiescent_FfnBwdKernelIdeal (hFfnBwdKernelIdeal := hFfnBwdKernelIdeal)
    ∧ quiescent_FfnBwdKernelIdeal_pre_ffn_finite (hFfnBwdKernelIdeal := hFfnBwdKernelIdeal) (hPre_ffn_finite := hPre_ffn_finite)
    ∧ quiescent_FfnBwdRefIdeal (hFfnBwdRefIdeal := hFfnBwdRefIdeal)
    ∧ quiescent_FfnBwdRefIdeal_pre_ffn_finite (hFfnBwdRefIdeal := hFfnBwdRefIdeal) (hPre_ffn_finite := hPre_ffn_finite)
    ∧ quiescent_PoolBwdKernel (hPoolBwdKernel := hPoolBwdKernel)
    ∧ quiescent_PoolBwdKernelIdeal (hPoolBwdKernelIdeal := hPoolBwdKernelIdeal)
    ∧ quiescent_PoolBwdRefIdeal (hPoolBwdRefIdeal := hPoolBwdRefIdeal)
    ∧ quiescent_FlashFwdKernel (hFlashFwdKernel := hFlashFwdKernel)
    ∧ quiescent_FlashFwdKernelIdeal (hFlashFwdKernelIdeal := hFlashFwdKernelIdeal)
    ∧ quiescent_FlashFwdKernelIdeal_pre_flashf_finite (hFlashFwdKernelIdeal := hFlashFwdKernelIdeal) (hPre_flashf_finite := hPre_flashf_finite)
    ∧ quiescent_FlashFwdRefIdeal (hFlashFwdRefIdeal := hFlashFwdRefIdeal)
    ∧ quiescent_FlashFwdRefIdeal_pre_flashf_finite (hFlashFwdRefIdeal := hFlashFwdRefIdeal) (hPre_flashf_finite := hPre_flashf_finite)
    ∧ quiescent_FfnFwdKernel (hFfnFwdKernel := hFfnFwdKernel)
    ∧ quiescent_FfnFwdKernelIdeal (hFfnFwdKernelIdeal := hFfnFwdKernelIdeal)
    ∧ quiescent_FfnFwdRefIdeal (hFfnFwdRefIdeal := hFfnFwdRefIdeal)
    ∧ preserves_LossKernel_LossKernelIdeal
    ∧ algebraic_LossKernelIdeal_LossRefIdeal (hLossKernelIdeal := hLossKernelIdeal) (hLossRefIdeal := hLossRefIdeal)
    ∧ preserves_OutBwdKernel_OutBwdKernelIdeal
    ∧ algebraic_OutBwdKernelIdeal_OutBwdRefIdeal (hOutBwdKernelIdeal := hOutBwdKernelIdeal) (hOutBwdRefIdeal := hOutBwdRefIdeal)
    ∧ preserves_FlashBwdKernel_FlashBwdKernelIdeal
    ∧ algebraic_FlashBwdKernelIdeal_FlashBwdRefIdeal_pre_flash_finite (hFlashBwdKernelIdeal := hFlashBwdKernelIdeal) (hFlashBwdRefIdeal := hFlashBwdRefIdeal) (hPre_flash_finite := hPre_flash_finite)
    ∧ preserves_FfnBwdKernel_FfnBwdKernelIdeal
    ∧ algebraic_FfnBwdKernelIdeal_FfnBwdRefIdeal_pre_ffn_finite (hFfnBwdKernelIdeal := hFfnBwdKernelIdeal) (hFfnBwdRefIdeal := hFfnBwdRefIdeal) (hPre_ffn_finite := hPre_ffn_finite)
    ∧ preserves_PoolBwdKernel_PoolBwdKernelIdeal
    ∧ preserves_FlashFwdKernel_FlashFwdKernelIdeal
    ∧ algebraic_FlashFwdKernelIdeal_FlashFwdRefIdeal_pre_flashf_finite (hFlashFwdKernelIdeal := hFlashFwdKernelIdeal) (hFlashFwdRefIdeal := hFlashFwdRefIdeal) (hPre_flashf_finite := hPre_flashf_finite)
    ∧ preserves_FfnFwdKernel_FfnFwdKernelIdeal
    ∧ algebraic_FfnFwdKernelIdeal_FfnFwdRefIdeal (hFfnFwdKernelIdeal := hFfnFwdKernelIdeal) (hFfnFwdRefIdeal := hFfnFwdRefIdeal)
-- ==== Pre_ffn_finite.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S4x1024x2816 : S_.BroadcastsInDim S4x1024x2816 (![] : Fin 0 → Fin S4x1024x2816.rank)
  bcast_S_S4x2816x1024 : S_.BroadcastsInDim S4x2816x1024 (![] : Fin 0 → Fin S4x2816x1024.rank)

variable [Facts]

def fn {F : FTy → Type} [FloatOps F] (main_arg0 : FVec F S16384x1024 .f32) (main_arg1 : FVec F S1x1024 .f32) (main_arg2 : FVec F S4x1024x2816 .f32) (main_arg3 : FVec F S4x1024x2816 .f32) (main_arg4 : FVec F S4x2816x1024 .f32) (main_arg5 : FVec F S4x1024x2816 .f32) (main_arg6 : FVec F S4x1024x2816 .f32) (main_arg7 : FVec F S4x2816x1024 .f32) (main_arg8 : FVec F S16384x1024 .f32) : IVec S16384x1024 1 × IVec S1x1024 1 × IVec S4x1024x2816 1 × IVec S4x1024x2816 1 × IVec S4x2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4x1024x2816 .f32 := Host.absf main_arg2
  let main_cst_1 : FVec F S_ .f32 := constant S_ .f32 0x7F800000#32
  let main_v7 : FVec F S4x1024x2816 .f32 := broadcastInDim S4x1024x2816 ![] bcast_S_S4x1024x2816 main_cst_1
  let main_v8 : IVec S4x1024x2816 1 := cmpf .olt main_v6 main_v7
  let main_v9 : FVec F S4x1024x2816 .f32 := Host.absf main_arg3
  let main_cst_2 : FVec F S_ .f32 := constant S_ .f32 0x7F800000#32
  let main_v10 : FVec F S4x1024x2816 .f32 := broadcastInDim S4x1024x2816 ![] bcast_S_S4x1024x2816 main_cst_2
  let main_v11 : IVec S4x1024x2816 1 := cmpf .olt main_v9 main_v10
  let main_v12 : FVec F S4x2816x1024 .f32 := Host.absf main_arg4
  let main_cst_3 : FVec F S_ .f32 := constant S_ .f32 0x7F800000#32
  let main_v13 : FVec F S4x2816x1024 .f32 := broadcastInDim S4x2816x1024 ![] bcast_S_S4x2816x1024 main_cst_3
  let main_v14 : IVec S4x2816x1024 1 := cmpf .olt main_v12 main_v13
  let main_v15 : FVec F S16384x1024 .f32 := Host.absf main_arg8
  let main_cst_4 : FVec F S_ .f32 := constant S_ .f32 0x7F800000#32
  let main_v16 : FVec F S16384x1024 .f32 := broadcastInDim S16384x1024 ![] bcast_S_S16384x1024 main_cst_4
  let main_v17 : IVec S16384x1024 1 := cmpf .olt main_v15 main_v16
  (main_v2, main_v5, main_v8, main_v11, main_v14, main_v17)
-- ==== Pre_flash_finite.lean ====
abbrev S8x16384x192 : Shape := ⟨3, ![8, 16384, 192]⟩
abbrev S16384x1024 : Shape := ⟨2, ![16384, 1024]⟩
abbrev S_ : Shape := ⟨0, ![]⟩

class Facts : Prop where
  bcast_S_S8x16384x192 : S_.BroadcastsInDim S8x16384x192 (![] : Fin 0 → Fin S8x16384x192.rank)
  bcast_S_S16384x1024 : S_.BroadcastsInDim S16384x1024 (![] : Fin 0 → Fin S16384x1024.rank)

variable [Facts]

def fn {F : FTy → Type} [FloatOps F] (main_arg0 : FVec F S8x16384x192 .f32) (main_arg1 : FVec F S8x16384x192 .f32) (main_arg2 : FVec F S16384x1024 .f32) (main_arg3 : FVec F S16384x1024 .f32) : IVec S8x16384x192 1 × IVec S8x16384x192 1 × IVec S16384x1024 1 × IVec S16384x1024 1 :=
  let main_v0 : FVec F S8x16384x192 .f32 := Host.absf main_arg0
  let main_cst : FVec F S_ .f32 := constant S_ .f32 0x7F800000#32
  let main_v1 : FVec F S8x16384x192 .f32 := broadcastInDim S8x16384x192 ![] bcast_S_S8x16384x192 main_cst
  let main_v2 : IVec S8x16384x192 1 := cmpf .olt main_v0 main_v1
  let main_v3 : FVec F S8x16384x192 .f32 := Host.absf main_arg1
  let main_cst_0 : FVec F S_ .f32 := constant S_ .f32 0x7F800000#32
  let main_v4 : FVec F S8x16384x192 .f32 := broadcastInDim S8x16384x192 ![] bcast_S_S8x16384x192 main_cst_0
  let main_v5 : IVec S8x16384x192 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  let main_v9 : FVec F S16384x1024 .f32 := Host.absf main_arg3
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Pre_flashf_finite.lean ====
abbrev S8x16384x192 : Shape := ⟨3, ![8, 16384, 192]⟩
abbrev S16384x1024 : Shape := ⟨2, ![16384, 1024]⟩
abbrev S_ : Shape := ⟨0, ![]⟩

class Facts : Prop where
  bcast_S_S8x16384x192 : S_.BroadcastsInDim S8x16384x192 (![] : Fin 0 → Fin S8x16384x192.rank)
  bcast_S_S16384x1024 : S_.BroadcastsInDim S16384x1024 (![] : Fin 0 → Fin S16384x1024.rank)

variable [Facts]

def fn {F : FTy → Type} [FloatOps F] (main_arg0 : FVec F S8x16384x192 .f32) (main_arg1 : FVec F S8x16384x192 .f32) (main_arg2 : FVec F S16384x1024 .f32) : IVec S8x16384x192 1 × IVec S8x16384x192 1 × IVec S16384x1024 1 :=
  let main_v0 : FVec F S8x16384x192 .f32 := Host.absf main_arg0
  let main_cst : FVec F S_ .f32 := constant S_ .f32 0x7F800000#32
  let main_v1 : FVec F S8x16384x192 .f32 := broadcastInDim S8x16384x192 ![] bcast_S_S8x16384x192 main_cst
  let main_v2 : IVec S8x16384x192 1 := cmpf .olt main_v0 main_v1
  let main_v3 : FVec F S8x16384x192 .f32 := Host.absf main_arg1
  let main_cst_0 : FVec F S_ .f32 := constant S_ .f32 0x7F800000#32
  let main_v4 : FVec F S8x16384x192 .f32 := broadcastInDim S8x16384x192 ![] bcast_S_S8x16384x192 main_cst_0
  let main_v5 : IVec S8x16384x192 1 := cmpf .olt main_v3 main_v4
  let main_v6 : FVec F S16384x1024 .f32 := Host.absf main_arg2
  let main_cst_1 : FVec F S_ .f32 := constant S_ .f32 0x7F800000#32
  let main_v7 : FVec F S16384x1024 .f32 := broadcastInDim S16384x1024 ![] bcast_S_S16384x1024 main_cst_1
  let main_v8 : IVec S16384x1024 1 := cmpf .olt main_v6 main_v7
  (main_v2, main_v5, main_v8)
-- ==== LossKernel.lean ====
abbrev S16384x1024 : Shape := ⟨2, ![16384, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S16384x1024 : Shape := ⟨2, ![16384, 1024]⟩
abbrev S_ : Shape := ⟨0, ![]⟩
abbrev S16384 : Shape := ⟨1, ![16384]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S16384x1024, .f32⟩
  | .hbm, ⟨25, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== OutBwdKernel.lean ====
abbrev S16384x1024 : Shape := ⟨2, ![16384, 1024]⟩
abbrev S1024x16384 : Shape := ⟨2, ![1024, 16384]⟩
abbrev S1024x1024 : Shape := ⟨2, ![1024, 1024]⟩
abbrev S8x1x16384 : Shape := ⟨3, ![8, 1, 16384]⟩
abbrev S512x1024 : Shape := ⟨2, ![512, 1024]⟩
abbrev S1024x512 : Shape := ⟨2, ![1024, 512]⟩
abbrev S8x1x512 : Shape := ⟨3, ![8, 1, 512]⟩
abbrev S128x512 : Shape := ⟨2, ![128, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 7
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .f32⟩
  | .hbm, ⟨3, _⟩ => ⟨S1024x1024, .bf16⟩
  | .hbm, ⟨4, _⟩ => ⟨S16384x1024, .bf16⟩
  | .hbm, ⟨5, _⟩ => ⟨S8x1x16384, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S8x1x512, .f32⟩
  | .local _ .vmem, ⟨8, _⟩ => ⟨S8x1x512, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== OutBwdRefIdeal.lean ====
abbrev S16384x1024 : Shape := ⟨2, ![16384, 1024]⟩
abbrev S1024x16384 : Shape := ⟨2, ![1024, 16384]⟩
abbrev S1024x1024 : Shape := ⟨2, ![1024, 1024]⟩
abbrev S16384x8x128 : Shape := ⟨3, ![16384, 8, 128]⟩
abbrev S_ : Shape := ⟨0, ![]⟩
abbrev S16384x8 : Shape := ⟨2, ![16384, 8]⟩
abbrev S8x16384 : Shape := ⟨2, ![8, 16384]⟩
abbrev S8x1x16384 : Shape := ⟨3, ![8, 1, 16384]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x16384, .f32⟩
  | .hbm, ⟨2, _⟩ => ⟨S1024x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x8x128, .f32⟩
  | .hbm, ⟨10, _⟩ => ⟨S_, .f32⟩
  | .hbm, ⟨11, _⟩ => ⟨S16384x8, .f32⟩
  | .hbm, ⟨12, _⟩ => ⟨S8x16384, .f32⟩
  | .hbm, ⟨13, _⟩ => ⟨S16384x1024, .bf16⟩
  | .hbm, ⟨14, _⟩ => ⟨S8x1x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== FlashBwdKernel.lean ====
abbrev S8x16384x192 : Shape := ⟨3, ![8, 16384, 192]⟩
abbrev S16384x1024 : Shape := ⟨2, ![16384, 1024]⟩
abbrev S_ : Shape := ⟨0, ![]⟩
abbrev S8x16384x16384 : Shape := ⟨3, ![8, 16384, 16384]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S16384x8x128 : Shape := ⟨3, ![16384, 8, 128]⟩
abbrev S8x16384x128 : Shape := ⟨3, ![8, 16384, 128]⟩
abbrev S8x16x1x1024 : Shape := ⟨4, ![8, 16, 1, 1024]⟩
abbrev S8x16x192x1024 : Shape := ⟨4, ![8, 16, 192, 1024]⟩
abbrev S1x16x1x1024 : Shape := ⟨4, ![1, 16, 1, 1024]⟩
abbrev S1x16384x192 : Shape := ⟨3, ![1, 16384, 192]⟩
abbrev S16384x128 : Shape := ⟨2, ![16384, 128]⟩
abbrev S1x1024x192 : Shape := ⟨3, ![1, 1024, 192]⟩
abbrev S1024x128 : Shape := ⟨2, ![1024, 128]⟩
abbrev S1x16x192x1024 : Shape := ⟨4, ![1, 16, 192, 1024]⟩
abbrev S1024x192 : Shape := ⟨2, ![1024, 192]⟩
abbrev S2x1024x1024 : Shape := ⟨3, ![2, 1024, 1024]⟩
abbrev S16x192x1024 : Shape := ⟨3, ![16, 192, 1024]⟩
abbrev S1024x1024 : Shape := ⟨2, ![1024, 1024]⟩
abbrev S1x1024x1024 : Shape := ⟨3, ![1, 1024, 1024]⟩
abbrev S1x1x1x1024 : Shape := ⟨4, ![1, 1, 1, 1024]⟩
abbrev S1x1024 : Shape := ⟨2, ![1, 1024]⟩
abbrev S1x1x192x1024 : Shape := ⟨4, ![1, 1, 192, 1024]⟩
abbrev S192x1024 : Shape := ⟨2, ![192, 1024]⟩

abbrev nBuf : Space → Nat
  | .hbm => 50
  | .vmem => 19
  | .smem => 0
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S8x16384x192, .f32⟩
  | .hbm, ⟨6, _⟩ => ⟨S8x16384x192, .f32⟩
  | .hbm, ⟨7, _⟩ => ⟨S8x16384x192, .bf16⟩
  | .hbm, ⟨8, _⟩ => ⟨S8x16384x192, .bf16⟩
  | .hbm, ⟨9, _⟩ => ⟨S16384x1024, .bf16⟩
  | .hbm, ⟨10, _⟩ => ⟨S16384x1024, .bf16⟩
  | .hbm, ⟨11, _⟩ => ⟨S8x16384x16384, .f32⟩
  | .hbm, ⟨12, _⟩ => ⟨S16384, .i32⟩
  | .hbm, ⟨13, _⟩ => ⟨S1x16384, .i32⟩
  | .hbm, ⟨14, _⟩ => ⟨S16384, .i32⟩
  | .hbm, ⟨15, _⟩ => ⟨S16384x1, .i32⟩
  | .hbm, ⟨16, _⟩ => ⟨S16384x16384, .i32⟩
  | .hbm, ⟨17, _⟩ => ⟨S16384x16384, .i32⟩
  | .hbm, ⟨18, _⟩ => ⟨S16384x16384, .i1⟩
  | .hbm, ⟨19, _⟩ => ⟨S_, .f32⟩
  | .hbm, ⟨20, _⟩ => ⟨S_, .f32⟩
  | .hbm, ⟨21, _⟩ => ⟨S8x16384x16384, .i1⟩
  | .hbm, ⟨22, _⟩ => ⟨S8x16384x16384, .f32⟩
  | .hbm, ⟨23, _⟩ => ⟨S8x16384x16384, .f32⟩
  | .hbm, ⟨24, _⟩ => ⟨S_, .f32⟩
  | .hbm, ⟨25, _⟩ => ⟨S8x16384, .f32⟩
  | .hbm, ⟨26, _⟩ => ⟨S8x16384x1, .f32⟩
  | .hbm, ⟨27, _⟩ => ⟨S8x16384x16384, .f32⟩
  | .hbm, ⟨28, _⟩ => ⟨S8x16384x16384, .f32⟩
  | .hbm, ⟨29, _⟩ => ⟨S8x16384x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S8x16384, .f32⟩
  | .hbm, ⟨34, _⟩ => ⟨S16384x8x128, .f32⟩
  | .hbm, ⟨35, _⟩ => ⟨S8x16384x128, .f32⟩
  | .hbm, ⟨36, _⟩ => ⟨S8x16384x128, .f32⟩
  | .hbm, ⟨37, _⟩ => ⟨S8x16384x1, .f32⟩
  | .hbm, ⟨38, _⟩ => ⟨S8x16384x128, .f32⟩
  | .hbm, ⟨39, _⟩ => ⟨S8x16384x128, .f32⟩
  | .hbm, ⟨40, _⟩ => ⟨S16384x8x128, .f32⟩
  | .hbm, ⟨41, _⟩ => ⟨S8x16384x128, .f32⟩
  | .hbm, ⟨42, _⟩ => ⟨S8x16384x128, .f32⟩
  | .hbm, ⟨43, _⟩ => ⟨S_, .f32⟩
  | .hbm, ⟨44, _⟩ => ⟨S8x16384, .f32⟩
  | .hbm, ⟨45, _⟩ => ⟨S8x16x1x1024, .f32⟩
  | .hbm, ⟨46, _⟩ => ⟨S8x16x1x1024, .f32⟩
  | .hbm, ⟨47, _⟩ => ⟨S8x16x192x1024, .f32⟩
  | .hbm, ⟨48, _⟩ => ⟨S8x16384x192, .f32⟩
  | .hbm, ⟨49, _⟩ => ⟨S16384x1024, .f32⟩
  | .local _ .vmem, ⟨0, _⟩ => ⟨S1x16x1x1024, .f32⟩
  | .local _ .vmem, ⟨1, _⟩ => ⟨S1x16x1x1024, .f32⟩
  | .local _ .vmem, ⟨2, _⟩ => ⟨S1x16384x192, .bf16⟩
  | .local _ .vmem, ⟨3, _⟩ => ⟨S16384x128, .bf16⟩
  | .local _ .vmem, ⟨4, _⟩ => ⟨S1x16x1x1024, .f32⟩
  | .local _ .vmem, ⟨5, _⟩ => ⟨S1x16x1x1024, .f32⟩
  | .local _ .vmem, ⟨6, _⟩ => ⟨S1x1024x192, .bf16⟩
  | .local _ .vmem, ⟨7, _⟩ => ⟨S1x1024x192, .bf16⟩
  | .local _ .vmem, ⟨8, _⟩ => ⟨S1024x128, .bf16⟩
  | .local _ .vmem, ⟨9, _⟩ => ⟨S1024x128, .bf16⟩
  | .local _ .vmem, ⟨10, _⟩ => ⟨S1x16x192x1024, .f32⟩
  | .local _ .vmem, ⟨11, _⟩ => ⟨S1x1024x192, .f32⟩
  | .local _ .vmem, ⟨12, _⟩ => ⟨S1x1024x192, .f32⟩
  | .local _ .vmem, ⟨13, _⟩ => ⟨S1024x128, .f32⟩
  | .local _ .vmem, ⟨14, _⟩ => ⟨S1024x128, .f32⟩
  | .local _ .vmem, ⟨15, _⟩ => ⟨S1024x192, .f32⟩
  | .local _ .vmem, ⟨16, _⟩ => ⟨S1024x128, .f32⟩
  | .local _ .vmem, ⟨17, _⟩ => ⟨S2x1024x1024, .f32⟩
  | .local _ .vmem, ⟨18, _⟩ => ⟨S2x1024x1024, .f32⟩
  | _, _ => ⟨S8x16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev main_v35_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c15_i32_10 : BitVec 32 := 15#32
  let v16 : BitVec 32 := Scalar.minsi arg1 c15_i32_10
  let c1024_i32 : BitVec 32 := 1024#32
  let v17 : BitVec 32 := Scalar.muli v16 c1024_i32
  v17
def k0_off1 (i : grid0.Coords) : Fin 3 → Nat :=
  let c0_11 : Index := 0#32
  let arg1 : BitVec 32 := BitVec.ofNat 32 (i 1).val
  let c15_i32_10 : BitVec 32 := 15#32
  let v16 : BitVec 32 := Scalar.minsi arg1 c15_i32_10
  let c1024_i32 : BitVec 32 := 1024#32
  let v17 : BitVec 32 := Scalar.muli v16 c1024_i32
  let v18 : BitVec 32 := v17
  let v19 : Index := Scalar.indexCast v18
  let c0_12 : Index := 0#32
  ![0, v19.toNat, 0]
def k0_mult2 (i : grid0.Coords) : BitVec 32 :=
  let arg1 : BitVec 32 := BitVec.ofNat 32 (i 1).val
  let c15_i32_10 : BitVec 32 := 15#32
  let v16 : BitVec 32 := Scalar.minsi arg1 c15_i32_10
  let c1024_i32_17 : BitVec 32 := 1024#32
  let v26 : BitVec 32 := Scalar.muli v16 c1024_i32_17
  v26
def k0_off2 (i : grid0.Coords) : Fin 2 → Nat :=
  let arg1 : BitVec 32 := BitVec.ofNat 32 (i 1).val
  let c15_i32_10 : BitVec 32 := 15#32
  let v16 : BitVec 32 := Scalar.minsi arg1 c15_i32_10
  let c1024_i32_17 : BitVec 32 := 1024#32
  let v26 : BitVec 32 := Scalar.muli v16 c1024_i32_17
  let v27 : BitVec 32 := v26
  let v28 : Index := Scalar.indexCast v27
  let c0_18 : Index := 0#32
  ![v28.toNat, 0]
def k0_mult3 (i : grid0.Coords) : BitVec 32 :=
  let arg1 : BitVec 32 := BitVec.ofNat 32 (i 1).val
  let c1_i32 : BitVec 32 := 1#32
  let v35 : BitVec 32 := Scalar.addi arg1 c1_i32
  let c15_i32_23 : BitVec 32 := 15#32
  let v36 : BitVec 32 := Scalar.minsi v35 c15_i32_23
  let c1024_i32_24 : BitVec 32 := 1024#32
  let v37 : BitVec 32 := Scalar.muli v36 c1024_i32_24
  v37
def k0_off3 (i : grid0.Coords) : Fin 3 → Nat :=
  let c0_25 : Index := 0#32
  let arg1 : BitVec 32 := BitVec.ofNat 32 (i 1).val
  let c1_i32 : BitVec 32 := 1#32
  let v35 : BitVec 32 := Scalar.addi arg1 c1_i32
  let c15_i32_23 : BitVec 32 := 15#32
  let v36 : BitVec 32 := Scalar.minsi v35 c15_i32_23
  let c1024_i32_24 : BitVec 32 := 1024#32
  let v37 : BitVec 32 := Scalar.muli v36 c1024_i32_24
  let v38 : BitVec 32 := v37
  let v39 : Index := Scalar.indexCast v38
  let c0_26 : Index := 0#32
  ![0, v39.toNat, 0]
def k0_mult4 (i : grid0.Coords) : BitVec 32 :=
  let arg1 : BitVec 32 := BitVec.ofNat 32 (i 1).val
  let c1_i32 : BitVec 32 := 1#32
  let v35 : BitVec 32 := Scalar.addi arg1 c1_i32
  let c15_i32_23 : BitVec 32 := 15#32
  let v36 : BitVec 32 := Scalar.minsi v35 c15_i32_23
  let c1024_i32_30 : BitVec 32 := 1024#32
  let v46 : BitVec 32 := Scalar.muli v36 c1024_i32_30
  v46
def k0_off4 (i : grid0.Coords) : Fin 2 → Nat :=
  let arg1 : BitVec 32 := BitVec.ofNat 32 (i 1).val
  let c1_i32 : BitVec 32 := 1#32
  let v35 : BitVec 32 := Scalar.addi arg1 c1_i32
  let c15_i32_23 : BitVec 32 := 15#32
  let v36 : BitVec 32 := Scalar.minsi v35 c15_i32_23
  let c1024_i32_30 : BitVec 32 := 1024#32
  let v46 : BitVec 32 := Scalar.muli v36 c1024_i32_30
  let v47 : BitVec 32 := v46
  let v48 : Index := Scalar.indexCast v47
  let c0_31 : Index := 0#32
  ![v48.toNat, 0]
def k0_off5 (i : grid0.Coords) : Fin 4 → Nat :=
  let c0_40 : Index := 0#32
  let arg1 : BitVec 32 := BitVec.ofNat 32 (i 1).val
  let v62 : Index := Scalar.indexCast arg1
  let c0_41 : Index := 0#32
  let c0_42 : Index := 0#32
  ![0, v62.toNat, 0, 0]
def k0_mult5 (i : grid0.Coords) : BitVec 32 :=
  let arg1 : BitVec 32 := BitVec.ofNat 32 (i 1).val
  let c1024_i32_51 : BitVec 32 := 1024#32
  let v79 : BitVec 32 := Scalar.muli arg1 c1024_i32_51
  v79
def k0_off6 (i : grid0.Coords) : Fin 2 → Nat :=
  let arg1 : BitVec 32 := BitVec.ofNat 32 (i 1).val
  let c1024_i32_51 : BitVec 32 := 1024#32
  let v79 : BitVec 32 := Scalar.muli arg1 c1024_i32_51
  let v80 : BitVec 32 := v79
  let v81 : Index := Scalar.indexCast v80
  let c0_52 : Index := 0#32
  ![v81.toNat, 0]
def k0_mult6 (i : grid0.Coords) : BitVec 32 :=
  let arg1 : BitVec 32 := BitVec.ofNat 32 (i 1).val
  let c1024_i32_58 : BitVec 32 := 1024#32
  let v90 : BitVec 32 := Scalar.muli arg1 c1024_i32_58
  v90
def k0_off7 (i : grid0.Coords) : Fin 3 → Nat :=
  let c0_59 : Index := 0#32
  let arg1 : BitVec 32 := BitVec.ofNat 32 (i 1).val
  let c1024_i32_58 : BitVec 32 := 1024#32
  let v90 : BitVec 32 := Scalar.muli arg1 c1024_i32_58
  let v91 : BitVec 32 := v90
  let v92 : Index := Scalar.indexCast v91
  let c0_60 : Index := 0#32
  ![0, v92.toNat, 0]
def k0_off8 (i : grid0.Coords) : Fin 4 → Nat :=
  let c0_64 : Index := 0#32
  let arg1 : BitVec 32 := BitVec.ofNat 32 (i 1).val
  let v100 : Index := Scalar.indexCast arg1
  let c0_65 : Index := 0#32
  let c0_66 : Index := 0#32
  ![0, v100.toNat, 0, 0]
@[reducible] def k0_t1_loop (i : grid0.Coords) : Scf.Loop 32 :=
  let c0_i32_73 : BitVec 32 := 0#32
  let c15_i32 : BitVec 32 := 15#32
  let arg1 : BitVec 32 := BitVec.ofNat 32 (i 1).val
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_75 : BitVec 32 := 1#32
  ⟨c0_i32_73, v114, c1_i32_75⟩
def k0_mult7 (i : grid0.Coords) (k0_t1 : Fin (k0_t1_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_92 : BitVec 32 := 1024#32
  let v130 : BitVec 32 := Scalar.muli v129 c1024_i32_92
  v130
def k0_off9 (i : grid0.Coords) (k0_t1 : Fin (k0_t1_loop i).trips) (c1_i32_89 : BitVec 32) : Fin 3 → Nat :=
  let c0_93 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_92 : BitVec 32 := 1024#32
  let v130 : BitVec 32 := Scalar.muli v129 c1024_i32_92
  let v131 : BitVec 32 := v130
  let v132 : Index := Scalar.indexCast v131
  let c0_94 : Index := 0#32
  ![0, v132.toNat, 0]
def k0_mult8 (i : grid0.Coords) (k0_t1 : Fin (k0_t1_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_99 : BitVec 32 := 1024#32
  let v139 : BitVec 32 := Scalar.muli v129 c1024_i32_99
  v139
def k0_off10 (i : grid0.Coords) (k0_t1 : Fin (k0_t1_loop i).trips) (c1_i32_89 : BitVec 32) : Fin 2 → Nat :=
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_99 : BitVec 32 := 1024#32
  let v139 : BitVec 32 := Scalar.muli v129 c1024_i32_99
  let v140 : BitVec 32 := v139
  let v141 : Index := Scalar.indexCast v140
  let c0_100 : Index := 0#32
  ![v141.toNat, 0]
def k0_off11 (i : grid0.Coords) (k0_t1 : Fin (k0_t1_loop i).trips) (c1_i32_89 : BitVec 32) : Fin 4 → Nat :=
  let c0_108 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let v150 : Index := Scalar.indexCast v127
  let c0_109 : Index := 0#32
  let c0_110 : Index := 0#32
  ![0, v150.toNat, 0, 0]
def k0_mult9 (i : grid0.Coords) (k0_t1 : Fin (k0_t1_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1024_i32_119 : BitVec 32 := 1024#32
  let v167 : BitVec 32 := Scalar.muli v127 c1024_i32_119
  v167
def k0_off12 (i : grid0.Coords) (k0_t1 : Fin (k0_t1_loop i).trips) (c1_i32_89 : BitVec 32) : Fin 2 → Nat :=
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1024_i32_119 : BitVec 32 := 1024#32
  let v167 : BitVec 32 := Scalar.muli v127 c1024_i32_119
  let v168 : BitVec 32 := v167
  let v169 : Index := Scalar.indexCast v168
  let c0_120 : Index := 0#32
  ![v169.toNat, 0]
def k0_mult10 (i : grid0.Coords) (k0_t1 : Fin (k0_t1_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1024_i32_126 : BitVec 32 := 1024#32
  let v178 : BitVec 32 := Scalar.muli v127 c1024_i32_126
  v178
def k0_off13 (i : grid0.Coords) (k0_t1 : Fin (k0_t1_loop i).trips) (c1_i32_89 : BitVec 32) : Fin 3 → Nat :=
  let c0_127 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let c1024_i32_126 : BitVec 32 := 1024#32
  let v178 : BitVec 32 := Scalar.muli v127 c1024_i32_126
  let v179 : BitVec 32 := v178
  let v180 : Index := Scalar.indexCast v179
  let c0_128 : Index := 0#32
  ![0, v180.toNat, 0]
def k0_off14 (i : grid0.Coords) (k0_t1 : Fin (k0_t1_loop i).trips) (c1_i32_89 : BitVec 32) : Fin 4 → Nat :=
  let c0_132 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c1_i32_75 : BitVec 32 := 1#32
  let arg15 : BitVec 32 := Scf.iv c0_i32_73 c1_i32_75 k0_t1
  let v126 : BitVec 32 := Scalar.muli c2_i32 arg15
  let v127 : BitVec 32 := Scalar.addi v125 v126
  let v188 : Index := Scalar.indexCast v127
  let c0_133 : Index := 0#32
  let c0_134 : Index := 0#32
  ![0, v188.toNat, 0, 0]
def k0_mult11 (i : grid0.Coords) (k0_t1 : Fin (k0_t1_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v198 : BitVec 32 := Scalar.muli c2_i32_140 arg15
  let v199 : BitVec 32 := Scalar.addi v197 v198
  let c1_i32_141 : BitVec 32 := 1#32
  let v200 : BitVec 32 := Scalar.addi v199 c1_i32_141
  let c15_i32_142 : BitVec 32 := 15#32
  let v201 : BitVec 32 := Scalar.minsi v200 c15_i32_142
  let c1024_i32_143 : BitVec 32 := 1024#32
  let v202 : BitVec 32 := Scalar.muli v201 c1024_i32_143
  v202
def k0_mult12 (i : grid0.Coords) (k0_t1 : Fin (k0_t1_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v198 : BitVec 32 := Scalar.muli c2_i32_140 arg15
  let v199 : BitVec 32 := Scalar.addi v197 v198
  let c1_i32_141 : BitVec 32 := 1#32
  let v200 : BitVec 32 := Scalar.addi v199 c1_i32_141
  let c15_i32_142 : BitVec 32 := 15#32
  let v201 : BitVec 32 := Scalar.minsi v200 c15_i32_142
  let c1024_i32_150 : BitVec 32 := 1024#32
  let v211 : BitVec 32 := Scalar.muli v201 c1024_i32_150
  v211
def k0_mult13 (i : grid0.Coords) (k0_t1 : Fin (k0_t1_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v198 : BitVec 32 := Scalar.muli c2_i32_140 arg15
  let v199 : BitVec 32 := Scalar.addi v197 v198
  let c1024_i32_170 : BitVec 32 := 1024#32
  let v239 : BitVec 32 := Scalar.muli v199 c1024_i32_170
  v239
def k0_mult14 (i : grid0.Coords) (k0_t1 : Fin (k0_t1_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c1_i32_75 : BitVec 32 := 1#32
  let arg15 : BitVec 32 := Scf.iv c0_i32_73 c1_i32_75 k0_t1
  let v198 : BitVec 32 := Scalar.muli c2_i32_140 arg15
  let v199 : BitVec 32 := Scalar.addi v197 v198
  let c1024_i32_177 : BitVec 32 := 1024#32
  let v250 : BitVec 32 := Scalar.muli v199 c1024_i32_177
  v250
@[reducible] def k0_t2_loop (i : grid0.Coords) : Scf.Loop 32 :=
  let c0_i32_73 : BitVec 32 := 0#32
  let c15_i32 : BitVec 32 := 15#32
  let arg1 : BitVec 32 := BitVec.ofNat 32 (i 1).val
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let v111 : BitVec 32 := Scalar.addi c0_i32_73 v110
  let c1_i32_76 : BitVec 32 := 1#32
  ⟨v114, v111, c1_i32_76⟩
def k0_mult15 (i : grid0.Coords) (k0_t2 : Fin (k0_t2_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_92 : BitVec 32 := 1024#32
  let v130 : BitVec 32 := Scalar.muli v129 c1024_i32_92
  v130
def k0_off15 (i : grid0.Coords) (k0_t2 : Fin (k0_t2_loop i).trips) (c1_i32_89 : BitVec 32) : Fin 3 → Nat :=
  let c0_93 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_92 : BitVec 32 := 1024#32
  let v130 : BitVec 32 := Scalar.muli v129 c1024_i32_92
  let v131 : BitVec 32 := v130
  let v132 : Index := Scalar.indexCast v131
  let c0_94 : Index := 0#32
  ![0, v132.toNat, 0]
def k0_mult16 (i : grid0.Coords) (k0_t2 : Fin (k0_t2_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_99 : BitVec 32 := 1024#32
  let v139 : BitVec 32 := Scalar.muli v129 c1024_i32_99
  v139
def k0_off16 (i : grid0.Coords) (k0_t2 : Fin (k0_t2_loop i).trips) (c1_i32_89 : BitVec 32) : Fin 2 → Nat :=
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1_i32_90 : BitVec 32 := 1#32
  let v128 : BitVec 32 := Scalar.addi v127 c1_i32_90
  let c15_i32_91 : BitVec 32 := 15#32
  let v129 : BitVec 32 := Scalar.minsi v128 c15_i32_91
  let c1024_i32_99 : BitVec 32 := 1024#32
  let v139 : BitVec 32 := Scalar.muli v129 c1024_i32_99
  let v140 : BitVec 32 := v139
  let v141 : Index := Scalar.indexCast v140
  let c0_100 : Index := 0#32
  ![v141.toNat, 0]
def k0_off17 (i : grid0.Coords) (k0_t2 : Fin (k0_t2_loop i).trips) (c1_i32_89 : BitVec 32) : Fin 4 → Nat :=
  let c0_108 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let v150 : Index := Scalar.indexCast v127
  let c0_109 : Index := 0#32
  let c0_110 : Index := 0#32
  ![0, v150.toNat, 0, 0]
def k0_mult17 (i : grid0.Coords) (k0_t2 : Fin (k0_t2_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1024_i32_119 : BitVec 32 := 1024#32
  let v167 : BitVec 32 := Scalar.muli v127 c1024_i32_119
  v167
def k0_off18 (i : grid0.Coords) (k0_t2 : Fin (k0_t2_loop i).trips) (c1_i32_89 : BitVec 32) : Fin 2 → Nat :=
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1024_i32_119 : BitVec 32 := 1024#32
  let v167 : BitVec 32 := Scalar.muli v127 c1024_i32_119
  let v168 : BitVec 32 := v167
  let v169 : Index := Scalar.indexCast v168
  let c0_120 : Index := 0#32
  ![v169.toNat, 0]
def k0_mult18 (i : grid0.Coords) (k0_t2 : Fin (k0_t2_loop i).trips) : BitVec 32 :=
  let arg1 : BitVec 32 := BitVec.ofNat 32 (i 1).val
  let c1_i32_89 : BitVec 32 := 1#32
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1024_i32_126 : BitVec 32 := 1024#32
  let v178 : BitVec 32 := Scalar.muli v127 c1024_i32_126
  v178
def k0_off19 (i : grid0.Coords) (k0_t2 : Fin (k0_t2_loop i).trips) (c1_i32_89 : BitVec 32) : Fin 3 → Nat :=
  let c0_127 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let c1024_i32_126 : BitVec 32 := 1024#32
  let v178 : BitVec 32 := Scalar.muli v127 c1024_i32_126
  let v179 : BitVec 32 := v178
  let v180 : Index := Scalar.indexCast v179
  let c0_128 : Index := 0#32
  ![0, v180.toNat, 0]
def k0_off20 (i : grid0.Coords) (k0_t2 : Fin (k0_t2_loop i).trips) (c1_i32_89 : BitVec 32) : Fin 4 → Nat :=
  let c0_132 : Index := 0#32
  let arg1 : BitVec 32 := BitVec.ofNat 32 (i 1).val
  let v125 : BitVec 32 := Scalar.addi arg1 c1_i32_89
  let c2_i32 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v126 : BitVec 32 := Scalar.muli c2_i32 arg15
  let v127 : BitVec 32 := Scalar.addi v125 v126
  let v188 : Index := Scalar.indexCast v127
  let c0_133 : Index := 0#32
  let c0_134 : Index := 0#32
  ![0, v188.toNat, 0, 0]
def k0_mult19 (i : grid0.Coords) (k0_t2 : Fin (k0_t2_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v198 : BitVec 32 := Scalar.muli c2_i32_140 arg15
  let v199 : BitVec 32 := Scalar.addi v197 v198
  let c1_i32_141 : BitVec 32 := 1#32
  let v200 : BitVec 32 := Scalar.addi v199 c1_i32_141
  let c15_i32_142 : BitVec 32 := 15#32
  let v201 : BitVec 32 := Scalar.minsi v200 c15_i32_142
  let c1024_i32_143 : BitVec 32 := 1024#32
  let v202 : BitVec 32 := Scalar.muli v201 c1024_i32_143
  v202
def k0_mult20 (i : grid0.Coords) (k0_t2 : Fin (k0_t2_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v198 : BitVec 32 := Scalar.muli c2_i32_140 arg15
  let v199 : BitVec 32 := Scalar.addi v197 v198
  let c1_i32_141 : BitVec 32 := 1#32
  let v200 : BitVec 32 := Scalar.addi v199 c1_i32_141
  let c15_i32_142 : BitVec 32 := 15#32
  let v201 : BitVec 32 := Scalar.minsi v200 c15_i32_142
  let c1024_i32_150 : BitVec 32 := 1024#32
  let v211 : BitVec 32 := Scalar.muli v201 c1024_i32_150
  v211
def k0_mult21 (i : grid0.Coords) (k0_t2 : Fin (k0_t2_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v198 : BitVec 32 := Scalar.muli c2_i32_140 arg15
  let v199 : BitVec 32 := Scalar.addi v197 v198
  let c1024_i32_170 : BitVec 32 := 1024#32
  let v239 : BitVec 32 := Scalar.muli v199 c1024_i32_170
  v239
def k0_mult22 (i : grid0.Coords) (k0_t2 : Fin (k0_t2_loop i).trips) : BitVec 32 :=
  let arg1 : BitVec 32 := BitVec.ofNat 32 (i 1).val
  let c2_i32_139 : BitVec 32 := 2#32
  let v197 : BitVec 32 := Scalar.addi arg1 c2_i32_139
  let c2_i32_140 : BitVec 32 := 2#32
  let c0_i32_73 : BitVec 32 := 0#32
  let c15_i32 : BitVec 32 := 15#32
  let v15 : BitVec 32 := Scalar.subi c15_i32 arg1
  let c1_i32_71 : BitVec 32 := 1#32
  let v109 : BitVec 32 := Scalar.shrsi v15 c1_i32_71
  let v110 : BitVec 32 := Scalar.subi v109 c0_i32_73
  let c1_i32_74 : BitVec 32 := 1#32
  let v112 : BitVec 32 := Scalar.divsi v110 c1_i32_74
  let v113 : BitVec 32 := Scalar.muli v112 c1_i32_74
  let v114 : BitVec 32 := Scalar.addi c0_i32_73 v113
  let c1_i32_76 : BitVec 32 := 1#32
  let arg15 : BitVec 32 := Scf.iv v114 c1_i32_76 k0_t2
  let v198 : BitVec 32 := Scalar.muli c2_i32_140 arg15
  let v199 : BitVec 32 := Scalar.addi v197 v198
  let c1024_i32_177 : BitVec 32 := 1024#32
  let v250 : BitVec 32 := Scalar.muli v199 c1024_i32_177
  v250
def k0_cond2 (i : grid0.Coords) : BitVec 1 :=
  let c15_i32 : BitVec 32 := 15#32
  let arg1 : BitVec 32 := BitVec.ofNat 32 (i 1).val
  let v15 : BitVec 32 := Scalar.subi c15_i32 arg1
  let c1_i32_77 : BitVec 32 := 1#32
  let v115 : BitVec 32 := Scalar.andi v15 c1_i32_77
  let c1_i32_78 : BitVec 32 := 1#32
  let v116 : BitVec 1 := Scalar.cmpi .eq v115 c1_i32_78
  let v117 : BitVec 32 := Scalar.extui v116
  let c0_i32_79 : BitVec 32 := 0#32
  let v118 : BitVec 1 := Scalar.cmpi .ne v117 c0_i32_79
  v118

def k0_mult23 : BitVec 32 :=
  let c15360_i32 : BitVec 32 := 15360#32
  c15360_i32
def k0_mult24 : BitVec 32 :=
  let c15360_i32_110 : BitVec 32 := 15360#32
  c15360_i32_110
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x16x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x16384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S16384x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x16x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x16x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S1x1024x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashBwdRefIdeal.lean ====
abbrev S8x16384x192 : Shape := ⟨3, ![8, 16384, 192]⟩
abbrev S16384x1024 : Shape := ⟨2, ![16384, 1024]⟩
abbrev S16384x8x128 : Shape := ⟨3, ![16384, 8, 128]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S8x128x16384 : Shape := ⟨3, ![8, 128, 16384]⟩
abbrev S8x16x1024x192 : Shape := ⟨4, ![8, 16, 1024, 192]⟩
abbrev S8x16x192x1024 : Shape := ⟨4, ![8, 16, 192, 1024]⟩

abbrev nBuf : Space → Nat
  | .hbm => 95
  | .vmem => 0
  | .smem => 0
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S16384x1024, .f32⟩
  | .hbm, ⟨3, _⟩ => ⟨S16384x1024, .f32⟩
  | .hbm, ⟨4, _⟩ => ⟨S16384x8x128, .f32⟩
  | .hbm, ⟨5, _⟩ => ⟨S8x16384x16384, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S16384, .i32⟩
  | .hbm, ⟨10, _⟩ => ⟨S1x16384, .i32⟩
  | .hbm, ⟨11, _⟩ => ⟨S16384x1, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S_, .f32⟩
  | .hbm, ⟨16, _⟩ => ⟨S_, .f32⟩
  | .hbm, ⟨17, _⟩ => ⟨S8x16384x16384, .i1⟩
  | .hbm, ⟨18, _⟩ => ⟨S8x16384x16384, .f32⟩
  | .hbm, ⟨19, _⟩ => ⟨S8x16384x16384, .f32⟩
  | .hbm, ⟨20, _⟩ => ⟨S_, .f32⟩
  | .hbm, ⟨21, _⟩ => ⟨S8x16384x16384, .f32⟩
  | .hbm, ⟨22, _⟩ => ⟨S_, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .i1⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S_, .f32⟩
  | .hbm, ⟨34, _⟩ => ⟨S8x16384, .f32⟩
  | .hbm, ⟨35, _⟩ => ⟨S8x16384, .i1⟩
  | .hbm, ⟨36, _⟩ => ⟨S_, .f32⟩
  | .hbm, ⟨37, _⟩ => ⟨S8x16384, .f32⟩
  | .hbm, ⟨38, _⟩ => ⟨S8x16384, .i1⟩
  | .hbm, ⟨39, _⟩ => ⟨S_, .f32⟩
  | .hbm, ⟨40, _⟩ => ⟨S8x16384, .f32⟩
  | .hbm, ⟨41, _⟩ => ⟨S_, .f32⟩
  | .hbm, ⟨42, _⟩ => ⟨S8x16384, .f32⟩
  | .hbm, ⟨43, _⟩ => ⟨S_, .f32⟩
  | .hbm, ⟨44, _⟩ => ⟨S8x16384, .f32⟩
  | .hbm, ⟨45, _⟩ => ⟨S8x16384, .f32⟩
  | .hbm, ⟨46, _⟩ => ⟨S8x16384, .f32⟩
  | .hbm, ⟨47, _⟩ => ⟨S8x16384x1, .f32⟩
  | .hbm, ⟨48, _⟩ => ⟨S8x16384x16384, .f32⟩
  | .hbm, ⟨49, _⟩ => ⟨S8x16384x16384, .f32⟩
  | .hbm, ⟨50, _⟩ => ⟨S8x16384x16384, .f32⟩
  | .hbm, ⟨51, _⟩ => ⟨S_, .f32⟩
  | .hbm, ⟨52, _⟩ => ⟨S8x16384, .f32⟩
  | .hbm, ⟨53, _⟩ => ⟨S8x16384x1, .f32⟩
  | .hbm, ⟨54, _⟩ => ⟨S8x16384x16384, .f32⟩
  | .hbm, ⟨55, _⟩ => ⟨S8x16384x16384, .f32⟩
  | .hbm, ⟨56, _⟩ => ⟨S8x16384x1, .f32⟩
  | .hbm, ⟨57, _⟩ => ⟨S_, .f32⟩
  | .hbm, ⟨58, _⟩ => ⟨S8x16384x1, .f32⟩
  | .hbm, ⟨59, _⟩ => ⟨S8x16384x1, .f32⟩
  | .hbm, ⟨60, _⟩ => ⟨S8x128x16384, .f32⟩
  | .hbm, ⟨61, _⟩ => ⟨S16384x8x128, .f32⟩
  | .hbm, ⟨62, _⟩ => ⟨S16384x8x128, .f32⟩
  | .hbm, ⟨63, _⟩ => ⟨S8x128x16384, .f32⟩
  | .hbm, ⟨64, _⟩ => ⟨S8x16384x16384, .f32⟩
  | .hbm, ⟨65, _⟩ => ⟨S8x128x16384, .f32⟩
  | .hbm, ⟨66, _⟩ => ⟨S16384x8x128, .f32⟩
  | .hbm, ⟨67, _⟩ => ⟨S8x16384x16384, .f32⟩
  | .hbm, ⟨68, _⟩ => ⟨S8x16384x16384, .f32⟩
  | .hbm, ⟨69, _⟩ => ⟨S8x16384x16384, .f32⟩
  | .hbm, ⟨70, _⟩ => ⟨S_, .f32⟩
  | .hbm, ⟨71, _⟩ => ⟨S8x16384, .f32⟩
  | .hbm, ⟨72, _⟩ => ⟨S8x16384x1, .f32⟩
  | .hbm, ⟨73, _⟩ => ⟨S8x16384x1, .f32⟩
  | .hbm, ⟨74, _⟩ => ⟨S8x16384x16384, .f32⟩
  | .hbm, ⟨75, _⟩ => ⟨S8x16384x16384, .f32⟩
  | .hbm, ⟨76, _⟩ => ⟨S_, .f32⟩
  | .hbm, ⟨77, _⟩ => ⟨S8x16384, .f32⟩
  | .hbm, ⟨78, _⟩ => ⟨S8x16384x16384, .f32⟩
  | .hbm, ⟨79, _⟩ => ⟨S8x16384x16384, .f32⟩
  | .hbm, ⟨80, _⟩ => ⟨S8x16384x16384, .f32⟩
  | .hbm, ⟨81, _⟩ => ⟨S_, .f32⟩
  | .hbm, ⟨82, _⟩ => ⟨S8x16384x16384, .f32⟩
  | .hbm, ⟨83, _⟩ => ⟨S8x16384x16384, .f32⟩
  | .hbm, ⟨84, _⟩ => ⟨S_, .f32⟩
  | .hbm, ⟨85, _⟩ => ⟨S8x16384x16384, .f32⟩
  | .hbm, ⟨86, _⟩ => ⟨S8x16384x16384, .f32⟩
  | .hbm, ⟨87, _⟩ => ⟨S8x16384x192, .f32⟩
  | .hbm, ⟨88, _⟩ => ⟨S8x16384x192, .f32⟩
  | .hbm, ⟨89, _⟩ => ⟨S_, .f32⟩
  | .hbm, ⟨90, _⟩ => ⟨S8x16384x192, .f32⟩
  | .hbm, ⟨91, _⟩ => ⟨S8x16384x192, .f32⟩
  | .hbm, ⟨92, _⟩ => ⟨S8x16x1024x192, .f32⟩
  | .hbm, ⟨93, _⟩ => ⟨S8x16x192x1024, .f32⟩
  | .hbm, ⟨94, _⟩ => ⟨S16384x1024, .f32⟩
  | _, _ => ⟨S8x16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call1_cst : Ref sig .tc := ⟨.hbm, 81, rfl⟩
abbrev main_call1_v0 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== FfnBwdKernel.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S16x1024x2816 : Shape := ⟨3, ![16, 1024, 2816]⟩
abbrev S16x2816x1024 : Shape := ⟨3, ![16, 2816, 1024]⟩
abbrev S8x2816x1024 : Shape := ⟨3, ![8, 2816, 1024]⟩
abbrev S16x4x704x1024 : Shape := ⟨4, ![16, 4, 704, 1024]⟩
abbrev S4x16x704x1024 : Shape := ⟨4, ![4, 16, 704, 1024]⟩
abbrev S8x4x704x1024 : Shape := ⟨4, ![8, 4, 704, 1024]⟩
abbrev S4x8x704x1024 : Shape := ⟨4, ![4, 8, 704, 1024]⟩
abbrev S_ : Shape := ⟨0, ![]⟩
abbrev S16384 : Shape := ⟨1, ![16384]⟩
abbrev S16384x1 : Shape := ⟨2, ![16384, 1]⟩
abbrev S4x1x704x1024 : Shape := ⟨4, ![4, 1, 704, 1024]⟩
abbrev S4x704x1024 : Shape := ⟨3, ![4, 704, 1024]⟩
abbrev S4x704x16384 : Shape := ⟨3, ![4, 704, 16384]⟩
abbrev S4x16384x704 : Shape := ⟨3, ![4, 16384, 704]⟩
abbrev S256x1024 : Shape := ⟨2, ![256, 1024]⟩
abbrev S4x256x704 : Shape := ⟨3, ![4, 256, 704]⟩
abbrev S1x1x704x1024 : Shape := ⟨4, ![1, 1, 704, 1024]⟩
abbrev S704x1024 : Shape := ⟨2, ![704, 1024]⟩
abbrev S256x704 : Shape := ⟨2, ![256, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 50
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S16384x1024, .f32⟩
  | .hbm, ⟨9, _⟩ => ⟨S16x1024x2816, .f32⟩
  | .hbm, ⟨10, _⟩ => ⟨S16x2816x1024, .f32⟩
  | .hbm, ⟨11, _⟩ => ⟨S16x2816x1024, .bf16⟩
  | .hbm, ⟨12, _⟩ => ⟨S8x2816x1024, .f32⟩
  | .hbm, ⟨13, _⟩ => ⟨S8x2816x1024, .bf16⟩
  | .hbm, ⟨14, _⟩ => ⟨S16x4x704x1024, .bf16⟩
  | .hbm, ⟨15, _⟩ => ⟨S4x16x704x1024, .bf16⟩
  | .hbm, ⟨16, _⟩ => ⟨S8x4x704x1024, .bf16⟩
  | .hbm, ⟨17, _⟩ => ⟨S4x8x704x1024, .bf16⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S4x1x704x1024, .bf16⟩
  | .hbm, ⟨35, _⟩ => ⟨S4x704x1024, .bf16⟩
  | .hbm, ⟨36, _⟩ => ⟨S4x704x16384, .f32⟩
  | .hbm, ⟨37, _⟩ => ⟨S4x704x16384, .bf16⟩
  | .hbm, ⟨38, _⟩ => ⟨S4x1x704x1024, .bf16⟩
  | .hbm, ⟨39, _⟩ => ⟨S4x704x1024, .bf16⟩
  | .hbm, ⟨40, _⟩ => ⟨S4x704x16384, .f32⟩
  | .hbm, ⟨41, _⟩ => ⟨S4x704x16384, .bf16⟩
  | .hbm, ⟨42, _⟩ => ⟨S4x16384x704, .bf16⟩
  | .hbm, ⟨43, _⟩ => ⟨S4x16384x704, .bf16⟩
  | .hbm, ⟨44, _⟩ => ⟨S16384x1024, .f32⟩
  | .hbm, ⟨45, _⟩ => ⟨S1x1024, .f32⟩
  | .hbm, ⟨46, _⟩ => ⟨S16384x1024, .bf16⟩
  | .hbm, ⟨47, _⟩ => ⟨S4x16384x704, .bf16⟩
  | .hbm, ⟨48, _⟩ => ⟨S4x16384x704, .bf16⟩
  | .hbm, ⟨49, _⟩ => ⟨S4x16384x704, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S4x256x704, .bf16⟩
  | .local _ .vmem, ⟨9, _⟩ => ⟨S4x1x704x1024, .bf16⟩
  | .local _ .vmem, ⟨10, _⟩ => ⟨S4x1x704x1024, .bf16⟩
  | .local _ .vmem, ⟨11, _⟩ => ⟨S4x1x704x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S256x1024, .bf16⟩
  | .local _ .vmem, ⟨16, _⟩ => ⟨S256x1024, .bf16⟩
  | .local _ .vmem, ⟨17, _⟩ => ⟨S4x256x704, .bf16⟩
  | .local _ .vmem, ⟨18, _⟩ => ⟨S4x256x704, .bf16⟩
  | .local _ .vmem, ⟨19, _⟩ => ⟨S4x256x704, .bf16⟩
  | .local _ .vmem, ⟨20, _⟩ => ⟨S4x256x704, .bf16⟩
  | .local _ .vmem, ⟨21, _⟩ => ⟨S4x256x704, .bf16⟩
  | .local _ .vmem, ⟨22, _⟩ => ⟨S4x256x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_v32_5 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v205 : BitVec 1 := Scalar.cmpi .eq arg0 c0_i32
  let v206 : BitVec 32 := Scalar.extui v205
  let c0_i32_147 : BitVec 32 := 0#32
  let v207 : BitVec 1 := Scalar.cmpi .ne v206 c0_i32_147
  v207

def k0_cond2 (i : grid0.Coords) : BitVec 1 :=
  let arg0 : BitVec 32 := BitVec.ofNat 32 (i 0).val
  let c0_i32_148 : BitVec 32 := 0#32
  let v208 : BitVec 1 := Scalar.cmpi .sgt arg0 c0_i32_148
  let v209 : BitVec 32 := Scalar.extui v208
  let c0_i32_149 : BitVec 32 := 0#32
  let v210 : BitVec 1 := Scalar.cmpi .ne v209 c0_i32_149
  v210

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x256x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x256x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x256x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== FfnBwdRefIdeal.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 118
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S16384x1024, .f32⟩
  | .hbm, ⟨9, _⟩ => ⟨S1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S1x1024x2816, .f32⟩
  | .hbm, ⟨31, _⟩ => ⟨S1024x2816, .f32⟩
  | .hbm, ⟨32, _⟩ => ⟨S16384x2816, .f32⟩
  | .hbm, ⟨33, _⟩ => ⟨S1x1024x2816, .f32⟩
  | .hbm, ⟨34, _⟩ => ⟨S1024x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S_, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x2816, .f32⟩
  | .hbm, ⟨50, _⟩ => ⟨S1x2816x1024, .f32⟩
  | .hbm, ⟨51, _⟩ => ⟨S2816x1024, .f32⟩
  | .hbm, ⟨52, _⟩ => ⟨S16384x1024, .f32⟩
  | .hbm, ⟨53, _⟩ => ⟨S_, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1024, .f32⟩
  | .hbm, ⟨60, _⟩ => ⟨S16384x1024, .f32⟩
  | .hbm, ⟨61, _⟩ => ⟨S16384x2816, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x2816, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S16384x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S16384x1024, .f32⟩
  | .hbm, ⟨80, _⟩ => ⟨S_, .f32⟩
  | .hbm, ⟨81, _⟩ => ⟨S16384, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S16384x1, .f32⟩
  | .hbm, ⟨86, _⟩ => ⟨S_, .f32⟩
  | .hbm, ⟨87, _⟩ => ⟨S16384x1, .f32⟩
  | .hbm, ⟨88, _⟩ => ⟨S16384x1, .f32⟩
  | .hbm, ⟨89, _⟩ => ⟨S_, .f32⟩
  | .hbm, ⟨90, _⟩ => ⟨S16384, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S1x1024, .f32⟩
  | .hbm, ⟨97, _⟩ => ⟨S16384x1024, .f32⟩
  | .hbm, ⟨98, _⟩ => ⟨S16384x1024, .bf16⟩
  | .hbm, ⟨99, _⟩ => ⟨S16384x4x704, .f32⟩
  | .hbm, ⟨100, _⟩ => ⟨S4x16384x704, .f32⟩
  | .hbm, ⟨101, _⟩ => ⟨S4x16384x704, .bf16⟩
  | .hbm, ⟨102, _⟩ => ⟨S16384x4x704, .f32⟩
  | .hbm, ⟨103, _⟩ => ⟨S4x16384x704, .f32⟩
  | .hbm, ⟨104, _⟩ => ⟨S4x16384x704, .bf16⟩
  | .hbm, ⟨105, _⟩ => ⟨S16384x2816, .f32⟩
  | .hbm, ⟨106, _⟩ => ⟨S16384x2816, .f32⟩
  | .hbm, ⟨107, _⟩ => ⟨S_, .f32⟩
  | .hbm, ⟨108, _⟩ => ⟨S16384x2816, .f32⟩
  | .hbm, ⟨109, _⟩ => ⟨S16384x2816, .f32⟩
  | .hbm, ⟨110, _⟩ => ⟨S_, .f32⟩
  | .hbm, ⟨111, _⟩ => ⟨S16384x2816, .f32⟩
  | .hbm, ⟨112, _⟩ => ⟨S16384x2816, .f32⟩
  | .hbm, ⟨113, _⟩ => ⟨S16384x2816, .f32⟩
  | .hbm, ⟨114, _⟩ => ⟨S16384x2816, .f32⟩
  | .hbm, ⟨115, _⟩ => ⟨S16384x4x704, .f32⟩
  | .hbm, ⟨116, _⟩ => ⟨S4x16384x704, .f32⟩
  | .hbm, ⟨117, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v23_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v23_1 : Ref sig .tc := ⟨.hbm, 47, rfl⟩
abbrev main_v23_0 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_3 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_5 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_6 : Ref sig .tc := ⟨.hbm, 77, rfl⟩
abbrev main_v46 : Ref sig .tc := ⟨.hbm, 78, rfl⟩
abbrev main_v47 : Ref sig .tc := ⟨.hbm, 79, rfl⟩
abbrev main_cst_7 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_cst_9 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_call2_v5 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩

abbrev nD : Nat := 1
abbrev τ : Topo := Topo.v7x

variable {F : FTy → Type} [FloatOps F]
-- ==== PoolBwdKernel.lean ====
abbrev S16384x1024 : Shape := ⟨2, ![16384, 1024]⟩
abbrev S1x1024 : Shape := ⟨2, ![1, 1024]⟩
abbrev S4x256x256 : Shape := ⟨3, ![4, 256, 256]⟩
abbrev S512x1024 : Shape := ⟨2, ![512, 1024]⟩
abbrev S16x1024 : Shape := ⟨2, ![16, 1024]⟩
abbrev S512 : Shape := ⟨1, ![512]⟩
abbrev S512x1 : Shape := ⟨2, ![512, 1]⟩
abbrev S16 : Shape := ⟨1, ![16]⟩
abbrev S16x1 : Shape := ⟨2, ![16, 1]⟩
abbrev S528x1024 : Shape := ⟨2, ![528, 1024]⟩
abbrev S528x256 : Shape := ⟨2, ![528, 256]⟩
abbrev S512x256 : Shape := ⟨2, ![512, 256]⟩
abbrev S1x256x256 : Shape := ⟨3, ![1, 256, 256]⟩
abbrev S256x256 : Shape := ⟨2, ![256, 256]⟩
abbrev S256 : Shape := ⟨1, ![256]⟩
abbrev S1x256 : Shape := ⟨2, ![1, 256]⟩
abbrev S528x1 : Shape := ⟨2, ![528, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x256x256, .f32⟩
  | .hbm, ⟨3, _⟩ => ⟨S1x1024, .f32⟩
  | .hbm, ⟨4, _⟩ => ⟨S16384x1024, .f32⟩
  | .hbm, ⟨5, _⟩ => ⟨S4x256x256, .bf16⟩
  | .hbm, ⟨6, _⟩ => ⟨S16384x1024, .f32⟩
  | .hbm, ⟨7, _⟩ => ⟨S1x1024, .f32⟩
  | .hbm, ⟨8, _⟩ => ⟨S4x256x256, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .f32⟩
  | .local _ .vmem, ⟨5, _⟩ => ⟨S512x1024, .f32⟩
  | .local _ .vmem, ⟨6, _⟩ => ⟨S16x1024, .f32⟩
  | .local _ .vmem, ⟨7, _⟩ => ⟨S16x1024, .f32⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S4x256x256, .f32⟩
  | .local _ .vmem, ⟨15, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PoolBwdRefIdeal.lean ====
abbrev S16384x1024 : Shape := ⟨2, ![16384, 1024]⟩
abbrev S1x1024 : Shape := ⟨2, ![1, 1024]⟩
abbrev S4x256x256 : Shape := ⟨3, ![4, 256, 256]⟩
abbrev S4 : Shape := ⟨1, ![4]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x4x256 : Shape := ⟨3, ![16384, 4, 256]⟩
abbrev S1x256 : Shape := ⟨2, ![1, 256]⟩
abbrev S16384x1x256 : Shape := ⟨3, ![16384, 1, 256]⟩
abbrev S16384x256 : Shape := ⟨2, ![16384, 256]⟩
abbrev S16385x256 : Shape := ⟨2, ![16385, 256]⟩
abbrev S16383x256 : Shape := ⟨2, ![16383, 256]⟩
abbrev S3x256 : Shape := ⟨2, ![3, 256]⟩
abbrev S16381x256 : Shape := ⟨2, ![16381, 256]⟩
abbrev S7x256 : Shape := ⟨2, ![7, 256]⟩
abbrev S16377x256 : Shape := ⟨2, ![16377, 256]⟩
abbrev S15x256 : Shape := ⟨2, ![15, 256]⟩
abbrev S16369x256 : Shape := ⟨2, ![16369, 256]⟩
abbrev S1x4 : Shape := ⟨2, ![1, 4]⟩
abbrev S16384x4 : Shape := ⟨2, ![16384, 4]⟩
abbrev S16384x4x1 : Shape := ⟨3, ![16384, 4, 1]⟩
abbrev S4x256x16384 : Shape := ⟨3, ![4, 256, 16384]⟩
abbrev S4x16384x256 : Shape := ⟨3, ![4, 16384, 256]⟩

abbrev nBuf : Space → Nat
  | .hbm => 250
  | .vmem => 0
  | .smem => 0
  | _ => 0

abbrev hbmTy0_0 (i : Nat) : BufTy := match i % 128 with
  | 0 => ⟨S16384x1024, .f32⟩
  | 1 => ⟨S1x1024, .f32⟩
  | 2 => ⟨S4x256x256, .f32⟩
  | 3 => ⟨S1x1024, .f32⟩
  | 4 => ⟨S16384x1024, .f32⟩
  | 5 => ⟨S4, .i32⟩
  | 6 => ⟨S1024, .f32⟩
  | 7 => ⟨S16384x1024, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S16384x1, .f32⟩
  | 18 => ⟨S16384x1, .f32⟩
  | 19 => ⟨S_, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1024, .f32⟩
  | 28 => ⟨S16384x4x256, .f32⟩
  | 29 => ⟨S_, .f32⟩
  | 30 => ⟨S1x256, .f32⟩
  | 31 => ⟨S16384x1x256, .f32⟩
  | 32 => ⟨S16384x256, .f32⟩
  | 33 => ⟨S_, .f32⟩
  | 34 => ⟨S_, .f32⟩
  | 35 => ⟨S16384x256, .f32⟩
  | 36 => ⟨S16385x256, .f32⟩
  | 37 => ⟨S_, .f32⟩
  | 38 => ⟨S1x256, .f32⟩
  | 39 => ⟨S_, .f32⟩
  | 40 => ⟨S1x256, .f32⟩
  | 41 => ⟨S16383x256, .f32⟩
  | 42 => ⟨S16384x256, .f32⟩
  | 43 => ⟨S_, .f32⟩
  | 44 => ⟨S1x256, .f32⟩
  | 45 => ⟨S16384x256, .f32⟩
  | 46 => ⟨S16384x256, .f32⟩
  | 47 => ⟨S_, .f32⟩
  | 48 => ⟨S1x256, .f32⟩
  | 49 => ⟨S16384x1x256, .f32⟩
  | 50 => ⟨S16384x256, .f32⟩
  | 51 => ⟨S_, .f32⟩
  | 52 => ⟨S_, .f32⟩
  | 53 => ⟨S16384x256, .f32⟩
  | 54 => ⟨S16385x256, .f32⟩
  | 55 => ⟨S_, .f32⟩
  | 56 => ⟨S1x256, .f32⟩
  | 57 => ⟨S_, .f32⟩
  | 58 => ⟨S3x256, .f32⟩
  | 59 => ⟨S16381x256, .f32⟩
  | 60 => ⟨S16384x256, .f32⟩
  | 61 => ⟨S_, .f32⟩
  | 62 => ⟨S3x256, .f32⟩
  | 63 => ⟨S16384x256, .f32⟩
  | 64 => ⟨S16384x256, .f32⟩
  | 65 => ⟨S_, .f32⟩
  | 66 => ⟨S1x256, .f32⟩
  | 67 => ⟨S16384x1x256, .f32⟩
  | 68 => ⟨S16384x256, .f32⟩
  | 69 => ⟨S_, .f32⟩
  | 70 => ⟨S_, .f32⟩
  | 71 => ⟨S16384x256, .f32⟩
  | 72 => ⟨S16385x256, .f32⟩
  | 73 => ⟨S_, .f32⟩
  | 74 => ⟨S1x256, .f32⟩
  | 75 => ⟨S_, .f32⟩
  | 76 => ⟨S7x256, .f32⟩
  | 77 => ⟨S16377x256, .f32⟩
  | 78 => ⟨S16384x256, .f32⟩
  | 79 => ⟨S_, .f32⟩
  | 80 => ⟨S7x256, .f32⟩
  | 81 => ⟨S16384x256, .f32⟩
  | 82 => ⟨S16384x256, .f32⟩
  | 83 => ⟨S_, .f32⟩
  | 84 => ⟨S1x256, .f32⟩
  | 85 => ⟨S16384x1x256, .f32⟩
  | 86 => ⟨S16384x256, .f32⟩
  | 87 => ⟨S_, .f32⟩
  | 88 => ⟨S_, .f32⟩
  | 89 => ⟨S16384x256, .f32⟩
  | 90 => ⟨S16385x256, .f32⟩
  | 91 => ⟨S_, .f32⟩
  | 92 => ⟨S1x256, .f32⟩
  | 93 => ⟨S_, .f32⟩
  | 94 => ⟨S15x256, .f32⟩
  | 95 => ⟨S16369x256, .f32⟩
  | 96 => ⟨S16384x256, .f32⟩
  | 97 => ⟨S_, .f32⟩
  | 98 => ⟨S15x256, .f32⟩
  | 99 => ⟨S16384x256, .f32⟩
  | 100 => ⟨S16384x256, .f32⟩
  | 101 => ⟨S16384x1x256, .f32⟩
  | 102 => ⟨S16384x1x256, .f32⟩
  | 103 => ⟨S16384x1x256, .f32⟩
  | 104 => ⟨S16384x1x256, .f32⟩
  | 105 => ⟨S16384x4x256, .f32⟩
  | 106 => ⟨S16384, .i32⟩
  | 107 => ⟨S16384x1, .i32⟩
  | 108 => ⟨S_, .i32⟩
  | 109 => ⟨S16384x1, .i32⟩
  | 110 => ⟨S16384x1, .i32⟩
  | 111 => ⟨S1x4, .i32⟩
  | 112 => ⟨S16384x4, .i32⟩
  | 113 => ⟨S16384x4, .i32⟩
  | 114 => ⟨S16384x4, .i32⟩
  | 115 => ⟨S16384x4, .f32⟩
  | 116 => ⟨S16384x4x1, .f32⟩
  | 117 => ⟨S16384x4x256, .f32⟩
  | 118 => ⟨S16384x4x256, .f32⟩
  | 119 => ⟨S16384x4x256, .f32⟩
  | 120 => ⟨S4x256x16384, .f32⟩
  | 121 => ⟨S16384x4x256, .f32⟩
  | 122 => ⟨S16384x1024, .f32⟩
  | 123 => ⟨S1x1024, .f32⟩
  | 124 => ⟨S16384x1024, .f32⟩
  | 125 => ⟨S16384x1024, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | 1 => ⟨S_, .f32⟩
  | 2 => ⟨S1024, .f32⟩
  | 3 => ⟨S1x1024, .f32⟩
  | 4 => ⟨S16384x1024, .f32⟩
  | 5 => ⟨S16384x1024, .f32⟩
  | 6 => ⟨S_, .f32⟩
  | 7 => ⟨S1024, .f32⟩
  | 8 => ⟨S16384x4x256, .f32⟩
  | 9 => ⟨S4x256x16384, .f32⟩
  | 10 => ⟨S4x16384x256, .f32⟩
  | 11 => ⟨S16384x4x256, .f32⟩
  | 12 => ⟨S4x256x256, .f32⟩
  | 13 => ⟨S4x256x256, .f32⟩
  | 14 => ⟨S16384x4x256, .f32⟩
  | 15 => ⟨S16384x4x256, .f32⟩
  | 16 => ⟨S16384x4x256, .f32⟩
  | 17 => ⟨S16384x1x256, .f32⟩
  | 18 => ⟨S16384x256, .f32⟩
  | 19 => ⟨S16384x1x256, .f32⟩
  | 20 => ⟨S16384x256, .f32⟩
  | 21 => ⟨S16384x1x256, .f32⟩
  | 22 => ⟨S16384x256, .f32⟩
  | 23 => ⟨S16384x1x256, .f32⟩
  | 24 => ⟨S16384x256, .f32⟩
  | 25 => ⟨S16384x256, .f32⟩
  | 26 => ⟨S_, .f32⟩
  | 27 => ⟨S16385x256, .f32⟩
  | 28 => ⟨S15x256, .f32⟩
  | 29 => ⟨S16369x256, .f32⟩
  | 30 => ⟨S_, .f32⟩
  | 31 => ⟨S16385x256, .f32⟩
  | 32 => ⟨S16385x256, .f32⟩
  | 33 => ⟨S1x256, .f32⟩
  | 34 => ⟨S16384x256, .f32⟩
  | 35 => ⟨S_, .f32⟩
  | 36 => ⟨S_, .f32⟩
  | 37 => ⟨S16384x256, .f32⟩
  | 38 => ⟨S16384x1x256, .f32⟩
  | 39 => ⟨S_, .f32⟩
  | 40 => ⟨S16384x4x256, .f32⟩
  | 41 => ⟨S16384x4x256, .f32⟩
  | 42 => ⟨S16384x256, .f32⟩
  | 43 => ⟨S_, .f32⟩
  | 44 => ⟨S16385x256, .f32⟩
  | 45 => ⟨S7x256, .f32⟩
  | 46 => ⟨S16377x256, .f32⟩
  | 47 => ⟨S_, .f32⟩
  | 48 => ⟨S16385x256, .f32⟩
  | 49 => ⟨S16385x256, .f32⟩
  | 50 => ⟨S1x256, .f32⟩
  | 51 => ⟨S16384x256, .f32⟩
  | 52 => ⟨S_, .f32⟩
  | 53 => ⟨S_, .f32⟩
  | 54 => ⟨S16384x256, .f32⟩
  | 55 => ⟨S16384x1x256, .f32⟩
  | 56 => ⟨S_, .f32⟩
  | 57 => ⟨S16384x4x256, .f32⟩
  | 58 => ⟨S16384x4x256, .f32⟩
  | 59 => ⟨S16384x256, .f32⟩
  | 60 => ⟨S_, .f32⟩
  | 61 => ⟨S16385x256, .f32⟩
  | 62 => ⟨S3x256, .f32⟩
  | 63 => ⟨S16381x256, .f32⟩
  | 64 => ⟨S_, .f32⟩
  | 65 => ⟨S16385x256, .f32⟩
  | 66 => ⟨S16385x256, .f32⟩
  | 67 => ⟨S1x256, .f32⟩
  | 68 => ⟨S16384x256, .f32⟩
  | 69 => ⟨S_, .f32⟩
  | 70 => ⟨S_, .f32⟩
  | 71 => ⟨S16384x256, .f32⟩
  | 72 => ⟨S16384x1x256, .f32⟩
  | 73 => ⟨S_, .f32⟩
  | 74 => ⟨S16384x4x256, .f32⟩
  | 75 => ⟨S16384x4x256, .f32⟩
  | 76 => ⟨S16384x256, .f32⟩
  | 77 => ⟨S_, .f32⟩
  | 78 => ⟨S16385x256, .f32⟩
  | 79 => ⟨S1x256, .f32⟩
  | 80 => ⟨S16383x256, .f32⟩
  | 81 => ⟨S_, .f32⟩
  | 82 => ⟨S16385x256, .f32⟩
  | 83 => ⟨S16385x256, .f32⟩
  | 84 => ⟨S1x256, .f32⟩
  | 85 => ⟨S16384x256, .f32⟩
  | 86 => ⟨S_, .f32⟩
  | 87 => ⟨S_, .f32⟩
  | 88 => ⟨S16384x256, .f32⟩
  | 89 => ⟨S16384x1x256, .f32⟩
  | 90 => ⟨S_, .f32⟩
  | 91 => ⟨S16384x4x256, .f32⟩
  | 92 => ⟨S16384x4x256, .f32⟩
  | 93 => ⟨S16384x1024, .f32⟩
  | 94 => ⟨S1x1024, .f32⟩
  | 95 => ⟨S16384x1024, .f32⟩
  | 96 => ⟨S_, .f32⟩
  | 97 => ⟨S1024, .f32⟩
  | 98 => ⟨S1x1024, .f32⟩
  | 99 => ⟨S16384x1024, .f32⟩
  | 100 => ⟨S16384x1024, .f32⟩
  | 101 => ⟨S_, .f32⟩
  | 102 => ⟨S1024, .f32⟩
  | 103 => ⟨S16384x1024, .f32⟩
  | 104 => ⟨S_, .f32⟩
  | 105 => ⟨S16384, .f32⟩
  | 106 => ⟨S16384x1, .f32⟩
  | 107 => ⟨S16384x1024, .f32⟩
  | 108 => ⟨S16384x1024, .f32⟩
  | 109 => ⟨S16384x1024, .f32⟩
  | 110 => ⟨S16384x1, .f32⟩
  | 111 => ⟨S_, .f32⟩
  | 112 => ⟨S16384x1, .f32⟩
  | 113 => ⟨S16384x1, .f32⟩
  | 114 => ⟨S_, .f32⟩
  | 115 => ⟨S16384, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_call0_cst : Ref sig .tc := ⟨.hbm, 33, rfl⟩
abbrev main_call0_call0_v0 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call1_call0_cst : Ref sig .tc := ⟨.hbm, 51, rfl⟩
abbrev main_call1_call0_v0 : Ref sig .tc := ⟨.hbm, 52, rfl⟩
abbrev main_v34 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call2_call0_cst : Ref sig .tc := ⟨.hbm, 69, rfl⟩
abbrev main_call2_call0_v0 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_cst_13 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_call3_call0_cst : Ref sig .tc := ⟨.hbm, 87, rfl⟩
abbrev main_call3_call0_v0 : Ref sig .tc := ⟨.hbm, 88, rfl⟩
abbrev main_v58 : Ref sig .tc := ⟨.hbm, 89, rfl⟩
abbrev main_v59 : Ref sig .tc := ⟨.hbm, 90, rfl⟩
abbrev main_cst_16 : Ref sig .tc := ⟨.hbm, 91, rfl⟩
abbrev main_v60 : Ref sig .tc := ⟨.hbm, 92, rfl⟩
abbrev main_cst_17 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_18 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_19 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_23 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call4_call0_cst : Ref sig .tc := ⟨.hbm, 163, rfl⟩
abbrev main_call4_call0_v0 : Ref sig .tc := ⟨.hbm, 164, rfl⟩
abbrev main_v124 : Ref sig .tc := ⟨.hbm, 165, rfl⟩
abbrev main_v125 : Ref sig .tc := ⟨.hbm, 166, rfl⟩
abbrev main_cst_24 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_25 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_cst_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_call5_call0_cst : Ref sig .tc := ⟨.hbm, 180, rfl⟩
abbrev main_call5_call0_v0 : Ref sig .tc := ⟨.hbm, 181, rfl⟩
abbrev main_v136 : Ref sig .tc := ⟨.hbm, 182, rfl⟩
abbrev main_v137 : Ref sig .tc := ⟨.hbm, 183, rfl⟩
abbrev main_cst_27 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_28 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_cst_29 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_call6_call0_cst : Ref sig .tc := ⟨.hbm, 197, rfl⟩
abbrev main_call6_call0_v0 : Ref sig .tc := ⟨.hbm, 198, rfl⟩
abbrev main_v148 : Ref sig .tc := ⟨.hbm, 199, rfl⟩
abbrev main_v149 : Ref sig .tc := ⟨.hbm, 200, rfl⟩
abbrev main_cst_30 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_31 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_32 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_call7_call0_cst : Ref sig .tc := ⟨.hbm, 214, rfl⟩
abbrev main_call7_call0_v0 : Ref sig .tc := ⟨.hbm, 215, rfl⟩
abbrev main_v160 : Ref sig .tc := ⟨.hbm, 216, rfl⟩
abbrev main_v161 : Ref sig .tc := ⟨.hbm, 217, rfl⟩
abbrev main_cst_33 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_34 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_35 : Ref sig .tc := ⟨.hbm, 229, rfl⟩
abbrev main_v171 : Ref sig .tc := ⟨.hbm, 230, rfl⟩
abbrev main_v172 : Ref sig .tc := ⟨.hbm, 231, rfl⟩
abbrev main_cst_36 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_37 : Ref sig .tc := ⟨.hbm, 239, rfl⟩
abbrev main_v179 : Ref sig .tc := ⟨.hbm, 240, rfl⟩
abbrev main_v180 : Ref sig .tc := ⟨.hbm, 241, rfl⟩
abbrev main_cst_38 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩

abbrev nD : Nat := 1
abbrev τ : Topo := Topo.v7x

variable {F : FTy → Type} [FloatOps F]
-- ==== FlashFwdKernel.lean ====
abbrev S8x16384x192 : Shape := ⟨3, ![8, 16384, 192]⟩
abbrev S16384x1024 : Shape := ⟨2, ![16384, 1024]⟩
abbrev S16x1024x8x128 : Shape := ⟨4, ![16, 1024, 8, 128]⟩
abbrev S8x16x128x1024 : Shape := ⟨4, ![8, 16, 128, 1024]⟩
abbrev S_ : Shape := ⟨0, ![]⟩
abbrev S8x16x8x1024 : Shape := ⟨4, ![8, 16, 8, 1024]⟩
abbrev S8x16x136x1024 : Shape := ⟨4, ![8, 16, 136, 1024]⟩
abbrev S1024x16384 : Shape := ⟨2, ![1024, 16384]⟩
abbrev S8x1x16384 : Shape := ⟨3, ![8, 1, 16384]⟩
abbrev S1x1024x192 : Shape := ⟨3, ![1, 1024, 192]⟩
abbrev S1x16384x192 : Shape := ⟨3, ![1, 16384, 192]⟩
abbrev S1x16x136x1024 : Shape := ⟨4, ![1, 16, 136, 1024]⟩
abbrev S128x1024 : Shape := ⟨2, ![128, 1024]⟩
abbrev S1x1x1024 : Shape := ⟨3, ![1, 1, 1024]⟩
abbrev S1x1024 : Shape := ⟨2, ![1, 1024]⟩
abbrev S136x1024 : Shape := ⟨2, ![136, 1024]⟩
abbrev S2x1024x1024 : Shape := ⟨3, ![2, 1024, 1024]⟩
abbrev S1024x192 : Shape := ⟨2, ![1024, 192]⟩
abbrev S1024x1024 : Shape := ⟨2, ![1024, 1024]⟩
abbrev S1x1024x1024 : Shape := ⟨3, ![1, 1024, 1024]⟩
abbrev S1024 : Shape := ⟨1, ![1024]⟩
abbrev S1x1x136x1024 : Shape := ⟨4, ![1, 1, 136, 1024]⟩

abbrev nBuf : Space → Nat
  | .hbm => 16
  | .vmem => 11
  | .smem => 0
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S16384x1024, .f32⟩
  | .hbm, ⟨3, _⟩ => ⟨S16384x1024, .bf16⟩
  | .hbm, ⟨4, _⟩ => ⟨S16x1024x8x128, .bf16⟩
  | .hbm, ⟨5, _⟩ => ⟨S8x16x128x1024, .bf16⟩
  | .hbm, ⟨6, _⟩ => ⟨S_, .bf16⟩
  | .hbm, ⟨7, _⟩ => ⟨S8x16x8x1024, .bf16⟩
  | .hbm, ⟨8, _⟩ => ⟨S8x16x136x1024, .bf16⟩
  | .hbm, ⟨9, _⟩ => ⟨S_, .f32⟩
  | .hbm, ⟨10, _⟩ => ⟨S8x16384x192, .f32⟩
  | .hbm, ⟨11, _⟩ => ⟨S8x16384x192, .f32⟩
  | .hbm, ⟨12, _⟩ => ⟨S8x16384x192, .bf16⟩
  | .hbm, ⟨13, _⟩ => ⟨S8x16384x192, .bf16⟩
  | .hbm, ⟨14, _⟩ => ⟨S1024x16384, .f32⟩
  | .hbm, ⟨15, _⟩ => ⟨S8x1x16384, .f32⟩
  | .local _ .vmem, ⟨0, _⟩ => ⟨S1x1024x192, .bf16⟩
  | .local _ .vmem, ⟨1, _⟩ => ⟨S1x1024x192, .bf16⟩
  | .local _ .vmem, ⟨2, _⟩ => ⟨S1x16384x192, .bf16⟩
  | .local _ .vmem, ⟨3, _⟩ => ⟨S1x16x136x1024, .bf16⟩
  | .local _ .vmem, ⟨4, _⟩ => ⟨S128x1024, .f32⟩
  | .local _ .vmem, ⟨5, _⟩ => ⟨S128x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S136x1024, .f32⟩
  | .local _ .vmem, ⟨10, _⟩ => ⟨S2x1024x1024, .f32⟩
  | _, _ => ⟨S8x16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
@[reducible] def k0_t1_loop (i : grid0.Coords) : Scf.Loop 32 :=
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_16 : BitVec 32 := 1#32
  ⟨c0_i32_14, v23, c1_i32_16⟩
def k0_mult2 (i : grid0.Coords) (k0_t1 : Fin (k0_t1_loop i).trips) : BitVec 32 :=
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  v45
def k0_off1 (i : grid0.Coords) (k0_t1 : Fin (k0_t1_loop i).trips) : Fin 3 → Nat :=
  let c0_35 : Index := 0#32
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  let v46 : BitVec 32 := v45
  let v47 : Index := Scalar.indexCast v46
  let c0_36 : Index := 0#32
  ![0, v47.toNat, 0]
def k0_off2 (i : grid0.Coords) (k0_t1 : Fin (k0_t1_loop i).trips) : Fin 4 → Nat :=
  let c0_48 : Index := 0#32
  let c2_i32 : BitVec 32 := 2#32
  let c0_i32_14 : BitVec 32 := 0#32
  let c1_i32_16 : BitVec 32 := 1#32
  let arg10 : BitVec 32 := Scf.iv c0_i32_14 c1_i32_16 k0_t1
  let v43 : BitVec 32 := Scalar.muli c2_i32 arg10
  let v65 : Index := Scalar.indexCast v43
  let c0_49 : Index := 0#32
  let c0_50 : Index := 0#32
  ![0, v65.toNat, 0, 0]
def k0_mult3 (i : grid0.Coords) (k0_t1 : Fin (k0_t1_loop i).trips) : BitVec 32 :=
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  v83
def k0_off3 (i : grid0.Coords) (k0_t1 : Fin (k0_t1_loop i).trips) : Fin 3 → Nat :=
  let c0_60 : Index := 0#32
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  let v84 : BitVec 32 := v83
  let v85 : Index := Scalar.indexCast v84
  let c0_61 : Index := 0#32
  ![0, v85.toNat, 0]
def k0_off4 (i : grid0.Coords) (k0_t1 : Fin (k0_t1_loop i).trips) : Fin 4 → Nat :=
  let c0_74 : Index := 0#32
  let c2_i32_56 : BitVec 32 := 2#32
  let c0_i32_14 : BitVec 32 := 0#32
  let c1_i32_16 : BitVec 32 := 1#32
  let arg10 : BitVec 32 := Scf.iv c0_i32_14 c1_i32_16 k0_t1
  let v80 : BitVec 32 := Scalar.muli c2_i32_56 arg10
  let c1_i32_57 : BitVec 32 := 1#32
  let v81 : BitVec 32 := Scalar.addi v80 c1_i32_57
  let v103 : Index := Scalar.indexCast v81
  let c0_75 : Index := 0#32
  let c0_76 : Index := 0#32
  ![0, v103.toNat, 0, 0]
@[reducible] def k0_t2_loop (i : grid0.Coords) : Scf.Loop 32 :=
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let v20 : BitVec 32 := Scalar.addi c0_i32_14 v19
  let c1_i32_17 : BitVec 32 := 1#32
  ⟨v23, v20, c1_i32_17⟩
def k0_mult4 (i : grid0.Coords) (k0_t2 : Fin (k0_t2_loop i).trips) : BitVec 32 :=
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  v45
def k0_off5 (i : grid0.Coords) (k0_t2 : Fin (k0_t2_loop i).trips) : Fin 3 → Nat :=
  let c0_35 : Index := 0#32
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let c1_i32_34 : BitVec 32 := 1#32
  let v44 : BitVec 32 := Scalar.addi v43 c1_i32_34
  let c1024_i32 : BitVec 32 := 1024#32
  let v45 : BitVec 32 := Scalar.muli v44 c1024_i32
  let v46 : BitVec 32 := v45
  let v47 : Index := Scalar.indexCast v46
  let c0_36 : Index := 0#32
  ![0, v47.toNat, 0]
def k0_off6 (i : grid0.Coords) (k0_t2 : Fin (k0_t2_loop i).trips) : Fin 4 → Nat :=
  let c0_48 : Index := 0#32
  let c2_i32 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v43 : BitVec 32 := Scalar.muli c2_i32 arg10
  let v65 : Index := Scalar.indexCast v43
  let c0_49 : Index := 0#32
  let c0_50 : Index := 0#32
  ![0, v65.toNat, 0, 0]
def k0_mult5 (i : grid0.Coords) (k0_t2 : Fin (k0_t2_loop i).trips) : BitVec 32 :=
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  v83
def k0_off7 (i : grid0.Coords) (k0_t2 : Fin (k0_t2_loop i).trips) : Fin 3 → Nat :=
  let c0_60 : Index := 0#32
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let c1_i32_58 : BitVec 32 := 1#32
  let v82 : BitVec 32 := Scalar.addi v81 c1_i32_58
  let c1024_i32_59 : BitVec 32 := 1024#32
  let v83 : BitVec 32 := Scalar.muli v82 c1024_i32_59
  let v84 : BitVec 32 := v83
  let v85 : Index := Scalar.indexCast v84
  let c0_61 : Index := 0#32
  ![0, v85.toNat, 0]
def k0_off8 (i : grid0.Coords) (k0_t2 : Fin (k0_t2_loop i).trips) : Fin 4 → Nat :=
  let c0_74 : Index := 0#32
  let c2_i32_56 : BitVec 32 := 2#32
  let c0_i32_14 : BitVec 32 := 0#32
  let arg1 : BitVec 32 := BitVec.ofNat 32 (i 1).val
  let c1_i32 : BitVec 32 := 1#32
  let v18 : BitVec 32 := Scalar.shrsi arg1 c1_i32
  let v19 : BitVec 32 := Scalar.subi v18 c0_i32_14
  let c1_i32_15 : BitVec 32 := 1#32
  let v21 : BitVec 32 := Scalar.divsi v19 c1_i32_15
  let v22 : BitVec 32 := Scalar.muli v21 c1_i32_15
  let v23 : BitVec 32 := Scalar.addi c0_i32_14 v22
  let c1_i32_17 : BitVec 32 := 1#32
  let arg10 : BitVec 32 := Scf.iv v23 c1_i32_17 k0_t2
  let v80 : BitVec 32 := Scalar.muli c2_i32_56 arg10
  let c1_i32_57 : BitVec 32 := 1#32
  let v81 : BitVec 32 := Scalar.addi v80 c1_i32_57
  let v103 : Index := Scalar.indexCast v81
  let c0_75 : Index := 0#32
  let c0_76 : Index := 0#32
  ![0, v103.toNat, 0, 0]
def k0_cond1 (i : grid0.Coords) : BitVec 1 :=
  let arg1 : BitVec 32 := BitVec.ofNat 32 (i 1).val
  let c1_i32_18 : BitVec 32 := 1#32
  let v24 : BitVec 32 := Scalar.andi arg1 c1_i32_18
  let c1_i32_19 : BitVec 32 := 1#32
  let v25 : BitVec 1 := Scalar.cmpi .eq v24 c1_i32_19
  let v26 : BitVec 32 := Scalar.extui v25
  let c0_i32_20 : BitVec 32 := 0#32
  let v27 : BitVec 1 := Scalar.cmpi .ne v26 c0_i32_20
  v27

def k0_mult6 (i : grid0.Coords) : BitVec 32 :=
  let arg1 : BitVec 32 := BitVec.ofNat 32 (i 1).val
  let c1_i32_34 : BitVec 32 := 1#32
  let v43 : BitVec 32 := Scalar.subi arg1 c1_i32_34
  let c1_i32_35 : BitVec 32 := 1#32
  let v44 : BitVec 32 := Scalar.addi v43 c1_i32_35
  let c1024_i32 : BitVec 32 := 1024#32
  let v45 : BitVec 32 := Scalar.muli v44 c1024_i32
  v45
def k0_off9 (i : grid0.Coords) : Fin 3 → Nat :=
  let c0_36 : Index := 0#32
  let arg1 : BitVec 32 := BitVec.ofNat 32 (i 1).val
  let c1_i32_34 : BitVec 32 := 1#32
  let v43 : BitVec 32 := Scalar.subi arg1 c1_i32_34
  let c1_i32_35 : BitVec 32 := 1#32
  let v44 : BitVec 32 := Scalar.addi v43 c1_i32_35
  let c1024_i32 : BitVec 32 := 1024#32
  let v45 : BitVec 32 := Scalar.muli v44 c1024_i32
  let v46 : BitVec 32 := v45
  let v47 : Index := Scalar.indexCast v46
  let c0_37 : Index := 0#32
  ![0, v47.toNat, 0]
def k0_off10 (i : grid0.Coords) : Fin 4 → Nat :=
  let c0_49 : Index := 0#32
  let arg1 : BitVec 32 := BitVec.ofNat 32 (i 1).val
  let c1_i32_34 : BitVec 32 := 1#32
  let v43 : BitVec 32 := Scalar.subi arg1 c1_i32_34
  let v65 : Index := Scalar.indexCast v43
  let c0_50 : Index := 0#32
  let c0_51 : Index := 0#32
  ![0, v65.toNat, 0, 0]
def k0_off11 (i : grid0.Coords) : Fin 4 → Nat :=
  let c0_66 : Index := 0#32
  let arg1 : BitVec 32 := BitVec.ofNat 32 (i 1).val
  let v96 : Index := Scalar.indexCast arg1
  let c0_67 : Index := 0#32
  let c0_68 : Index := 0#32
  ![0, v96.toNat, 0, 0]
def k0_cond2 (i : grid0.Coords) : BitVec 1 :=
  let arg1 : BitVec 32 := BitVec.ofNat 32 (i 1).val
  let c1_i32_21 : BitVec 32 := 1#32
  let v28 : BitVec 32 := Scalar.andi arg1 c1_i32_21
  let c0_i32_22 : BitVec 32 := 0#32
  let v29 : BitVec 1 := Scalar.cmpi .eq v28 c0_i32_22
  let v30 : BitVec 32 := Scalar.extui v29
  let c0_i32_23 : BitVec 32 := 0#32
  let v31 : BitVec 1 := Scalar.cmpi .ne v30 c0_i32_23
  v31

def k0_off12 (i : grid0.Coords) : Fin 4 → Nat :=
  let c0_43 : Index := 0#32
  let arg1 : BitVec 32 := BitVec.ofNat 32 (i 1).val
  let v59 : Index := Scalar.indexCast arg1
  let c0_44 : Index := 0#32
  let c0_45 : Index := 0#32
  ![0, v59.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x16384x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x16x136x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FlashFwdRefIdeal.lean ====
abbrev S8x16384x192 : Shape := ⟨3, ![8, 16384, 192]⟩
abbrev S16384x1024 : Shape := ⟨2, ![16384, 1024]⟩
abbrev S8x16384x16384 : Shape := ⟨3, ![8, 16384, 16384]⟩
abbrev S_ : Shape := ⟨0, ![]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S16384x8x128 : Shape := ⟨3, ![16384, 8, 128]⟩
abbrev S8x128x16384 : Shape := ⟨3, ![8, 128, 16384]⟩
abbrev S1024x16384 : Shape := ⟨2, ![1024, 16384]⟩
abbrev S8x1x16384 : Shape := ⟨3, ![8, 1, 16384]⟩

abbrev nBuf : Space → Nat
  | .hbm => 46
  | .vmem => 0
  | .smem => 0
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S16384x1024, .f32⟩
  | .hbm, ⟨3, _⟩ => ⟨S8x16384x16384, .f32⟩
  | .hbm, ⟨4, _⟩ => ⟨S_, .f32⟩
  | .hbm, ⟨5, _⟩ => ⟨S8x16384x16384, .f32⟩
  | .hbm, ⟨6, _⟩ => ⟨S8x16384x16384, .f32⟩
  | .hbm, ⟨7, _⟩ => ⟨S16384, .i32⟩
  | .hbm, ⟨8, _⟩ => ⟨S1x16384, .i32⟩
  | .hbm, ⟨9, _⟩ => ⟨S16384x1, .i32⟩
  | .hbm, ⟨10, _⟩ => ⟨S16384x16384, .i32⟩
  | .hbm, ⟨11, _⟩ => ⟨S16384x16384, .i32⟩
  | .hbm, ⟨12, _⟩ => ⟨S16384x16384, .i1⟩
  | .hbm, ⟨13, _⟩ => ⟨S_, .f32⟩
  | .hbm, ⟨14, _⟩ => ⟨S_, .f32⟩
  | .hbm, ⟨15, _⟩ => ⟨S8x16384x16384, .i1⟩
  | .hbm, ⟨16, _⟩ => ⟨S8x16384x16384, .f32⟩
  | .hbm, ⟨17, _⟩ => ⟨S8x16384x16384, .f32⟩
  | .hbm, ⟨18, _⟩ => ⟨S_, .f32⟩
  | .hbm, ⟨19, _⟩ => ⟨S8x16384, .f32⟩
  | .hbm, ⟨20, _⟩ => ⟨S_, .f32⟩
  | .hbm, ⟨21, _⟩ => ⟨S8x16384, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .f32⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S8x16384x1, .f32⟩
  | .hbm, ⟨30, _⟩ => ⟨S8x16384x16384, .f32⟩
  | .hbm, ⟨31, _⟩ => ⟨S8x16384x16384, .f32⟩
  | .hbm, ⟨32, _⟩ => ⟨S16384x8x128, .f32⟩
  | .hbm, ⟨33, _⟩ => ⟨S8x128x16384, .f32⟩
  | .hbm, ⟨34, _⟩ => ⟨S_, .f32⟩
  | .hbm, ⟨35, _⟩ => ⟨S8x16384, .f32⟩
  | .hbm, ⟨36, _⟩ => ⟨S8x16384x1, .f32⟩
  | .hbm, ⟨37, _⟩ => ⟨S8x16384x16384, .f32⟩
  | .hbm, ⟨38, _⟩ => ⟨S8x16384x16384, .f32⟩
  | .hbm, ⟨39, _⟩ => ⟨S8x16384x16384, .f32⟩
  | .hbm, ⟨40, _⟩ => ⟨S_, .f32⟩
  | .hbm, ⟨41, _⟩ => ⟨S8x16384, .f32⟩
  | .hbm, ⟨42, _⟩ => ⟨S8x16384, .f32⟩
  | .hbm, ⟨43, _⟩ => ⟨S8x16384, .f32⟩
  | .hbm, ⟨44, _⟩ => ⟨S1024x16384, .f32⟩
  | .hbm, ⟨45, _⟩ => ⟨S8x1x16384, .f32⟩
  | _, _ => ⟨S8x16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== FfnFwdKernel.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S16x1024x2816 : Shape := ⟨3, ![16, 1024, 2816]⟩
abbrev S16x2816x1024 : Shape := ⟨3, ![16, 2816, 1024]⟩
abbrev S8x2816x1024 : Shape := ⟨3, ![8, 2816, 1024]⟩
abbrev S16x4x704x1024 : Shape := ⟨4, ![16, 4, 704, 1024]⟩
abbrev S4x16x704x1024 : Shape := ⟨4, ![4, 16, 704, 1024]⟩
abbrev S8x4x704x1024 : Shape := ⟨4, ![8, 4, 704, 1024]⟩
abbrev S4x8x704x1024 : Shape := ⟨4, ![4, 8, 704, 1024]⟩
abbrev S4x16384x704 : Shape := ⟨3, ![4, 16384, 704]⟩
abbrev S512x1024 : Shape := ⟨2, ![512, 1024]⟩
abbrev S4x1x704x1024 : Shape := ⟨4, ![4, 1, 704, 1024]⟩
abbrev S4x512x704 : Shape := ⟨3, ![4, 512, 704]⟩
abbrev S512 : Shape := ⟨1, ![512]⟩
abbrev S512x1 : Shape := ⟨2, ![512, 1]⟩
abbrev S1x1x704x1024 : Shape := ⟨4, ![1, 1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 21
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S16x1024x2816, .f32⟩
  | .hbm, ⟨9, _⟩ => ⟨S16x2816x1024, .f32⟩
  | .hbm, ⟨10, _⟩ => ⟨S16x2816x1024, .bf16⟩
  | .hbm, ⟨11, _⟩ => ⟨S8x2816x1024, .f32⟩
  | .hbm, ⟨12, _⟩ => ⟨S8x2816x1024, .bf16⟩
  | .hbm, ⟨13, _⟩ => ⟨S16x4x704x1024, .bf16⟩
  | .hbm, ⟨14, _⟩ => ⟨S4x16x704x1024, .bf16⟩
  | .hbm, ⟨15, _⟩ => ⟨S8x4x704x1024, .bf16⟩
  | .hbm, ⟨16, _⟩ => ⟨S4x8x704x1024, .bf16⟩
  | .hbm, ⟨17, _⟩ => ⟨S16384x1024, .f32⟩
  | .hbm, ⟨18, _⟩ => ⟨S16384x1024, .bf16⟩
  | .hbm, ⟨19, _⟩ => ⟨S4x16384x704, .bf16⟩
  | .hbm, ⟨20, _⟩ => ⟨S4x16384x704, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1x704x1024, .bf16⟩
  | .local _ .vmem, ⟨4, _⟩ => ⟨S4x1x704x1024, .bf16⟩
  | .local _ .vmem, ⟨5, _⟩ => ⟨S4x1x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c4_i32 : BitVec 32 := 4#32
  let c0_i32_0 : BitVec 32 := 0#32
  let c0_i32_1 : BitVec 32 := 0#32
  let c0_i32_2 : BitVec 32 := 0#32
  ![c0_i32.toNat, c4_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x704x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnFwdRefIdeal.lean ====
abbrev S16384x1024 : Shape := ⟨2, ![16384, 1024]⟩
abbrev S1x1024 : Shape := ⟨2, ![1, 1024]⟩
abbrev S4x1024x2816 : Shape := ⟨3, ![4, 1024, 2816]⟩
abbrev S4x2816x1024 : Shape := ⟨3, ![4, 2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩
abbrev S16384x4x704 : Shape := ⟨3, ![16384, 4, 704]⟩
abbrev S4x16384x704 : Shape := ⟨3, ![4, 16384, 704]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S4x1024x2816, .f32⟩
  | .hbm, ⟨3, _⟩ => ⟨S4x1024x2816, .f32⟩
  | .hbm, ⟨4, _⟩ => ⟨S4x2816x1024, .f32⟩
  | .hbm, ⟨5, _⟩ => ⟨S4x1024x2816, .f32⟩
  | .hbm, ⟨6, _⟩ => ⟨S4x1024x2816, .f32⟩
  | .hbm, ⟨7, _⟩ => ⟨S4x2816x1024, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S1x1024x2816, .f32⟩
  | .hbm, ⟨26, _⟩ => ⟨S1024x2816, .f32⟩
  | .hbm, ⟨27, _⟩ => ⟨S16384x2816, .f32⟩
  | .hbm, ⟨28, _⟩ => ⟨S1x1024x2816, .f32⟩
  | .hbm, ⟨29, _⟩ => ⟨S1024x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S1x2816x1024, .f32⟩
  | .hbm, ⟨42, _⟩ => ⟨S2816x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x4x704, .f32⟩
  | .hbm, ⟨50, _⟩ => ⟨S4x16384x704, .f32⟩
  | .hbm, ⟨51, _⟩ => ⟨S4x16384x704, .bf16⟩
  | .hbm, ⟨52, _⟩ => ⟨S16384x4x704, .f32⟩
  | .hbm, ⟨53, _⟩ => ⟨S4x16384x704, .f32⟩
  | .hbm, ⟨54, _⟩ => ⟨S4x16384x704, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.Consts.lean ====
/- The float constants the programs name, as real numbers, and the ideal operations on finite values. Stated once. -/
module

public import Idealize.ShloMosaic.PureOps
public import Idealize.ShloMosaic.PureOps.Ideal

@[expose] public section

noncomputable section

namespace Cert.Consts

open Idealize.ShloMosaic

theorem f32_half : Ideal.ofBits .f32 0x3F000000#32 = ((1 / 2 : ℝ) : EReal) := by
  simp [Ideal.ofBits, Ideal.ieee, -EReal.coe_mul]; norm_num
theorem f32_one : Ideal.ofBits .f32 0x3F800000#32 = ((1 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_1024 : Ideal.ofBits .f32 0x44800000#32 = ((1024 : ℝ) : EReal) := by
  simp [Ideal.ofBits, Ideal.ieee, -EReal.coe_mul]; norm_num
theorem f32_1024th : Ideal.ofBits .f32 0x3A800000#32 = ((1 / 1024 : ℝ) : EReal) := by
  simp [Ideal.ofBits, Ideal.ieee, -EReal.coe_mul]; norm_num
theorem f32_zero : Ideal.ofBits .f32 0x00000000#32 = (0 : EReal) := by simp [Ideal.ofBits, Ideal.ieee]
theorem f32_ninf : Ideal.ofBits .f32 0xFF800000#32 = ⊥ := by simp [Ideal.ofBits, Ideal.ieee]
theorem f32_inf : Ideal.ofBits .f32 0x7F800000#32 = ⊤ := by simp [Ideal.ofBits, Ideal.ieee]
/-- The attention's scale. -/
theorem f32_scale : Ideal.ofBits .f32 0x3D93CD3A#32 = ((9686330 / 134217728 : ℝ) : EReal) := by
  simp [Ideal.ofBits, Ideal.ieee, -EReal.coe_mul]; norm_num
/-- The normalisation's epsilon, -/
theorem f32_eps : Ideal.ofBits .f32 0x358637BD#32 = ((8796093 / 8796093022208 : ℝ) : EReal) := by
  simp [Ideal.ofBits, Ideal.ieee, -EReal.coe_mul]; norm_num
/-- and the power's exponent. -/
theorem f32_neg_half : Ideal.ofBits .f32 0xBF000000#32 = ((-(1 / 2) : ℝ) : EReal) := by
  simp [Ideal.ofBits, Ideal.ieee, -EReal.coe_mul]; norm_num

end Cert.Consts

end
-- ==== Proof.Loss.lean ====
/- The loss call: the two arrays the kernel leaves are the loss and its gradient, for any arguments.
   The gradient is one product per element. The loss is accumulated over the sixteen row tiles; each tile adds
   half the sum of its rows' mean squares, and a nonnegative sum distributes over the constants. -/
module

public import proofs.«01_k».proof.Proof.Gen.LossKernelIdeal.Value
public import proofs.«01_k».proof.Proof.Gen.LossRefIdeal.Run
public import proofs.«01_k».proof.Proof.Consts
public import Idealize.ShloMosaic.Lib.Pipeline.ValueKit
public import Idealize.ShloMosaic.Lib.Pointwise

@[expose] public section

set_option maxRecDepth 16384

noncomputable section

namespace Cert.LossValue

open Idealize.ShloMosaic Idealize.ShloMosaic.TcCoe Idealize.SL.Sem
open Idealize.ShloMosaic.Pipeline (Dat)
open Cert.LossKernelIdeal Cert.LossKernelIdeal.Gen

/-- The mean square of row `r` of the difference `x - y`. -/
def rowMean {n : ℕ} (x y : FVec Ideal ⟨2, ![n, 1024]⟩ .f32) (r : Fin n) : EReal :=
  Ideal.div (∑ l : Fin 1024, (x (ix2 r l) - y (ix2 r l)) * (x (ix2 r l) - y (ix2 r l))) (Ideal.ofBits .f32 0x44800000#32)

theorem rowMean_nonneg {n : ℕ} (x y : FVec Ideal ⟨2, ![n, 1024]⟩ .f32) (r : Fin n) : 0 ≤ rowMean x y r := by
  have hs (z : EReal) : 0 ≤ z * z := by
    rcases le_total 0 z with h | h
    · exact mul_nonneg h h
    · simpa using mul_nonneg (EReal.neg_nonneg.mpr h) (EReal.neg_nonneg.mpr h)
  have h0 : 0 ≤ ∑ l : Fin 1024, (x (ix2 r l) - y (ix2 r l)) * (x (ix2 r l) - y (ix2 r l)) := Finset.sum_nonneg fun l _ => hs _
  rw [rowMean, Consts.f32_1024, Ideal.div, if_neg (by norm_num)]
  exact mul_nonneg h0 (by rw [← EReal.coe_inv]; exact EReal.coe_nonneg.mpr (by norm_num))

/-- A nonnegative finite factor goes inside a sum of nonnegative terms. -/
theorem mul_sum_of_nonneg {ι : Type} (s : Finset ι) (c : EReal) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

theorem zero_fill (j) : k0_pay1 (F := Ideal) j = 0 := by pointwise [k0_pay1]

theorem tile_sum (x y acc j) : k0_pay4 (F := Ideal) x y acc j
    = acc j + Ideal.ofBits .f32 0x3F000000#32 * ∑ r : Fin 1024, rowMean x y r := by
  pointwise [k0_pay4, k0_pay2, rowMean]

/-- The loss of the two whole arrays. -/
def lossOf (x y : FVec Ideal S16384x1024 .f32) : FVec Ideal S1x1 .f32 := fun _ =>
  Ideal.ofBits .f32 0x3F000000#32 * ∑ r : Fin 16384, rowMean x y r

theorem lossOf_at (x y j) : lossOf x y j = ∑ r : Fin 16384, Ideal.ofBits .f32 0x3F000000#32 * rowMean x y r :=
  mul_sum_of_nonneg _ _ _ fun r => rowMean_nonneg _ _ r

/-- Its gradient. -/
def gradOf (x y : FVec Ideal S16384x1024 .f32) : FVec Ideal S16384x1024 .f32 := fun i =>
  (x i - y i) * Ideal.ofBits .f32 0x3A800000#32

theorem idx : ∀ t : Fin cfg0.N, win0_0.index t = ![t.val, 0] ∧ win0_1.index t = ![t.val, 0] ∧ win0_3.index t = ![t.val, 0] :=
  (by decide +kernel : ∀ t : Fin grid0.N, _)

variable (m : (ℓ : Loc nD τ sig) → Buf (Elt Ideal) ℓ)

theorem loss_final (c : Dev nD) : (dats m 0 c).arrAt 2 cfg0.N
    = lossOf (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h).1) 16 (fun _ => 0) _
    (fun t h j => by rw [outsAt0_A m c t h]; frame_out; rw [tile_sum, zero_fill])
    (fun t h j => by rw [outsAt0_B m c t h]; frame_out; rw [tile_sum])
    (le_of_eq N_0) t0_15 rfl j, zero_add]
  rw [lossOf_at]
  simp only [fun p : Fin cfg0.N => mul_sum_of_nonneg Finset.univ (Ideal.ofBits .f32 0x3F000000#32) _
    fun r => rowMean_nonneg (iblk m c 0 p) (iblk m c 1 p) r]
  refine Fin.sum_mul_add_congr fun t k hl => ?_
  unfold rowMean
  blk_point [iblk, V, idx t]

theorem grad_final (c : Dev nD) : (dats m 0 c).arrAt 3 cfg0.N
    = gradOf (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 16 = 0
  · rw [outsAt0_A m c t h]; frame_out
    pointwise [k0_pay3, k0_pay2, gradOf]
    blk_point [iblk, V, idx t]
  · rw [outsAt0_B m c t h]; frame_out
    pointwise [k0_pay3, k0_pay2, gradOf]
    blk_point [iblk, V, idx t]

end Cert.LossValue

end
-- ==== Proof.LossClaims.lean ====
/- The loss call's claims: its frames, and the kernel's two arrays against the differentiated loss. -/
module

public import proofs.«01_k».proof.Defs
public import proofs.«01_k».proof.Proof.Gen.LossKernel.Frame
public import proofs.«01_k».proof.Proof.Loss
public import Idealize.ShloMosaic.Lib.Claim

@[expose] public section

set_option maxRecDepth 16384

noncomputable section

namespace Cert.LossValue

open Idealize.ShloMosaic Idealize.SL.Sem Idealize.ShloMosaic.TcCoe

/-- One half, twice over a row of 1024, is the kernel's one product. -/
theorem weight : Ideal.div (Ideal.ofBits .f32 0x3F000000#32) (Ideal.ofBits .f32 0x44800000#32)
    * Ideal.ofBits .f32 0x40000000#32 = Ideal.ofBits .f32 0x3A800000#32 := by
  rw [Consts.f32_half, Consts.f32_1024, Consts.f32_two, Consts.f32_1024th, Ideal.div_coe (by norm_num)]
  norm_cast
  norm_num

theorem loss_algebraic : Cert.algebraic_LossKernelIdeal_LossRefIdeal := by
  pair_intro
  · run_from Cert.LossKernelIdeal.Gen.run_main m g
  · hlo_run
    · rw [Cert.LossValue.loss_final]
      funext j
      pointwise [lossOf, rowMean]
    · rw [Cert.LossValue.grad_final]
      funext j
      pointwise [gradOf]
      rw [← weight, ← mul_assoc, mul_comm]

theorem ref_frame : Cert.quiescent_LossRefIdeal := fun m ρ _ =>
  (θ_run Cert.LossRefIdeal.defs _ _).mono (fun r h => ⟨fun c => (h c).2.2, sem_eq_zero_of_no_sems (by decide) r.2⟩)
    (Cert.LossRefIdeal.Value.run (F := Ideal) m ρ)

end Cert.LossValue

end
-- ==== Proof.Out.lean ====
/- The attention's output product, backward: the three arrays the kernel leaves, for any arguments.
   Every element of the operand's gradient and of the row sums is one sum within a row tile; the weight's gradient
   is accumulated over the thirty-two row tiles. -/
module

public import proofs.«01_k».proof.Proof.Gen.OutBwdKernelIdeal.Value
public import proofs.«01_k».proof.Proof.Gen.OutBwdRefIdeal.Run
public import Idealize.ShloMosaic.Lib.Pipeline.ValueKit
public import Idealize.ShloMosaic.Lib.Pointwise

@[expose] public section

set_option maxRecDepth 16384

noncomputable section

namespace Cert.OutValue

open Idealize.ShloMosaic Idealize.ShloMosaic.TcCoe Idealize.SL.Sem
open Idealize.ShloMosaic.Pipeline (Dat)
open Cert.OutBwdKernelIdeal Cert.OutBwdKernelIdeal.Gen

/-- The gradient of the operand: every row of `dy` against every row of the weight. -/
def doOf (dy : FVec Ideal S16384x1024 .f32) (w : FVec Ideal S1024x1024 .f32) : FVec Ideal S16384x1024 .f32 := fun i =>
  ∑ k : Fin 1024, dy (ix2 (i 0) k) * w (ix2 (i 1) k)

/-- The sums of `do * o` over the 128 columns of each head. -/
def deltaOf (dy : FVec Ideal S16384x1024 .f32) (ot : FVec Ideal S1024x16384 .f32) (w : FVec Ideal S1024x1024 .f32) :
    FVec Ideal S8x1x16384 .f32 := fun i =>
  ∑ a : Fin 128, (∑ k : Fin 1024, w (ix2 ⟨(i 0).val * 128 + a.val, by have := (i 0).isLt; have := a.isLt; simp at *; omega⟩ k) * dy (ix2 (i 2) k))
    * ot (ix2 ⟨(i 0).val * 128 + a.val, by have := (i 0).isLt; have := a.isLt; simp at *; omega⟩ (i 2))

/-- The gradient of the weight. -/
def dwOf (dy : FVec Ideal S16384x1024 .f32) (ot : FVec Ideal S1024x16384 .f32) : FVec Ideal S1024x1024 .f32 := fun i =>
  ∑ r : Fin 16384, ot (ix2 (i 0) r) * dy (ix2 r (i 1))

theorem idx : ∀ t : Fin cfg0.N, win0_0.index t = ![t.val, 0] ∧ win0_1.index t = ![0, t.val] ∧ win0_2.index t = ![0, 0]
    ∧ win0_3.index t = ![t.val, 0] ∧ win0_4.index t = ![0, 0, t.val] ∧ win0_5.index t = ![0, 0] :=
  (by decide +kernel : ∀ t : Fin grid0.N, _)

variable (m : (ℓ : Loc nD τ sig) → Buf (Elt Ideal) ℓ)

theorem do_final (c : Dev nD) : (dats m 0 c).arrAt 3 cfg0.N
    = doOf (m ((c : Thread nD τ).loc main_arg0)) (m ((c : Thread nD τ).loc main_arg2)) := by
  refine (dats m 0 c).arrAt_eq_of_covers 3 _ (by decide +kernel) fun t _ y => ?_
  blk_simp
  rw [after0_3]
  by_cases h : t.val % 32 = 0
  · rw [outsAt0_A m c t h]; frame_out
    pointwise [k0_pay4, k0_pay3, doOf]
    blk_point [iblk, V, idx t]
  · rw [outsAt0_B m c t h]; frame_out
    pointwise [k0_pay4, k0_pay3, doOf]
    blk_point [iblk, V, idx t]

theorem zero_fill (j) : k0_pay2 (F := Ideal) j = 0 := by pointwise [k0_pay2]

theorem tile_sum (x y acc j) : k0_pay1 (F := Ideal) (k0_pay3 x) y acc j
    = acc j + ∑ r : Fin 512, y (ix2 (j 0) r) * x (ix2 r (j 1)) := by
  pointwise [k0_pay1, k0_pay3]

theorem dw_final (c : Dev nD) : (dats m 0 c).arrAt 5 cfg0.N
    = dwOf (m ((c : Thread nD τ).loc main_arg0)) (m ((c : Thread nD τ).loc main_arg1)) := by
  refine (dats m 0 c).arrAt_eq_of_covers 5 _ (by decide +kernel) fun t hf j => ?_
  blk_simp
  rw [after0_5, Pipeline.eq_sum_fin_of_reset_step_apply_of_flush (fun n h => (outsAt0 m c n h).2.2) 32 (fun _ => 0) _
    (fun t h j => by rw [outsAt0_A m c t h]; frame_out; rw [tile_sum, zero_fill])
    (fun t h j => by rw [outsAt0_B m c t h]; frame_out; rw [tile_sum])
    t ((flush0_5 t).mp hf) _, zero_add]
  refine Fin.sum_mul_add_congr fun p r hr => ?_
  blk_point [iblk, V, idx]

/-- Row `i 0` of the product at token `i 1` of the tile, summed later over a head's rows. -/
theorem prod_at (x y w) (a : Fin 1024) (r : Fin 512) : k0_pay5 (F := Ideal) x y w (ix2 a r)
    = (∑ k : Fin 1024, w (ix2 a k) * x (ix2 r k)) * y (ix2 a r) := by
  pointwise [k0_pay5, k0_pay3]

theorem delta_final (c : Dev nD) : (dats m 0 c).arrAt 4 cfg0.N
    = deltaOf (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h : t.val % 32 = 0
  · rw [outsAt0_A m c t h]; frame_out
    canon_tiles x h
    all_goals
      pointwise [k0_pay14, k0_pay13, k0_pay12, k0_pay11, k0_pay10, k0_pay9, k0_pay8, k0_pay7, k0_pay6, prod_at, deltaOf]
      blk_point [iblk, V, idx t]
  · rw [outsAt0_B m c t h]; frame_out
    canon_tiles x h
    all_goals
      pointwise [k0_pay14, k0_pay13, k0_pay12, k0_pay11, k0_pay10, k0_pay9, k0_pay8, k0_pay7, k0_pay6, prod_at, deltaOf]
      blk_point [iblk, V, idx t]

end Cert.OutValue

end
-- ==== Proof.OutClaims.lean ====
/- The output product's backward claims: its frames, and the kernel's three arrays against the differentiated product. -/
module

public import proofs.«01_k».proof.Defs
public import proofs.«01_k».proof.Proof.Gen.OutBwdKernel.Frame
public import proofs.«01_k».proof.Proof.Out
public import Idealize.ShloMosaic.Lib.Claim

@[expose] public section

set_option maxRecDepth 16384

noncomputable section

namespace Cert.OutValue

open Idealize.ShloMosaic Idealize.SL.Sem Idealize.ShloMosaic.TcCoe

theorem out_algebraic : Cert.algebraic_OutBwdKernelIdeal_OutBwdRefIdeal := by
  pair_intro
  · run_from Cert.OutBwdKernelIdeal.Gen.run_main m g
  · hlo_run
    · rw [do_final]
      funext j
      pointwise [doOf]
    · rw [delta_final]
      funext j
      pointwise [deltaOf]
      exact Finset.sum_congr (M := EReal) rfl fun a _ => congrArg (fun z : EReal => z * _) (Finset.sum_congr rfl fun k _ => mul_comm (G := EReal) _ _)
    · rw [dw_final]
      funext j
      pointwise [dwOf]
      exact Finset.sum_congr (M := EReal) rfl fun r _ => mul_comm (G := EReal) _ _

theorem ref_frame : Cert.quiescent_OutBwdRefIdeal := fun m ρ _ =>
  (θ_run Cert.OutBwdRefIdeal.defs _ _).mono (fun r h => ⟨fun c => (h c).2.2.2, sem_eq_zero_of_no_sems (by decide) r.2⟩)
    (Cert.OutBwdRefIdeal.Value.run (F := Ideal) m ρ)

end Cert.OutValue

end
-- ==== Proof.FlashTrip.lean ====
/- The key tiles' loop over the query tiles below the diagonal, two tiles a trip: what one trip does to the buffers it
   works on, found by running it at a symbolic trip. -/
module

public import proofs.«01_k».proof.Proof.Gen.FlashBwdKernelIdeal.Frame
public import proofs.«01_k».proof.Proof.Gen.FlashBwdKernelIdeal.Loops
public import Idealize.ShloMosaic.Lib.LoopRemainder
public import Idealize.ShloMosaic.Lib.Claim

@[expose] public section

set_option maxRecDepth 16384

noncomputable section

namespace Cert.FlashBwdRun

open Cert.FlashBwdKernelIdeal Cert.FlashBwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip's accesses lie

Trip `k` of key tile `j` works on the query tiles `j + 1 + 2k` and `j + 2 + 2k`, and fetches the one after each (the
last tile again past the end). -/

theorem off9_one : ∀ (i : grid0.Coords) (k : Fin (k0_t1_loop i).trips), k0_off9 i k 1#32 = ![0, 1024 * min ((i 1).val + 2 * k.val + 2) 15, 0] := by decide +kernel
theorem off9_two : ∀ (i : grid0.Coords) (k : Fin (k0_t1_loop i).trips), k0_off9 i k 2#32 = ![0, 1024 * min ((i 1).val + 2 * k.val + 3) 15, 0] := by decide +kernel
theorem off10_one : ∀ (i : grid0.Coords) (k : Fin (k0_t1_loop i).trips), k0_off10 i k 1#32 = ![1024 * min ((i 1).val + 2 * k.val + 2) 15, 0] := by decide +kernel
theorem off10_two : ∀ (i : grid0.Coords) (k : Fin (k0_t1_loop i).trips), k0_off10 i k 2#32 = ![1024 * min ((i 1).val + 2 * k.val + 3) 15, 0] := by decide +kernel
theorem off11_one : ∀ (i : grid0.Coords) (k : Fin (k0_t1_loop i).trips), k0_off11 i k 1#32 = ![0, (i 1).val + 2 * k.val + 1, 0, 0] := by decide +kernel
theorem off11_two : ∀ (i : grid0.Coords) (k : Fin (k0_t1_loop i).trips), k0_off11 i k 2#32 = ![0, (i 1).val + 2 * k.val + 2, 0, 0] := by decide +kernel
theorem off12_one : ∀ (i : grid0.Coords) (k : Fin (k0_t1_loop i).trips), k0_off12 i k 1#32 = ![1024 * ((i 1).val + 2 * k.val + 1), 0] := by decide +kernel
theorem off12_two : ∀ (i : grid0.Coords) (k : Fin (k0_t1_loop i).trips), k0_off12 i k 2#32 = ![1024 * ((i 1).val + 2 * k.val + 2), 0] := by decide +kernel
theorem off13_one : ∀ (i : grid0.Coords) (k : Fin (k0_t1_loop i).trips), k0_off13 i k 1#32 = ![0, 1024 * ((i 1).val + 2 * k.val + 1), 0] := by decide +kernel
theorem off13_two : ∀ (i : grid0.Coords) (k : Fin (k0_t1_loop i).trips), k0_off13 i k 2#32 = ![0, 1024 * ((i 1).val + 2 * k.val + 2), 0] := by decide +kernel
theorem off14_one : ∀ (i : grid0.Coords) (k : Fin (k0_t1_loop i).trips), k0_off14 i k 1#32 = ![0, (i 1).val + 2 * k.val + 1, 0, 0] := by decide +kernel
theorem off14_two : ∀ (i : grid0.Coords) (k : Fin (k0_t1_loop i).trips), k0_off14 i k 2#32 = ![0, (i 1).val + 2 * k.val + 2, 0, 0] := by decide +kernel

instance (i : grid0.Coords) (k : Fin (k0_t1_loop i).trips) : ClosedOff (k0_off9 i k 1#32) := ⟨_, off9_one i k⟩
instance (i : grid0.Coords) (k : Fin (k0_t1_loop i).trips) : ClosedOff (k0_off9 i k 2#32) := ⟨_, off9_two i k⟩
instance (i : grid0.Coords) (k : Fin (k0_t1_loop i).trips) : ClosedOff (k0_off10 i k 1#32) := ⟨_, off10_one i k⟩
instance (i : grid0.Coords) (k : Fin (k0_t1_loop i).trips) : ClosedOff (k0_off10 i k 2#32) := ⟨_, off10_two i k⟩
instance (i : grid0.Coords) (k : Fin (k0_t1_loop i).trips) : ClosedOff (k0_off11 i k 1#32) := ⟨_, off11_one i k⟩
instance (i : grid0.Coords) (k : Fin (k0_t1_loop i).trips) : ClosedOff (k0_off11 i k 2#32) := ⟨_, off11_two i k⟩
instance (i : grid0.Coords) (k : Fin (k0_t1_loop i).trips) : ClosedOff (k0_off12 i k 1#32) := ⟨_, off12_one i k⟩
instance (i : grid0.Coords) (k : Fin (k0_t1_loop i).trips) : ClosedOff (k0_off12 i k 2#32) := ⟨_, off12_two i k⟩
instance (i : grid0.Coords) (k : Fin (k0_t1_loop i).trips) : ClosedOff (k0_off13 i k 1#32) := ⟨_, off13_one i k⟩
instance (i : grid0.Coords) (k : Fin (k0_t1_loop i).trips) : ClosedOff (k0_off13 i k 2#32) := ⟨_, off13_two i k⟩
instance (i : grid0.Coords) (k : Fin (k0_t1_loop i).trips) : ClosedOff (k0_off14 i k 1#32) := ⟨_, off14_one i k⟩
instance (i : grid0.Coords) (k : Fin (k0_t1_loop i).trips) : ClosedOff (k0_off14 i k 2#32) := ⟨_, off14_two i k⟩

/-! ## One trip -/

section Trip

variable (c : Dev nD) (i : grid0.Coords)
  (arg2 : Memref sig .tc .vmem S1x16x1x1024 .f32) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x1024x192 .bf16) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (arg1 : BitVec 32) (v12 : FVec F S1024x192 .bf16) (v14 : FVec F S1024x128 .bf16)
  (x2 : Vec F S1x16x1x1024 .f32) (x3 : Vec F S1x16384x192 .bf16) (x4 : Vec F S16384x128 .bf16) (x5 : Vec F S1x16x1x1024 .f32)

/-- The buffers a trip only reads: the row log-sums, queries, output gradients and row sums of the head. -/
abbrev Reads : sProp 𝕄 :=
  iprop((arg2.view.loc (c : Thread nD τ) ↦[arg2.view.set]{fullShare} harg2.unread x2)
    ∗ (arg3.view.loc (c : Thread nD τ) ↦[arg3.view.set]{fullShare} harg3.unread x3)
    ∗ (arg4.view.loc (c : Thread nD τ) ↦[arg4.view.set]{fullShare} harg4.unread x4)
    ∗ (arg5.view.loc (c : Thread nD τ) ↦[arg5.view.set]{fullShare} harg5.unread x5))

/-- The buffers it updates, at their raw contents: the query gradient of the head, the two accumulators of the key
    tile and the two double buffers. -/
abbrev Held (f8 : Buf (Elt F) (arg8.view.loc (c : Thread nD τ))) (f11 : Buf (Elt F) (arg11.view.loc (c : Thread nD τ)))
    (f12 : Buf (Elt F) (arg12.view.loc (c : Thread nD τ))) (f13 : Buf (Elt F) (arg13.view.loc (c : Thread nD τ)))
    (f14 : Buf (Elt F) (arg14.view.loc (c : Thread nD τ))) : sProp 𝕄 :=
  iprop((arg8.view.loc (c : Thread nD τ) ↦[arg8.view.set]{fullShare} f8)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14))

set_option backward.proofsInPublic true in
set_option maxHeartbeats 4000000 in
/-- ONE TRIP: what it writes into the five buffers it updates, as pieces (last first), with the proof that it does. -/
@[irreducible] def trip (k : Fin (k0_t1_loop i).trips)
    (f8 : Buf (Elt F) (arg8.view.loc (c : Thread nD τ))) (f11 : Buf (Elt F) (arg11.view.loc (c : Thread nD τ)))
    (f12 : Buf (Elt F) (arg12.view.loc (c : Thread nD τ))) (f13 : Buf (Elt F) (arg13.view.loc (c : Thread nD τ)))
    (f14 : Buf (Elt F) (arg14.view.loc (c : Thread nD τ))) :
    Σ' (L8 : List (View.Piece (Elt F) S1x16x192x1024 .f32)) (L11 : List (View.Piece (Elt F) S1024x192 .f32))
      (L12 : List (View.Piece (Elt F) S1024x128 .f32)) (L13 : List (View.Piece (Elt F) S2x1024x1024 .f32)),
      { L14 : List (View.Piece (Elt F) S2x1024x1024 .f32) //
        iprop(Reads c arg2 harg2 arg3 harg3 arg4 harg4 arg5 harg5 x2 x3 x4 x5
            ∗ Held c arg8 arg11 arg12 arg13 arg14 f8 f11 f12 f13 f14)
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 arg11 harg11 arg12 harg12 arg13 harg13 arg14 harg14 arg1 v12 v14 k ())
              (fun _ => iprop(Reads c arg2 harg2 arg3 harg3 arg4 harg4 arg5 harg5 x2 x3 x4 x5
                ∗ Held c arg8 arg11 arg12 arg13 arg14
                    (arg8.view.writes (Elt F) f8 L8) (arg11.view.writes (Elt F) f11 L11)
                    (arg12.view.writes (Elt F) f12 L12) (arg13.view.writes (Elt F) f13 L13)
                    (arg14.view.writes (Elt F) f14 L14))) } := by
  refine ⟨?_, ?_, ?_, ?_, ?_, ?run⟩
  case run =>
    iintro ⟨⟨H2, H3, H4, H5⟩, H8, H11, H12, H13, H14⟩
    unfold k0_t1_body
    simp only [k0_part1_eq_skeleton, k0_part2_eq_skeleton, k0_part3_eq_skeleton, k0_part4_eq_skeleton]
    sl_exec
    sl_step
    isplitl [H2 H3 H4 H5]
    · isplitl [H2]; · iexact H2
      isplitl [H3]; · iexact H3
      isplitl [H4]; · iexact H4
      iexact H5
    isplitl [H8]; · iexact H8
    isplitl [H11]; · iexact H11
    isplitl [H12]; · iexact H12
    isplitl [H13]; · iexact H13
    iexact H14

end Trip

end Cert.FlashBwdRun

end
-- ==== Proof.FlashRun.lean ====
/- The attention's backward call as a whole: the loop's invariant, the body's run in its three cases, the proof data of the
   pipeline, and the frame of the two programs. -/
module

public import proofs.«01_k».proof.Proof.FlashTrip

@[expose] public section

set_option maxRecDepth 16384

noncomputable section

namespace Cert.FlashBwdRun

open Cert.FlashBwdKernelIdeal Cert.FlashBwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)
  (arg2 : Memref sig .tc .vmem S1x16x1x1024 .f32) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x1024x192 .bf16) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (arg1 : BitVec 32) (v12 : FVec F S1024x192 .bf16) (v14 : FVec F S1024x128 .bf16)
  (x2 : Vec F S1x16x1x1024 .f32) (x3 : Vec F S1x16384x192 .bf16) (x4 : Vec F S16384x128 .bf16) (x5 : Vec F S1x16x1x1024 .f32)
  (x6 : Vec F S1x1024x192 .bf16) (x7 : Vec F S1024x128 .bf16)

/-- The raw contents of the five buffers the loop updates. -/
structure Raw where
  f8 : Buf (Elt F) (arg8.view.loc (c : Thread nD τ))
  f11 : Buf (Elt F) (arg11.view.loc (c : Thread nD τ))
  f12 : Buf (Elt F) (arg12.view.loc (c : Thread nD τ))
  f13 : Buf (Elt F) (arg13.view.loc (c : Thread nD τ))
  f14 : Buf (Elt F) (arg14.view.loc (c : Thread nD τ))

/-- Those contents after one trip. -/
def tripped (k : Fin (k0_t1_loop i).trips) (r : Raw (F := F) c arg8 arg11 arg12 arg13 arg14) : Raw (F := F) c arg8 arg11 arg12 arg13 arg14 :=
  ⟨arg8.view.writes (Elt F) r.f8 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).1,
    arg11.view.writes (Elt F) r.f11 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).2.1,
    arg12.view.writes (Elt F) r.f12 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).2.2.1,
    arg13.view.writes (Elt F) r.f13 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).2.2.2.1,
    arg14.view.writes (Elt F) r.f14 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).2.2.2.2.1⟩

/-- Those contents before trip `k`, from the ones at the loop's entry. -/
def rawAt (r : Raw (F := F) c arg8 arg11 arg12 arg13 arg14) : ℕ → Raw (F := F) c arg8 arg11 arg12 arg13 arg14
  | 0 => r
  | k + 1 =>
    if h : k < (k0_t1_loop i).trips then
      tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, h⟩ (rawAt r k)
    else rawAt r k

theorem rawAt_succ (r : Raw (F := F) c arg8 arg11 arg12 arg13 arg14) (k : Fin (k0_t1_loop i).trips) :
    rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r (k.val + 1)
      = tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k.val) := by
  rw [rawAt, dif_pos k.isLt]

set_option maxHeartbeats 2000000 in
/-- One trip at raw contents. -/
theorem trip_raw (k : Fin (k0_t1_loop i).trips) (r : Raw (F := F) c arg8 arg11 arg12 arg13 arg14) :
    iprop(Reads c arg2 harg2 arg3 harg3 arg4 harg4 arg5 harg5 x2 x3 x4 x5
        ∗ Held c arg8 arg11 arg12 arg13 arg14 r.f8 r.f11 r.f12 r.f13 r.f14)
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg1 v12 v14 k ())
          (fun _ => iprop(Reads c arg2 harg2 arg3 harg3 arg4 harg4 arg5 harg5 x2 x3 x4 x5
            ∗ Held c arg8 arg11 arg12 arg13 arg14
                (tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r).f8
                (tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r).f11
                (tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r).f12
                (tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r).f13
                (tripped c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r).f14)) := by
  exact (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k r.f8 r.f11 r.f12 r.f13 r.f14).2.2.2.2.2

/-! Each buffer by itself, its contents at the loop's entry apart. -/

section Each

variable (f8 : Buf (Elt F) (arg8.view.loc (c : Thread nD τ))) (f11 : Buf (Elt F) (arg11.view.loc (c : Thread nD τ)))
  (f12 : Buf (Elt F) (arg12.view.loc (c : Thread nD τ))) (f13 : Buf (Elt F) (arg13.view.loc (c : Thread nD τ)))
  (f14 : Buf (Elt F) (arg14.view.loc (c : Thread nD τ)))

def at8 : ℕ → Buf (Elt F) (arg8.view.loc (c : Thread nD τ))
  | 0 => f8
  | k + 1 => (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ (k + 1)).f8
theorem at8_eq (k : ℕ) : at8 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k
    = (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ k).f8 := by
  cases k <;> rfl
def at11 : ℕ → Buf (Elt F) (arg11.view.loc (c : Thread nD τ))
  | 0 => f11
  | k + 1 => (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ (k + 1)).f11
theorem at11_eq (k : ℕ) : at11 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k
    = (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ k).f11 := by
  cases k <;> rfl
def at12 : ℕ → Buf (Elt F) (arg12.view.loc (c : Thread nD τ))
  | 0 => f12
  | k + 1 => (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ (k + 1)).f12
theorem at12_eq (k : ℕ) : at12 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k
    = (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ k).f12 := by
  cases k <;> rfl
def at13 : ℕ → Buf (Elt F) (arg13.view.loc (c : Thread nD τ))
  | 0 => f13
  | k + 1 => (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ (k + 1)).f13
theorem at13_eq (k : ℕ) : at13 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k
    = (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ k).f13 := by
  cases k <;> rfl
def at14 : ℕ → Buf (Elt F) (arg14.view.loc (c : Thread nD τ))
  | 0 => f14
  | k + 1 => (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ (k + 1)).f14
theorem at14_eq (k : ℕ) : at14 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k
    = (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨f8, f11, f12, f13, f14⟩ k).f14 := by
  cases k <;> rfl

set_option warn.classDefReducibility false in
/-- THE LOOP'S INVARIANT: before trip `k` the five buffers hold what the trips before left. -/
@[sl_loop] def loopInv :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg1 v12 v14 where
  inv k _ :=
    iprop(Reads c arg2 harg2 arg3 harg3 arg4 harg4 arg5 harg5 x2 x3 x4 x5
      ∗ Held c arg8 arg11 arg12 arg13 arg14
          (at8 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k)
          (at11 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k)
          (at12 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k)
          (at13 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k)
          (at14 c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 f8 f11 f12 f13 f14 k))
  step k _ := by
    rw [at8_eq, at11_eq, at12_eq, at13_eq, at14_eq, at8_eq, at11_eq, at12_eq, at13_eq, at14_eq, rawAt_succ]
    exact trip_raw c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k _

end Each

/-- The body's own condition at a point: its key tile is the head's first. -/
abbrev first (i : grid0.Coords) : Prop :=
  Scalar.cmpi .ne (Scalar.extui (Scalar.cmpi .eq (BitVec.ofNat 32 (i 1).val) 0#32)) 0#32 = 1#1

/-- A run of the body: from the inputs' buffers at their contents, the query gradient's as `P` has it and the others at
    anything, to the inputs' as they were, the query gradient's at `O8`, the key and value gradients' written with the
    pieces `L9` and `L10`, and the four scratch buffers at anything. -/
def Runs (P : sProp 𝕄) (O8 : Buf (Elt F) (arg8.view.loc (c : Thread nD τ))) (L9 : List (View.Piece (Elt F) S1x1024x192 .f32))
    (L10 : List (View.Piece (Elt F) S1024x128 .f32)) : Prop :=
  ∀ K : PUnit → sProp 𝕄,
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ P ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (iprop(owns (c : Thread nD τ) arg2 fullShare x2 ∗ owns (c : Thread nD τ) arg3 fullShare x3 ∗ owns (c : Thread nD τ) arg4 fullShare x4
            ∗ owns (c : Thread nD τ) arg5 fullShare x5 ∗ owns (c : Thread nD τ) arg6 fullShare x6 ∗ owns (c : Thread nD τ) arg7 fullShare x7
            ∗ (arg8.view.loc (c : Thread nD τ) ↦[arg8.view.set]{fullShare} O8)
            ∗ (∃ f, arg9.view.loc (c : Thread nD τ) ↦[arg9.view.set]{fullShare} arg9.view.writes (Elt F) f L9)
            ∗ (∃ f, arg10.view.loc (c : Thread nD τ) ↦[arg10.view.set]{fullShare} arg10.view.writes (Elt F) f L10)
            ∗ (∃ d, owns (c : Thread nD τ) arg11 fullShare d) ∗ (∃ d, owns (c : Thread nD τ) arg12 fullShare d)
            ∗ (∃ d, owns (c : Thread nD τ) arg13 fullShare d) ∗ (∃ d, owns (c : Thread nD τ) arg14 fullShare d)) -∗ K ⟨⟩))
      ⊢ wp frame (wpE (defs₀ (F := F)) Variants.none (c : Thread nD τ) none) Set.univ
          (cc0_flash_bwd i arg2 harg2 arg3 harg3 arg4 harg4 arg5 harg5 arg6 harg6 arg7 harg7 arg8 harg8 arg9 harg9 arg10 harg10 arg11 harg11 arg12 harg12 arg13 harg13 arg14 harg14) K

set_option maxHeartbeats 4000000 in
/-- The body's run, found by running it: the head's first key tile, whose last pair of query tiles is cut short. -/
def run_first (h0 : first i) (h1 : k0_cond2 i = 1#1) :
    Σ' (O8 : Buf (Elt F) (arg8.view.loc (c : Thread nD τ))) (L9 : List (View.Piece (Elt F) S1x1024x192 .f32)),
      { L10 : List (View.Piece (Elt F) S1024x128 .f32) //
        Runs c i arg2 harg2 arg3 harg3 arg4 harg4 arg5 harg5 arg6 harg6 arg7 harg7 arg8 harg8 arg9 harg9 arg10 harg10 arg11 harg11 arg12 harg12 arg13 harg13 arg14 harg14 x2 x3 x4 x5 x6 x7 iprop(∃ d, owns (c : Thread nD τ) arg8 fullShare d) O8 L9 L10 } := by
  refine ⟨?_, ?_, ?_, fun K => ?run⟩
  case run =>
    simp only [cc0_flash_bwd_eq_skeleton]; unfold cc0_flash_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7
    sl_exec (disch := first | sl_exact h0 | sl_exact h1)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexact H8
    isplitl [H9]; · iexists _; iexact H9
    isplitl [H10]; · iexists _; iexact H10
    isplitl [H11]
    · iexists _, _; isplitr
      swap; · iexact H11
      ipureintro; rfl
    isplitl [H12]
    · iexists _, _; isplitr
      swap; · iexact H12
      ipureintro; rfl
    isplitl [H13]
    · iexists _, _; isplitr
      swap; · iexact H13
      ipureintro; rfl
    iexists _, _; isplitr
    swap; · iexact H14
    ipureintro; rfl

set_option maxHeartbeats 4000000 in
/-- The body's run, found by running it: a later key tile with an odd number of query tiles below it. -/
def run_odd (h0 : ¬first i) (h1 : k0_cond2 i = 1#1) (x8 : Vec F S1x16x192x1024 .f32) :
    Σ' (O8 : Buf (Elt F) (arg8.view.loc (c : Thread nD τ))) (L9 : List (View.Piece (Elt F) S1x1024x192 .f32)),
      { L10 : List (View.Piece (Elt F) S1024x128 .f32) //
        Runs c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (owns (c : Thread nD τ) arg8 fullShare x8) O8 L9 L10 } := by
  refine ⟨?_, ?_, ?_, fun K => ?run⟩
  case run =>
    simp only [cc0_flash_bwd_eq_skeleton]; unfold cc0_flash_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | sl_exact h0 | sl_exact h1)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexact H8
    isplitl [H9]; · iexists _; iexact H9
    isplitl [H10]; · iexists _; iexact H10
    isplitl [H11]
    · iexists _, _; isplitr
      swap; · iexact H11
      ipureintro; rfl
    isplitl [H12]
    · iexists _, _; isplitr
      swap; · iexact H12
      ipureintro; rfl
    isplitl [H13]
    · iexists _, _; isplitr
      swap; · iexact H13
      ipureintro; rfl
    iexists _, _; isplitr
    swap; · iexact H14
    ipureintro; rfl

set_option maxHeartbeats 4000000 in
/-- The body's run, found by running it: a later key tile with an even number of query tiles below it. -/
def run_even (h0 : ¬first i) (h1 : ¬k0_cond2 i = 1#1) (x8 : Vec F S1x16x192x1024 .f32) :
    Σ' (O8 : Buf (Elt F) (arg8.view.loc (c : Thread nD τ))) (L9 : List (View.Piece (Elt F) S1x1024x192 .f32)),
      { L10 : List (View.Piece (Elt F) S1024x128 .f32) //
        Runs c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (owns (c : Thread nD τ) arg8 fullShare x8) O8 L9 L10 } := by
  refine ⟨?_, ?_, ?_, fun K => ?run⟩
  case run =>
    simp only [cc0_flash_bwd_eq_skeleton]; unfold cc0_flash_bwd_skel
    simp only [k0_part9_eq_skeleton, k0_part10_eq_skeleton, k0_part11_eq_skeleton, k0_part12_eq_skeleton, k0_part13_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | sl_exact h0 | sl_exact h1)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; isplitr; · ipureintro; exact harg5.read_unread _
                    iexact H5
    isplitl [H6]; · iexists _; isplitr; · ipureintro; exact harg6.read_unread _
                    iexact H6
    isplitl [H7]; · iexists _; isplitr; · ipureintro; exact harg7.read_unread _
                    iexact H7
    isplitl [H8]; · iexact H8
    isplitl [H9]; · iexists _; iexact H9
    isplitl [H10]; · iexists _; iexact H10
    isplitl [H11]
    · iexists _, _; isplitr
      swap; · iexact H11
      ipureintro; rfl
    isplitl [H12]
    · iexists _, _; isplitr
      swap; · iexact H12
      ipureintro; rfl
    isplitl [H13]
    · iexists _, _; isplitr
      swap; · iexact H13
      ipureintro; rfl
    iexists _, _; isplitr
    swap; · iexact H14
    ipureintro; rfl

end Body

end Cert.FlashBwdRun

end
-- ==== Proof.FlashFrame.lean ====
/- The attention's backward call point by point: what each point leaves in the gradients' buffers, the pipeline's proof
   data, and the frame of the two programs from it. -/
module

public import proofs.«01_k».proof.Proof.FlashRun

@[expose] public section

set_option maxRecDepth 16384

noncomputable section

namespace Cert.FlashBwdRun

open Cert.FlashBwdKernelIdeal Cert.FlashBwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

abbrev m0 (t : Fin cfg0.N) : Memref sig .tc .vmem S1x16x1x1024 .f32 := win0_0.stage (cfg0.slots t 0)
abbrev m1 (t : Fin cfg0.N) : Memref sig .tc .vmem S1x16384x192 .bf16 := win0_1.stage (cfg0.slots t 1)
abbrev m2 (t : Fin cfg0.N) : Memref sig .tc .vmem S16384x128 .bf16 := win0_2.stage (cfg0.slots t 2)
abbrev m3 (t : Fin cfg0.N) : Memref sig .tc .vmem S1x16x1x1024 .f32 := win0_3.stage (cfg0.slots t 3)
abbrev m4 (t : Fin cfg0.N) : Memref sig .tc .vmem S1x1024x192 .bf16 := win0_4.stage (cfg0.slots t 4)
abbrev m5 (t : Fin cfg0.N) : Memref sig .tc .vmem S1024x128 .bf16 := win0_5.stage (cfg0.slots t 5)
abbrev m6 (t : Fin cfg0.N) : Memref sig .tc .vmem S1x16x192x1024 .f32 := win0_6.stage (cfg0.slots t 6)
abbrev m7 (t : Fin cfg0.N) : Memref sig .tc .vmem S1x1024x192 .f32 := win0_7.stage (cfg0.slots t 7)
abbrev m8 (t : Fin cfg0.N) : Memref sig .tc .vmem S1024x128 .f32 := win0_8.stage (cfg0.slots t 8)
abbrev hs0 (t : Fin cfg0.N) : (m0 t).IsWhole := hstage0_0 ((cfg0.slots t 0).cast nbuf0_0)
abbrev hs1 (t : Fin cfg0.N) : (m1 t).IsWhole := hstage0_1 ((cfg0.slots t 1).cast nbuf0_1)
abbrev hs2 (t : Fin cfg0.N) : (m2 t).IsWhole := hstage0_2 ((cfg0.slots t 2).cast nbuf0_2)
abbrev hs3 (t : Fin cfg0.N) : (m3 t).IsWhole := hstage0_3 ((cfg0.slots t 3).cast nbuf0_3)
abbrev hs4 (t : Fin cfg0.N) : (m4 t).IsWhole := hstage0_4 ((cfg0.slots t 4).cast nbuf0_4)
abbrev hs5 (t : Fin cfg0.N) : (m5 t).IsWhole := hstage0_5 ((cfg0.slots t 5).cast nbuf0_5)
abbrev hs6 (t : Fin cfg0.N) : (m6 t).IsWhole := hstage0_6 ((cfg0.slots t 6).cast nbuf0_6)
abbrev hs7 (t : Fin cfg0.N) : (m7 t).IsWhole := hstage0_7 ((cfg0.slots t 7).cast nbuf0_7)
abbrev hs8 (t : Fin cfg0.N) : (m8 t).IsWhole := hstage0_8 ((cfg0.slots t 8).cast nbuf0_8)
abbrev sc0 : Memref sig .tc .vmem S1024x192 .f32 := Memref.whole cc0_scratch0
abbrev sc1 : Memref sig .tc .vmem S1024x128 .f32 := Memref.whole cc0_scratch1
abbrev sc2 : Memref sig .tc .vmem S2x1024x1024 .f32 := Memref.whole cc0_scratch2
abbrev sc3 : Memref sig .tc .vmem S2x1024x1024 .f32 := Memref.whole cc0_scratch3

/-- What the pipeline keeps beside the windows: the four scratch buffers at some contents and the generator's state. -/
theorem rest_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- A point's key tile is the head's first at every sixteenth point, -/
theorem first_iff : ∀ t : Fin cfg0.N, first (grid0.coords t) ↔ t.val % 16 = 0 :=
  (by decide +kernel : ∀ t : Fin grid0.N, first (grid0.coords t) ↔ t.val % 16 = 0)
/-- and an odd number of query tiles lie below it at the even points. -/
theorem odd_iff : ∀ t : Fin cfg0.N, k0_cond2 (grid0.coords t) = 1#1 ↔ t.val % 2 = 0 :=
  (by decide +kernel : ∀ t : Fin grid0.N, k0_cond2 (grid0.coords t) = 1#1 ↔ t.val % 2 = 0)

/-! ## What a point leaves -/

/-- The key and value gradients' buffers as views: what a point leaves there is stated through them. -/
abbrev dkView : View sig .tc .vmem S1x1024x192 .f32 := (Memref.whole cc0_stg7_0 : Memref sig .tc .vmem S1x1024x192 .f32).view
abbrev dvView : View sig .tc .vmem S1024x128 .f32 := (Memref.whole cc0_stg8_0 : Memref sig .tc .vmem S1024x128 .f32).view

/-- The three gradients' buffers: the query gradient of the head, the key and the value gradient of the key tile. -/
abbrev Outs (F : FTy → Type) := Vec F S1x16x192x1024 .f32 × Vec F S1x1024x192 .f32 × Vec F S1024x128 .f32

abbrev ran_first (c : Dev nD) (t : Fin cfg0.N) (h0 : t.val % 16 = 0) :=
  run_first c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) ((first_iff t).mpr h0) ((odd_iff t).mpr (by omega))
abbrev ran_odd (c : Dev nD) (t : Fin cfg0.N) (h0 : ¬t.val % 16 = 0) (h1 : t.val % 2 = 0) (x : Vec F S1x16x192x1024 .f32) :=
  run_odd c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (fun h => h0 ((first_iff t).mp h)) ((odd_iff t).mpr h1) x
abbrev ran_even (c : Dev nD) (t : Fin cfg0.N) (h0 : ¬t.val % 16 = 0) (h1 : ¬t.val % 2 = 0) (x : Vec F S1x16x192x1024 .f32) :=
  run_even c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (fun h => h0 ((first_iff t).mp h)) (fun h => h1 ((odd_iff t).mp h)) x

theorem cover_dk_first (c : Dev nD) (t : Fin cfg0.N) (h0 : t.val % 16 = 0) (y : S1x1024x192.Idx) :
    ∃ pc ∈ (ran_first m c t h0).2.1, y ∈ pc.1.set :=
  View.cover_of_tiledL (ran_first m c t h0).2.1 S1x1024x192.size (by sl_kernel_rfl) y
theorem cover_dv_first (c : Dev nD) (t : Fin cfg0.N) (h0 : t.val % 16 = 0) (y : S1024x128.Idx) :
    ∃ pc ∈ (ran_first m c t h0).2.2.1, y ∈ pc.1.set :=
  View.cover_of_tiledL (ran_first m c t h0).2.2.1 S1024x128.size (by sl_kernel_rfl) y
/-- What such a point leaves. -/
def out_first (c : Dev nD) (t : Fin cfg0.N) (h0 : t.val % 16 = 0) : Outs F :=
  ((m6 t).view.read (Elt F) (ran_first m c t h0).1,
    dkView.read (Elt F) (dkView.writes (Elt F) dkView.junk (ran_first m c t h0).2.1),
    dvView.read (Elt F) (dvView.writes (Elt F) dvView.junk (ran_first m c t h0).2.2.1))
theorem cover_dk_odd (c : Dev nD) (t : Fin cfg0.N) (h0 : ¬t.val % 16 = 0) (h1 : t.val % 2 = 0) (x : Vec F S1x16x192x1024 .f32) (y : S1x1024x192.Idx) :
    ∃ pc ∈ (ran_odd m c t h0 h1 x).2.1, y ∈ pc.1.set :=
  View.cover_of_tiledL (ran_odd m c t h0 h1 x).2.1 S1x1024x192.size (by sl_kernel_rfl) y
theorem cover_dv_odd (c : Dev nD) (t : Fin cfg0.N) (h0 : ¬t.val % 16 = 0) (h1 : t.val % 2 = 0) (x : Vec F S1x16x192x1024 .f32) (y : S1024x128.Idx) :
    ∃ pc ∈ (ran_odd m c t h0 h1 x).2.2.1, y ∈ pc.1.set :=
  View.cover_of_tiledL (ran_odd m c t h0 h1 x).2.2.1 S1024x128.size (by sl_kernel_rfl) y
/-- What such a point leaves. -/
def out_odd (c : Dev nD) (t : Fin cfg0.N) (h0 : ¬t.val % 16 = 0) (h1 : t.val % 2 = 0) (x : Vec F S1x16x192x1024 .f32) : Outs F :=
  ((m6 t).view.read (Elt F) (ran_odd m c t h0 h1 x).1,
    dkView.read (Elt F) (dkView.writes (Elt F) dkView.junk (ran_odd m c t h0 h1 x).2.1),
    dvView.read (Elt F) (dvView.writes (Elt F) dvView.junk (ran_odd m c t h0 h1 x).2.2.1))
theorem cover_dk_even (c : Dev nD) (t : Fin cfg0.N) (h0 : ¬t.val % 16 = 0) (h1 : ¬t.val % 2 = 0) (x : Vec F S1x16x192x1024 .f32) (y : S1x1024x192.Idx) :
    ∃ pc ∈ (ran_even m c t h0 h1 x).2.1, y ∈ pc.1.set :=
  View.cover_of_tiledL (ran_even m c t h0 h1 x).2.1 S1x1024x192.size (by sl_kernel_rfl) y
theorem cover_dv_even (c : Dev nD) (t : Fin cfg0.N) (h0 : ¬t.val % 16 = 0) (h1 : ¬t.val % 2 = 0) (x : Vec F S1x16x192x1024 .f32) (y : S1024x128.Idx) :
    ∃ pc ∈ (ran_even m c t h0 h1 x).2.2.1, y ∈ pc.1.set :=
  View.cover_of_tiledL (ran_even m c t h0 h1 x).2.2.1 S1024x128.size (by sl_kernel_rfl) y
/-- What such a point leaves. -/
def out_even (c : Dev nD) (t : Fin cfg0.N) (h0 : ¬t.val % 16 = 0) (h1 : ¬t.val % 2 = 0) (x : Vec F S1x16x192x1024 .f32) : Outs F :=
  ((m6 t).view.read (Elt F) (ran_even m c t h0 h1 x).1,
    dkView.read (Elt F) (dkView.writes (Elt F) dkView.junk (ran_even m c t h0 h1 x).2.1),
    dvView.read (Elt F) (dvView.writes (Elt F) dvView.junk (ran_even m c t h0 h1 x).2.2.1))

/-- THE ACCUMULATION: what the buffers hold after the body at point `n`; the query gradient's is what the point before
    left, except at a head's first key tile, which zeroes it. -/
def outs (c : Dev nD) : (n : ℕ) → n < cfg0.N → Outs F
  | 0, hn => out_first m c ⟨0, hn⟩ (Nat.zero_mod _)
  | n + 1, hn =>
    if h0 : (n + 1) % 16 = 0 then out_first m c ⟨n + 1, hn⟩ h0
    else if h1 : (n + 1) % 2 = 0 then out_odd m c ⟨n + 1, hn⟩ h0 h1 (outs c n (Nat.lt_of_succ_lt hn)).1
    else out_even m c ⟨n + 1, hn⟩ h0 h1 (outs c n (Nat.lt_of_succ_lt hn)).1

/-- What the point before `t` left in the query gradient's buffer. -/
abbrev prev (c : Dev nD) (t : Fin cfg0.N) : Vec F S1x16x192x1024 .f32 :=
  (outs m c (t.val - 1) (Nat.lt_of_le_of_lt (Nat.sub_le _ _) t.isLt)).1

theorem outs_first (c : Dev nD) (t : Fin cfg0.N) (h0 : t.val % 16 = 0) : outs m c t.val t.isLt = out_first m c t h0 := by
  obtain ⟨n, hn⟩ := t
  cases n with
  | zero => exact rfl
  | succ n => exact (dif_pos h0).trans rfl
theorem outs_odd (c : Dev nD) (t : Fin cfg0.N) (h0 : ¬t.val % 16 = 0) (h1 : t.val % 2 = 0) :
    outs m c t.val t.isLt = out_odd m c t h0 h1 (prev m c t) := by
  obtain ⟨n, hn⟩ := t
  cases n with
  | zero => exact absurd (Nat.zero_mod _) h0
  | succ n => exact (dif_neg h0).trans ((dif_pos h1).trans rfl)
theorem outs_even (c : Dev nD) (t : Fin cfg0.N) (h0 : ¬t.val % 16 = 0) (h1 : ¬t.val % 2 = 0) :
    outs m c t.val t.isLt = out_even m c t h0 h1 (prev m c t) := by
  obtain ⟨n, hn⟩ := t
  cases n with
  | zero => exact absurd (Nat.zero_mod _) h0
  | succ n => exact (dif_neg h0).trans ((dif_neg h1).trans rfl)

/-! ## The pipeline's proof data -/

/-- The arrays as the launch finds them; after the body at point `t` each input's buffer at its block and the gradients'
    as `outs` has them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outs m c t.val t.isLt).1 := by dsimp only [dats]
theorem after_7 (c : Dev nD) (t : Fin cfg0.N) : (dats m 0 c).after 7 t = (outs m c t.val t.isLt).2.1 := by dsimp only [dats]
theorem after_8 (c : Dev nD) (t : Fin cfg0.N) : (dats m 0 c).after 8 t = (outs m c t.val t.isLt).2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
/-- Within a head the query gradient's buffer holds what the point before left. -/
theorem before_6 (c : Dev nD) (t : Fin cfg0.N) (h0 : ¬t.val % 16 = 0) (d) : (dats m 0 c).before 6 t d = prev m c t := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d))
    ∗ (∃ d, owns (c : Thread nD τ) (m4 t) fullShare ((dats m 0 c).before 4 t d))
    ∗ (∃ d, owns (c : Thread nD τ) (m5 t) fullShare ((dats m 0 c).before 5 t d))
    ∗ (∃ d, owns (c : Thread nD τ) (m6 t) fullShare ((dats m 0 c).before 6 t d))
    ∗ (∃ d, owns (c : Thread nD τ) (m7 t) fullShare ((dats m 0 c).before 7 t d))
    ∗ (∃ d, owns (c : Thread nD τ) (m8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (m0 t) fullShare ((dats m 0 c).after 0 t)
    ∗ owns (c : Thread nD τ) (m1 t) fullShare ((dats m 0 c).after 1 t)
    ∗ owns (c : Thread nD τ) (m2 t) fullShare ((dats m 0 c).after 2 t)
    ∗ owns (c : Thread nD τ) (m3 t) fullShare ((dats m 0 c).after 3 t)
    ∗ owns (c : Thread nD τ) (m4 t) fullShare ((dats m 0 c).after 4 t)
    ∗ owns (c : Thread nD τ) (m5 t) fullShare ((dats m 0 c).after 5 t)
    ∗ owns (c : Thread nD τ) (m6 t) fullShare ((dats m 0 c).after 6 t)
    ∗ owns (c : Thread nD τ) (m7 t) fullShare ((dats m 0 c).after 7 t)
    ∗ owns (c : Thread nD τ) (m8 t) fullShare ((dats m 0 c).after 8 t))

set_option maxHeartbeats 2000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8,
    show (dats m 0 c).Φ t.castSucc = Pipeline.ΦA spec0 c from rfl, rest_eq]
  by_cases h0 : t.val % 16 = 0
  · rw [outs_first m c t h0]
    unfold out_first; (try dsimp only)
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((ran_first m c t h0).2.2.2 _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [S0]; · iexact S0
    isplitl [S1]; · iexact S1
    isplitl [S2]; · iexact S2
    isplitl [S3]; · iexact S3
    iintro ⟨H0, H1, H2, H3, H4, H5, H6, ⟨%e7, H7⟩, ⟨%e8, H8⟩, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; exact View.read_writes_of_cover _ _ _ _ _ (cover_dk_first m c t h0)
    unfold owns; iexists _; isplitr
    swap; · iexact H8
    ipureintro; exact View.read_writes_of_cover _ _ _ _ _ (cover_dv_first m c t h0)
  by_cases h1 : t.val % 2 = 0
  · rw [outs_odd m c t h0 h1]
    simp only [before_6 m c t h0]
    unfold out_odd; (try dsimp only)
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((ran_odd m c t h0 h1 (prev m c t)).2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [S0]; · iexact S0
    isplitl [S1]; · iexact S1
    isplitl [S2]; · iexact S2
    isplitl [S3]; · iexact S3
    iintro ⟨H0, H1, H2, H3, H4, H5, H6, ⟨%e7, H7⟩, ⟨%e8, H8⟩, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; exact View.read_writes_of_cover _ _ _ _ _ (cover_dk_odd m c t h0 h1 (prev m c t))
    unfold owns; iexists _; isplitr
    swap; · iexact H8
    ipureintro; exact View.read_writes_of_cover _ _ _ _ _ (cover_dv_odd m c t h0 h1 (prev m c t))
  · rw [outs_even m c t h0 h1]
    simp only [before_6 m c t h0]
    unfold out_even; (try dsimp only)
    iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((ran_even m c t h0 h1 (prev m c t)).2.2.2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [S0]; · iexact S0
    isplitl [S1]; · iexact S1
    isplitl [S2]; · iexact S2
    isplitl [S3]; · iexact S3
    iintro ⟨H0, H1, H2, H3, H4, H5, H6, ⟨%e7, H7⟩, ⟨%e8, H8⟩, S0, S1, S2, S3⟩
    isplitl [S0 S1 S2 S3 Hg]
    · isplitl [S0 S1 S2 S3]
      · isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rfl
    isplitl [H7]
    · unfold owns; iexists _; isplitr
      swap; · iexact H7
      ipureintro; exact View.read_writes_of_cover _ _ _ _ _ (cover_dk_even m c t h0 h1 (prev m c t))
    unfold owns; iexists _; isplitr
    swap; · iexact H8
    ipureintro; exact View.read_writes_of_cover _ _ _ _ _ (cover_dv_even m c t h0 h1 (prev m c t))

/-- The body table's row at point `t`'s buffers is the body as `bodyAt0` spells it. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends as the proof data compute it. -/
theorem run_main : θ_run defs (onTc (τ := τ) (main (F := F))) (s₀ m ρ) (Pipeline.FramePost cfgs (dats m) 0 (V m)) :=
  (θ_run defs _ _).mono (fun _ h => h.1) (run_quiescent m ρ)

/-- THE FRAME, at any values. -/
theorem ideal_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.FlashBwdRun

end
-- ==== Proof.FlashMath.lean ====
/- One row of a masked softmax and of its gradient, over the real numbers. -/
module

public import Idealize.ShloMosaic.Lib.Pointwise

@[expose] public section

noncomputable section

namespace Cert.FlashMath

open Idealize.ShloMosaic

variable {ι : Type} [Fintype ι] (live : ι → Prop) [DecidablePred live] (z : ι → ℝ)

/-- A sum of reals is the sum of the same values. -/
theorem coe_sum {κ : Type} [Fintype κ] (f : κ → ℝ) : (∑ s, (f s : EReal)) = ((∑ s, f s : ℝ) : EReal) := by
  classical
  refine Finset.induction_on (Finset.univ : Finset κ) (by simp) fun a s ha ih => ?_
  rw [Finset.sum_insert ha, Finset.sum_insert ha, ih, EReal.coe_add]

/-- The scores, at minus infinity where masked. -/
def masked (s : ι) : EReal := if live s then (z s : EReal) else ⊥
/-- The softmax's weights. -/
def prob (s : ι) : ℝ := if live s then Real.exp (z s) / ∑ t, (if live t then Real.exp (z t) else 0) else 0
/-- The exponentials of the scores less `μ`. -/
def ex (μ : ℝ) (s : ι) : ℝ := if live s then Real.exp (z s - μ) else 0

/-- A row with a score that is not masked has a real maximum. -/
theorem exists_max (h : ∃ s, live s) : ∃ μ : ℝ, Finset.fold max (⊥ : EReal) (masked live z) Finset.univ = (μ : EReal) := by
  obtain ⟨s₀, h₀⟩ := h
  have e : Finset.fold max (⊥ : EReal) (masked live z) Finset.univ = Finset.univ.sup (masked live z) := rfl
  obtain ⟨s, -, hs⟩ := Finset.exists_mem_eq_sup Finset.univ ⟨s₀, Finset.mem_univ s₀⟩ (masked live z)
  have hle : masked live z s₀ ≤ masked live z s := hs ▸ Finset.le_sup (Finset.mem_univ s₀)
  by_cases hl : live s
  · exact ⟨z s, by rw [e, hs, masked, if_pos hl]⟩
  · rw [masked, masked, if_pos h₀, if_neg hl] at hle
    exact absurd (le_bot_iff.mp hle) (EReal.coe_ne_bot _)

theorem exp_masked (μ : ℝ) (s : ι) : Ideal.exp (masked live z s - (μ : EReal)) = (ex live z μ s : EReal) := by
  by_cases hl : live s
  · rw [masked, if_pos hl, ex, if_pos hl, ← EReal.coe_sub, Ideal.exp_coe]
  · rw [masked, if_neg hl, ex, if_neg hl, EReal.bot_sub, Ideal.exp_bot, EReal.coe_zero]

theorem sum_ex_pos (h : ∃ s, live s) (μ : ℝ) : 0 < ∑ s, ex live z μ s := by
  obtain ⟨s₀, h₀⟩ := h
  refine Finset.sum_pos' (fun s _ => ?_) ⟨s₀, Finset.mem_univ _, ?_⟩
  · unfold ex; split <;> positivity
  · rw [ex, if_pos h₀]; positivity

theorem ex_eq (μ : ℝ) (s : ι) : ex live z μ s = (if live s then Real.exp (z s) else 0) / Real.exp μ := by
  by_cases hl : live s
  · simp only [ex, if_pos hl, Real.exp_sub]
  · simp only [ex, if_neg hl, zero_div]

/-- The exponentials over their sum are the weights, whatever was subtracted. -/
theorem ex_div (μ : ℝ) (s : ι) : ex live z μ s / ∑ t, ex live z μ t = prob live z s := by
  simp only [ex_eq]
  rw [← Finset.sum_div, div_div_div_cancel_right₀ (Real.exp_ne_zero μ), prob]
  split
  · rfl
  · rw [zero_div]

/-- The weight from the row's log-sum. -/
theorem exp_sub_lse (h : ∃ s, live s) (μ : ℝ) (s : ι) (hs : live s) :
    Ideal.exp ((z s : EReal) - ((μ : EReal) + Ideal.log ((∑ t, ex live z μ t : ℝ) : EReal))) = (prob live z s : EReal) := by
  have hp := sum_ex_pos live z h μ
  rw [Ideal.log_coe, if_neg (not_le.mpr hp), ← EReal.coe_add, ← EReal.coe_sub, Ideal.exp_coe, ← ex_div live z μ s, ex, if_pos hs,
    ← sub_sub, Real.exp_sub, Real.exp_log hp]

/-- The softmax's gradient for one score. -/
def grad (dp : ι → ℝ) (s : ι) : ℝ := prob live z s * (dp s - ∑ t, prob live z t * dp t)

/-- A quotient of reals. -/
theorem div_real (a b : ℝ) (h : b ≠ 0) : Ideal.div (a : EReal) (b : EReal) = ((a / b : ℝ) : EReal) := by
  rw [Ideal.div_coe h, ← EReal.coe_mul, mul_one_div]

/-- The gradient as the quotient's two terms. -/
theorem grad_eq (h : ∃ s, live s) (μ : ℝ) (dp : ι → ℝ) (s : ι) :
    (dp s / (∑ t, ex live z μ t) + -(∑ t, dp t * (1 / ((∑ t, ex live z μ t) * (∑ t, ex live z μ t))) * ex live z μ t)) * ex live z μ s
      = grad live z dp s := by
  have hp := (sum_ex_pos live z h μ).ne'
  rw [grad, ← ex_div live z μ s]
  simp only [← ex_div live z μ]
  have e : ∀ t, dp t * (1 / ((∑ t, ex live z μ t) * (∑ t, ex live z μ t))) * ex live z μ t
      = (ex live z μ t / (∑ t, ex live z μ t) * dp t) / (∑ t, ex live z μ t) := fun t => by
    generalize (∑ t, ex live z μ t) = l at hp ⊢
    field_simp
  rw [Finset.sum_congr rfl fun t _ => e t, ← Finset.sum_div]
  generalize (∑ t, ex live z μ t / (∑ t, ex live z μ t) * dp t) = S
  generalize (∑ t, ex live z μ t) = l at hp ⊢
  field_simp
  ring

/-- The row's sum of the output times its gradient, by keys. -/
theorem delta_eq {κ : Type} [Fintype κ] (v : ι → κ → ℝ) (g : κ → ℝ) :
    ∑ d, (∑ s, prob live z s * v s d) * g d = ∑ s, prob live z s * ∑ d, v s d * g d := by
  simp only [Finset.sum_mul, Finset.mul_sum]
  rw [Finset.sum_comm]
  exact Finset.sum_congr rfl fun s _ => Finset.sum_congr rfl fun d _ => by ring

/-- A masked score's gradient is zero. -/
theorem grad_masked (dp : ι → ℝ) (s : ι) (hs : ¬ live s) : grad live z dp s = 0 := by
  rw [grad, prob, if_neg hs, zero_mul]

end Cert.FlashMath

end
-- ==== Proof.FlashTile.lean ====
/- One tile pair of the attention's backward call: the tile's weights, what it adds to the three gradients, and the
   kernel's tile operations as these functions. -/
module

public import proofs.«01_k».proof.Proof.Gen.FlashBwdKernelIdeal.Skeleton
public import proofs.«01_k».proof.Proof.Gen.FlashBwdKernelIdeal.Frame
public import Idealize.ShloMosaic.Lib.Pointwise
public import Idealize.ShloMosaic.Lib.VecWindow
public import Idealize.ShloMosaic.Lib.WholeRead
public import proofs.«01_k».proof.Proof.Consts

@[expose] public section

set_option maxRecDepth 16384

noncomputable section

namespace Cert.FlashTile

open Cert.FlashBwdKernelIdeal Cert.FlashBwdKernelIdeal.Gen
open Idealize.ShloMosaic Idealize.ShloMosaic.TcCoe Idealize.SL.Sem

/-! ## The functions

A key tile `K`, `V` against query tile `n` of the head: `n` is a number, the arrays being read at the remainder. -/

/-- Row `b` of query tile `n` in the head's sequence. -/
abbrev row (n : ℕ) (b : Fin 1024) : Fin 16384 := Fin.ofNat 16384 (1024 * n + b.val)

/-- The scores of the keys against the queries of tile `n`, -/
def zt (K : FVec Ideal S1024x192 .bf16) (x3 : FVec Ideal S1x16384x192 .bf16) (n : ℕ) (a b : Fin 1024) : EReal :=
  ∑ d : Fin 192, K (ix2 a d) * x3 (ix3 0 (row n b) d)
/-- and the values against the output gradients of tile `n`. -/
def gt (V : FVec Ideal S1024x128 .bf16) (x4 : FVec Ideal S16384x128 .bf16) (n : ℕ) (a b : Fin 1024) : EReal :=
  ∑ d : Fin 128, V (ix2 a d) * x4 (ix2 (row n b) d)
/-- Entry `b` of a row statistic's tile `n`. -/
def stat (x : FVec Ideal S1x16x1x1024 .f32) (n : ℕ) (b : Fin 1024) : EReal := x (ix4 0 (Fin.ofNat 16 n) 0 b)
/-- The weights from the scores and the rows' log-sums, -/
def wt (z : Fin 1024 → Fin 1024 → EReal) (l : Fin 1024 → EReal) (a b : Fin 1024) : EReal := Ideal.exp (z a b - l b)
/-- the scores with those above the diagonal at minus infinity, -/
def below (z : Fin 1024 → Fin 1024 → EReal) (a b : Fin 1024) : EReal := if a ≤ b then z a b else ⊥
/-- and the scores' gradients. -/
def dz (p g : Fin 1024 → Fin 1024 → EReal) (e : Fin 1024 → EReal) (a b : Fin 1024) : EReal := p a b * (g a b - e b)
/-- What the tile adds to the value gradient, -/
def toV (x4 : FVec Ideal S16384x128 .bf16) (n : ℕ) (p : Fin 1024 → Fin 1024 → EReal) (a : Fin 1024) (d : Fin 128) : EReal :=
  ∑ b : Fin 1024, p a b * x4 (ix2 (row n b) d)
/-- to the key gradient -/
def toK (x3 : FVec Ideal S1x16384x192 .bf16) (n : ℕ) (s : Fin 1024 → Fin 1024 → EReal) (a : Fin 1024) (d : Fin 192) : EReal :=
  ∑ b : Fin 1024, s a b * x3 (ix3 0 (row n b) d)
/-- and to the query gradient, transposed. -/
def toQ (K : FVec Ideal S1024x192 .bf16) (s : Fin 1024 → Fin 1024 → EReal) (d : Fin 192) (b : Fin 1024) : EReal :=
  ∑ a : Fin 1024, K (ix2 a d) * s a b

/-! ## The kernel's tile operations at an entry -/

theorem scores_at (K : FVec Ideal S1024x192 .bf16) (q : FVec Ideal S1x1024x192 .bf16) (a b : Fin 1024) :
    k0_pay1 K q (ix3 0 a b) = ∑ d : Fin 192, K (ix2 a d) * q (ix3 0 b d) := by pointwise [k0_pay1]
theorem grads_at (V : FVec Ideal S1024x128 .bf16) (g : FVec Ideal S1024x128 .bf16) (a b : Fin 1024) :
    k0_pay2 V g (ix3 0 a b) = ∑ d : Fin 128, V (ix2 a d) * g (ix2 b d) := by pointwise [k0_pay2]
theorem tile_at (z : FVec Ideal S1x1024x1024 .f32) (a b : Fin 1024) : k0_pay12 z (ix2 a b) = z (ix3 0 a b) := by pointwise [k0_pay12]
theorem weight_at (z : FVec Ideal S1024x1024 .f32) (l : FVec Ideal S1x1x1x1024 .f32) (a b : Fin 1024) :
    k0_pay13 z l (ix2 a b) = Ideal.exp (z (ix2 a b) - l (ix4 0 0 0 b)) := by pointwise [k0_pay13]
theorem dz_at (z : FVec Ideal S1024x1024 .f32) (l : FVec Ideal S1x1x1x1024 .f32) (g : FVec Ideal S1x1024x1024 .f32)
    (e : FVec Ideal S1x1x1x1024 .f32) (a b : Fin 1024) :
    k0_pay14 z l g e (ix2 a b) = Ideal.exp (z (ix2 a b) - l (ix4 0 0 0 b)) * (g (ix3 0 a b) - e (ix4 0 0 0 b)) := by
  pointwise [k0_pay14, k0_pay13]
theorem toV_at (z : FVec Ideal S1024x1024 .f32) (l : FVec Ideal S1x1x1x1024 .f32) (acc : FVec Ideal S1024x128 .f32)
    (g : FVec Ideal S1024x128 .bf16) (a : Fin 1024) (d : Fin 128) :
    k0_pay15 z l acc g (ix2 a d) = acc (ix2 a d) + ∑ b : Fin 1024, Ideal.exp (z (ix2 a b) - l (ix4 0 0 0 b)) * g (ix2 b d) := by
  pointwise [k0_pay15, k0_pay13]
theorem toK_at (z : FVec Ideal S1024x1024 .f32) (l : FVec Ideal S1x1x1x1024 .f32) (g : FVec Ideal S1x1024x1024 .f32)
    (e : FVec Ideal S1x1x1x1024 .f32) (acc : FVec Ideal S1024x192 .f32) (q : FVec Ideal S1x1024x192 .bf16) (a : Fin 1024) (d : Fin 192) :
    k0_pay16 z l g e acc q (ix2 a d) = acc (ix2 a d) + ∑ b : Fin 1024, k0_pay14 z l g e (ix2 a b) * q (ix3 0 b d) := by
  pointwise [k0_pay16]
theorem toQ_at (K : FVec Ideal S1024x192 .bf16) (s : FVec Ideal S1024x1024 .bf16) (acc : FVec Ideal S1x1x192x1024 .f32)
    (d : Fin 192) (b : Fin 1024) :
    k0_pay53 K s acc (ix4 0 0 d b) = acc (ix4 0 0 d b) + ∑ a : Fin 1024, K (ix2 a d) * s (ix2 a b) := by
  pointwise [k0_pay53]
/-- A choice by a comparison of two counters as words is one by the counters. -/
theorem select_le {α : Type} (a b : ℕ) (ha : a < 2 ^ 31) (hb : b < 2 ^ 31) (x y : α) :
    Scalar.select (IntOp.cmpi CmpIPredicate.sle (BitVec.ofNat 32 a) (BitVec.ofNat 32 b)) x y = if a ≤ b then x else y := by
  have h : (IntOp.cmpi CmpIPredicate.sle (BitVec.ofNat 32 a) (BitVec.ofNat 32 b) = 1#1) ↔ a ≤ b := by word_cmp
  unfold Scalar.select
  by_cases hab : a ≤ b
  · rw [if_pos hab]; simp [h.mpr hab]
  · rw [if_neg hab]; simp [mt h.mp hab]
theorem masked_at (z : FVec Ideal S1x1024x1024 .f32) (a b : Fin 1024) :
    k0_pay46 z (ix2 a b) = if a ≤ b then z (ix3 0 a b) else ⊥ := by
  pointwise [k0_pay46]
  rw [select_le _ _ (by omega) (by omega), Cert.Consts.f32_ninf]
  rfl

/-! ## The kernel's reads at an entry -/

section Reads

variable {off : Fin 4 → ℕ} {off3 : Fin 3 → ℕ} {off2 : Fin 2 → ℕ}

/-- A read of tile `n` of a row statistic. -/
theorem read_stat {m : Memref sig .tc .vmem S1x16x1x1024 .f32} (h : m.IsWhole) (x : FVec Ideal S1x16x1x1024 .f32) {n : ℕ}
    (inb) (e : off = ![0, n, 0, 0]) (b : Fin 1024) :
    View.readAt (Elt Ideal) m.view (Rect.unit (s := S1x16x1x1024) off S1x1x1x1024.size inb).toLoadRect (h.unread x) (ix4 0 0 0 b)
      = stat x n b := by
  subst e
  have hn : n < 16 := by have := inb 1; simpa using this
  rw [h.readAt_unread]
  refine congrArg x ?_
  idx_ext <;> simp [Nat.mod_eq_of_lt hn]

/-- A read of the query rows of tile `n`. -/
theorem read_q {m : Memref sig .tc .vmem S1x16384x192 .bf16} (h : m.IsWhole) (x : FVec Ideal S1x16384x192 .bf16) {n : ℕ}
    (inb) (e : off3 = ![0, 1024 * n, 0]) (b : Fin 1024) (d : Fin 192) :
    View.readAt (Elt Ideal) m.view (Rect.unit (s := S1x16384x192) off3 S1x1024x192.size inb).toLoadRect (h.unread x) (ix3 0 b d)
      = x (ix3 0 (row n b) d) := by
  subst e
  have hn : 1024 * n + 1024 ≤ 16384 := by have := inb 1; simpa using this
  rw [h.readAt_unread]
  refine congrArg x ?_
  idx_ext <;> simp [Nat.mod_eq_of_lt (show 1024 * n + b.val < 16384 by omega)]

/-- A read of the output gradient's rows of tile `n`. -/
theorem read_do {m : Memref sig .tc .vmem S16384x128 .bf16} (h : m.IsWhole) (x : FVec Ideal S16384x128 .bf16) {n : ℕ}
    (inb) (e : off2 = ![1024 * n, 0]) (b : Fin 1024) (d : Fin 128) :
    View.readAt (Elt Ideal) m.view (Rect.unit (s := S16384x128) off2 S1024x128.size inb).toLoadRect (h.unread x) (ix2 b d)
      = x (ix2 (row n b) d) := by
  subst e
  have hn : 1024 * n + 1024 ≤ 16384 := by have := inb 0; simpa using this
  rw [h.readAt_unread]
  refine congrArg x ?_
  idx_ext <;> simp [Nat.mod_eq_of_lt (show 1024 * n + b.val < 16384 by omega)]

/-- A read of tile `n` of the query gradient. -/
theorem read_dq {m : Memref sig .tc .vmem S1x16x192x1024 .f32} (f : m.view.ty.Contents (Elt Ideal)) {n : ℕ}
    (inb) (i : Fin 16) (e : off = ![0, n, 0, 0]) (hi : i.val = n) (d : Fin 192) (b : Fin 1024) :
    View.readAt (Elt Ideal) m.view (Rect.unit (s := S1x16x192x1024) off S1x1x192x1024.size inb).toLoadRect f (ix4 0 0 d b)
      = m.view.read (Elt Ideal) f (ix4 0 i d b) := by
  subst e
  subst hi
  refine congrArg (m.view.read (Elt Ideal) f) ?_
  idx_ext <;> simp

/-- A read of one of the two slots of a double buffer. -/
theorem read_slot {m : Memref sig .tc .vmem S2x1024x1024 .f32} (f : m.view.ty.Contents (Elt Ideal)) (o : Fin 2)
    (inb) (a b : Fin 1024) :
    View.readAt (Elt Ideal) m.view (Rect.unit (s := S2x1024x1024) ![o.val, 0, 0] S1x1024x1024.size inb).toLoadRect f (ix3 0 a b)
      = m.view.read (Elt Ideal) f (ix3 o a b) := by
  refine congrArg (m.view.read (Elt Ideal) f) ?_
  idx_ext <;> simp

/-! ## And its writes -/

theorem write_slot_hit {m : Memref sig .tc .vmem S2x1024x1024 .f32} (f : m.view.ty.Contents (Elt Ideal)) (o : Fin 2)
    (inb) (w : FVec Ideal S1x1024x1024 .f32) (L) (a b : Fin 1024) :
    m.view.read (Elt Ideal) (m.view.writes (Elt Ideal) f (⟨Rect.unit (s := S2x1024x1024) ![o.val, 0, 0] S1x1024x1024.size inb, w⟩ :: L)) (ix3 o a b)
      = w (ix3 0 a b) :=
  View.read_writes_cons_unit_of_mem m.view f inb w L _ (ix3 0 a b) rfl (by intro k; fin_cases k <;> simp)
theorem write_slot_miss {m : Memref sig .tc .vmem S2x1024x1024 .f32} (f : m.view.ty.Contents (Elt Ideal)) (o o' : Fin 2) (ho : o ≠ o')
    (inb) (w : FVec Ideal S1x1024x1024 .f32) (L) (a b : Fin 1024) :
    m.view.read (Elt Ideal) (m.view.writes (Elt Ideal) f (⟨Rect.unit (s := S2x1024x1024) ![o'.val, 0, 0] S1x1024x1024.size inb, w⟩ :: L)) (ix3 o a b)
      = m.view.read (Elt Ideal) (m.view.writes (Elt Ideal) f L) (ix3 o a b) :=
  View.read_writes_cons_unit_of_not_mem m.view f inb w L _ rfl 0 (by
    have := Fin.val_ne_of_ne ho
    simp only [ix3_0, Matrix.cons_val_zero]
    omega)
theorem write_dq_hit {m : Memref sig .tc .vmem S1x16x192x1024 .f32} (f : m.view.ty.Contents (Elt Ideal)) {n : ℕ}
    (inb) (w : FVec Ideal S1x1x192x1024 .f32) (L) (i : Fin 16) (e : off = ![0, n, 0, 0]) (hi : i.val = n) (d : Fin 192) (b : Fin 1024) :
    m.view.read (Elt Ideal) (m.view.writes (Elt Ideal) f (⟨Rect.unit (s := S1x16x192x1024) off S1x1x192x1024.size inb, w⟩ :: L)) (ix4 0 i d b)
      = w (ix4 0 0 d b) :=
  View.read_writes_cons_unit_of_mem m.view f inb w L _ (ix4 0 0 d b) e (by intro k; fin_cases k <;> simp [hi])
theorem write_dq_miss {m : Memref sig .tc .vmem S1x16x192x1024 .f32} (f : m.view.ty.Contents (Elt Ideal)) {n : ℕ}
    (inb) (w : FVec Ideal S1x1x192x1024 .f32) (L) (i : Fin 16) (e : off = ![0, n, 0, 0]) (hi : i.val ≠ n) (d : Fin 192) (b : Fin 1024) :
    m.view.read (Elt Ideal) (m.view.writes (Elt Ideal) f (⟨Rect.unit (s := S1x16x192x1024) off S1x1x192x1024.size inb, w⟩ :: L)) (ix4 0 i d b)
      = m.view.read (Elt Ideal) (m.view.writes (Elt Ideal) f L) (ix4 0 i d b) :=
  View.read_writes_cons_unit_of_not_mem m.view f inb w L _ e 1 (by
    show i.val < n ∨ n + 1 ≤ i.val
    omega)

end Reads

/-! ## One tile's three additions, its operands read entry by entry -/

section Stage

variable {n : ℕ} {Z G : Fin 1024 → Fin 1024 → EReal} {L E : Fin 1024 → EReal} {x3 : FVec Ideal S1x16384x192 .bf16} {x4 : FVec Ideal S16384x128 .bf16}
  {z : FVec Ideal S1024x1024 .f32} {l e : FVec Ideal S1x1x1x1024 .f32} {g : FVec Ideal S1x1024x1024 .f32}

theorem stage_V (hz : ∀ a b, z (ix2 a b) = Z a b) (hl : ∀ b, l (ix4 0 0 0 b) = L b) {acc : FVec Ideal S1024x128 .f32} {o : FVec Ideal S1024x128 .bf16}
    (ho : ∀ b d, o (ix2 b d) = x4 (ix2 (row n b) d)) (a : Fin 1024) (d : Fin 128) :
    k0_pay15 z l acc o (ix2 a d) = acc (ix2 a d) + toV x4 n (wt Z L) a d := by
  rw [toV_at]
  exact congrArg (fun s : EReal => acc (ix2 a d) + s) (Finset.sum_congr rfl fun b _ => by rw [hz, hl, ho]; rfl)
theorem stage_dz (hz : ∀ a b, z (ix2 a b) = Z a b) (hl : ∀ b, l (ix4 0 0 0 b) = L b) (hg : ∀ a b, g (ix3 0 a b) = G a b)
    (he : ∀ b, e (ix4 0 0 0 b) = E b) (a b : Fin 1024) : k0_pay14 z l g e (ix2 a b) = dz (wt Z L) G E a b := by
  rw [dz_at, hz, hl, hg, he]; rfl
theorem stage_K (hz : ∀ a b, z (ix2 a b) = Z a b) (hl : ∀ b, l (ix4 0 0 0 b) = L b) (hg : ∀ a b, g (ix3 0 a b) = G a b)
    (he : ∀ b, e (ix4 0 0 0 b) = E b) {acc : FVec Ideal S1024x192 .f32} {q : FVec Ideal S1x1024x192 .bf16}
    (hq : ∀ b d, q (ix3 0 b d) = x3 (ix3 0 (row n b) d)) (a : Fin 1024) (d : Fin 192) :
    k0_pay16 z l g e acc q (ix2 a d) = acc (ix2 a d) + toK x3 n (dz (wt Z L) G E) a d := by
  rw [toK_at]
  exact congrArg (fun s : EReal => acc (ix2 a d) + s) (Finset.sum_congr rfl fun b _ => by rw [stage_dz hz hl hg he, hq])
theorem stage_Q (hz : ∀ a b, z (ix2 a b) = Z a b) (hl : ∀ b, l (ix4 0 0 0 b) = L b) (hg : ∀ a b, g (ix3 0 a b) = G a b)
    (he : ∀ b, e (ix4 0 0 0 b) = E b) (K : FVec Ideal S1024x192 .bf16) {acc : FVec Ideal S1x1x192x1024 .f32} (d : Fin 192) (b : Fin 1024) :
    k0_pay53 K (k0_pay14 z l g e) acc (ix4 0 0 d b) = acc (ix4 0 0 d b) + toQ K (dz (wt Z L) G E) d b := by
  rw [toQ_at]
  exact congrArg (fun s : EReal => acc (ix4 0 0 d b) + s) (Finset.sum_congr rfl fun a _ => by rw [stage_dz hz hl hg he])

/-- The first tile of a pair adds to the query gradient as the second does. -/
theorem pair_Q (K : FVec Ideal S1024x192 .bf16) (w : FVec Ideal S1x1024x1024 .f32) (acc : FVec Ideal S1x1x192x1024 .f32) :
    k0_pay9 (k0_pay7 acc) (k0_pay8 K (k0_pay3 w l) g e) = k0_pay53 K (k0_pay14 (k0_pay12 w) l g e) acc := rfl
/-- The diagonal's operations are the same as the loop's. -/
theorem diag_V (acc : FVec Ideal S1024x128 .f32) (o : FVec Ideal S1024x128 .bf16) : k0_pay49 z l acc o = k0_pay15 z l acc o := rfl
theorem diag_K (acc : FVec Ideal S1024x192 .f32) (q : FVec Ideal S1x1024x192 .bf16) :
    k0_pay51 (k0_pay50 z l g e acc q) = k0_pay16 z l g e acc q := rfl
theorem diag_Q (K : FVec Ideal S1024x192 .bf16) (acc : FVec Ideal S1x1x192x1024 .f32) :
    k0_pay52 K (k0_pay48 z l g e) acc = k0_pay53 K (k0_pay14 z l g e) acc := rfl
/-- So are the remainder's. -/
theorem rest_V (w : FVec Ideal S1x1024x1024 .f32) (acc : FVec Ideal S1024x128 .f32) (o : FVec Ideal S1024x128 .bf16) :
    k0_pay35 (F := Ideal) w l acc o = k0_pay15 (F := Ideal) (k0_pay12 w) l acc o := rfl
theorem rest_K (w : FVec Ideal S1x1024x1024 .f32) (acc : FVec Ideal S1024x192 .f32) (q : FVec Ideal S1x1024x192 .bf16) :
    k0_pay55 acc (k0_pay36 (F := Ideal) w l g e q) = k0_pay16 (F := Ideal) (k0_pay12 w) l g e acc q := rfl
theorem rest_Q (w : FVec Ideal S1x1024x1024 .f32) (K : FVec Ideal S1024x192 .bf16) (acc : FVec Ideal S1x1x192x1024 .f32) :
    k0_pay56 K (k0_pay34 w l g e) acc = k0_pay53 K (k0_pay14 (k0_pay12 w) l g e) acc := rfl

end Stage

end Cert.FlashTile

end
-- ==== Proof.FlashLoop.lean ====
/- What the key tile's loop leaves, as sums over the query tiles it visited. -/
module

public import proofs.«01_k».proof.Proof.FlashRun
public import proofs.«01_k».proof.Proof.FlashTile

@[expose] public section

set_option maxRecDepth 16384

noncomputable section

namespace Cert.FlashBwdRun

open Cert.FlashBwdKernelIdeal Cert.FlashBwdKernelIdeal.Gen Cert.FlashTile
open Idealize.ShloMosaic Idealize.ShloMosaic.TcCoe Idealize.SL.Sem

variable (c : Dev nD) (i : grid0.Coords)
  (arg2 : Memref sig .tc .vmem S1x16x1x1024 .f32) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x1024x192 .bf16) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (arg1 : BitVec 32) (v12 : FVec Ideal S1024x192 .bf16) (v14 : FVec Ideal S1024x128 .bf16)
  (x2 : FVec Ideal S1x16x1x1024 .f32) (x3 : FVec Ideal S1x16384x192 .bf16) (x4 : FVec Ideal S16384x128 .bf16) (x5 : FVec Ideal S1x16x1x1024 .f32)

/-- The weights of the key tile against query tile `n`, -/
abbrev wtOf (n : ℕ) : Fin 1024 → Fin 1024 → EReal := wt (zt v12 x3 n) (stat x2 n)
/-- and the scores' gradients. -/
abbrev dzOf (n : ℕ) : Fin 1024 → Fin 1024 → EReal := dz (wtOf v12 x2 x3 n) (gt v14 x4 n) (stat x5 n)

variable (k : Fin (k0_t1_loop i).trips)
  (f8 : Buf (Elt Ideal) (arg8.view.loc (c : Thread nD τ))) (f11 : Buf (Elt Ideal) (arg11.view.loc (c : Thread nD τ)))
  (f12 : Buf (Elt Ideal) (arg12.view.loc (c : Thread nD τ))) (f13 : Buf (Elt Ideal) (arg13.view.loc (c : Thread nD τ)))
  (f14 : Buf (Elt Ideal) (arg14.view.loc (c : Thread nD τ)))

/-- A trip stays within the sequence's sixteen tiles. -/
theorem trips_le : ∀ (i : grid0.Coords) (k : Fin (k0_t1_loop i).trips), (i 1).val + 2 * k.val + 2 ≤ 15 := by decide +kernel

theorem trip_z (a b : Fin 1024) : arg13.view.read (Elt Ideal) (arg13.view.writes (Elt Ideal) f13 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k f8 f11 f12 f13 f14).2.2.2.1) (ix3 1 a b)
    = zt v12 x3 (min ((i 1).val + 2 * k.val + 3) 15) a b := by
  unfold trip; dsimp only
  refine (write_slot_hit f13 1 _ _ _ a b).trans ((scores_at _ _ a b).trans (Finset.sum_congr rfl fun d _ => ?_))
  exact congrArg (fun s : EReal => v12 (ix2 a d) * s) (read_q harg3 x3 _ (off9_two i k) b d)

theorem trip_g (a b : Fin 1024) : arg14.view.read (Elt Ideal) (arg14.view.writes (Elt Ideal) f14 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k f8 f11 f12 f13 f14).2.2.2.2.1) (ix3 1 a b)
    = gt v14 x4 (min ((i 1).val + 2 * k.val + 3) 15) a b := by
  unfold trip; dsimp only
  refine (write_slot_hit f14 1 _ _ _ a b).trans ((grads_at _ _ a b).trans (Finset.sum_congr rfl fun d _ => ?_))
  exact congrArg (fun s : EReal => v14 (ix2 a d) * s) (read_do harg4 x4 _ (off10_two i k) b d)

/-- The tile the trip finds in the second slot, and the one it fetches into the first. -/
theorem trip_z1 (hz : ∀ a b, arg13.view.read (Elt Ideal) f13 (ix3 1 a b) = zt v12 x3 ((i 1).val + 2 * k.val + 1) a b) (a b : Fin 1024) :
    k0_pay12 (View.readAt (Elt Ideal) arg13.view (Rect.unit (s := S2x1024x1024) ![1, 0, 0] S1x1024x1024.size inb_S2x1024x1024_S1x1024x1024_1_0_0).toLoadRect f13) (ix2 a b)
      = zt v12 x3 ((i 1).val + 2 * k.val + 1) a b :=
  (tile_at _ a b).trans ((read_slot f13 1 _ a b).trans (hz a b))
theorem trip_g1 (hg : ∀ a b, arg14.view.read (Elt Ideal) f14 (ix3 1 a b) = gt v14 x4 ((i 1).val + 2 * k.val + 1) a b) (a b : Fin 1024) :
    View.readAt (Elt Ideal) arg14.view (Rect.unit (s := S2x1024x1024) ![1, 0, 0] S1x1024x1024.size inb_S2x1024x1024_S1x1024x1024_1_0_0).toLoadRect f14 (ix3 0 a b)
      = gt v14 x4 ((i 1).val + 2 * k.val + 1) a b :=
  (read_slot f14 1 _ a b).trans (hg a b)
theorem trip_z2 (a b : Fin 1024) : trip.sl.r_3 i arg3 harg3 arg13 v12 x3 k (ix2 a b) = zt v12 x3 ((i 1).val + 2 * k.val + 2) a b := by
  have hk : min ((i 1).val + 2 * k.val + 2) 15 = (i 1).val + 2 * k.val + 2 := min_eq_left (trips_le i k)
  refine (tile_at _ a b).trans ((read_slot _ 0 _ a b).trans ((write_slot_miss _ 0 1 (by decide) _ _ _ a b).trans
    ((write_slot_hit _ 0 _ _ _ a b).trans ((scores_at _ _ a b).trans (Finset.sum_congr rfl fun d _ => ?_)))))
  exact congrArg (fun s : EReal => v12 (ix2 a d) * s) ((read_q harg3 x3 _ (off9_one i k) b d).trans (by rw [hk]))
theorem trip_g2 (a b : Fin 1024) : trip.sl.v228 i arg4 harg4 arg14 v14 x4 k (ix3 0 a b) = gt v14 x4 ((i 1).val + 2 * k.val + 2) a b := by
  have hk : min ((i 1).val + 2 * k.val + 2) 15 = (i 1).val + 2 * k.val + 2 := min_eq_left (trips_le i k)
  refine (read_slot _ 0 _ a b).trans ((write_slot_miss _ 0 1 (by decide) _ _ _ a b).trans
    ((write_slot_hit _ 0 _ _ _ a b).trans ((grads_at _ _ a b).trans (Finset.sum_congr rfl fun d _ => ?_))))
  exact congrArg (fun s : EReal => v14 (ix2 a d) * s) ((read_do harg4 x4 _ (off10_one i k) b d).trans (by rw [hk]))

section Steps

variable (hz : ∀ a b, arg13.view.read (Elt Ideal) f13 (ix3 1 a b) = zt v12 x3 ((i 1).val + 2 * k.val + 1) a b)
    (hg : ∀ a b, arg14.view.read (Elt Ideal) f14 (ix3 1 a b) = gt v14 x4 ((i 1).val + 2 * k.val + 1) a b)

include hz hg

theorem trip_v (a : Fin 1024) (d : Fin 128) : arg12.view.read (Elt Ideal) (arg12.view.writes (Elt Ideal) f12 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k f8 f11 f12 f13 f14).2.2.1) (ix2 a d)
    = arg12.view.read (Elt Ideal) f12 (ix2 a d) + toV x4 ((i 1).val + 2 * k.val + 1) (wtOf v12 x2 x3 ((i 1).val + 2 * k.val + 1)) a d
      + toV x4 ((i 1).val + 2 * k.val + 2) (wtOf v12 x2 x3 ((i 1).val + 2 * k.val + 2)) a d := by
  unfold trip; dsimp only
  refine (congrFun (View.read_writes_full _ _ _ _ _) _).trans ((stage_V (trip_z2 i arg3 harg3 arg13 v12 x3 k)
    (read_stat harg2 x2 _ (off11_two i k)) (read_do harg4 x4 _ (off12_two i k)) a d).trans (congrArg (fun s : EReal => s + _) ?_))
  refine (congrFun (View.readAt_writes_full _ _ _ _ _ _) _).trans ((stage_V (trip_z1 c i arg13 v12 x3 k f13 hz)
    (read_stat harg2 x2 _ (off11_one i k)) (read_do harg4 x4 _ (off12_one i k)) a d).trans (congrArg (fun s : EReal => s + _) ?_))
  exact congrFun (View.readAt_full _ _ _) _

theorem trip_k (a : Fin 1024) (d : Fin 192) : arg11.view.read (Elt Ideal) (arg11.view.writes (Elt Ideal) f11 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k f8 f11 f12 f13 f14).2.1) (ix2 a d)
    = arg11.view.read (Elt Ideal) f11 (ix2 a d) + toK x3 ((i 1).val + 2 * k.val + 1) (dzOf v12 v14 x2 x3 x4 x5 ((i 1).val + 2 * k.val + 1)) a d
      + toK x3 ((i 1).val + 2 * k.val + 2) (dzOf v12 v14 x2 x3 x4 x5 ((i 1).val + 2 * k.val + 2)) a d := by
  unfold trip; dsimp only
  refine (congrFun (View.read_writes_full _ _ _ _ _) _).trans ((stage_K (trip_z2 i arg3 harg3 arg13 v12 x3 k)
    (read_stat harg2 x2 _ (off11_two i k)) (trip_g2 i arg4 harg4 arg14 v14 x4 k) (read_stat harg5 x5 _ (off11_two i k))
    (read_q harg3 x3 _ (off13_two i k)) a d).trans (congrArg (fun s : EReal => s + _) ?_))
  refine (congrFun (View.readAt_writes_full _ _ _ _ _ _) _).trans ((stage_K (trip_z1 c i arg13 v12 x3 k f13 hz)
    (read_stat harg2 x2 _ (off11_one i k)) (trip_g1 c i arg14 v14 x4 k f14 hg) (read_stat harg5 x5 _ (off11_one i k))
    (read_q harg3 x3 _ (off13_one i k)) a d).trans (congrArg (fun s : EReal => s + _) ?_))
  exact congrFun (View.readAt_full _ _ _) _

theorem trip_q (n : Fin 16) (d : Fin 192) (b : Fin 1024) : arg8.view.read (Elt Ideal) (arg8.view.writes (Elt Ideal) f8 (trip c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 k f8 f11 f12 f13 f14).1) (ix4 0 n d b)
    = arg8.view.read (Elt Ideal) f8 (ix4 0 n d b)
      + if n.val = (i 1).val + 2 * k.val + 1 ∨ n.val = (i 1).val + 2 * k.val + 2 then toQ v12 (dzOf v12 v14 x2 x3 x4 x5 n.val) d b else 0 := by
  unfold trip; dsimp only
  by_cases h2 : n.val = (i 1).val + 2 * k.val + 2
  · rw [if_pos (Or.inr h2)]
    refine (write_dq_hit f8 _ _ _ n (off14_two i k) h2 d b).trans ((stage_Q (trip_z2 i arg3 harg3 arg13 v12 x3 k)
      (read_stat harg2 x2 _ (off11_two i k)) (trip_g2 i arg4 harg4 arg14 v14 x4 k) (read_stat harg5 x5 _ (off11_two i k)) v12 d b).trans ?_)
    exact congrArg₂ (fun s t : EReal => s + t) (read_dq f8 _ n (off14_two i k) h2 d b) (by rw [h2])
  · refine (write_dq_miss f8 _ _ _ n (off14_two i k) h2 d b).trans ?_
    by_cases h1 : n.val = (i 1).val + 2 * k.val + 1
    · rw [if_pos (Or.inl h1)]
      refine (write_dq_hit f8 _ _ _ n (off14_one i k) h1 d b).trans ((congrFun (pair_Q v12 _ _) _).trans ((stage_Q (trip_z1 c i arg13 v12 x3 k f13 hz)
        (read_stat harg2 x2 _ (off11_one i k)) (trip_g1 c i arg14 v14 x4 k f14 hg) (read_stat harg5 x5 _ (off11_one i k)) v12 d b).trans ?_))
      exact congrArg₂ (fun s t : EReal => s + t) (read_dq f8 _ n (off14_one i k) h1 d b) (by rw [h1])
    · refine (write_dq_miss f8 _ _ _ n (off14_one i k) h1 d b).trans ?_
      rw [if_neg (by rintro (h | h) <;> contradiction), add_zero]
      rfl

end Steps

end Cert.FlashBwdRun

end
-- ==== Proof.FlashPoint.lean ====
/- One grid point of the attention's backward call: what it adds to the query gradient and leaves in the key and value
   gradients, as sums over the query tiles from the key tile on. -/
module

public import proofs.«01_k».proof.Proof.FlashLoop

@[expose] public section

set_option maxRecDepth 16384

noncomputable section

namespace Cert.FlashBwdRun

open Cert.FlashBwdKernelIdeal Cert.FlashBwdKernelIdeal.Gen Cert.FlashTile
open Idealize.ShloMosaic Idealize.ShloMosaic.TcCoe Idealize.SL.Sem

variable (c : Dev nD) (i : grid0.Coords)
  (arg2 : Memref sig .tc .vmem S1x16x1x1024 .f32) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x1024x192 .bf16) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (arg1 : BitVec 32) (v12 : FVec Ideal S1024x192 .bf16) (v14 : FVec Ideal S1024x128 .bf16)
  (x2 : FVec Ideal S1x16x1x1024 .f32) (x3 : FVec Ideal S1x16384x192 .bf16) (x4 : FVec Ideal S16384x128 .bf16) (x5 : FVec Ideal S1x16x1x1024 .f32)

section Loop

variable (r : Raw (F := Ideal) c arg8 arg11 arg12 arg13 arg14)

/-- Before each trip the second slots hold the next query tile's scores and gradients. -/
theorem loop_slots (hz : ∀ a b, arg13.view.read (Elt Ideal) r.f13 (ix3 1 a b) = zt v12 x3 (min ((i 1).val + 1) 15) a b)
    (hg : ∀ a b, arg14.view.read (Elt Ideal) r.f14 (ix3 1 a b) = gt v14 x4 (min ((i 1).val + 1) 15) a b) (k : ℕ) (hk : k ≤ (k0_t1_loop i).trips) (a b : Fin 1024) :
    arg13.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k).f13 (ix3 1 a b) = zt v12 x3 (min ((i 1).val + 2 * k + 1) 15) a b
      ∧ arg14.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k).f14 (ix3 1 a b) = gt v14 x4 (min ((i 1).val + 2 * k + 1) 15) a b := by
  cases k with
  | zero => exact ⟨hz a b, hg a b⟩
  | succ k =>
    rw [rawAt_succ (k := ⟨k, hk⟩)]
    exact ⟨trip_z c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, hk⟩ _ _ _ _ _ a b, trip_g c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, hk⟩ _ _ _ _ _ a b⟩

variable (hz : ∀ a b, arg13.view.read (Elt Ideal) r.f13 (ix3 1 a b) = zt v12 x3 (min ((i 1).val + 1) 15) a b)
    (hg : ∀ a b, arg14.view.read (Elt Ideal) r.f14 (ix3 1 a b) = gt v14 x4 (min ((i 1).val + 1) 15) a b)

include hz hg

/-- Within the loop that tile is not past the last. -/
theorem loop_next (k : Fin (k0_t1_loop i).trips) (a b : Fin 1024) :
    arg13.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k.val).f13 (ix3 1 a b) = zt v12 x3 ((i 1).val + 2 * k.val + 1) a b
      ∧ arg14.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k.val).f14 (ix3 1 a b) = gt v14 x4 ((i 1).val + 2 * k.val + 1) a b := by
  have h := loop_slots c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg k.val k.isLt.le a b
  rwa [min_eq_left (by have := trips_le i k; omega)] at h

/-- The value gradient before a trip, -/
theorem loop_v (a : Fin 1024) (d : Fin 128) (k : ℕ) (hk : k ≤ (k0_t1_loop i).trips) :
    arg12.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k).f12 (ix2 a d) = arg12.view.read (Elt Ideal) r.f12 (ix2 a d)
      + ∑ p ∈ Finset.range (2 * k), toV x4 ((i 1).val + 1 + p) (wtOf v12 x2 x3 ((i 1).val + 1 + p)) a d := by
  induction k with
  | zero => simp only [Nat.mul_zero, Finset.range_zero, Finset.sum_empty, add_zero]; rfl
  | succ k ih =>
    have hk' : k < (k0_t1_loop i).trips := hk
    have e1 : (i 1).val + 1 + 2 * k = (i 1).val + 2 * k + 1 := by omega
    have e2 : (i 1).val + 1 + (2 * k + 1) = (i 1).val + 2 * k + 2 := by omega
    rw [show 2 * (k + 1) = 2 * k + 1 + 1 by ring, Finset.sum_range_succ, Finset.sum_range_succ, ← add_assoc, ← add_assoc, ← ih hk'.le,
      e1, e2, rawAt_succ (k := ⟨k, hk'⟩)]
    exact trip_v c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, hk'⟩ _ _ _ _ _
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).1)
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).2) a d

/-- the key gradient -/
theorem loop_k (a : Fin 1024) (d : Fin 192) (k : ℕ) (hk : k ≤ (k0_t1_loop i).trips) :
    arg11.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k).f11 (ix2 a d) = arg11.view.read (Elt Ideal) r.f11 (ix2 a d)
      + ∑ p ∈ Finset.range (2 * k), toK x3 ((i 1).val + 1 + p) (dzOf v12 v14 x2 x3 x4 x5 ((i 1).val + 1 + p)) a d := by
  induction k with
  | zero => simp only [Nat.mul_zero, Finset.range_zero, Finset.sum_empty, add_zero]; rfl
  | succ k ih =>
    have hk' : k < (k0_t1_loop i).trips := hk
    have e1 : (i 1).val + 1 + 2 * k = (i 1).val + 2 * k + 1 := by omega
    have e2 : (i 1).val + 1 + (2 * k + 1) = (i 1).val + 2 * k + 2 := by omega
    rw [show 2 * (k + 1) = 2 * k + 1 + 1 by ring, Finset.sum_range_succ, Finset.sum_range_succ, ← add_assoc, ← add_assoc, ← ih hk'.le,
      e1, e2, rawAt_succ (k := ⟨k, hk'⟩)]
    exact trip_k c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, hk'⟩ _ _ _ _ _
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).1)
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).2) a d

/-- and the query gradient. -/
theorem loop_q (n : Fin 16) (d : Fin 192) (b : Fin 1024) (k : ℕ) (hk : k ≤ (k0_t1_loop i).trips) :
    arg8.view.read (Elt Ideal) (rawAt c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r k).f8 (ix4 0 n d b) = arg8.view.read (Elt Ideal) r.f8 (ix4 0 n d b)
      + if (i 1).val < n.val ∧ n.val ≤ (i 1).val + 2 * k then toQ v12 (dzOf v12 v14 x2 x3 x4 x5 n.val) d b else 0 := by
  induction k with
  | zero => rw [if_neg (by omega), add_zero]; rfl
  | succ k ih =>
    have hk' : k < (k0_t1_loop i).trips := hk
    rw [rawAt_succ (k := ⟨k, hk'⟩)]
    refine (trip_q c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 ⟨k, hk'⟩ _ _ _ _ _
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).1)
      (fun a b => (loop_next c i arg2 harg2 arg3 harg3 arg4 harg4 arg5 harg5 arg6 harg6 arg7 harg7 arg8 harg8 arg9 harg9 arg10 harg10 arg11 harg11 arg12 harg12 arg13 harg13 arg14 harg14 arg1 v12 v14 x2 x3 x4 x5 r hz hg ⟨k, hk'⟩ a b).2) n d b).trans ?_
    rw [ih hk'.le, add_assoc]
    refine congrArg (fun s : EReal => _ + s) ?_
    by_cases h1 : (i 1).val < n.val ∧ n.val ≤ (i 1).val + 2 * k
    · rw [if_pos h1, if_neg (by simp only []; omega), if_pos (by omega), add_zero]
    · by_cases h2 : n.val = (i 1).val + 2 * k + 1 ∨ n.val = (i 1).val + 2 * k + 2
      · rw [if_neg h1, if_pos h2, if_pos (by omega), zero_add]
      · rw [if_neg h1, if_neg h2, if_neg (by omega), zero_add]

end Loop

/-! ## The stages before and after the loop -/

variable (x6 : FVec Ideal S1x1024x192 .bf16) (x7 : FVec Ideal S1024x128 .bf16)

/-- The key tile -/
abbrev keyTile : FVec Ideal S1024x192 .bf16 :=
  k0_pay40 (View.readAt (Elt Ideal) arg6.view (Rect.unit (s := S1x1024x192) ![0, 0, 0] S1x1024x192.size inb_S1x1024x192_S1x1024x192_0_0_0).toLoadRect (harg6.unread x6))
/-- and the value tile, as the body reads them. -/
abbrev valTile : FVec Ideal S1024x128 .bf16 :=
  k0_pay41 (View.readAt (Elt Ideal) arg7.view (Rect.unit (s := S1024x128) ![0, 0] S1024x128.size inb_S1024x128_S1024x128_0_0).toLoadRect (harg7.unread x7))
/-- What the body has stored in the slots before the loop. -/
abbrev slots13 : List (View.Piece (Elt Ideal) S2x1024x1024 .f32) :=
  [⟨Rect.unit (s := S2x1024x1024) ![1, 0, 0] S1x1024x1024.size inb_S2x1024x1024_S1x1024x1024_1_0_0,
      k0_pay44 (keyTile arg6 harg6 x6) (View.readAt (Elt Ideal) arg3.view (Rect.unit (s := S1x16384x192) (k0_off3 i) S1x1024x192.size (k0_off3_inb i)).toLoadRect (harg3.unread x3))⟩,
    ⟨Rect.unit (s := S2x1024x1024) ![0, 0, 0] S1x1024x1024.size inb_S2x1024x1024_S1x1024x1024_0_0_0,
      k0_pay44 (keyTile arg6 harg6 x6) (View.readAt (Elt Ideal) arg3.view (Rect.unit (s := S1x16384x192) (k0_off1 i) S1x1024x192.size (k0_off1_inb i)).toLoadRect (harg3.unread x3))⟩]
abbrev slots14 : List (View.Piece (Elt Ideal) S2x1024x1024 .f32) :=
  [⟨Rect.unit (s := S2x1024x1024) ![1, 0, 0] S1x1024x1024.size inb_S2x1024x1024_S1x1024x1024_1_0_0,
      k0_pay45 (valTile arg7 harg7 x7) (View.readAt (Elt Ideal) arg4.view (Rect.unit (s := S16384x128) (k0_off4 i) S1024x128.size (k0_off4_inb i)).toLoadRect (harg4.unread x4))⟩,
    ⟨Rect.unit (s := S2x1024x1024) ![0, 0, 0] S1x1024x1024.size inb_S2x1024x1024_S1x1024x1024_0_0_0,
      k0_pay45 (valTile arg7 harg7 x7) (View.readAt (Elt Ideal) arg4.view (Rect.unit (s := S16384x128) (k0_off2 i) S1024x128.size (k0_off2_inb i)).toLoadRect (harg4.unread x4))⟩]
/-- The masked scores on the diagonal, -/
abbrev diagZ : FVec Ideal S1024x1024 .f32 :=
  k0_pay46 (arg13.view.readCov (slots13 i arg3 harg3 arg6 harg6 x3 x6) (Rect.unit (s := S2x1024x1024) ![0, 0, 0] S1x1024x1024.size inb_S2x1024x1024_S1x1024x1024_0_0_0).toLoadRect)
/-- the gradients, -/
abbrev diagG : FVec Ideal S1x1024x1024 .f32 :=
  arg14.view.readCov (slots14 i arg4 harg4 arg7 harg7 x4 x7) (Rect.unit (s := S2x1024x1024) ![0, 0, 0] S1x1024x1024.size inb_S2x1024x1024_S1x1024x1024_0_0_0).toLoadRect
/-- and the two row statistics. -/
abbrev diagS (m : Memref sig .tc .vmem S1x16x1x1024 .f32) (hm : m.IsWhole) (x : FVec Ideal S1x16x1x1024 .f32) : FVec Ideal S1x1x1x1024 .f32 :=
  View.readAt (Elt Ideal) m.view (Rect.unit (s := S1x16x1x1024) (k0_off5 i) S1x1x1x1024.size (k0_off5_inb i)).toLoadRect (hm.unread x)
/-- The five buffers after the first stage, the query gradient holding `f8` before it. -/
@[irreducible] def entry (f8 : Buf (Elt Ideal) (arg8.view.loc (c : Thread nD τ))) : Raw (F := Ideal) c arg8 arg11 arg12 arg13 arg14 :=
  ⟨arg8.view.writes (Elt Ideal) f8 [⟨Rect.unit (s := S1x16x192x1024) (k0_off8 i) S1x1x192x1024.size (k0_off8_inb i),
      k0_pay52 (keyTile arg6 harg6 x6) (k0_pay48 (diagZ i arg3 harg3 arg6 harg6 arg13 x3 x6) (diagS i arg2 harg2 x2) (diagG i arg4 harg4 arg7 harg7 arg14 x4 x7) (diagS i arg5 harg5 x5))
        (View.readAt (Elt Ideal) arg8.view (Rect.unit (s := S1x16x192x1024) (k0_off8 i) S1x1x192x1024.size (k0_off8_inb i)).toLoadRect f8)⟩],
    arg11.view.writes (Elt Ideal) arg11.view.junk [⟨Rect.unit (s := S1024x192) ![0, 0] S1024x192.size inb_S1024x192_S1024x192_0_0,
      k0_pay51 (k0_pay50 (diagZ i arg3 harg3 arg6 harg6 arg13 x3 x6) (diagS i arg2 harg2 x2) (diagG i arg4 harg4 arg7 harg7 arg14 x4 x7) (diagS i arg5 harg5 x5)
        (arg11.view.readCov [⟨Rect.unit (s := S1024x192) ![0, 0] S1024x192.size inb_S1024x192_S1024x192_0_0, k0_pay38 (F := Ideal)⟩] (Rect.unit (s := S1024x192) ![0, 0] S1024x192.size inb_S1024x192_S1024x192_0_0).toLoadRect)
        (View.readAt (Elt Ideal) arg3.view (Rect.unit (s := S1x16384x192) (k0_off7 i) S1x1024x192.size (k0_off7_inb i)).toLoadRect (harg3.unread x3)))⟩,
      ⟨Rect.unit (s := S1024x192) ![0, 0] S1024x192.size inb_S1024x192_S1024x192_0_0, k0_pay38 (F := Ideal)⟩],
    arg12.view.writes (Elt Ideal) arg12.view.junk [⟨Rect.unit (s := S1024x128) ![0, 0] S1024x128.size inb_S1024x128_S1024x128_0_0,
      k0_pay49 (diagZ i arg3 harg3 arg6 harg6 arg13 x3 x6) (diagS i arg2 harg2 x2)
        (arg12.view.readCov [⟨Rect.unit (s := S1024x128) ![0, 0] S1024x128.size inb_S1024x128_S1024x128_0_0, k0_pay39 (F := Ideal)⟩] (Rect.unit (s := S1024x128) ![0, 0] S1024x128.size inb_S1024x128_S1024x128_0_0).toLoadRect)
        (View.readAt (Elt Ideal) arg4.view (Rect.unit (s := S16384x128) (k0_off6 i) S1024x128.size (k0_off6_inb i)).toLoadRect (harg4.unread x4))⟩,
      ⟨Rect.unit (s := S1024x128) ![0, 0] S1024x128.size inb_S1024x128_S1024x128_0_0, k0_pay39 (F := Ideal)⟩],
    arg13.view.writes (Elt Ideal) arg13.view.junk (slots13 i arg3 harg3 arg6 harg6 x3 x6),
    arg14.view.writes (Elt Ideal) arg14.view.junk (slots14 i arg4 harg4 arg7 harg7 x4 x7)⟩

theorem keyTile_at (a : Fin 1024) (d : Fin 192) : (keyTile arg6 harg6 x6) (ix2 a d) = x6 (ix3 0 a d) := by
  have h : ∀ v : FVec Ideal S1x1024x192 .bf16, k0_pay40 v (ix2 a d) = v (ix3 0 a d) := fun v => by pointwise [k0_pay40]
  refine (h _).trans ((congrFun (View.readAt_full _ _ _) _).trans (congrFun (harg6.read_unread _) _))
theorem valTile_at (a : Fin 1024) (d : Fin 128) : (valTile arg7 harg7 x7) (ix2 a d) = x7 (ix2 a d) := by
  have h : ∀ v : FVec Ideal S1024x128 .bf16, k0_pay41 v (ix2 a d) = v (ix2 a d) := fun v => by pointwise [k0_pay41]
  refine (h _).trans ((congrFun (View.readAt_full _ _ _) _).trans (congrFun (harg7.read_unread _) _))

theorem slots_z (a b : Fin 1024) : arg13.view.read (Elt Ideal) (arg13.view.writes (Elt Ideal) arg13.view.junk (slots13 i arg3 harg3 arg6 harg6 x3 x6)) (ix3 1 a b)
    = zt (keyTile arg6 harg6 x6) x3 (min ((i 1).val + 1) 15) a b := by
  refine (write_slot_hit _ 1 _ _ _ a b).trans ((scores_at _ _ a b).trans (Finset.sum_congr rfl fun d _ => ?_))
  exact congrArg (fun s : EReal => _ * s) (read_q harg3 x3 _ (k0_off3_eq i) b d)
theorem slots_g (a b : Fin 1024) : arg14.view.read (Elt Ideal) (arg14.view.writes (Elt Ideal) arg14.view.junk (slots14 i arg4 harg4 arg7 harg7 x4 x7)) (ix3 1 a b)
    = gt (valTile arg7 harg7 x7) x4 (min ((i 1).val + 1) 15) a b := by
  refine (write_slot_hit _ 1 _ _ _ a b).trans ((grads_at _ _ a b).trans (Finset.sum_congr rfl fun d _ => ?_))
  exact congrArg (fun s : EReal => _ * s) (read_do harg4 x4 _ (k0_off4_eq i) b d)
theorem diag_z (a b : Fin 1024) : diagZ i arg3 harg3 arg6 harg6 arg13 x3 x6 (ix2 a b) = below (zt (keyTile arg6 harg6 x6) x3 (i 1).val) a b := by
  refine (masked_at _ a b).trans ?_
  have h : arg13.view.readCov (slots13 i arg3 harg3 arg6 harg6 x3 x6) (Rect.unit (s := S2x1024x1024) ![0, 0, 0] S1x1024x1024.size inb_S2x1024x1024_S1x1024x1024_0_0_0).toLoadRect (ix3 0 a b)
      = zt (keyTile arg6 harg6 x6) x3 (i 1).val a b := by
    refine (read_slot _ 0 _ a b).trans ((write_slot_miss _ 0 1 (by decide) _ _ _ a b).trans
      ((write_slot_hit _ 0 _ _ _ a b).trans ((scores_at _ _ a b).trans (Finset.sum_congr rfl fun d _ => ?_))))
    exact congrArg (fun s : EReal => _ * s) (read_q harg3 x3 _ (k0_off1_eq i) b d)
  rw [h, below]
theorem diag_g (a b : Fin 1024) : diagG i arg4 harg4 arg7 harg7 arg14 x4 x7 (ix3 0 a b) = gt (valTile arg7 harg7 x7) x4 (i 1).val a b := by
  refine (read_slot _ 0 _ a b).trans ((write_slot_miss _ 0 1 (by decide) _ _ _ a b).trans
      ((write_slot_hit _ 0 _ _ _ a b).trans ((grads_at _ _ a b).trans (Finset.sum_congr rfl fun d _ => ?_))))
  exact congrArg (fun s : EReal => _ * s) (read_do harg4 x4 _ (k0_off2_eq i) b d)

/-- The weights of key tile `j` against query tile `n`: zero where the key comes after the query. -/
def wtF (K : FVec Ideal S1024x192 .bf16) (x2 : FVec Ideal S1x16x1x1024 .f32) (x3 : FVec Ideal S1x16384x192 .bf16) (j n : ℕ) (a b : Fin 1024) : EReal :=
  if 1024 * j + a.val ≤ 1024 * n + b.val then Ideal.exp (zt K x3 n a b - stat x2 n b) else 0
/-- The scores' gradients of key tile `j` against query tile `n`. -/
def dzF (K : FVec Ideal S1024x192 .bf16) (V : FVec Ideal S1024x128 .bf16) (x2 : FVec Ideal S1x16x1x1024 .f32) (x3 : FVec Ideal S1x16384x192 .bf16)
    (x4 : FVec Ideal S16384x128 .bf16) (x5 : FVec Ideal S1x16x1x1024 .f32) (j n : ℕ) : Fin 1024 → Fin 1024 → EReal :=
  dz (wtF K x2 x3 j n) (gt V x4 n) (stat x5 n)

section Masks

variable (K : FVec Ideal S1024x192 .bf16) (V : FVec Ideal S1024x128 .bf16) (j n : ℕ)

theorem exp_below (x l : EReal) : Ideal.exp ((⊥ : EReal) - l) = 0 := by
  rw [sub_eq_add_neg, EReal.bot_add]
  exact Ideal.exp_bot
theorem wtF_diag : wtF K x2 x3 j j = wt (below (zt K x3 j)) (stat x2 j) := by
  funext a b
  unfold wtF wt below
  by_cases h : a ≤ b
  · have h' : a.val ≤ b.val := h
    rw [if_pos h, if_pos (by omega)]
  · have h' : ¬a.val ≤ b.val := h
    rw [if_neg h, if_neg (by omega), exp_below 0]
theorem wtF_later (h : j < n) : wtF K x2 x3 j n = wt (zt K x3 n) (stat x2 n) := by
  funext a b
  unfold wtF wt
  rw [if_pos (by omega)]
theorem wtF_earlier (h : n < j) : wtF K x2 x3 j n = fun _ _ => 0 := by
  funext a b
  unfold wtF
  rw [if_neg (by omega)]
theorem dzF_earlier (h : n < j) : dzF K V x2 x3 x4 x5 j n = fun _ _ => 0 := by
  funext a b
  unfold dzF dz
  rw [wtF_earlier _ _ _ _ _ h, zero_mul]
theorem toV_earlier (h : n < j) (a : Fin 1024) (d : Fin 128) : toV x4 n (wtF K x2 x3 j n) a d = 0 := by
  rw [wtF_earlier _ _ _ _ _ h]
  exact Finset.sum_eq_zero fun b _ => zero_mul _
theorem toK_earlier (h : n < j) (a : Fin 1024) (d : Fin 192) : toK x3 n (dzF K V x2 x3 x4 x5 j n) a d = 0 := by
  rw [dzF_earlier _ _ _ _ _ _ _ _ h]
  exact Finset.sum_eq_zero fun b _ => zero_mul _
theorem toQ_earlier (h : n < j) (d : Fin 192) (b : Fin 1024) : toQ K (dzF K V x2 x3 x4 x5 j n) d b = 0 := by
  rw [dzF_earlier _ _ _ _ _ _ _ _ h]
  exact Finset.sum_eq_zero fun b _ => mul_zero _
/-- A sum over the query tiles is the diagonal's term and the later ones'. -/
theorem sum_tiles (f : ℕ → EReal) (j m : ℕ) (h0 : ∀ n, n < j → f n = 0) :
    ∑ n ∈ Finset.range (j + 1 + m), f n = f j + ∑ p ∈ Finset.range m, f (j + 1 + p) := by
  rw [Finset.sum_range_add, Finset.sum_range_succ, Finset.sum_eq_zero fun n hn => h0 n (Finset.mem_range.mp hn), zero_add]

end Masks

section Point

variable (f8 : Buf (Elt Ideal) (arg8.view.loc (c : Thread nD τ)))

theorem entry_z (a b : Fin 1024) : arg13.view.read (Elt Ideal) (entry c i arg2 harg2 arg3 harg3 arg4 harg4 arg5 harg5 arg6 harg6 arg7 harg7 arg8 arg11 arg12 arg13 arg14 x2 x3 x4 x5 x6 x7 f8).f13 (ix3 1 a b) = zt (keyTile arg6 harg6 x6) x3 (min ((i 1).val + 1) 15) a b := by
  unfold entry; dsimp only
  exact slots_z i arg3 harg3 arg6 harg6 arg13 x3 x6 a b
theorem entry_g (a b : Fin 1024) : arg14.view.read (Elt Ideal) (entry c i arg2 harg2 arg3 harg3 arg4 harg4 arg5 harg5 arg6 harg6 arg7 harg7 arg8 arg11 arg12 arg13 arg14 x2 x3 x4 x5 x6 x7 f8).f14 (ix3 1 a b) = gt (valTile arg7 harg7 x7) x4 (min ((i 1).val + 1) 15) a b := by
  unfold entry; dsimp only
  exact slots_g i arg4 harg4 arg7 harg7 arg14 x4 x7 a b
theorem entry_v (a : Fin 1024) (d : Fin 128) : arg12.view.read (Elt Ideal) (entry c i arg2 harg2 arg3 harg3 arg4 harg4 arg5 harg5 arg6 harg6 arg7 harg7 arg8 arg11 arg12 arg13 arg14 x2 x3 x4 x5 x6 x7 f8).f12 (ix2 a d)
    = toV x4 (i 1).val (wtF (keyTile arg6 harg6 x6) x2 x3 (i 1).val (i 1).val) a d := by
  rw [wtF_diag]
  unfold entry; dsimp only
  refine (congrFun (View.read_writes_full _ _ _ _ _) _).trans ((congrFun (diag_V _ _) _).trans ((stage_V (diag_z i arg3 harg3 arg6 harg6 arg13 x3 x6)
    (read_stat harg2 x2 _ (k0_off5_eq i)) (read_do harg4 x4 _ (k0_off6_eq i)) a d).trans ?_))
  refine (congrArg (fun s : EReal => s + _) ((congrFun (View.readCov_full _ _ _ _ _) _).trans ?_)).trans (zero_add _)
  pointwise [k0_pay39]
theorem entry_k (a : Fin 1024) (d : Fin 192) : arg11.view.read (Elt Ideal) (entry c i arg2 harg2 arg3 harg3 arg4 harg4 arg5 harg5 arg6 harg6 arg7 harg7 arg8 arg11 arg12 arg13 arg14 x2 x3 x4 x5 x6 x7 f8).f11 (ix2 a d)
    = toK x3 (i 1).val (dzF (keyTile arg6 harg6 x6) (valTile arg7 harg7 x7) x2 x3 x4 x5 (i 1).val (i 1).val) a d := by
  rw [dzF, wtF_diag]
  unfold entry; dsimp only
  refine (congrFun (View.read_writes_full _ _ _ _ _) _).trans ((congrFun (diag_K _ _) _).trans ((stage_K (diag_z i arg3 harg3 arg6 harg6 arg13 x3 x6)
    (read_stat harg2 x2 _ (k0_off5_eq i)) (diag_g i arg4 harg4 arg7 harg7 arg14 x4 x7) (read_stat harg5 x5 _ (k0_off5_eq i))
    (read_q harg3 x3 _ (k0_off7_eq i)) a d).trans ?_))
  refine (congrArg (fun s : EReal => s + _) ((congrFun (View.readCov_full _ _ _ _ _) _).trans ?_)).trans (zero_add _)
  pointwise [k0_pay38]
theorem entry_q (n : Fin 16) (d : Fin 192) (b : Fin 1024) : arg8.view.read (Elt Ideal) (entry c i arg2 harg2 arg3 harg3 arg4 harg4 arg5 harg5 arg6 harg6 arg7 harg7 arg8 arg11 arg12 arg13 arg14 x2 x3 x4 x5 x6 x7 f8).f8 (ix4 0 n d b)
    = arg8.view.read (Elt Ideal) f8 (ix4 0 n d b)
      + if n.val = (i 1).val then toQ (keyTile arg6 harg6 x6) (dzF (keyTile arg6 harg6 x6) (valTile arg7 harg7 x7) x2 x3 x4 x5 (i 1).val n.val) d b else 0 := by
  unfold entry; dsimp only
  by_cases h : n.val = (i 1).val
  · rw [if_pos h, dzF, h, wtF_diag]
    refine (write_dq_hit f8 _ _ _ n (k0_off8_eq i) h d b).trans ((congrFun (diag_Q _ _) _).trans ((stage_Q (diag_z i arg3 harg3 arg6 harg6 arg13 x3 x6)
      (read_stat harg2 x2 _ (k0_off5_eq i)) (diag_g i arg4 harg4 arg7 harg7 arg14 x4 x7) (read_stat harg5 x5 _ (k0_off5_eq i)) _ d b).trans ?_))
    exact congrArg (fun s : EReal => s + _) (read_dq f8 _ n (k0_off8_eq i) h d b)
  · rw [if_neg h, add_zero]
    exact write_dq_miss f8 _ _ _ n (k0_off8_eq i) h d b

/-- The five buffers after the loop. -/
abbrev looped : Raw (F := Ideal) c arg8 arg11 arg12 arg13 arg14 :=
  rawAt c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (k0_t1_loop i).trips

theorem looped_v (a : Fin 1024) (d : Fin 128) : arg12.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f12 (ix2 a d)
    = ∑ n ∈ Finset.range ((i 1).val + 1 + 2 * (k0_t1_loop i).trips), toV x4 n (wtF (keyTile arg6 harg6 x6) x2 x3 (i 1).val n) a d := by
  refine (loop_v c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) a d _ le_rfl).trans ?_
  rw [entry_v, sum_tiles _ _ _ fun n hn => toV_earlier x2 x3 x4 (keyTile arg6 harg6 x6) _ n hn a d]
  refine congrArg (fun s : EReal => _ + s) (Finset.sum_congr rfl fun p _ => ?_)
  rw [wtF_later _ _ _ _ _ (by omega)]
theorem looped_k (a : Fin 1024) (d : Fin 192) : arg11.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f11 (ix2 a d)
    = ∑ n ∈ Finset.range ((i 1).val + 1 + 2 * (k0_t1_loop i).trips), toK x3 n (dzF (keyTile arg6 harg6 x6) (valTile arg7 harg7 x7) x2 x3 x4 x5 (i 1).val n) a d := by
  refine (loop_k c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) a d _ le_rfl).trans ?_
  rw [entry_k, sum_tiles _ _ _ fun n hn => toK_earlier x2 x3 x4 x5 (keyTile arg6 harg6 x6) (valTile arg7 harg7 x7) _ n hn a d]
  refine congrArg (fun s : EReal => _ + s) (Finset.sum_congr rfl fun p _ => ?_)
  rw [dzF, wtF_later _ _ _ _ _ (by omega)]
theorem looped_q (n : Fin 16) (hn : n.val ≤ (i 1).val + 2 * (k0_t1_loop i).trips) (d : Fin 192) (b : Fin 1024) : arg8.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f8 (ix4 0 n d b)
    = arg8.view.read (Elt Ideal) f8 (ix4 0 n d b) + toQ (keyTile arg6 harg6 x6) (dzF (keyTile arg6 harg6 x6) (valTile arg7 harg7 x7) x2 x3 x4 x5 (i 1).val n.val) d b := by
  refine (loop_q c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) n d b _ le_rfl).trans ?_
  rw [entry_q, add_assoc]
  refine congrArg (fun s : EReal => _ + s) ?_
  rcases Nat.lt_trichotomy n.val (i 1).val with h | h | h
  · rw [if_neg (by omega), if_neg (by omega), zero_add, toQ_earlier _ _ _ _ _ _ _ _ h]
  · rw [if_pos h, if_neg (by omega), add_zero]
  · rw [if_neg (by omega), if_pos ⟨h, hn⟩, zero_add, dzF, wtF_later _ _ _ _ _ h]
theorem looped_q_past (n : Fin 16) (hn : (i 1).val + 2 * (k0_t1_loop i).trips < n.val) (d : Fin 192) (b : Fin 1024) : arg8.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f8 (ix4 0 n d b)
    = arg8.view.read (Elt Ideal) f8 (ix4 0 n d b) := by
  refine (loop_q c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) n d b _ le_rfl).trans ?_
  rw [entry_q, add_assoc, if_neg (by omega), if_neg (by omega), add_zero, add_zero]
theorem looped_z (a b : Fin 1024) : arg13.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f13 (ix3 1 a b) = zt (keyTile arg6 harg6 x6) x3 (min ((i 1).val + 2 * (k0_t1_loop i).trips + 1) 15) a b :=
  (loop_slots c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) _ le_rfl a b).1
theorem looped_g (a b : Fin 1024) : arg14.view.read (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f14 (ix3 1 a b) = gt (valTile arg7 harg7 x7) x4 (min ((i 1).val + 2 * (k0_t1_loop i).trips + 1) 15) a b :=
  (loop_slots c i arg2 harg2 arg3 harg3 arg4 harg4 arg5 harg5 arg6 harg6 arg7 harg7 arg8 harg8 arg9 harg9 arg10 harg10 arg11 harg11 arg12 harg12 arg13 harg13 arg14 harg14 (BitVec.ofNat 32 (i 1).val) (keyTile arg6 harg6 x6) (valTile arg7 harg7 x7) x2 x3 x4 x5 (entry c i arg2 harg2 arg3 harg3 arg4 harg4 arg5 harg5 arg6 harg6 arg7 harg7 arg8 arg11 arg12 arg13 arg14 x2 x3 x4 x5 x6 x7 f8) (entry_z c i arg2 harg2 arg3 harg3 arg4 harg4 arg5 harg5 arg6 harg6 arg7 harg7 arg8 arg11 arg12 arg13 arg14 x2 x3 x4 x5 x6 x7 f8) (entry_g c i arg2 harg2 arg3 harg3 arg4 harg4 arg5 harg5 arg6 harg6 arg7 harg7 arg8 arg11 arg12 arg13 arg14 x2 x3 x4 x5 x6 x7 f8) _ le_rfl a b).2

end Point

end Cert.FlashBwdRun

end
-- ==== Proof.FlashEnds.lean ====
/- The attention's backward body at a grid point: its run's three results are the loop's, with one tile more where the
   number of later query tiles is odd. -/
module

public import proofs.«01_k».proof.Proof.FlashPoint

@[expose] public section

set_option maxRecDepth 16384

noncomputable section

namespace Cert.FlashBwdRun

open Cert.FlashBwdKernelIdeal Cert.FlashBwdKernelIdeal.Gen Cert.FlashTile
open Idealize.ShloMosaic Idealize.ShloMosaic.TcCoe Idealize.SL.Sem

variable (c : Dev nD) (i : grid0.Coords)
  (arg2 : Memref sig .tc .vmem S1x16x1x1024 .f32) (harg2 : arg2.IsWhole)
  (arg3 : Memref sig .tc .vmem S1x16384x192 .bf16) (harg3 : arg3.IsWhole)
  (arg4 : Memref sig .tc .vmem S16384x128 .bf16) (harg4 : arg4.IsWhole)
  (arg5 : Memref sig .tc .vmem S1x16x1x1024 .f32) (harg5 : arg5.IsWhole)
  (arg6 : Memref sig .tc .vmem S1x1024x192 .bf16) (harg6 : arg6.IsWhole)
  (arg7 : Memref sig .tc .vmem S1024x128 .bf16) (harg7 : arg7.IsWhole)
  (arg8 : Memref sig .tc .vmem S1x16x192x1024 .f32) (harg8 : arg8.IsWhole)
  (arg9 : Memref sig .tc .vmem S1x1024x192 .f32) (harg9 : arg9.IsWhole)
  (arg10 : Memref sig .tc .vmem S1024x128 .f32) (harg10 : arg10.IsWhole)
  (arg11 : Memref sig .tc .vmem S1024x192 .f32) (harg11 : arg11.IsWhole)
  (arg12 : Memref sig .tc .vmem S1024x128 .f32) (harg12 : arg12.IsWhole)
  (arg13 : Memref sig .tc .vmem S2x1024x1024 .f32) (harg13 : arg13.IsWhole)
  (arg14 : Memref sig .tc .vmem S2x1024x1024 .f32) (harg14 : arg14.IsWhole)
  (arg1 : BitVec 32) (v12 : FVec Ideal S1024x192 .bf16) (v14 : FVec Ideal S1024x128 .bf16)
  (x2 : FVec Ideal S1x16x1x1024 .f32) (x3 : FVec Ideal S1x16384x192 .bf16) (x4 : FVec Ideal S16384x128 .bf16) (x5 : FVec Ideal S1x16x1x1024 .f32)

variable (x6 : FVec Ideal S1x1024x192 .bf16) (x7 : FVec Ideal S1024x128 .bf16) (f8 : Buf (Elt Ideal) (arg8.view.loc (c : Thread nD τ)))

/-- Sixteen tiles are visited in all: by the loop with its remainder, -/
theorem visited_odd : ∀ i : grid0.Coords, k0_cond2 i = 1#1 → (i 1).val + 2 * (k0_t1_loop i).trips = 14 := by decide +kernel
/-- or by the loop alone. -/
theorem visited_even : ∀ i : grid0.Coords, ¬k0_cond2 i = 1#1 → (i 1).val + 2 * (k0_t1_loop i).trips = 15 := by decide +kernel

/-- The value gradient with the remaining tile, -/
def restV : FVec Ideal S1024x128 .f32 := k0_pay35 (View.readAt (Elt Ideal) arg13.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f13) (View.readAt (Elt Ideal) arg2.view (Rect.unit (s := S1x16x1x1024) ![0, 15, 0, 0] S1x1x1x1024.size inb_S1x16x1x1024_S1x1x1x1024_0_15_0_0).toLoadRect (harg2.unread x2)) (View.readAt (Elt Ideal) arg12.view (Rect.unit (s := S1024x128) ![0, 0] S1024x128.size inb_S1024x128_S1024x128_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f12) (View.readAt (Elt Ideal) arg4.view (Rect.unit (s := S16384x128) ![15360, 0] S1024x128.size inb_S16384x128_S1024x128_15360_0).toLoadRect (harg4.unread x4))
/-- the key gradient -/
def restK : FVec Ideal S1024x192 .f32 := k0_pay55 (View.readAt (Elt Ideal) arg11.view (Rect.unit (s := S1024x192) ![0, 0] S1024x192.size inb_S1024x192_S1024x192_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f11) (k0_pay36 (View.readAt (Elt Ideal) arg13.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f13) (View.readAt (Elt Ideal) arg2.view (Rect.unit (s := S1x16x1x1024) ![0, 15, 0, 0] S1x1x1x1024.size inb_S1x16x1x1024_S1x1x1x1024_0_15_0_0).toLoadRect (harg2.unread x2)) (View.readAt (Elt Ideal) arg14.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f14) (View.readAt (Elt Ideal) arg5.view (Rect.unit (s := S1x16x1x1024) ![0, 15, 0, 0] S1x1x1x1024.size inb_S1x16x1x1024_S1x1x1x1024_0_15_0_0).toLoadRect (harg5.unread x5)) (View.readAt (Elt Ideal) arg3.view (Rect.unit (s := S1x16384x192) ![0, 15360, 0] S1x1024x192.size inb_S1x16384x192_S1x1024x192_0_15360_0).toLoadRect (harg3.unread x3)))
/-- and the query gradient. -/
def restQ : Buf (Elt Ideal) (arg8.view.loc (c : Thread nD τ)) :=
  arg8.view.writes (Elt Ideal) (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f8 [⟨Rect.unit (s := S1x16x192x1024) ![0, 15, 0, 0] S1x1x192x1024.size inb_S1x16x192x1024_S1x1x192x1024_0_15_0_0, k0_pay56 (keyTile arg6 harg6 x6) (k0_pay34 (View.readAt (Elt Ideal) arg13.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f13) (View.readAt (Elt Ideal) arg2.view (Rect.unit (s := S1x16x1x1024) ![0, 15, 0, 0] S1x1x1x1024.size inb_S1x16x1x1024_S1x1x1x1024_0_15_0_0).toLoadRect (harg2.unread x2)) (View.readAt (Elt Ideal) arg14.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f14) (View.readAt (Elt Ideal) arg5.view (Rect.unit (s := S1x16x1x1024) ![0, 15, 0, 0] S1x1x1x1024.size inb_S1x16x1x1024_S1x1x1x1024_0_15_0_0).toLoadRect (harg5.unread x5))) (View.readAt (Elt Ideal) arg8.view (Rect.unit (s := S1x16x192x1024) ![0, 15, 0, 0] S1x1x192x1024.size inb_S1x16x192x1024_S1x1x192x1024_0_15_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f8)⟩]

section Rest

variable (h1 : k0_cond2 i = 1#1)
include h1

theorem last_z (a b : Fin 1024) : k0_pay12 (View.readAt (Elt Ideal) arg13.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f13) (ix2 a b) = zt (keyTile arg6 harg6 x6) x3 15 a b := by
  refine (tile_at _ a b).trans ((read_slot _ 1 _ a b).trans ((looped_z c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 a b).trans ?_))
  rw [visited_odd i h1]
  rfl
theorem last_g (a b : Fin 1024) : (View.readAt (Elt Ideal) arg14.view (Rect.unit (s := S2x1024x1024) ![1, 0, 0] S1x1024x1024.size inb_S2x1024x1024_S1x1024x1024_1_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8).f14) (ix3 0 a b) = gt (valTile arg7 harg7 x7) x4 15 a b := by
  refine (read_slot _ 1 _ a b).trans ((looped_g c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 a b).trans ?_)
  rw [visited_odd i h1]
  rfl
theorem rest_v (a : Fin 1024) (d : Fin 128) : restV c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 (ix2 a d) = ∑ n ∈ Finset.range 16, toV x4 n (wtF (keyTile arg6 harg6 x6) x2 x3 (i 1).val n) a d := by
  have hv := visited_odd i h1
  unfold restV
  rw [rest_V]
  refine ((stage_V (last_z c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 h1) (read_stat harg2 x2 _ rfl) (read_do (n := 15) harg4 x4 _ rfl) a d).trans ?_)
  rw [Finset.sum_range_succ, wtF_later x2 x3 _ (i 1).val 15 (by omega)]
  refine congrArg (fun s : EReal => s + _) ((congrFun (View.readAt_full _ _ _) _).trans ((looped_v c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 a d).trans ?_))
  rw [show (i 1).val + 1 + 2 * (k0_t1_loop i).trips = 15 by omega]
theorem rest_k (a : Fin 1024) (d : Fin 192) : restK c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 (ix2 a d) = ∑ n ∈ Finset.range 16, toK x3 n (dzF (keyTile arg6 harg6 x6) (valTile arg7 harg7 x7) x2 x3 x4 x5 (i 1).val n) a d := by
  have hv := visited_odd i h1
  unfold restK
  rw [rest_K]
  refine ((stage_K (last_z c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 h1) (read_stat harg2 x2 _ rfl) (last_g c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 h1) (read_stat harg5 x5 _ rfl) (read_q (n := 15) harg3 x3 _ rfl) a d).trans ?_)
  rw [Finset.sum_range_succ]
  refine congrArg₂ (fun s t : EReal => s + t) ((congrFun (View.readAt_full _ _ _) _).trans ((looped_k c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 a d).trans ?_)) ?_
  · rw [show (i 1).val + 1 + 2 * (k0_t1_loop i).trips = 15 by omega]
  · rw [dzF, wtF_later x2 x3 _ (i 1).val 15 (by omega)]
theorem rest_q (n : Fin 16) (d : Fin 192) (b : Fin 1024) : arg8.view.read (Elt Ideal) (restQ c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8) (ix4 0 n d b)
    = arg8.view.read (Elt Ideal) f8 (ix4 0 n d b) + toQ (keyTile arg6 harg6 x6) (dzF (keyTile arg6 harg6 x6) (valTile arg7 harg7 x7) x2 x3 x4 x5 (i 1).val n.val) d b := by
  have hv := visited_odd i h1
  unfold restQ
  by_cases h : n.val = 15
  · refine (write_dq_hit _ _ _ _ n rfl h d b).trans ((congrFun (rest_Q _ _ _) _).trans ((stage_Q (last_z c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 h1)
      (read_stat harg2 x2 _ rfl) (last_g c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 h1) (read_stat harg5 x5 _ rfl) _ d b).trans ?_))
    refine congrArg₂ (fun s t : EReal => s + t) ((read_dq _ _ n rfl h d b).trans (looped_q_past c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 n (by omega) d b)) ?_
    rw [dzF, h, wtF_later x2 x3 _ (i 1).val 15 (by omega)]
  · exact (write_dq_miss _ _ _ _ n rfl h d b).trans (looped_q c i arg2 harg2 arg3 harg3 arg4 harg4 arg5 harg5 arg6 harg6 arg7 harg7 arg8 harg8 arg9 harg9 arg10 harg10 arg11 harg11 arg12 harg12 arg13 harg13 arg14 harg14 x2 x3 x4 x5 x6 x7 f8 n (by omega) d b)

end Rest

/-- The key gradient's block from the tile. -/
theorem block_at (v : FVec Ideal S1024x192 .f32) (a : Fin 1024) (d : Fin 192) : k0_pay57 v (ix3 0 a d) = v (ix2 a d) := by pointwise [k0_pay57]

/-! ## The three runs' results -/

variable (v9 : View sig .tc .vmem S1x1024x192 .f32) (v10 : View sig .tc .vmem S1024x128 .f32)

theorem odd_q (h0 : ¬first i) (h1 : k0_cond2 i = 1#1) (x8 : Vec Ideal S1x16x192x1024 .f32) (n : Fin 16) (d : Fin 192) (b : Fin 1024) : arg8.view.read (Elt Ideal) (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).1 (ix4 0 n d b)
    = arg8.view.read (Elt Ideal) (harg8.unread x8) (ix4 0 n d b) + toQ (keyTile arg6 harg6 x6) (dzF (keyTile arg6 harg6 x6) (valTile arg7 harg7 x7) x2 x3 x4 x5 (i 1).val n.val) d b := by
  have h : (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).1 = restQ c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) := by
    unfold run_odd restQ looped entry; dsimp only [run_odd.sl.r_6, run_odd.sl.v161, run_odd.sl.v125, run_odd.sl.v132]
    simp only [at8_eq, at11_eq, at12_eq, at13_eq, at14_eq]
    rfl
  rw [h]
  exact rest_q c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) h1 n d b
theorem odd_k (h0 : ¬first i) (h1 : k0_cond2 i = 1#1) (x8 : Vec Ideal S1x16x192x1024 .f32) (a : Fin 1024) (d : Fin 192) : v9.read (Elt Ideal) (v9.writes (Elt Ideal) v9.junk (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.1) (ix3 0 a d)
    = ∑ n ∈ Finset.range 16, toK x3 n (dzF (keyTile arg6 harg6 x6) (valTile arg7 harg7 x7) x2 x3 x4 x5 (i 1).val n) a d := by
  have h : (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.1 = [⟨Rect.unit (s := S1x1024x192) ![0, 0, 0] S1x1024x192.size inb_S1x1024x192_S1x1024x192_0_0_0, k0_pay57 (F := Ideal) (arg11.view.readCov (Val := Elt Ideal) [⟨Rect.unit (s := S1024x192) ![0, 0] S1024x192.size inb_S1024x192_S1024x192_0_0, restK c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8)⟩] (Rect.unit (s := S1024x192) ![0, 0] S1024x192.size inb_S1024x192_S1024x192_0_0).toLoadRect)⟩] := by
    unfold run_odd restK looped entry; dsimp only [run_odd.sl.v119, run_odd.sl.H11_1_1, run_odd.sl.v151, run_odd.sl.r_7, run_odd.sl.v125, run_odd.sl.v132]
    simp only [at8_eq, at11_eq, at12_eq, at13_eq, at14_eq]
    rfl
  rw [h]
  exact (congrFun (View.read_writes_full _ _ _ _ _) _).trans ((block_at _ a d).trans ((congrFun (View.readCov_full _ _ _ _ _) _).trans (rest_k c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) h1 a d)))
theorem odd_v (h0 : ¬first i) (h1 : k0_cond2 i = 1#1) (x8 : Vec Ideal S1x16x192x1024 .f32) (a : Fin 1024) (d : Fin 128) : v10.read (Elt Ideal) (v10.writes (Elt Ideal) v10.junk (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.2.1) (ix2 a d)
    = ∑ n ∈ Finset.range 16, toV x4 n (wtF (keyTile arg6 harg6 x6) x2 x3 (i 1).val n) a d := by
  have h : (run_odd (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.2.1 = [⟨Rect.unit (s := S1024x128) ![0, 0] S1024x128.size inb_S1024x128_S1024x128_0_0, arg12.view.readCov (Val := Elt Ideal) [⟨Rect.unit (s := S1024x128) ![0, 0] S1024x128.size inb_S1024x128_S1024x128_0_0, restV c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8)⟩] (Rect.unit (s := S1024x128) ![0, 0] S1024x128.size inb_S1024x128_S1024x128_0_0).toLoadRect⟩] := by
    unfold run_odd restV looped entry; dsimp only [run_odd.sl.v123, run_odd.sl.H12_1_1, run_odd.sl.v140, run_odd.sl.v125]
    simp only [at8_eq, at11_eq, at12_eq, at13_eq, at14_eq]
    rfl
  rw [h]
  exact (congrFun (View.read_writes_full _ _ _ _ _) _).trans ((congrFun (View.readCov_full _ _ _ _ _) _).trans (rest_v c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) h1 a d))

theorem even_q (h0 : ¬first i) (h1 : ¬k0_cond2 i = 1#1) (x8 : Vec Ideal S1x16x192x1024 .f32) (n : Fin 16) (d : Fin 192) (b : Fin 1024) : arg8.view.read (Elt Ideal) (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).1 (ix4 0 n d b)
    = arg8.view.read (Elt Ideal) (harg8.unread x8) (ix4 0 n d b) + toQ (keyTile arg6 harg6 x6) (dzF (keyTile arg6 harg6 x6) (valTile arg7 harg7 x7) x2 x3 x4 x5 (i 1).val n.val) d b := by
  have h : (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).1 = (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8)).f8 := by
    unfold run_even  looped entry; dsimp only
    simp only [at8_eq, at11_eq, at12_eq, at13_eq, at14_eq]
    rfl
  rw [h]
  exact looped_q c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) n (by have := visited_even i h1; omega) d b
theorem even_k (h0 : ¬first i) (h1 : ¬k0_cond2 i = 1#1) (x8 : Vec Ideal S1x16x192x1024 .f32) (a : Fin 1024) (d : Fin 192) : v9.read (Elt Ideal) (v9.writes (Elt Ideal) v9.junk (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.1) (ix3 0 a d)
    = ∑ n ∈ Finset.range 16, toK x3 n (dzF (keyTile arg6 harg6 x6) (valTile arg7 harg7 x7) x2 x3 x4 x5 (i 1).val n) a d := by
  have h : (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.1 = [⟨Rect.unit (s := S1x1024x192) ![0, 0, 0] S1x1024x192.size inb_S1x1024x192_S1x1024x192_0_0_0, k0_pay57 (View.readAt (Elt Ideal) arg11.view (Rect.unit (s := S1024x192) ![0, 0] S1024x192.size inb_S1024x192_S1024x192_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8)).f11)⟩] := by
    unfold run_even  looped entry; dsimp only [run_even.sl.v119]
    simp only [at8_eq, at11_eq, at12_eq, at13_eq, at14_eq]
    rfl
  rw [h]
  exact (congrFun (View.read_writes_full _ _ _ _ _) _).trans ((block_at _ a d).trans ((congrFun (View.readAt_full _ _ _) _).trans ((looped_k c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) a d).trans (by rw [show (i 1).val + 1 + 2 * (k0_t1_loop i).trips = 16 by have := visited_even i h1; omega]))))
theorem even_v (h0 : ¬first i) (h1 : ¬k0_cond2 i = 1#1) (x8 : Vec Ideal S1x16x192x1024 .f32) (a : Fin 1024) (d : Fin 128) : v10.read (Elt Ideal) (v10.writes (Elt Ideal) v10.junk (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.2.1) (ix2 a d)
    = ∑ n ∈ Finset.range 16, toV x4 n (wtF (keyTile arg6 harg6 x6) x2 x3 (i 1).val n) a d := by
  have h : (run_even (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1 x8).2.2.1 = [⟨Rect.unit (s := S1024x128) ![0, 0] S1024x128.size inb_S1024x128_S1024x128_0_0, (View.readAt (Elt Ideal) arg12.view (Rect.unit (s := S1024x128) ![0, 0] S1024x128.size inb_S1024x128_S1024x128_0_0).toLoadRect (looped c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8)).f12)⟩] := by
    unfold run_even  looped entry; dsimp only [run_even.sl.v123]
    simp only [at8_eq, at11_eq, at12_eq, at13_eq, at14_eq]
    rfl
  rw [h]
  exact (congrFun (View.read_writes_full _ _ _ _ _) _).trans ((congrFun (View.readAt_full _ _ _) _).trans ((looped_v c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (harg8.unread x8) a d).trans (by rw [show (i 1).val + 1 + 2 * (k0_t1_loop i).trips = 16 by have := visited_even i h1; omega])))

/-- The first key tile's run starts from zero. -/
abbrev zeroed : Buf (Elt Ideal) (arg8.view.loc (c : Thread nD τ)) := arg8.view.writes (Elt Ideal) arg8.view.junk [⟨Rect.unit (s := S1x16x192x1024) ![0, 0, 0, 0] S1x16x192x1024.size inb_S1x16x192x1024_S1x16x192x1024_0_0_0_0, k0_pay37 (F := Ideal)⟩]
theorem zeroed_at (n : Fin 16) (d : Fin 192) (b : Fin 1024) : arg8.view.read (Elt Ideal) (zeroed c arg8) (ix4 0 n d b) = 0 := by
  refine (congrFun (View.read_writes_full _ _ _ _ _) _).trans ?_
  pointwise [k0_pay37]

theorem first_q (h0 : first i) (h1 : k0_cond2 i = 1#1) (n : Fin 16) (d : Fin 192) (b : Fin 1024) : arg8.view.read (Elt Ideal) (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).1 (ix4 0 n d b)
    = toQ (keyTile arg6 harg6 x6) (dzF (keyTile arg6 harg6 x6) (valTile arg7 harg7 x7) x2 x3 x4 x5 (i 1).val n.val) d b := by
  have h : (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).1 = restQ c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8) := by
    unfold run_first restQ looped entry; dsimp only [run_first.sl.r_6, run_first.sl.v161, run_first.sl.v125, run_first.sl.v132]
    simp only [at8_eq, at11_eq, at12_eq, at13_eq, at14_eq]
    rfl
  rw [h]
  exact (rest_q c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8) h1 n d b).trans ((congrArg (fun s : EReal => s + _) (zeroed_at c arg8 n d b)).trans (zero_add _))
theorem first_k (h0 : first i) (h1 : k0_cond2 i = 1#1) (a : Fin 1024) (d : Fin 192) : v9.read (Elt Ideal) (v9.writes (Elt Ideal) v9.junk (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).2.1) (ix3 0 a d)
    = ∑ n ∈ Finset.range 16, toK x3 n (dzF (keyTile arg6 harg6 x6) (valTile arg7 harg7 x7) x2 x3 x4 x5 (i 1).val n) a d := by
  have h : (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).2.1 = [⟨Rect.unit (s := S1x1024x192) ![0, 0, 0] S1x1024x192.size inb_S1x1024x192_S1x1024x192_0_0_0, k0_pay57 (F := Ideal) (arg11.view.readCov (Val := Elt Ideal) [⟨Rect.unit (s := S1024x192) ![0, 0] S1024x192.size inb_S1024x192_S1024x192_0_0, restK c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8)⟩] (Rect.unit (s := S1024x192) ![0, 0] S1024x192.size inb_S1024x192_S1024x192_0_0).toLoadRect)⟩] := by
    unfold run_first restK looped entry; dsimp only [run_first.sl.v119, run_first.sl.H11_1_1, run_first.sl.v151, run_first.sl.r_7, run_first.sl.v125, run_first.sl.v132]
    simp only [at8_eq, at11_eq, at12_eq, at13_eq, at14_eq]
    rfl
  rw [h]
  exact (congrFun (View.read_writes_full _ _ _ _ _) _).trans ((block_at _ a d).trans ((congrFun (View.readCov_full _ _ _ _ _) _).trans (rest_k c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8) h1 a d)))
theorem first_v (h0 : first i) (h1 : k0_cond2 i = 1#1) (a : Fin 1024) (d : Fin 128) : v10.read (Elt Ideal) (v10.writes (Elt Ideal) v10.junk (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).2.2.1) (ix2 a d)
    = ∑ n ∈ Finset.range 16, toV x4 n (wtF (keyTile arg6 harg6 x6) x2 x3 (i 1).val n) a d := by
  have h : (run_first (F := Ideal) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 h0 h1).2.2.1 = [⟨Rect.unit (s := S1024x128) ![0, 0] S1024x128.size inb_S1024x128_S1024x128_0_0, arg12.view.readCov (Val := Elt Ideal) [⟨Rect.unit (s := S1024x128) ![0, 0] S1024x128.size inb_S1024x128_S1024x128_0_0, restV c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8)⟩] (Rect.unit (s := S1024x128) ![0, 0] S1024x128.size inb_S1024x128_S1024x128_0_0).toLoadRect⟩] := by
    unfold run_first restV looped entry; dsimp only [run_first.sl.v123, run_first.sl.H12_1_1, run_first.sl.v140, run_first.sl.v125]
    simp only [at8_eq, at11_eq, at12_eq, at13_eq, at14_eq]
    rfl
  rw [h]
  exact (congrFun (View.read_writes_full _ _ _ _ _) _).trans ((congrFun (View.readCov_full _ _ _ _ _) _).trans (rest_v c i arg2 harg2 arg3 harg3 arg4 harg4 arg5 harg5 arg6 harg6 arg7 harg7 arg8 harg8 arg9 harg9 arg10 harg10 arg11 harg11 arg12 harg12 arg13 harg13 arg14 harg14 x2 x3 x4 x5 x6 x7 (zeroed c arg8) h1 a d))

end Cert.FlashBwdRun

end
-- ==== Proof.FlashFinal.lean ====
/- The attention's backward call: the three arrays the kernel leaves, from the six arrays its grid reads. Every gradient is
   one sum over the queries (of the keys and values) or over the keys (of the queries), whatever the tiling. -/
module

public import proofs.«01_k».proof.Proof.FlashFrame
public import proofs.«01_k».proof.Proof.FlashEnds
public import Idealize.ShloMosaic.Lib.Pipeline.ValueKit
public import Idealize.ShloMosaic.Lib.Pointwise

@[expose] public section

set_option maxRecDepth 16384

noncomputable section

namespace Cert.FlashValue

open Idealize.ShloMosaic Idealize.ShloMosaic.TcCoe Idealize.SL.Sem
open Idealize.ShloMosaic.Pipeline (Dat)
open Cert.FlashBwdKernelIdeal Cert.FlashBwdKernelIdeal.Gen Cert.FlashBwdRun Cert.FlashTile

/-- Column `d` of head `h`. -/
abbrev col (h : Fin 8) (d : Fin 128) : Fin 1024 := ⟨128 * h.val + d.val, by have := h.isLt; have := d.isLt; omega⟩
/-- A row's statistic. -/
abbrev rowStat (L : FVec Ideal S8x16x1x1024 .f32) (h : Fin 8) (q : Fin 16384) : EReal :=
  L (ix4 h ⟨q.val / 1024, by have := q.isLt; omega⟩ 0 ⟨q.val % 1024, by omega⟩)

/-- The weight of key `k` for query `q`: the exponential of the score less the row's log-sum, zero above the diagonal. -/
def weight (Q K : FVec Ideal S8x16384x192 .bf16) (L : FVec Ideal S8x16x1x1024 .f32) (h : Fin 8) (k q : Fin 16384) : EReal :=
  if k.val ≤ q.val then Ideal.exp ((∑ d : Fin 192, K (ix3 h k d) * Q (ix3 h q d)) - rowStat L h q) else 0

/-- The gradient of that score. -/
def dscore (Q K : FVec Ideal S8x16384x192 .bf16) (V G : FVec Ideal S16384x1024 .bf16) (L D : FVec Ideal S8x16x1x1024 .f32)
    (h : Fin 8) (k q : Fin 16384) : EReal :=
  weight Q K L h k q * ((∑ d : Fin 128, V (ix2 k (col h d)) * G (ix2 q (col h d))) - rowStat D h q)

/-- Point `t`'s head -/
abbrev hd (t : Fin cfg0.N) : Fin 8 := ⟨t.val / 16, by have := t.isLt; change _ < 128 at this; omega⟩

/-- The key tile of a point. -/
theorem tile_no : ∀ t : Fin cfg0.N, (grid0.coords t 1).val = t.val % 16 := (by decide +kernel : ∀ t : Fin grid0.N, _)

theorem idx : ∀ t : Fin cfg0.N, win0_0.index t = ![t.val / 16, 0, 0, 0] ∧ win0_1.index t = ![t.val / 16, 0, 0]
    ∧ win0_2.index t = ![0, t.val / 16] ∧ win0_3.index t = ![t.val / 16, 0, 0, 0]
    ∧ win0_4.index t = ![t.val / 16, t.val % 16, 0] ∧ win0_5.index t = ![t.val % 16, t.val / 16]
    ∧ win0_6.index t = ![t.val / 16, 0, 0, 0] ∧ win0_7.index t = ![t.val / 16, t.val % 16, 0]
    ∧ win0_8.index t = ![t.val % 16, t.val / 16] :=
  (by decide +kernel : ∀ t : Fin grid0.N, _)

/-- A row of a point's key tile. -/
abbrev key (t : Fin cfg0.N) (a : Fin 1024) : Fin 16384 := ⟨1024 * (t.val % 16) + a.val, by have := a.isLt; omega⟩

/-! ## The blocks a point reads -/

section Blocks

variable (t : Fin cfg0.N)

theorem at_lse (X : FVec Ideal S8x16x1x1024 .f32) (n : Fin 16) (b : Fin 1024) :
    (win0_0.blk t).view.read (Elt Ideal) X (ix4 0 n 0 b) = X (ix4 (hd t) n 0 b) := by blk_point [idx t]
theorem at_q (X : FVec Ideal S8x16384x192 .bf16) (r : Fin 16384) (d : Fin 192) :
    (win0_1.blk t).view.read (Elt Ideal) X (ix3 0 r d) = X (ix3 (hd t) r d) := by blk_point [idx t]
theorem at_do (X : FVec Ideal S16384x1024 .bf16) (r : Fin 16384) (d : Fin 128) :
    (win0_2.blk t).view.read (Elt Ideal) X (ix2 r d) = X (ix2 r (col (hd t) d)) := by blk_point [idx t]
theorem at_delta (X : FVec Ideal S8x16x1x1024 .f32) (n : Fin 16) (b : Fin 1024) :
    (win0_3.blk t).view.read (Elt Ideal) X (ix4 0 n 0 b) = X (ix4 (hd t) n 0 b) := by blk_point [idx t]
theorem at_k (X : FVec Ideal S8x16384x192 .bf16) (a : Fin 1024) (d : Fin 192) :
    (win0_4.blk t).view.read (Elt Ideal) X (ix3 0 a d) = X (ix3 (hd t) (key t a) d) := by blk_point [idx t]
theorem at_v (X : FVec Ideal S16384x1024 .bf16) (a : Fin 1024) (d : Fin 128) :
    (win0_5.blk t).view.read (Elt Ideal) X (ix2 a d) = X (ix2 (key t a) (col (hd t) d)) := by blk_point [idx t]
theorem at_dv (X : FVec Ideal S16384x1024 .f32) (a : Fin 1024) (d : Fin 128) :
    (win0_8.blk t).view.read (Elt Ideal) X (ix2 a d) = X (ix2 (key t a) (col (hd t) d)) := by blk_point [idx t]
theorem at_dk (X : FVec Ideal S8x16384x192 .f32) (a : Fin 1024) (d : Fin 192) :
    (win0_7.blk t).view.read (Elt Ideal) X (ix3 0 a d) = X (ix3 (hd t) (key t a) d) := by blk_point [idx t]
theorem at_dq (X : FVec Ideal S8x16x192x1024 .f32) (n : Fin 16) (d : Fin 192) (b : Fin 1024) :
    (win0_6.blk t).view.read (Elt Ideal) X (ix4 0 n d b) = X (ix4 (hd t) n d b) := by blk_point [idx t]
theorem to_dv (f : FVec Ideal S16384x1024 .f32) (a : Fin 1024) (d : Fin 128) (x : EReal) (h : x = f (ix2 (key t a) (col (hd t) d))) :
    x = f ((win0_8.blk t).view.emb (ix2 a d)) := h.trans (at_dv t f a d).symm
theorem to_dk (f : FVec Ideal S8x16384x192 .f32) (a : Fin 1024) (d : Fin 192) (x : EReal) (h : x = f (ix3 (hd t) (key t a) d)) :
    x = f ((win0_7.blk t).view.emb (ix3 0 a d)) := h.trans (at_dk t f a d).symm
theorem to_dq (f : FVec Ideal S8x16x192x1024 .f32) (n : Fin 16) (d : Fin 192) (b : Fin 1024) (x : EReal) (h : x = f (ix4 (hd t) n d b)) :
    x = f ((win0_6.blk t).view.emb (ix4 0 n d b)) := h.trans (at_dq t f n d b).symm

end Blocks

variable (m : (ℓ : Loc nD τ sig) → Buf (Elt Ideal) ℓ) (c : Dev nD) (t : Fin cfg0.N)

theorem blk_lse (n : Fin 16) (b : Fin 1024) : iblk m c 0 t (ix4 0 n 0 b) = V m c main_v33 (ix4 (hd t) n 0 b) := at_lse t (V m c main_v33) n b
theorem blk_q (r : Fin 16384) (d : Fin 192) : iblk m c 1 t (ix3 0 r d) = V m c main_v2 (ix3 (hd t) r d) := at_q t (V m c main_v2) r d
theorem blk_do (r : Fin 16384) (d : Fin 128) : iblk m c 2 t (ix2 r d) = V m c main_v5 (ix2 r (col (hd t) d)) := at_do t (V m c main_v5) r d
theorem blk_delta (n : Fin 16) (b : Fin 1024) : iblk m c 3 t (ix4 0 n 0 b) = V m c main_v34 (ix4 (hd t) n 0 b) := at_delta t (V m c main_v34) n b
theorem blk_k (a : Fin 1024) (d : Fin 192) : iblk m c 4 t (ix3 0 a d) = V m c main_v3 (ix3 (hd t) (key t a) d) := at_k t (V m c main_v3) a d
theorem blk_v (a : Fin 1024) (d : Fin 128) : iblk m c 5 t (ix2 a d) = V m c main_v4 (ix2 (key t a) (col (hd t) d)) := at_v t (V m c main_v4) a d

/-! ## The tiles of a point -/

/-- The keys' and values' tiles of a point. -/
abbrev KT : FVec Ideal S1024x192 .bf16 := keyTile (m4 t) (hs4 t) (iblk m c 4 t)
abbrev VT : FVec Ideal S1024x128 .bf16 := valTile (m5 t) (hs5 t) (iblk m c 5 t)
/-- The weights of a point's keys for query tile `n`, -/
abbrev wtT (n : ℕ) : Fin 1024 → Fin 1024 → EReal := wtF (KT m c t) (iblk m c 0 t) (iblk m c 1 t) (t.val % 16) n
/-- and the scores' gradients. -/
abbrev dzT (n : ℕ) : Fin 1024 → Fin 1024 → EReal :=
  dzF (KT m c t) (VT m c t) (iblk m c 0 t) (iblk m c 1 t) (iblk m c 2 t) (iblk m c 3 t) (t.val % 16) n

theorem rowStat_at (L : FVec Ideal S8x16x1x1024 .f32) (h : Fin 8) (n : Fin 16) (b : Fin 1024) (q : Fin 16384) (hq : q.val = n.val * 1024 + b.val) :
    L (ix4 h n 0 b) = rowStat L h q := by
  unfold rowStat
  have h1 : n = ⟨q.val / 1024, by have := q.isLt; omega⟩ := Fin.ext (by have := b.isLt; simp only; omega)
  have h2 : b = ⟨q.val % 1024, by omega⟩ := Fin.ext (by have := b.isLt; simp only; omega)
  rw [← h1, ← h2]

theorem row_eq (n : Fin 16) (b : Fin 1024) (q : Fin 16384) (hq : q.val = n.val * 1024 + b.val) : row n.val b = q := by
  refine Fin.ext ?_
  have := n.isLt; have := b.isLt
  simp only [row, Fin.val_ofNat]; omega

/-- The weights are the array's, -/
theorem wtT_at (n : Fin 16) (a b : Fin 1024) (q : Fin 16384) (hq : q.val = n.val * 1024 + b.val) :
    wtT m c t n.val a b = weight (V m c main_v2) (V m c main_v3) (V m c main_v33) (hd t) (key t a) q := by
  unfold wtT wtF weight zt stat
  rw [row_eq n b q hq, Fin.ofNat_val_eq_self, blk_lse, rowStat_at (V m c main_v33) (hd t) n b q hq]
  simp only [keyTile_at, blk_k, blk_q]
  congr 1
  rw [hq, Nat.mul_comm n.val]
/-- and so are the scores' gradients. -/
theorem dzT_at (n : Fin 16) (a b : Fin 1024) (q : Fin 16384) (hq : q.val = n.val * 1024 + b.val) :
    dzT m c t n.val a b = dscore (V m c main_v2) (V m c main_v3) (V m c main_v4) (V m c main_v5) (V m c main_v33) (V m c main_v34) (hd t) (key t a) q := by
  unfold dzT dzF dz dscore
  refine congrArg₂ (fun x y : EReal => x * y) (wtT_at m c t n a b q hq) ?_
  unfold gt stat
  rw [row_eq n b q hq, Fin.ofNat_val_eq_self, blk_delta, rowStat_at (V m c main_v34) (hd t) n b q hq]
  simp only [valTile_at, blk_v, blk_do]

/-! ## What a point leaves, at an entry -/

/-- The value gradient's block, -/
theorem dv_at (a : Fin 1024) (d : Fin 128) : (outs m c t.val t.isLt).2.2 (ix2 a d)
    = ∑ n ∈ Finset.range 16, toV (iblk m c 2 t) n (wtT m c t n) a d := by
  by_cases h0 : t.val % 16 = 0
  · have e := first_v c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dvView ((first_iff t).mpr h0) ((odd_iff t).mpr (by omega)) a d
    rw [tile_no t] at e
    rw [outs_first m c t h0]; unfold out_first; dsimp only; exact e
  · by_cases h1 : t.val % 2 = 0
    · have e := odd_v c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dvView (fun h => h0 ((first_iff t).mp h)) ((odd_iff t).mpr h1) (prev m c t) a d
      rw [tile_no t] at e
      rw [outs_odd m c t h0 h1]; unfold out_odd; dsimp only; exact e
    · have e := even_v c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dvView (fun h => h0 ((first_iff t).mp h)) (fun h => h1 ((odd_iff t).mp h)) (prev m c t) a d
      rw [tile_no t] at e
      rw [outs_even m c t h0 h1]; unfold out_even; dsimp only; exact e
/-- the key gradient's -/
theorem dk_at (a : Fin 1024) (d : Fin 192) : (outs m c t.val t.isLt).2.1 (ix3 0 a d)
    = ∑ n ∈ Finset.range 16, toK (iblk m c 1 t) n (dzT m c t n) a d := by
  by_cases h0 : t.val % 16 = 0
  · have e := first_k c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dkView ((first_iff t).mpr h0) ((odd_iff t).mpr (by omega)) a d
    rw [tile_no t] at e
    rw [outs_first m c t h0]; unfold out_first; dsimp only; exact e
  · by_cases h1 : t.val % 2 = 0
    · have e := odd_k c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dkView (fun h => h0 ((first_iff t).mp h)) ((odd_iff t).mpr h1) (prev m c t) a d
      rw [tile_no t] at e
      rw [outs_odd m c t h0 h1]; unfold out_odd; dsimp only; exact e
    · have e := even_k c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) dkView (fun h => h0 ((first_iff t).mp h)) (fun h => h1 ((odd_iff t).mp h)) (prev m c t) a d
      rw [tile_no t] at e
      rw [outs_even m c t h0 h1]; unfold out_even; dsimp only; exact e
/-- and the query gradient's: at a head's first key tile -/
theorem dq_first (h0 : t.val % 16 = 0) (n : Fin 16) (d : Fin 192) (b : Fin 1024) : (outs m c t.val t.isLt).1 (ix4 0 n d b)
    = toQ (KT m c t) (dzT m c t n.val) d b := by
  rw [outs_first m c t h0]
  exact (first_q c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) ((first_iff t).mpr h0) ((odd_iff t).mpr (by omega)) n d b).trans (by rw [tile_no t])
/-- and at the later ones. -/
theorem dq_step (h0 : ¬t.val % 16 = 0) (n : Fin 16) (d : Fin 192) (b : Fin 1024) : (outs m c t.val t.isLt).1 (ix4 0 n d b)
    = prev m c t (ix4 0 n d b) + toQ (KT m c t) (dzT m c t n.val) d b := by
  by_cases h1 : t.val % 2 = 0
  · rw [outs_odd m c t h0 h1]
    exact (odd_q c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (fun h => h0 ((first_iff t).mp h)) ((odd_iff t).mpr h1) (prev m c t) n d b).trans (by rw [tile_no t, (hs6 t).read_unread])
  · rw [outs_even m c t h0 h1]
    exact (even_q c (grid0.coords t) (m0 t) (hs0 t) (m1 t) (hs1 t) (m2 t) (hs2 t) (m3 t) (hs3 t) (m4 t) (hs4 t) (m5 t) (hs5 t) (m6 t) (hs6 t) (m7 t) (hs7 t) (m8 t) (hs8 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) (fun h => h0 ((first_iff t).mp h)) (fun h => h1 ((odd_iff t).mp h)) (prev m c t) n d b).trans (by rw [tile_no t, (hs6 t).read_unread])

/-! ## The three arrays -/

/-- The value gradient: every query's weight of the key times the query's output gradient. -/
def dvOf (Q K : FVec Ideal S8x16384x192 .bf16) (G : FVec Ideal S16384x1024 .bf16) (L : FVec Ideal S8x16x1x1024 .f32) :
    FVec Ideal S16384x1024 .f32 := fun i =>
  ∑ q : Fin 16384, weight Q K L ⟨(i 1).val / 128, by have := (i 1).isLt; simp at this; omega⟩ (i 0) q * G (ix2 q (i 1))
/-- The key gradient: every query's score gradient times the query. -/
def dkOf (Q K : FVec Ideal S8x16384x192 .bf16) (X G : FVec Ideal S16384x1024 .bf16) (L D : FVec Ideal S8x16x1x1024 .f32) :
    FVec Ideal S8x16384x192 .f32 := fun i =>
  ∑ q : Fin 16384, dscore Q K X G L D (i 0) (i 1) q * Q (ix3 (i 0) q (i 2))
/-- The query gradient: every key's score gradient times the key; a query tile's block is transposed. -/
def dqOf (Q K : FVec Ideal S8x16384x192 .bf16) (X G : FVec Ideal S16384x1024 .bf16) (L D : FVec Ideal S8x16x1x1024 .f32) :
    FVec Ideal S8x16x192x1024 .f32 := fun i =>
  ∑ k : Fin 16384, K (ix3 (i 0) k (i 2)) * dscore Q K X G L D (i 0) k
    ⟨(i 1).val * 1024 + (i 3).val, by have := (i 1).isLt; have := (i 3).isLt; simp at *; omega⟩

theorem dv_final : (dats m 0 c).arrAt 8 cfg0.N = dvOf (V m c main_v2) (V m c main_v3) (V m c main_v5) (V m c main_v33) := by
  refine (dats m 0 c).arrAt_eq_of_covers 8 _ (by decide +kernel) fun t _ y => ?_
  blk_simp
  rw [after_8]
  obtain ⟨a, d, rfl⟩ : ∃ (a : Fin 1024) (d : Fin 128), y = ix2 a d := ⟨y 0, y 1, eq_ix2 y⟩
  refine to_dv t (dvOf (V m c main_v2) (V m c main_v3) (V m c main_v5) (V m c main_v33)) a d _ ((dv_at m c t a d).trans ?_)
  unfold dvOf toV
  rw [Finset.sum_range]
  refine Fin.sum_mul_add_congr fun n b hq => ?_
  refine congrArg₂ (fun x y : EReal => x * y) ((wtT_at m c t n a b ⟨n.val * 1024 + b.val, hq⟩ rfl).trans ?_) ?_
  · refine congrArg (fun h => weight _ _ _ h _ _) (Fin.ext ?_)
    have := d.isLt
    simp only [ix2_1]; omega
  · rw [row_eq n b ⟨n.val * 1024 + b.val, hq⟩ rfl]; exact blk_do m c t _ d

theorem dk_final : (dats m 0 c).arrAt 7 cfg0.N
    = dkOf (V m c main_v2) (V m c main_v3) (V m c main_v4) (V m c main_v5) (V m c main_v33) (V m c main_v34) := by
  refine (dats m 0 c).arrAt_eq_of_covers 7 _ (by decide +kernel) fun t _ y => ?_
  blk_simp
  rw [after_7]
  obtain ⟨u, a, d, rfl⟩ : ∃ (u : Fin 1) (a : Fin 1024) (d : Fin 192), y = ix3 u a d := ⟨y 0, y 1, y 2, eq_ix3 y⟩
  obtain rfl : u = 0 := Subsingleton.elim _ _
  refine to_dk t (dkOf (V m c main_v2) (V m c main_v3) (V m c main_v4) (V m c main_v5) (V m c main_v33) (V m c main_v34)) a d _ ((dk_at m c t a d).trans ?_)
  unfold dkOf toK
  rw [Finset.sum_range]
  refine Fin.sum_mul_add_congr fun n b hq => ?_
  refine congrArg₂ (fun x y : EReal => x * y) (dzT_at m c t n a b ⟨n.val * 1024 + b.val, hq⟩ rfl) ?_
  rw [row_eq n b ⟨n.val * 1024 + b.val, hq⟩ rfl]; exact blk_q m c t _ d

theorem dq_final : (dats m 0 c).arrAt 6 cfg0.N
    = dqOf (V m c main_v2) (V m c main_v3) (V m c main_v4) (V m c main_v5) (V m c main_v33) (V m c main_v34) := by
  refine (dats m 0 c).arrAt_eq_of_covers 6 _ (by decide +kernel) fun t hf y => ?_
  blk_simp
  rw [after_6]
  obtain ⟨u, n, d, b, rfl⟩ : ∃ (u : Fin 1) (n : Fin 16) (d : Fin 192) (b : Fin 1024), y = ix4 u n d b := ⟨y 0, y 1, y 2, y 3, eq_ix4 y⟩
  obtain rfl : u = 0 := Subsingleton.elim _ _
  refine to_dq t (dqOf (V m c main_v2) (V m c main_v3) (V m c main_v4) (V m c main_v5) (V m c main_v33) (V m c main_v34)) n d b _ ?_
  refine (Pipeline.eq_sum_fin_of_reset_step_apply_of_flush (fun k h => fun i : Fin 16 × Fin 192 × Fin 1024 => (outs m c k h).1 (ix4 0 i.1 i.2.1 i.2.2)) 16 (fun _ => (0 : EReal))
    (fun t i => toQ (KT m c t) (dzT m c t i.1.val) i.2.1 i.2.2)
    (fun t h i => (dq_first m c t h i.1 i.2.1 i.2.2).trans (zero_add _).symm)
    (fun t h i => dq_step m c t h i.1 i.2.1 i.2.2) t ((flush0_6 t).mp hf) (n, d, b)).trans ((zero_add _).trans ?_)
  unfold dqOf toQ
  refine Fin.sum_mul_add_congr fun j a hk => ?_
  have ht := t.isLt
  change t.val < 128 at ht
  have hj := j.isLt
  have hh : hd ⟨16 * (t.val / 16) + j.val, Pipeline.run_point_lt_of_flush t ((flush0_6 t).mp hf) j⟩ = hd t := Fin.ext (by simp only; omega)
  have ha : key ⟨16 * (t.val / 16) + j.val, Pipeline.run_point_lt_of_flush t ((flush0_6 t).mp hf) j⟩ a = ⟨j.val * 1024 + a.val, hk⟩ := Fin.ext (by simp only; omega)
  refine congrArg₂ (fun x y : EReal => x * y) ?_ ?_
  · refine (keyTile_at _ _ _ a d).trans ((blk_k m c _ a d).trans ?_)
    rw [hh, ha]
    rfl
  · refine (dzT_at m c _ n a b ⟨n.val * 1024 + b.val, by have := n.isLt; have := b.isLt; omega⟩ rfl).trans ?_
    rw [hh, ha]
    rfl

end Cert.FlashValue

end
-- ==== Proof.FlashHost.lean ====
/- The host lines before the attention's backward call: what they leave in the arrays its grid reads, entry by entry. -/
module

public import proofs.«01_k».proof.Proof.Gen.FlashBwdKernelIdeal.Frame
public import Idealize.ShloMosaic.Lib.Pointwise

@[expose] public section

set_option maxRecDepth 16384

noncomputable section

namespace Cert.FlashValue

open Idealize.ShloMosaic Idealize.ShloMosaic.TcCoe Idealize.SL.Sem
open Cert.FlashBwdKernelIdeal Cert.FlashBwdKernelIdeal.Gen

/-- The scaled queries. -/
def queries (q : FVec Ideal S8x16384x192 .f32) : FVec Ideal S8x16384x192 .bf16 :=
  truncf .bf16 (mulf q (broadcastInDim S8x16384x192 ![] bcast_S_S8x16384x192 (constant S_ .f32 0x3D93CD3A#32))) bitsLt_bf16_f32
/-- The keys. -/
def keys (k : FVec Ideal S8x16384x192 .f32) : FVec Ideal S8x16384x192 .bf16 := truncf .bf16 k bitsLt_bf16_f32
/-- The values, or the output's gradient, by rows of all heads. -/
def rows (v : FVec Ideal S16384x1024 .f32) : FVec Ideal S16384x1024 .bf16 := truncf .bf16 v bitsLt_bf16_f32
/-- The scores, at minus infinity above the diagonal. -/
def scores (q k : FVec Ideal S8x16384x192 .bf16) : FVec Ideal S8x16384x16384 .f32 :=
  select (broadcastInDim S8x16384x16384 ![1, 2] bcast_S16384x16384_S8x16384x16384_1_2
      (cmpi .sle (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (Host.dotGeneral dot_S8x16384x192_S8x16384x192_S8x16384x16384_2_2_1_1_0_0 none q k)
    (broadcastInDim S8x16384x16384 ![] bcast_S_S8x16384x16384 (constant S_ .f32 0xFF800000#32))
/-- The rows' maxima, -/
def maxima (z : FVec Ideal S8x16384x16384 .f32) : FVec Ideal S8x16384 .f32 :=
  Host.reduce FloatOps.maximumf z (constant S_ .f32 0xFF800000#32) reducesTo_S8x16384x16384_S8x16384_d2 h_S_
/-- the exponentials of the scores less them, -/
def exps (z : FVec Ideal S8x16384x16384 .f32) : FVec Ideal S8x16384x16384 .f32 :=
  Host.exp (subf z (broadcastInDim S8x16384x16384 ![0, 1, 2] bcast_S8x16384x1_S8x16384x16384_0_1_2
    (broadcastInDim S8x16384x1 ![0, 1] bcast_S8x16384_S8x16384x1_0_1 (maxima z))))
/-- and the exponentials' sums. -/
def sums (e : FVec Ideal S8x16384x16384 .f32) : FVec Ideal S8x16384 .f32 :=
  Host.reduceAdd e (constant S_ .f32 0x00000000#32) reducesTo_S8x16384x16384_S8x16384_d2 h_S_
/-- The heads' columns of an array of rows. -/
def heads (v : FVec Ideal S16384x1024 .f32) : FVec Ideal S8x16384x128 .f32 :=
  transpose S8x16384x128 [1, 0, 2] (shapeCast S16384x8x128 v shapeCasts_S16384x1024_S16384x8x128) transposes_S16384x8x128_S8x16384x128_1_0_2
/-- The attention's output from the exponentials, their sums and the values. -/
def output (e : FVec Ideal S8x16384x16384 .f32) (v : FVec Ideal S16384x1024 .f32) : FVec Ideal S8x16384x128 .f32 :=
  Host.divf (Host.dotGeneral dot_S8x16384x16384_S8x16384x128_S8x16384x128_2_1_1_2_0_0 none e (heads v))
    (broadcastInDim S8x16384x128 ![0, 1, 2] bcast_S8x16384x1_S8x16384x128_0_1_2 (broadcastInDim S8x16384x1 ![0, 1] bcast_S8x16384_S8x16384x1_0_1 (sums e)))
/-- The rows' log-sums, -/
def logSums (z : FVec Ideal S8x16384x16384 .f32) : FVec Ideal S8x16x1x1024 .f32 :=
  shapeCast S8x16x1x1024 (addf (maxima z) (Host.log (sums (exps z)))) shapeCasts_S8x16384_S8x16x1x1024
/-- and the rows' sums of the output times its gradient. -/
def deltas (z : FVec Ideal S8x16384x16384 .f32) (v g : FVec Ideal S16384x1024 .f32) : FVec Ideal S8x16x1x1024 .f32 :=
  shapeCast S8x16x1x1024 (Host.reduceAdd (mulf (output (exps z) v) (heads g)) (constant S_ .f32 0x00000000#32) reducesTo_S8x16384x128_S8x16384_d2 h_S_)
    shapeCasts_S8x16384_S8x16x1x1024

section

variable (m : (ℓ : Loc nD τ sig) → Buf (Elt Ideal) ℓ) (c : Dev nD)

theorem V_q : V m c main_v2 = queries (m ((c : Thread nD τ).loc main_arg0)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_k : V m c main_v3 = keys (m ((c : Thread nD τ).loc main_arg1)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_v : V m c main_v4 = rows (m ((c : Thread nD τ).loc main_arg2)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_g : V m c main_v5 = rows (m ((c : Thread nD τ).loc main_arg3)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_lse : V m c main_v33 = logSums (scores (queries (m ((c : Thread nD τ).loc main_arg0))) (keys (m ((c : Thread nD τ).loc main_arg1)))) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_delta : V m c main_v34 = deltas (scores (queries (m ((c : Thread nD τ).loc main_arg0))) (keys (m ((c : Thread nD τ).loc main_arg1)))) (m ((c : Thread nD τ).loc main_arg2)) (m ((c : Thread nD τ).loc main_arg3)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

end

theorem queries_at (q) (h : Fin 8) (r : Fin 16384) (d : Fin 192) :
    queries q (ix3 h r d) = q (ix3 h r d) * Ideal.ofBits .f32 0x3D93CD3A#32 := by
  pointwise [queries]
theorem keys_at (k) (h : Fin 8) (r : Fin 16384) (d : Fin 192) : keys k (ix3 h r d) = k (ix3 h r d) := by
  pointwise [keys]
theorem rows_at (v) (r : Fin 16384) (j : Fin 1024) : rows v (ix2 r j) = v (ix2 r j) := by
  pointwise [rows]
theorem scores_at (q k) (h : Fin 8) (r s : Fin 16384) :
    scores q k (ix3 h r s) = Scalar.select (IntOp.cmpi .sle (BitVec.ofNat 32 s.val) (BitVec.ofNat 32 r.val))
      (∑ d : Fin 192, q (ix3 h r d) * k (ix3 h s d) : EReal) (Ideal.ofBits .f32 0xFF800000#32) := by
  pointwise [scores]
theorem exps_at (z) (h : Fin 8) (r s : Fin 16384) : exps z (ix3 h r s) = Ideal.exp (z (ix3 h r s) - maxima z (ix2 h r)) := by
  pointwise [exps]
theorem maxima_at (z) (h : Fin 8) (r : Fin 16384) :
    maxima z (ix2 h r) = Finset.fold max (Ideal.ofBits .f32 0xFF800000#32) (fun s : Fin 16384 => z (ix3 h r s)) Finset.univ := by
  pointwise [maxima]
theorem sums_at (e) (h : Fin 8) (r : Fin 16384) : sums e (ix2 h r) = ∑ s : Fin 16384, e (ix3 h r s) := by
  pointwise [sums]
theorem heads_at (v) (h : Fin 8) (r : Fin 16384) (d : Fin 128) : heads v (ix3 h r d) = v (ix2 r ⟨128 * h.val + d.val, by omega⟩) := by
  pointwise [heads]
  exact congrArg (fun j => v (ix2 r j)) (Fin.ext (by simp only; omega))
theorem output_at (e v) (h : Fin 8) (r : Fin 16384) (d : Fin 128) :
    output e v (ix3 h r d) = Ideal.div (∑ s : Fin 16384, e (ix3 h r s) * heads v (ix3 h s d)) (sums e (ix2 h r)) := by
  pointwise [output]
/-- A row's number is its block's times the block's length plus its place. -/
theorem byBlocks_at (x : FVec Ideal S8x16384 .f32) (h : Fin 8) (r : Fin 16384) :
    shapeCast S8x16x1x1024 x shapeCasts_S8x16384_S8x16x1x1024 (ix4 h ⟨r.val / 1024, by omega⟩ 0 ⟨r.val % 1024, by omega⟩) = x (ix2 h r) := by
  refine shapeCast_apply x _ _ _ ?_
  simp only [Shape.rowMajor_val_two, Shape.rowMajor_val_four]
  show h.val * 16384 + r.val = ((h.val * 16 + r.val / 1024) * 1 + 0) * 1024 + r.val % 1024
  omega
/-- The logarithms' row sums, not yet by blocks. -/
def lse (z : FVec Ideal S8x16384x16384 .f32) : FVec Ideal S8x16384 .f32 := addf (maxima z) (Host.log (sums (exps z)))
/-- The rows' sums of the output times its gradient, not yet by blocks. -/
def delta (z : FVec Ideal S8x16384x16384 .f32) (v g : FVec Ideal S16384x1024 .f32) : FVec Ideal S8x16384 .f32 :=
  Host.reduceAdd (mulf (output (exps z) v) (heads g)) (constant S_ .f32 0x00000000#32) reducesTo_S8x16384x128_S8x16384_d2 h_S_
theorem add_log_at (a b : FVec Ideal S8x16384 .f32) (h : Fin 8) (r : Fin 16384) :
    addf a (Host.log b) (ix2 h r) = a (ix2 h r) + Ideal.log (b (ix2 h r)) := by
  pointwise
theorem lse_at (z) (h : Fin 8) (r : Fin 16384) : lse z (ix2 h r) = maxima z (ix2 h r) + Ideal.log (sums (exps z) (ix2 h r)) :=
  add_log_at (maxima z) (sums (exps z)) h r
theorem delta_at (z v g) (h : Fin 8) (r : Fin 16384) :
    delta z v g (ix2 h r) = ∑ d : Fin 128, output (exps z) v (ix3 h r d) * heads g (ix3 h r d) := by
  pointwise [delta]
theorem logSums_at (z) (h : Fin 8) (r : Fin 16384) :
    logSums z (ix4 h ⟨r.val / 1024, by omega⟩ 0 ⟨r.val % 1024, by omega⟩) = maxima z (ix2 h r) + Ideal.log (sums (exps z) (ix2 h r)) :=
  (byBlocks_at (lse z) h r).trans (lse_at z h r)
theorem deltas_at (z v g) (h : Fin 8) (r : Fin 16384) :
    deltas z v g (ix4 h ⟨r.val / 1024, by omega⟩ 0 ⟨r.val % 1024, by omega⟩)
      = ∑ d : Fin 128, output (exps z) v (ix3 h r d) * heads g (ix3 h r d) :=
  (byBlocks_at (delta z v g) h r).trans (delta_at z v g h r)

end Cert.FlashValue

end
-- ==== Proof.FlashRef.lean ====
/- The reference's gradient of the attention, operation by operation, read entry by entry. -/
module

public import proofs.«01_k».proof.Proof.Gen.FlashBwdRefIdeal.Run
public import Idealize.ShloMosaic.Lib.Pointwise

@[expose] public section

set_option maxRecDepth 16384

noncomputable section

namespace Cert.FlashRefValue

open Idealize.ShloMosaic Idealize.ShloMosaic.TcCoe Idealize.SL.Sem
open Cert.FlashBwdRefIdeal Cert.FlashBwdRefIdeal.Gen Cert.FlashBwdRefIdeal.Value

/-- The keys a query sees. -/
def mask : (⟨S8x16384x16384, .i1⟩ : BufTy).Contents (Elt Ideal) :=
  broadcastInDim S8x16384x16384 ![1, 2] bcast_S16384x16384_S8x16384x16384_1_2
    (cmpi .sle (broadcastInDim S16384x16384 ![0, 1] bcast_S1x16384_S16384x16384_0_1 (broadcastInDim S1x16384 ![1] bcast_S16384_S1x16384_1 (iotaInDim S16384 32 0)))
      (broadcastInDim S16384x16384 ![0, 1] bcast_S16384x1_S16384x16384_0_1 (broadcastInDim S16384x1 ![0] bcast_S16384_S16384x1_0 (iotaInDim S16384 32 0))))
/-- The scores, at minus infinity above the diagonal. -/
def scores (q k : FVec Ideal S8x16384x192 .f32) : FVec Ideal S8x16384x16384 .f32 :=
  select mask (mulf (Host.dotGeneral dot_S8x16384x192_S8x16384x192_S8x16384x16384_2_2_1_1_0_0 none q k)
      (broadcastInDim S8x16384x16384 ![] bcast_S_S8x16384x16384 (constant S_ .f32 0x3D93CD3A#32)))
    (broadcastInDim S8x16384x16384 ![] bcast_S_S8x16384x16384 (id (constant S_ .f32 0xFF800000#32)))
/-- The rows' maxima as the reduction gives them, -/
def rowMaxima (z : FVec Ideal S8x16384x16384 .f32) : FVec Ideal S8x16384 .f32 :=
  Host.reduce FloatOps.maximumf z (constant S_ .f32 0xFF800000#32) reducesTo_S8x16384x16384_S8x16384_d2 h_S_
/-- those against minus infinity, -/
def maxima (z : FVec Ideal S8x16384x16384 .f32) : FVec Ideal S8x16384 .f32 :=
  maximumf (broadcastInDim S8x16384 ![] bcast_S_S8x16384 (constant S_ .f32 0xFF800000#32)) (rowMaxima z)
/-- the exponentials of the scores less them, -/
def exps (z : FVec Ideal S8x16384x16384 .f32) : FVec Ideal S8x16384x16384 .f32 :=
  Host.exp (subf z (broadcastInDim S8x16384x16384 ![0, 1, 2] bcast_S8x16384x1_S8x16384x16384_0_1_2
    (broadcastInDim S8x16384x1 ![0, 1] bcast_S8x16384_S8x16384x1_0_1 (maxima z))))
/-- and the exponentials' sums. -/
def sums (e : FVec Ideal S8x16384x16384 .f32) : FVec Ideal S8x16384x1 .f32 :=
  broadcastInDim S8x16384x1 ![0, 1] bcast_S8x16384_S8x16384x1_0_1
    (Host.reduceAdd e (constant S_ .f32 0x00000000#32) reducesTo_S8x16384x16384_S8x16384_d2 h_S_)
/-- The softmax. -/
def probs (e : FVec Ideal S8x16384x16384 .f32) : FVec Ideal S8x16384x16384 .f32 :=
  Host.divf e (broadcastInDim S8x16384x16384 ![0, 1, 2] bcast_S8x16384x1_S8x16384x16384_0_1_2 (sums e))
/-- One over the sums' squares. -/
def squares (e : FVec Ideal S8x16384x16384 .f32) : FVec Ideal S8x16384x1 .f32 :=
  Host.divf (broadcastInDim S8x16384x1 ![] bcast_S_S8x16384x1 (constant S_ .f32 0x3F800000#32)) (mulf (sums e) (sums e))
/-- The output's gradient by heads and columns. -/
def outs (g : FVec Ideal S16384x1024 .f32) : FVec Ideal S8x128x16384 .f32 :=
  transpose S8x128x16384 [1, 2, 0] (shapeCast S16384x8x128 g shapeCasts_S16384x1024_S16384x8x128) transposes_S16384x8x128_S8x128x16384_1_2_0
/-- The softmax's gradient. -/
def dprobs (v g : FVec Ideal S16384x1024 .f32) : FVec Ideal S8x16384x16384 .f32 :=
  Host.dotGeneral dot_S8x128x16384_S16384x8x128_S8x16384x16384_1_2_2_0_0_1 none (outs g) (shapeCast S16384x8x128 v shapeCasts_S16384x1024_S16384x8x128)
/-- What each row subtracts. -/
def means (dp e : FVec Ideal S8x16384x16384 .f32) : FVec Ideal S8x16384 .f32 :=
  Host.reduceAdd (Host.negf (shapeCast S8x16384x1
      (Host.reduceAdd (mulf (mulf dp (broadcastInDim S8x16384x16384 ![0, 1, 2] bcast_S8x16384x1_S8x16384x16384_0_1_2 (squares e))) e)
        (constant S_ .f32 0x00000000#32) reducesTo_S8x16384x16384_S8x16384_d2 h_S_) shapeCasts_S8x16384_S8x16384x1))
    (constant S_ .f32 0x00000000#32) reducesTo_S8x16384x1_S8x16384_d2 h_S_
/-- The scaled gradient of the scores. -/
def dscores (dp e : FVec Ideal S8x16384x16384 .f32) : FVec Ideal S8x16384x16384 .f32 :=
  mulf (select mask
      (mulf (addf (Host.divf dp (broadcastInDim S8x16384x16384 ![0, 1, 2] bcast_S8x16384x1_S8x16384x16384_0_1_2 (sums e)))
        (broadcastInDim S8x16384x16384 ![0, 1] bcast_S8x16384_S8x16384x16384_0_1 (means dp e))) e)
      (broadcastInDim S8x16384x16384 ![] bcast_S_S8x16384x16384 (constant S_ .f32 0x00000000#32)))
    (broadcastInDim S8x16384x16384 ![] bcast_S_S8x16384x16384 (constant S_ .f32 0x3D93CD3A#32))
/-- The values' gradient by heads and columns, -/
def dvalues (g : FVec Ideal S16384x1024 .f32) (p : FVec Ideal S8x16384x16384 .f32) : FVec Ideal S8x128x16384 .f32 :=
  Host.dotGeneral dot_S8x128x16384_S8x16384x16384_S8x128x16384_2_1_1_2_0_0 none (outs g) p
/-- and by rows of all heads. -/
def byRows (x : FVec Ideal S8x128x16384 .f32) : FVec Ideal S16384x1024 .f32 :=
  shapeCast S16384x1024 (transpose S16384x8x128 [2, 0, 1] x transposes_S8x128x16384_S16384x8x128_2_0_1) shapeCasts_S16384x8x128_S16384x1024
/-- The keys' gradient. -/
def dkeys (ds : FVec Ideal S8x16384x16384 .f32) (q : FVec Ideal S8x16384x192 .f32) : FVec Ideal S8x16384x192 .f32 :=
  Host.dotGeneral dot_S8x16384x16384_S8x16384x192_S8x16384x192_1_1_2_2_0_0 none ds q
/-- The unscaled queries' gradient, -/
def dqueries (ds : FVec Ideal S8x16384x16384 .f32) (k : FVec Ideal S8x16384x192 .f32) : FVec Ideal S8x16384x192 .f32 :=
  Host.divf (Host.dotGeneral dot_S8x16384x16384_S8x16384x192_S8x16384x192_2_1_1_2_0_0 none ds k)
    (broadcastInDim S8x16384x192 ![] bcast_S_S8x16384x192 (constant S_ .f32 0x3D93CD3A#32))
/-- and by blocks of rows, transposed. -/
def byBlocks (x : FVec Ideal S8x16384x192 .f32) : FVec Ideal S8x16x192x1024 .f32 :=
  transpose S8x16x192x1024 [0, 1, 3, 2] (shapeCast S8x16x1024x192 x shapeCasts_S8x16384x192_S8x16x1024x192) transposes_S8x16x1024x192_S8x16x192x1024_0_1_3_2

section

variable (m : (ℓ : Loc nD τ sig) → Buf (Elt Ideal) ℓ) (c : Dev nD)

/-- The exponentials of the device's scores. -/
def expsOf : FVec Ideal S8x16384x16384 .f32 := exps (scores (m ((c.tc : Thread nD τ).loc main_arg0)) (m ((c.tc : Thread nD τ).loc main_arg1)))
/-- The device's gradient of the scores. -/
def dscoresOf : FVec Ideal S8x16384x16384 .f32 :=
  dscores (dprobs (m ((c.tc : Thread nD τ).loc main_arg2)) (m ((c.tc : Thread nD τ).loc main_arg3))) (expsOf m c)

theorem res_dv : res_out2 m c = byRows (dvalues (m ((c.tc : Thread nD τ).loc main_arg3)) (probs (expsOf m c))) := by
  unfold res_out2 res_main_v67; rfl
theorem res_dk : res_out1 m c = dkeys (dscoresOf m c) (m ((c.tc : Thread nD τ).loc main_arg0)) := by
  unfold res_out1 res_main_v61; rfl
theorem res_dq : res_out0 m c = byBlocks (dqueries (dscoresOf m c) (m ((c.tc : Thread nD τ).loc main_arg1))) := by
  unfold res_out0 res_main_v66; rfl

end

theorem mask_at (h : Fin 8) (r s : Fin 16384) : mask (ix3 h r s) = IntOp.cmpi .sle (BitVec.ofNat 32 s.val) (BitVec.ofNat 32 r.val) := by
  pointwise [mask]
theorem scores_at (q k) (h : Fin 8) (r s : Fin 16384) :
    scores q k (ix3 h r s) = Scalar.select (mask (ix3 h r s))
      ((∑ d : Fin 192, q (ix3 h r d) * k (ix3 h s d)) * Ideal.ofBits .f32 0x3D93CD3A#32 : EReal) (Ideal.ofBits .f32 0xFF800000#32) := by
  pointwise [scores]
  rfl
theorem rowMaxima_at (z) (h : Fin 8) (r : Fin 16384) :
    rowMaxima z (ix2 h r) = Finset.fold max (Ideal.ofBits .f32 0xFF800000#32) (fun s : Fin 16384 => z (ix3 h r s)) Finset.univ := by
  pointwise [rowMaxima]
theorem max_at (b : FVec Ideal S8x16384 .f32) (h : Fin 8) (r : Fin 16384) :
    maximumf (broadcastInDim S8x16384 ![] bcast_S_S8x16384 (constant S_ .f32 0xFF800000#32)) b (ix2 h r)
      = max (Ideal.ofBits .f32 0xFF800000#32 : EReal) (b (ix2 h r)) := by
  pointwise
theorem maxima_at (z) (h : Fin 8) (r : Fin 16384) :
    maxima z (ix2 h r) = max (Ideal.ofBits .f32 0xFF800000#32 : EReal) (rowMaxima z (ix2 h r)) := max_at (rowMaxima z) h r
theorem exps_at (z) (h : Fin 8) (r s : Fin 16384) : exps z (ix3 h r s) = Ideal.exp (z (ix3 h r s) - maxima z (ix2 h r)) := by
  pointwise [exps]
theorem sums_at (e) (h : Fin 8) (r : Fin 16384) : sums e (ix3 h r 0) = ∑ s : Fin 16384, e (ix3 h r s) := by
  pointwise [sums]
theorem probs_at (e) (h : Fin 8) (r s : Fin 16384) : probs e (ix3 h r s) = Ideal.div (e (ix3 h r s)) (sums e (ix3 h r 0)) := by
  pointwise [probs]
theorem squares_at (e) (h : Fin 8) (r : Fin 16384) :
    squares e (ix3 h r 0) = Ideal.div (Ideal.ofBits .f32 0x3F800000#32) (sums e (ix3 h r 0) * sums e (ix3 h r 0)) := by
  pointwise [squares]
theorem outs_at (g) (h : Fin 8) (d : Fin 128) (r : Fin 16384) : outs g (ix3 h d r) = g (ix2 r ⟨h.val * 128 + d.val, by omega⟩) := by
  pointwise [outs]
theorem dprobs_at (v g) (h : Fin 8) (r s : Fin 16384) :
    dprobs v g (ix3 h r s) = ∑ d : Fin 128, outs g (ix3 h d r) * v (ix2 s ⟨h.val * 128 + d.val, by omega⟩) := by
  pointwise [dprobs]
theorem means_at (dp e) (h : Fin 8) (r : Fin 16384) :
    means dp e (ix2 h r) = -∑ s : Fin 16384, dp (ix3 h r s) * squares e (ix3 h r 0) * e (ix3 h r s) := by
  pointwise [means]
  exact Fin.sum_univ_one _
theorem dscores_at (dp e) (h : Fin 8) (r s : Fin 16384) :
    dscores dp e (ix3 h r s) = Scalar.select (mask (ix3 h r s))
      ((Ideal.div (dp (ix3 h r s)) (sums e (ix3 h r 0)) + means dp e (ix2 h r)) * e (ix3 h r s) : EReal) (Ideal.ofBits .f32 0x00000000#32)
        * Ideal.ofBits .f32 0x3D93CD3A#32 := by
  pointwise [dscores]
theorem dvalues_at (g p) (h : Fin 8) (d : Fin 128) (s : Fin 16384) :
    dvalues g p (ix3 h d s) = ∑ r : Fin 16384, outs g (ix3 h d r) * p (ix3 h r s) := by
  pointwise [dvalues]
theorem byRows_at (x) (s : Fin 16384) (j : Fin 1024) :
    byRows x (ix2 s j) = x (ix3 ⟨j.val / 128, by omega⟩ ⟨j.val % 128, by omega⟩ s) := by
  pointwise [byRows]
theorem dkeys_at (ds q) (h : Fin 8) (s : Fin 16384) (d : Fin 192) :
    dkeys ds q (ix3 h s d) = ∑ r : Fin 16384, ds (ix3 h r s) * q (ix3 h r d) := by
  pointwise [dkeys]
theorem dqueries_at (ds k) (h : Fin 8) (r : Fin 16384) (d : Fin 192) :
    dqueries ds k (ix3 h r d) = Ideal.div (∑ s : Fin 16384, ds (ix3 h r s) * k (ix3 h s d)) (Ideal.ofBits .f32 0x3D93CD3A#32) := by
  pointwise [dqueries]
theorem byBlocks_at (x) (h : Fin 8) (n : Fin 16) (d : Fin 192) (b : Fin 1024) :
    byBlocks x (ix4 h n d b) = x (ix3 h ⟨n.val * 1024 + b.val, by omega⟩ d) := by
  pointwise [byBlocks]

end Cert.FlashRefValue

end
-- ==== Proof.FlashReal.lean ====
/- The attention's gradient over the real numbers: the grid's sums and the reference's are both it. -/
module

public import proofs.«01_k».proof.Proof.Consts
public import proofs.«01_k».proof.Proof.FlashMath
public import proofs.«01_k».proof.Proof.FlashFinal
public import proofs.«01_k».proof.Proof.FlashHost
public import proofs.«01_k».proof.Proof.FlashRef

@[expose] public section

set_option maxRecDepth 16384

noncomputable section

namespace Cert.FlashReal

open Idealize.ShloMosaic Idealize.ShloMosaic.TcCoe Idealize.SL.Sem
open Cert.FlashMath

/-- Real queries, keys, values, an output's gradient and the scores' scale. -/
structure Args where
  q : Fin 8 → Fin 16384 → Fin 192 → ℝ
  k : Fin 8 → Fin 16384 → Fin 192 → ℝ
  v : Fin 16384 → Fin 1024 → ℝ
  g : Fin 16384 → Fin 1024 → ℝ
  c : ℝ
  hc : c ≠ 0

variable (a : Args)

/-- A head's column among the columns of all heads. -/
abbrev at' (h : Fin 8) (d : Fin 128) : Fin 1024 := ⟨128 * h.val + d.val, by omega⟩
/-- A query sees the keys up to its own. -/
def live (r s : Fin 16384) : Prop := s.val ≤ r.val
instance (r : Fin 16384) : DecidablePred (live r) := fun s => inferInstanceAs (Decidable (s.val ≤ r.val))
theorem exists_live (r : Fin 16384) : ∃ s, live r s := ⟨r, le_refl r.val⟩

def z (h : Fin 8) (r s : Fin 16384) : ℝ := (∑ d, a.q h r d * a.k h s d) * a.c
def dp (h : Fin 8) (r s : Fin 16384) : ℝ := ∑ d, a.v s (at' h d) * a.g r (at' h d)
def p (h : Fin 8) (r s : Fin 16384) : ℝ := prob (live r) (z a h r) s
def ds (h : Fin 8) (r s : Fin 16384) : ℝ := grad (live r) (z a h r) (dp a h r) s
def dv (s : Fin 16384) (j : Fin 1024) : ℝ := ∑ r, p a ⟨j.val / 128, by omega⟩ r s * a.g r j
def dk (h : Fin 8) (s : Fin 16384) (d : Fin 192) : ℝ := ∑ r, ds a h r s * (a.q h r d * a.c)
def dq (h : Fin 8) (r : Fin 16384) (d : Fin 192) : ℝ := ∑ s, a.k h s d * ds a h r s

/-- Arrays that hold the real arguments. -/
structure Holds (q k : (⟨3, ![8, 16384, 192]⟩ : Shape).Idx → EReal) (v g : (⟨2, ![16384, 1024]⟩ : Shape).Idx → EReal) : Prop where
  q : ∀ h r d, q (ix3 h r d) = (a.q h r d : EReal)
  k : ∀ h r d, k (ix3 h r d) = (a.k h r d : EReal)
  v : ∀ r j, v (ix2 r j) = (a.v r j : EReal)
  g : ∀ r j, g (ix2 r j) = (a.g r j : EReal)
  c : Ideal.ofBits .f32 0x3D93CD3A#32 = (a.c : EReal)

section Kernel

open Cert.FlashBwdKernelIdeal Cert.FlashValue

variable {q k : FVec Ideal S8x16384x192 .f32} {v g : FVec Ideal S16384x1024 .f32} (H : Holds a q k v g)
include H

theorem scores_eq (h : Fin 8) (r s : Fin 16384) : scores (queries q) (keys k) (ix3 h r s) = masked (live r) (z a h r) s := by
  rw [scores_at, FlashTile.select_le _ _ (by omega) (by omega), Consts.f32_ninf]
  refine if_congr Iff.rfl ?_ rfl
  simp only [queries_at, keys_at, H.q, H.k, H.c, ← EReal.coe_mul, coe_sum]
  rw [z, Finset.sum_mul]
  exact congrArg _ (Finset.sum_congr rfl fun d _ => by ring)

/-- A row's maximum is real, and the row's exponentials and their sum are those of the scores less it. -/
theorem row_eq (h : Fin 8) (r : Fin 16384) : ∃ μ : ℝ,
    maxima (scores (queries q) (keys k)) (ix2 h r) = (μ : EReal)
      ∧ (∀ s, exps (scores (queries q) (keys k)) (ix3 h r s) = (ex (live r) (z a h r) μ s : EReal))
      ∧ sums (exps (scores (queries q) (keys k))) (ix2 h r) = ((∑ s, ex (live r) (z a h r) μ s : ℝ) : EReal) := by
  obtain ⟨μ, hμ⟩ := exists_max (live r) (z a h r) (exists_live r)
  have e : maxima (scores (queries q) (keys k)) (ix2 h r) = (μ : EReal) := by
    rw [maxima_at, Consts.f32_ninf, ← hμ]
    exact congrArg (fun f => Finset.fold max (⊥ : EReal) f Finset.univ) (funext fun s => scores_eq a H h r s)
  have e' : ∀ s, exps (scores (queries q) (keys k)) (ix3 h r s) = (ex (live r) (z a h r) μ s : EReal) := fun s => by
    rw [exps_at, e, scores_eq a H]; exact exp_masked _ _ μ s
  refine ⟨μ, e, e', ?_⟩
  rw [sums_at]
  simp only [e', coe_sum]

theorem logSums_eq (h : Fin 8) (r s : Fin 16384) (hs : live r s) :
    Ideal.exp ((z a h r s : EReal) - rowStat (logSums (scores (queries q) (keys k))) h r) = (p a h r s : EReal) := by
  obtain ⟨μ, e, -, e''⟩ := row_eq a H h r
  rw [show rowStat (logSums (scores (queries q) (keys k))) h r = _ from logSums_at _ h r, e, e'']
  exact exp_sub_lse (live r) (z a h r) (exists_live r) μ s hs

theorem weight_eq (h : Fin 8) (r s : Fin 16384) :
    weight (queries q) (keys k) (logSums (scores (queries q) (keys k))) h s r = (p a h r s : EReal) := by
  unfold weight
  by_cases hs : s.val ≤ r.val
  · have e : (∑ d : Fin 192, keys k (ix3 h s d) * queries q (ix3 h r d)) = (z a h r s : EReal) := by
      simp only [queries_at, keys_at, H.q, H.k, H.c, ← EReal.coe_mul, coe_sum]
      rw [z, Finset.sum_mul]
      exact congrArg _ (Finset.sum_congr rfl fun d _ => by ring)
    rw [if_pos hs, e]
    exact logSums_eq a H h r s hs
  · rw [if_neg hs, p, prob, if_neg (show ¬ live r s from hs), EReal.coe_zero]

theorem deltas_eq (h : Fin 8) (r : Fin 16384) :
    rowStat (deltas (scores (queries q) (keys k)) v g) h r = ((∑ s, p a h r s * dp a h r s : ℝ) : EReal) := by
  obtain ⟨μ, -, e', e''⟩ := row_eq a H h r
  have hp := (sum_ex_pos (live r) (z a h r) (exists_live r) μ).ne'
  rw [show rowStat (deltas (scores (queries q) (keys k)) v g) h r = _ from deltas_at _ v g h r]
  simp only [output_at, heads_at, e', e'', H.v, H.g, ← EReal.coe_mul, coe_sum, div_real _ _ hp]
  refine congrArg _ (Eq.trans ?_ (delta_eq (live r) (z a h r) (fun s d => a.v s (at' h d)) fun d => a.g r (at' h d)))
  refine Finset.sum_congr rfl fun d _ => congrArg (· * a.g r (at' h d)) ?_
  rw [Finset.sum_div]
  exact Finset.sum_congr rfl fun s _ => by rw [← ex_div (live r) (z a h r) μ s]; ring

theorem dscore_eq (h : Fin 8) (r s : Fin 16384) :
    dscore (queries q) (keys k) (rows v) (rows g) (logSums (scores (queries q) (keys k))) (deltas (scores (queries q) (keys k)) v g) h s r
      = (ds a h r s : EReal) := by
  unfold dscore
  rw [weight_eq a H, deltas_eq a H]
  simp only [rows_at, H.v, H.g, ← EReal.coe_mul, coe_sum, ← EReal.coe_sub]
  rfl

theorem kernel_dv (s : Fin 16384) (j : Fin 1024) :
    dvOf (queries q) (keys k) (rows g) (logSums (scores (queries q) (keys k))) (ix2 s j) = (dv a s j : EReal) := by
  show (∑ r : Fin 16384, weight (queries q) (keys k) (logSums (scores (queries q) (keys k))) ⟨j.val / 128, by omega⟩ s r * rows g (ix2 r j) : EReal) = _
  simp only [weight_eq a H, rows_at, H.g, ← EReal.coe_mul, coe_sum]
  rfl

theorem kernel_dk (h : Fin 8) (s : Fin 16384) (d : Fin 192) :
    dkOf (queries q) (keys k) (rows v) (rows g) (logSums (scores (queries q) (keys k))) (deltas (scores (queries q) (keys k)) v g) (ix3 h s d)
      = (dk a h s d : EReal) := by
  show (∑ r : Fin 16384, dscore (queries q) (keys k) (rows v) (rows g) (logSums (scores (queries q) (keys k)))
    (deltas (scores (queries q) (keys k)) v g) h s r * queries q (ix3 h r d) : EReal) = _
  simp only [dscore_eq a H, queries_at, H.q, H.c, ← EReal.coe_mul, coe_sum]
  rfl

theorem kernel_dq (h : Fin 8) (n : Fin 16) (d : Fin 192) (b : Fin 1024) :
    dqOf (queries q) (keys k) (rows v) (rows g) (logSums (scores (queries q) (keys k))) (deltas (scores (queries q) (keys k)) v g) (ix4 h n d b)
      = (dq a h ⟨n.val * 1024 + b.val, by omega⟩ d : EReal) := by
  show (∑ s : Fin 16384, keys k (ix3 h s d) * dscore (queries q) (keys k) (rows v) (rows g) (logSums (scores (queries q) (keys k)))
    (deltas (scores (queries q) (keys k)) v g) h s ⟨n.val * 1024 + b.val, by omega⟩ : EReal) = _
  simp only [dscore_eq a H, keys_at, H.k, ← EReal.coe_mul, coe_sum]
  rfl

end Kernel

section Reference

open Cert.FlashBwdRefIdeal Cert.FlashRefValue

variable {q k : FVec Ideal S8x16384x192 .f32} {v g : FVec Ideal S16384x1024 .f32} (H : Holds a q k v g)
include H

theorem ref_scores_eq (h : Fin 8) (r s : Fin 16384) : scores q k (ix3 h r s) = masked (live r) (z a h r) s := by
  rw [scores_at, mask_at, FlashTile.select_le _ _ (by omega) (by omega), Consts.f32_ninf]
  refine if_congr Iff.rfl ?_ rfl
  simp only [H.q, H.k, H.c, ← EReal.coe_mul, coe_sum]
  rfl

theorem ref_row_eq (h : Fin 8) (r : Fin 16384) : ∃ μ : ℝ,
    (∀ s, exps (scores q k) (ix3 h r s) = (ex (live r) (z a h r) μ s : EReal))
      ∧ sums (exps (scores q k)) (ix3 h r 0) = ((∑ s, ex (live r) (z a h r) μ s : ℝ) : EReal) := by
  obtain ⟨μ, hμ⟩ := exists_max (live r) (z a h r) (exists_live r)
  have e : maxima (scores q k) (ix2 h r) = (μ : EReal) := by
    rw [maxima_at, rowMaxima_at, Consts.f32_ninf, ← hμ]
    refine Eq.trans (bot_sup_eq _) ?_
    exact congrArg (fun f => Finset.fold max (⊥ : EReal) f Finset.univ) (funext fun s => ref_scores_eq a H h r s)
  have e' : ∀ s, exps (scores q k) (ix3 h r s) = (ex (live r) (z a h r) μ s : EReal) := fun s => by
    rw [exps_at, e, ref_scores_eq a H]; exact exp_masked _ _ μ s
  refine ⟨μ, e', ?_⟩
  rw [sums_at]
  simp only [e', coe_sum]

theorem ref_probs_eq (h : Fin 8) (r s : Fin 16384) : probs (exps (scores q k)) (ix3 h r s) = (p a h r s : EReal) := by
  obtain ⟨μ, e', e''⟩ := ref_row_eq a H h r
  rw [probs_at, e', e'', div_real _ _ (sum_ex_pos (live r) (z a h r) (exists_live r) μ).ne']
  exact congrArg _ (ex_div (live r) (z a h r) μ s)

theorem ref_dprobs_eq (h : Fin 8) (r s : Fin 16384) : dprobs v g (ix3 h r s) = (dp a h r s : EReal) := by
  rw [dprobs_at]
  simp only [outs_at, H.v, H.g, ← EReal.coe_mul, coe_sum]
  refine congrArg _ (Finset.sum_congr rfl fun d _ => ?_)
  rw [mul_comm, show (⟨h.val * 128 + d.val, by omega⟩ : Fin 1024) = at' h d from Fin.ext (by simp only; omega)]

theorem ref_dscores_eq (h : Fin 8) (r s : Fin 16384) :
    dscores (dprobs v g) (exps (scores q k)) (ix3 h r s) = ((ds a h r s * a.c : ℝ) : EReal) := by
  obtain ⟨μ, e', e''⟩ := ref_row_eq a H h r
  have hp := (sum_ex_pos (live r) (z a h r) (exists_live r) μ).ne'
  rw [dscores_at, mask_at, FlashTile.select_le _ _ (by omega) (by omega), means_at, H.c, Consts.f32_zero]
  simp only [squares_at, ref_dprobs_eq a H, e', e'', Consts.f32_one, ← EReal.coe_mul, div_real _ _ hp, div_real _ _ (mul_ne_zero hp hp),
    coe_sum, ← EReal.coe_neg, ← EReal.coe_add]
  rw [grad_eq (live r) (z a h r) (exists_live r) μ (dp a h r) s]
  by_cases hs : s.val ≤ r.val
  · rw [if_pos hs, ← EReal.coe_mul]; rfl
  · rw [if_neg hs, ds, grad_masked _ _ _ s hs, zero_mul, zero_mul, EReal.coe_zero]

theorem ref_dv (s : Fin 16384) (j : Fin 1024) : byRows (dvalues g (probs (exps (scores q k)))) (ix2 s j) = (dv a s j : EReal) := by
  rw [byRows_at, dvalues_at]
  simp only [outs_at, ref_probs_eq a H, H.g, ← EReal.coe_mul, coe_sum]
  refine congrArg _ (Finset.sum_congr rfl fun r _ => ?_)
  rw [mul_comm, show (⟨j.val / 128 * 128 + j.val % 128, by omega⟩ : Fin 1024) = j from Fin.ext (by simp only; omega)]

theorem ref_dk (h : Fin 8) (s : Fin 16384) (d : Fin 192) :
    dkeys (dscores (dprobs v g) (exps (scores q k))) q (ix3 h s d) = (dk a h s d : EReal) := by
  rw [dkeys_at]
  simp only [ref_dscores_eq a H, H.q, ← EReal.coe_mul, coe_sum]
  exact congrArg _ (Finset.sum_congr rfl fun r _ => by ring)

theorem ref_dq (h : Fin 8) (n : Fin 16) (d : Fin 192) (b : Fin 1024) :
    byBlocks (dqueries (dscores (dprobs v g) (exps (scores q k))) k) (ix4 h n d b) = (dq a h ⟨n.val * 1024 + b.val, by omega⟩ d : EReal) := by
  rw [byBlocks_at, dqueries_at, H.c]
  simp only [ref_dscores_eq a H, H.k, ← EReal.coe_mul, coe_sum, div_real _ _ a.hc]
  rw [dq, Finset.sum_div]
  exact congrArg _ (Finset.sum_congr rfl fun s _ => by rw [mul_right_comm, mul_div_cancel_right₀ _ a.hc, mul_comm])

end Reference

/-- Finite arrays hold real arguments. -/
theorem exists_args (q k : (⟨3, ![8, 16384, 192]⟩ : Shape).Idx → EReal) (v g : (⟨2, ![16384, 1024]⟩ : Shape).Idx → EReal)
    (hq : ∀ i, ∃ x : ℝ, q i = x) (hk : ∀ i, ∃ x : ℝ, k i = x) (hv : ∀ i, ∃ x : ℝ, v i = x) (hg : ∀ i, ∃ x : ℝ, g i = x) :
    ∃ a : Args, Holds a q k v g := by
  choose q' hq' using hq
  choose k' hk' using hk
  choose v' hv' using hv
  choose g' hg' using hg
  exact ⟨⟨fun h r d => q' (ix3 h r d), fun h r d => k' (ix3 h r d), fun r j => v' (ix2 r j), fun r j => g' (ix2 r j), 9686330 / 134217728, by norm_num⟩,
    fun h r d => hq' _, fun h r d => hk' _, fun r j => hv' _, fun r j => hg' _, Consts.f32_scale⟩

/-- A value whose size is below infinity is real. -/
theorem real_of_abs_lt (x : EReal) (h : Ideal.cmp .olt (max x (-x)) (Ideal.ofBits .f32 0x7F800000#32) = 1#1) : ∃ y : ℝ, x = y := by
  have hlt : max x (-x) < ⊤ := by
    by_contra hn
    rw [Consts.f32_inf, Ideal.cmp, decide_eq_false hn] at h
    exact absurd h (by decide)
  induction x with
  | bot => exact absurd hlt (by simp)
  | top => exact absurd hlt (by simp)
  | coe y => exact ⟨y, rfl⟩

end Cert.FlashReal

end
-- ==== Proof.FlashClaims.lean ====
/- The claims of the attention's backward call. The frames: the run of `FlashFrame.lean` is over any values, and the
   program as written is the same text, so one run gives both; the reference's is its run. The value: on finite
   arguments the grid's three arrays and the reference's are the same real sums (`FlashReal.lean`). -/
module

public import proofs.«01_k».proof.Defs
public import proofs.«01_k».proof.Proof.FlashFrame
public import proofs.«01_k».proof.Proof.FlashReal
public import proofs.«01_k».proof.Proof.Gen.FlashBwdRefIdeal.Run
public import Idealize.ShloMosaic.Lib.Claim

@[expose] public section

set_option maxRecDepth 16384

open Idealize.ShloMosaic Idealize.ShloMosaic.TcCoe Idealize.SL.Sem

namespace Cert.FlashBwdRun

/-- The frame of the call as written. -/
theorem kernel_frame [Cert.FlashBwdKernel.Facts] : Cert.quiescent_FlashBwdKernel := fun m ρ _ =>
  Eq.mp (by sl_kernel_rfl) (ideal_frame (F := Bits) m ρ)

end Cert.FlashBwdRun

namespace Cert.FlashValue

/-- The reference's frame. -/
theorem ref_frame : Cert.quiescent_FlashBwdRefIdeal := fun m ρ _ =>
  (θ_run Cert.FlashBwdRefIdeal.defs _ _).mono (fun r h => ⟨fun c => (h c).2.2.2, sem_eq_zero_of_no_sems (by decide) r.2⟩)
    (Cert.FlashBwdRefIdeal.Value.run (F := Ideal) m ρ)

/-- The side conditions of the precondition. -/
instance pre_facts : Cert.Pre_flash_finite.Facts := ⟨by decide, by decide⟩

/-- Finite arguments are real. -/
theorem exists_args [Cert.Pre_flash_finite.Facts]
    (m : (ℓ : Loc Cert.FlashBwdKernelIdeal.nD Cert.FlashBwdKernelIdeal.τ Cert.FlashBwdKernelIdeal.sig) → Buf (Elt Ideal) ℓ)
    (hm : Cert.Pre_FlashBwdKernelIdeal_flash_finite m) (c : Dev Cert.FlashBwdKernelIdeal.nD) :
    ∃ a : FlashReal.Args, FlashReal.Holds a (m ((c.tc : Thread Cert.FlashBwdKernelIdeal.nD Cert.FlashBwdKernelIdeal.τ).loc Cert.FlashBwdKernelIdeal.main_arg0))
      (m ((c.tc : Thread Cert.FlashBwdKernelIdeal.nD Cert.FlashBwdKernelIdeal.τ).loc Cert.FlashBwdKernelIdeal.main_arg1))
      (m ((c.tc : Thread Cert.FlashBwdKernelIdeal.nD Cert.FlashBwdKernelIdeal.τ).loc Cert.FlashBwdKernelIdeal.main_arg2))
      (m ((c.tc : Thread Cert.FlashBwdKernelIdeal.nD Cert.FlashBwdKernelIdeal.τ).loc Cert.FlashBwdKernelIdeal.main_arg3)) :=
  FlashReal.exists_args _ _ _ _ (fun i => FlashReal.real_of_abs_lt _ (congrFun (hm c).1 i)) (fun i => FlashReal.real_of_abs_lt _ (congrFun (hm c).2.1 i))
    (fun i => FlashReal.real_of_abs_lt _ (congrFun (hm c).2.2.1 i)) (fun i => FlashReal.real_of_abs_lt _ (congrFun (hm c).2.2.2 i))

section

variable {a : FlashReal.Args} (m : (ℓ : Loc Cert.FlashBwdKernelIdeal.nD Cert.FlashBwdKernelIdeal.τ Cert.FlashBwdKernelIdeal.sig) → Buf (Elt Ideal) ℓ)
  (m' : (ℓ : Loc Cert.FlashBwdRefIdeal.nD Cert.FlashBwdRefIdeal.τ Cert.FlashBwdRefIdeal.sig) → Buf (Elt Ideal) ℓ) (c : Dev Cert.FlashBwdKernelIdeal.nD)
  (H : FlashReal.Holds a (m ((c.tc : Thread Cert.FlashBwdKernelIdeal.nD Cert.FlashBwdKernelIdeal.τ).loc Cert.FlashBwdKernelIdeal.main_arg0))
    (m ((c.tc : Thread Cert.FlashBwdKernelIdeal.nD Cert.FlashBwdKernelIdeal.τ).loc Cert.FlashBwdKernelIdeal.main_arg1))
    (m ((c.tc : Thread Cert.FlashBwdKernelIdeal.nD Cert.FlashBwdKernelIdeal.τ).loc Cert.FlashBwdKernelIdeal.main_arg2))
    (m ((c.tc : Thread Cert.FlashBwdKernelIdeal.nD Cert.FlashBwdKernelIdeal.τ).loc Cert.FlashBwdKernelIdeal.main_arg3)))
  (H' : FlashReal.Holds a (m' ((c.tc : Thread Cert.FlashBwdRefIdeal.nD Cert.FlashBwdRefIdeal.τ).loc Cert.FlashBwdRefIdeal.main_arg0))
    (m' ((c.tc : Thread Cert.FlashBwdRefIdeal.nD Cert.FlashBwdRefIdeal.τ).loc Cert.FlashBwdRefIdeal.main_arg1))
    (m' ((c.tc : Thread Cert.FlashBwdRefIdeal.nD Cert.FlashBwdRefIdeal.τ).loc Cert.FlashBwdRefIdeal.main_arg2))
    (m' ((c.tc : Thread Cert.FlashBwdRefIdeal.nD Cert.FlashBwdRefIdeal.τ).loc Cert.FlashBwdRefIdeal.main_arg3)))
include H H'

/-- The queries' gradients agree, -/
theorem dq_same : Cert.FlashBwdRefIdeal.Value.res_main_v66 m' c
    = (FlashBwdRun.dats m 0 c).arrAt 6 Cert.FlashBwdKernelIdeal.cfg0.N := by
  rw [dq_final, V_q, V_k, V_v, V_g, V_lse, V_delta]
  refine (FlashRefValue.res_dq m' c).trans (funext fun j => ?_)
  rw [show j = ix4 (j 0) (j 1) (j 2) (j 3) from eq_ix4 j]
  exact (FlashReal.ref_dq a H' _ _ _ _).trans (FlashReal.kernel_dq a H _ _ _ _).symm
/-- the keys', -/
theorem dk_same : Cert.FlashBwdRefIdeal.Value.res_main_v61 m' c
    = (FlashBwdRun.dats m 0 c).arrAt 7 Cert.FlashBwdKernelIdeal.cfg0.N := by
  rw [dk_final, V_q, V_k, V_v, V_g, V_lse, V_delta]
  refine (FlashRefValue.res_dk m' c).trans (funext fun j => ?_)
  rw [show j = ix3 (j 0) (j 1) (j 2) from eq_ix3 j]
  exact (FlashReal.ref_dk a H' _ _ _).trans (FlashReal.kernel_dk a H _ _ _).symm
/-- and the values'. -/
theorem dv_same : Cert.FlashBwdRefIdeal.Value.res_main_v67 m' c
    = (FlashBwdRun.dats m 0 c).arrAt 8 Cert.FlashBwdKernelIdeal.cfg0.N := by
  rw [dv_final, V_q, V_k, V_g, V_lse]
  refine (FlashRefValue.res_dv m' c).trans (funext fun j => ?_)
  rw [show j = ix2 (j 0) (j 1) from eq_ix2 j]
  exact (FlashReal.ref_dv a H' _ _).trans (FlashReal.kernel_dv a H _ _).symm

end

theorem flash_algebraic [Cert.Pre_flash_finite.Facts] : Cert.algebraic_FlashBwdKernelIdeal_FlashBwdRefIdeal_pre_flash_finite := by
  pair_intro
  · run_from Cert.FlashBwdRun.run_main m g
    · exact Cert.FlashBwdKernelIdeal.Gen.V_main_arg0 m c
    · exact Cert.FlashBwdKernelIdeal.Gen.V_main_arg1 m c
    · exact Cert.FlashBwdKernelIdeal.Gen.V_main_arg2 m c
    · exact Cert.FlashBwdKernelIdeal.Gen.V_main_arg3 m c
  · refine (θ_run Cert.FlashBwdRefIdeal.defs _ _).mono (fun r h c => ?_) (Cert.FlashBwdRefIdeal.Value.run (F := Ideal) m' g')
    obtain ⟨h0, h1, h2, hrest⟩ := h c
    obtain ⟨a, H⟩ := exists_args m hpre c
    obtain ⟨e0, e1, e2, e3⟩ := hagree c
    have H' := H
    rw [← e0, ← e1, ← e2, ← e3] at H'
    exact ⟨h0.trans (dq_same m m' c H H'), h1.trans (dk_same m m' c H H'), h2.trans (dv_same m m' c H H'), hrest⟩

end Cert.FlashValue
-- ==== Proof.FfnTile.lean ====
/- The feed-forward layer's backward call: the arrays the kernel leaves, for any arrays its grid reads. -/
module

public import proofs.«01_k».proof.Proof.Gen.FfnBwdKernelIdeal.Value
public import Idealize.ShloMosaic.Lib.Pipeline.ValueKit
public import Idealize.ShloMosaic.Lib.Pointwise

@[expose] public section

set_option maxRecDepth 16384

noncomputable section

namespace Cert.FfnValue

open Idealize.ShloMosaic Idealize.ShloMosaic.TcCoe Idealize.SL.Sem
open Idealize.ShloMosaic.Pipeline (Dat)
open Cert.FfnBwdKernelIdeal Cert.FfnBwdKernelIdeal.Gen

/-- The logistic function of an entry of the gate. -/
def sgm (g : EReal) : EReal := Ideal.logistic g
/-- The gradient of the gate from that of the product, -/
def dgOf (d g u : EReal) : EReal :=
  d * u * (sgm g * (Ideal.ofBits .f32 0x3F800000#32 + g * (Ideal.ofBits .f32 0x3F800000#32 - sgm g)))
/-- of the up projection, -/
def duOf (d g : EReal) : EReal := d * (g * sgm g)
/-- and the product itself. -/
def actOf (g u : EReal) : EReal := g * sgm g * u

theorem idx : ∀ t : Fin cfg0.N, win0_0.index t = ![t.val, 0] ∧ win0_1.index t = ![0, 0] ∧ win0_2.index t = ![t.val, 0]
    ∧ win0_3.index t = ![0, t.val, 0] ∧ win0_4.index t = ![0, t.val, 0]
    ∧ win0_5.index t = ![0, 0, 0, 0] ∧ win0_6.index t = ![0, 4, 0, 0] ∧ win0_7.index t = ![0, 0, 0, 0]
    ∧ win0_8.index t = ![t.val, 0] ∧ win0_9.index t = ![0, 0] ∧ win0_10.index t = ![t.val, 0]
    ∧ win0_11.index t = ![0, t.val, 0] ∧ win0_12.index t = ![0, t.val, 0] ∧ win0_13.index t = ![0, t.val, 0] :=
  (by decide +kernel : ∀ t : Fin grid0.N, _)

theorem first : ∀ t : Fin cfg0.N, t.val % 64 = 0 → ¬1 ≤ t.val := (by decide +kernel : ∀ t : Fin grid0.N, _)

variable (m : (ℓ : Loc nD τ sig) → Buf (Elt Ideal) ℓ)

/-- The gradient of the layer's result, unchanged. -/
def dybOf (dy : FVec Ideal S16384x1024 .f32) : FVec Ideal S16384x1024 .bf16 := fun i => dy i

theorem dyb_final (c : Dev nD) : (dats m 0 c).arrAt 10 cfg0.N = dybOf (m ((c : Thread nD τ).loc main_arg8)) := by
  refine (dats m 0 c).arrAt_eq_of_covers 10 _ (by decide +kernel) fun t _ y => ?_
  blk_simp
  rw [after0_10]
  have hV := V_main_arg8 m c
  by_cases h : t.val % 64 = 0
  · rw [outsAt0_A m c t h (first t h)]; frame_out
    pointwise [k0_pay4, dybOf]
    blk_point [iblk, hV, idx t]
  · have h1 : 1 ≤ t.val := by omega
    rw [outsAt0_B m c t h h1]; frame_out
    pointwise [k0_pay4, dybOf]
    blk_point [iblk, hV, idx t]

section blocks

variable (dy : Vec Ideal S256x1024 .f32) (wd : Vec Ideal S1x1x704x1024 .bf16) (g u : Vec Ideal S1x256x704 .bf16) (r : Fin 256) (f : Fin 704)

/-- Within a tile, the product's gradient: half the row of `dy` against a row of the down projection. -/
def dactB : EReal := Ideal.ofBits .f32 0x3F000000#32 * ∑ k : Fin 1024, dy (ix2 r k) * wd (ix4 0 0 f k)

theorem dg0_at : k0_pay14 (k0_pay8 g) (k0_pay10 g) (k0_pay13 dy wd u) (FloatOps.ofBits FTy.f32 1065353216#32) (ix2 r f) = dgOf (dactB dy wd r f) (g (ix3 0 r f)) (u (ix3 0 r f)) := by
  pointwise [k0_pay14, k0_pay13, k0_pay12, k0_pay10, k0_pay9, k0_pay8, k0_pay4, dgOf, dactB, sgm]
theorem du0_at : k0_pay15 (k0_pay11 g) (k0_pay12 dy wd) (ix2 r f) = duOf (dactB dy wd r f) (g (ix3 0 r f)) := by
  pointwise [k0_pay15, k0_pay12, k0_pay11, k0_pay10, k0_pay8, k0_pay4, duOf, dactB, sgm]
theorem act0_at : k0_pay18 (k0_pay9 u) (k0_pay11 g) (ix3 0 r f) = actOf (g (ix3 0 r f)) (u (ix3 0 r f)) := by
  pointwise [k0_pay18, k0_pay9, k0_pay11, k0_pay10, k0_pay8, actOf, sgm]
theorem dgStored0_at : k0_pay16 (k0_pay8 g) (k0_pay10 g) (k0_pay13 dy wd u) (FloatOps.ofBits FTy.f32 1065353216#32) (ix3 0 r f) = dgOf (dactB dy wd r f) (g (ix3 0 r f)) (u (ix3 0 r f)) :=
  Eq.trans (by pointwise [k0_pay16]) (dg0_at dy wd g u r f)
theorem duStored0_at : k0_pay17 (k0_pay11 g) (k0_pay12 dy wd) (ix3 0 r f) = duOf (dactB dy wd r f) (g (ix3 0 r f)) :=
  Eq.trans (by pointwise [k0_pay17]) (du0_at dy wd g r f)
theorem dg1_at : k0_pay25 (k0_pay5 dy wd) (k0_pay20 g) u (ix2 r f) = dgOf (dactB dy wd r f) (g (ix3 0 r f)) (u (ix3 0 r f)) := by
  pointwise [k0_pay25, k0_pay24, k0_pay22, k0_pay21, k0_pay20, k0_pay5, k0_pay4, dgOf, dactB, sgm]
theorem du1_at : k0_pay26 (k0_pay5 dy wd) (k0_pay20 g) (ix2 r f) = duOf (dactB dy wd r f) (g (ix3 0 r f)) := by
  pointwise [k0_pay26, k0_pay24, k0_pay23, k0_pay22, k0_pay20, k0_pay5, k0_pay4, duOf, dactB, sgm]
theorem act1_at : k0_pay29 (k0_pay20 g) u (ix3 0 r f) = actOf (g (ix3 0 r f)) (u (ix3 0 r f)) := by
  pointwise [k0_pay29, k0_pay23, k0_pay22, k0_pay21, k0_pay20, actOf, sgm]
theorem dgStored1_at : k0_pay27 (k0_pay5 dy wd) (k0_pay20 g) u (ix3 0 r f) = dgOf (dactB dy wd r f) (g (ix3 0 r f)) (u (ix3 0 r f)) :=
  Eq.trans (by pointwise [k0_pay27]) (dg1_at dy wd g u r f)
theorem duStored1_at : k0_pay28 (k0_pay5 dy wd) (k0_pay20 g) (ix3 0 r f) = duOf (dactB dy wd r f) (g (ix3 0 r f)) :=
  Eq.trans (by pointwise [k0_pay28]) (du1_at dy wd g r f)
theorem dg2_at : k0_pay38 (k0_pay6 dy wd) g u (ix2 r f) = dgOf (dactB dy wd r f) (g (ix3 0 r f)) (u (ix3 0 r f)) := by
  pointwise [k0_pay38, k0_pay37, k0_pay35, k0_pay34, k0_pay33, k0_pay6, k0_pay4, dgOf, dactB, sgm]
theorem du2_at : k0_pay39 (k0_pay6 dy wd) g (ix2 r f) = duOf (dactB dy wd r f) (g (ix3 0 r f)) := by
  pointwise [k0_pay39, k0_pay37, k0_pay36, k0_pay35, k0_pay33, k0_pay6, k0_pay4, duOf, dactB, sgm]
theorem act2_at : k0_pay42 g u (ix3 0 r f) = actOf (g (ix3 0 r f)) (u (ix3 0 r f)) := by
  pointwise [k0_pay42, k0_pay36, k0_pay35, k0_pay34, k0_pay33, actOf, sgm]
theorem dgStored2_at : k0_pay40 (k0_pay6 dy wd) g u (ix3 0 r f) = dgOf (dactB dy wd r f) (g (ix3 0 r f)) (u (ix3 0 r f)) :=
  Eq.trans (by pointwise [k0_pay40]) (dg2_at dy wd g u r f)
theorem duStored2_at : k0_pay41 (k0_pay6 dy wd) g (ix3 0 r f) = duOf (dactB dy wd r f) (g (ix3 0 r f)) :=
  Eq.trans (by pointwise [k0_pay41]) (du2_at dy wd g r f)
theorem dg3_at : k0_pay49 (k0_pay7 dy wd) g u (ix2 r f) = dgOf (dactB dy wd r f) (g (ix3 0 r f)) (u (ix3 0 r f)) := by
  pointwise [k0_pay49, k0_pay48, k0_pay46, k0_pay45, k0_pay44, k0_pay7, k0_pay4, dgOf, dactB, sgm]
theorem du3_at : k0_pay50 (k0_pay7 dy wd) g (ix2 r f) = duOf (dactB dy wd r f) (g (ix3 0 r f)) := by
  pointwise [k0_pay50, k0_pay48, k0_pay47, k0_pay46, k0_pay44, k0_pay7, k0_pay4, duOf, dactB, sgm]
theorem act3_at : k0_pay54 (k0_pay53 g u) (ix3 0 r f) = actOf (g (ix3 0 r f)) (u (ix3 0 r f)) := by
  pointwise [k0_pay54, k0_pay53, k0_pay47, k0_pay46, k0_pay45, k0_pay44, actOf, sgm]
theorem dgStored3_at : k0_pay51 (k0_pay7 dy wd) g u (ix3 0 r f) = dgOf (dactB dy wd r f) (g (ix3 0 r f)) (u (ix3 0 r f)) :=
  Eq.trans (by pointwise [k0_pay51]) (dg3_at dy wd g u r f)
theorem duStored3_at : k0_pay52 (k0_pay7 dy wd) g (ix3 0 r f) = duOf (dactB dy wd r f) (g (ix3 0 r f)) :=
  Eq.trans (by pointwise [k0_pay52]) (du3_at dy wd g r f)

end blocks

/-- What one chip's units add to the gradient of the normalised row. -/
def partB (dg du : FVec Ideal S256x704 .bf16) (wg wu : Vec Ideal S1x1x704x1024 .bf16) (r : Fin 256) (k : Fin 1024) : EReal :=
  ∑ f : Fin 704, dg (ix2 r f) * wg (ix4 0 0 f k) + ∑ f : Fin 704, du (ix2 r f) * wu (ix4 0 0 f k)

section parts

variable (s : FVec Ideal S256x1024 .f32) (dg du : FVec Ideal S256x704 .bf16) (wg wu : Vec Ideal S1x1x704x1024 .bf16) (r : Fin 256) (k : Fin 1024)

theorem part0_at (a b c d e : FVec Ideal S256x704 .f32) (o) :
    k0_pay19 a b c d e o wg wu (ix2 r k) = partB (k0_pay14 a b e o) (k0_pay15 c d) wg wu r k := by
  pointwise [k0_pay19, partB]
theorem part1_at (a b : FVec Ideal S256x704 .f32) (u : Vec Ideal S1x256x704 .bf16) :
    k0_pay32 s (k0_pay30 a b u wg) (k0_pay31 a b wu) (ix2 r k) = s (ix2 r k) + partB (k0_pay25 a b u) (k0_pay26 a b) wg wu r k := by
  pointwise [k0_pay32, k0_pay30, k0_pay31, partB]
theorem part2_at : k0_pay43 s dg du wg wu (ix2 r k) = s (ix2 r k) + partB dg du wg wu r k := by
  pointwise [k0_pay43, partB]
theorem part3_at : k0_pay55 s dg du wg wu (ix2 r k) = s (ix2 r k) + partB dg du wg wu r k := by
  pointwise [k0_pay55, partB]

end parts

/-- A row's scale, -/
def rstdB (x : Vec Ideal S256x1024 .f32) (r : Fin 256) : EReal :=
  Ideal.rsqrt (Ideal.div (∑ k : Fin 1024, x (ix2 r k) * x (ix2 r k)) (Ideal.ofBits .f32 0x44800000#32) + Ideal.ofBits .f32 0x358637BD#32)
/-- and the gradient its normalisation passes on. -/
def dnB (h x : Vec Ideal S256x1024 .f32) (a : Vec Ideal S1x1024 .f32) (r : Fin 256) (k : Fin 1024) : EReal :=
  rstdB x r * (h (ix2 r k) * a (ix2 0 k) - x (ix2 r k) * rstdB x r
    * Ideal.div (∑ k : Fin 1024, h (ix2 r k) * a (ix2 0 k) * (x (ix2 r k) * rstdB x r)) (Ideal.ofBits .f32 0x44800000#32))

theorem rstd_at (x) (r : Fin 256) : k0_pay56 (F := Ideal) x (ix2 r 0) = rstdB x r := by
  pointwise [k0_pay56, rstdB]
theorem norm_at (x) (r : Fin 256) (k : Fin 1024) : k0_pay57 (F := Ideal) x x (ix2 r k) = x (ix2 r k) * rstdB x r := by
  pointwise [k0_pay57, rstd_at]
theorem dn_at (s) (dg du : FVec Ideal S256x704 .bf16) (wg wu : Vec Ideal S1x1x704x1024 .bf16) (x a) (r : Fin 256) (k : Fin 1024) :
    k0_pay58 (F := Ideal) s dg du wg wu x x a (ix2 r k) = dnB (k0_pay55 s dg du wg wu) x a r k := by
  pointwise [k0_pay58, norm_at, rstd_at, dnB]
theorem add_at (s x) (r : Fin 256) (k : Fin 1024) : k0_pay2 (F := Ideal) s x (ix2 r k) = x (ix2 r k) + s (ix2 r k) := by
  pointwise [k0_pay2]
theorem gainB_at (h n) (k : Fin 1024) : k0_pay1 (F := Ideal) h n (ix2 0 k) = ∑ r : Fin 256, h (ix2 r k) * n (ix2 r k) := by
  pointwise [k0_pay1]
theorem gainB_add (h n acc) (k : Fin 1024) : k0_pay3 (F := Ideal) h n acc (ix2 0 k) = acc (ix2 0 k) + ∑ r : Fin 256, h (ix2 r k) * n (ix2 r k) := by
  pointwise [k0_pay3, gainB_at]

/-- The tile's gradient of the normalised rows, from each chip's blocks. -/
def dhB (dy : Vec Ideal S256x1024 .f32) (g u : Fin 4 → Vec Ideal S1x256x704 .bf16) (wg wu wd : Fin 4 → Vec Ideal S1x1x704x1024 .bf16) : FVec Ideal S256x1024 .f32 :=
  k0_pay55 (k0_pay43 (k0_pay32
      (k0_pay19 (k0_pay8 (g 0)) (k0_pay10 (g 0)) (k0_pay11 (g 0)) (k0_pay12 dy (wd 0)) (k0_pay13 dy (wd 0) (u 0)) (FloatOps.ofBits FTy.f32 1065353216#32) (wg 0) (wu 0))
      (k0_pay30 (k0_pay5 dy (wd 1)) (k0_pay20 (g 1)) (u 1) (wg 1)) (k0_pay31 (k0_pay5 dy (wd 1)) (k0_pay20 (g 1)) (wu 1)))
      (k0_pay38 (k0_pay6 dy (wd 2)) (g 2) (u 2)) (k0_pay39 (k0_pay6 dy (wd 2)) (g 2)) (wg 2) (wu 2))
    (k0_pay49 (k0_pay7 dy (wd 3)) (g 3) (u 3)) (k0_pay50 (k0_pay7 dy (wd 3)) (g 3)) (wg 3) (wu 3)
/-- What one chip's units add to it. -/
def chipB (dy : Vec Ideal S256x1024 .f32) (g u : Vec Ideal S1x256x704 .bf16) (wg wu wd : Vec Ideal S1x1x704x1024 .bf16) (r : Fin 256) (k : Fin 1024) : EReal :=
  ∑ f : Fin 704, dgOf (dactB dy wd r f) (g (ix3 0 r f)) (u (ix3 0 r f)) * wg (ix4 0 0 f k)
    + ∑ f : Fin 704, duOf (dactB dy wd r f) (g (ix3 0 r f)) * wu (ix4 0 0 f k)
theorem dhB_at (dy g u wg wu wd) (r : Fin 256) (k : Fin 1024) : dhB dy g u wg wu wd (ix2 r k)
    = chipB dy (g 0) (u 0) (wg 0) (wu 0) (wd 0) r k + chipB dy (g 1) (u 1) (wg 1) (wu 1) (wd 1) r k
      + chipB dy (g 2) (u 2) (wg 2) (wu 2) (wd 2) r k + chipB dy (g 3) (u 3) (wg 3) (wu 3) (wd 3) r k := by
  unfold dhB
  rw [part3_at, part2_at, part1_at, part0_at]
  simp only [partB, chipB, dg0_at, dg1_at, dg2_at, dg3_at, du0_at, du1_at, du2_at, du3_at]

end Cert.FfnValue

end
-- ==== Proof.FfnFinal.lean ====
/- The feed-forward layer's backward call: the six arrays the kernel leaves, from the arrays its grid reads. -/
module

public import proofs.«01_k».proof.Proof.FfnTile

@[expose] public section

set_option maxRecDepth 16384

noncomputable section

namespace Cert.FfnValue

open Idealize.ShloMosaic Idealize.ShloMosaic.TcCoe Idealize.SL.Sem
open Idealize.ShloMosaic.Pipeline (Dat)
open Cert.FfnBwdKernelIdeal Cert.FfnBwdKernelIdeal.Gen

/-- Row `r` of tile `t`. -/
def row (t : Fin cfg0.N) (r : Fin 256) : Fin 16384 := ⟨t.val * 256 + r.val, by have := (show t.val < 64 from t.isLt); have := r.isLt; omega⟩

section blocks

variable (t : Fin cfg0.N)

theorem at_x (X : FVec Ideal S16384x1024 .f32) (r : Fin 256) (k : Fin 1024) :
    (win0_0.blk t).view.read (Elt Ideal) X (ix2 r k) = X (ix2 (row t r) k) := by blk_point [idx t, row]
theorem at_gain (X : FVec Ideal S1x1024 .f32) (k : Fin 1024) :
    (win0_1.blk t).view.read (Elt Ideal) X (ix2 0 k) = X (ix2 0 k) := by blk_point [idx t, row]
theorem at_dy (X : FVec Ideal S16384x1024 .f32) (r : Fin 256) (k : Fin 1024) :
    (win0_2.blk t).view.read (Elt Ideal) X (ix2 r k) = X (ix2 (row t r) k) := by blk_point [idx t, row]
theorem at_g (X : FVec Ideal S4x16384x704 .bf16) (e : Fin 4) (r : Fin 256) (f : Fin 704) :
    (win0_3.blk t).view.read (Elt Ideal) X (ix3 e r f) = X (ix3 e (row t r) f) := by blk_point [idx t, row]
theorem at_u (X : FVec Ideal S4x16384x704 .bf16) (e : Fin 4) (r : Fin 256) (f : Fin 704) :
    (win0_4.blk t).view.read (Elt Ideal) X (ix3 e r f) = X (ix3 e (row t r) f) := by blk_point [idx t, row]
theorem at_wg (X : FVec Ideal S4x16x704x1024 .bf16) (e : Fin 4) (f : Fin 704) (k : Fin 1024) :
    (win0_5.blk t).view.read (Elt Ideal) X (ix4 e 0 f k) = X (ix4 e 0 f k) := by blk_point [idx t, row]
theorem at_wu (X : FVec Ideal S4x16x704x1024 .bf16) (e : Fin 4) (f : Fin 704) (k : Fin 1024) :
    (win0_6.blk t).view.read (Elt Ideal) X (ix4 e 0 f k) = X (ix4 e 4 f k) := by blk_point [idx t, row]
theorem at_wd (X : FVec Ideal S4x8x704x1024 .bf16) (e : Fin 4) (f : Fin 704) (k : Fin 1024) :
    (win0_7.blk t).view.read (Elt Ideal) X (ix4 e 0 f k) = X (ix4 e 0 f k) := by blk_point [idx t, row]
theorem tile0 (Y : Vec Ideal S4x256x704 .bf16) (r : Fin 256) (f : Fin 704) :
    View.ld Y (Rect.unit ![0, 0, 0] ![1, 256, 704] inb_S4x256x704_S1x256x704_0_0_0) (ix3 0 r f) = Y (ix3 0 r f) :=
  View.ld_unit_apply_of _ _ _ _ _ _ (by intro a; fin_cases a <;> simp)
theorem plane0 (Y : Vec Ideal S4x1x704x1024 .bf16) (f : Fin 704) (k : Fin 1024) :
    View.ld Y (Rect.unit ![0, 0, 0, 0] ![1, 1, 704, 1024] inb_S4x1x704x1024_S1x1x704x1024_0_0_0_0) (ix4 0 0 f k) = Y (ix4 0 0 f k) :=
  View.ld_unit_apply_of _ _ _ _ _ _ (by intro a; fin_cases a <;> simp)
theorem tile1 (Y : Vec Ideal S4x256x704 .bf16) (r : Fin 256) (f : Fin 704) :
    View.ld Y (Rect.unit ![1, 0, 0] ![1, 256, 704] inb_S4x256x704_S1x256x704_1_0_0) (ix3 0 r f) = Y (ix3 1 r f) :=
  View.ld_unit_apply_of _ _ _ _ _ _ (by intro a; fin_cases a <;> simp)
theorem plane1 (Y : Vec Ideal S4x1x704x1024 .bf16) (f : Fin 704) (k : Fin 1024) :
    View.ld Y (Rect.unit ![1, 0, 0, 0] ![1, 1, 704, 1024] inb_S4x1x704x1024_S1x1x704x1024_1_0_0_0) (ix4 0 0 f k) = Y (ix4 1 0 f k) :=
  View.ld_unit_apply_of _ _ _ _ _ _ (by intro a; fin_cases a <;> simp)
theorem tile2 (Y : Vec Ideal S4x256x704 .bf16) (r : Fin 256) (f : Fin 704) :
    View.ld Y (Rect.unit ![2, 0, 0] ![1, 256, 704] inb_S4x256x704_S1x256x704_2_0_0) (ix3 0 r f) = Y (ix3 2 r f) :=
  View.ld_unit_apply_of _ _ _ _ _ _ (by intro a; fin_cases a <;> simp)
theorem plane2 (Y : Vec Ideal S4x1x704x1024 .bf16) (f : Fin 704) (k : Fin 1024) :
    View.ld Y (Rect.unit ![2, 0, 0, 0] ![1, 1, 704, 1024] inb_S4x1x704x1024_S1x1x704x1024_2_0_0_0) (ix4 0 0 f k) = Y (ix4 2 0 f k) :=
  View.ld_unit_apply_of _ _ _ _ _ _ (by intro a; fin_cases a <;> simp)
theorem tile3 (Y : Vec Ideal S4x256x704 .bf16) (r : Fin 256) (f : Fin 704) :
    View.ld Y (Rect.unit ![3, 0, 0] ![1, 256, 704] inb_S4x256x704_S1x256x704_3_0_0) (ix3 0 r f) = Y (ix3 3 r f) :=
  View.ld_unit_apply_of _ _ _ _ _ _ (by intro a; fin_cases a <;> simp)
theorem plane3 (Y : Vec Ideal S4x1x704x1024 .bf16) (f : Fin 704) (k : Fin 1024) :
    View.ld Y (Rect.unit ![3, 0, 0, 0] ![1, 1, 704, 1024] inb_S4x1x704x1024_S1x1x704x1024_3_0_0_0) (ix4 0 0 f k) = Y (ix4 3 0 f k) :=
  View.ld_unit_apply_of _ _ _ _ _ _ (by intro a; fin_cases a <;> simp)
theorem to_dx (Z : FVec Ideal S16384x1024 .f32) (r : Fin 256) (k : Fin 1024) (e : EReal) (h : e = Z (ix2 (row t r) k)) :
    e = Z ((win0_8.blk t).view.emb (ix2 r k)) :=
  h.trans (show Z (ix2 (row t r) k) = (win0_8.blk t).view.read (Elt Ideal) Z (ix2 r k) by blk_point [idx t, row])
theorem to_dgain (Z : FVec Ideal S1x1024 .f32) (k : Fin 1024) (e : EReal) (h : e = Z (ix2 0 k)) :
    e = Z ((win0_9.blk t).view.emb (ix2 0 k)) :=
  h.trans (show Z (ix2 0 k) = (win0_9.blk t).view.read (Elt Ideal) Z (ix2 0 k) by blk_point [idx t, row])
theorem to_dg0 (Z : FVec Ideal S4x16384x704 .bf16) (r : Fin 256) (f : Fin 704) (e : EReal) (h : e = Z (ix3 0 (row t r) f)) :
    e = Z ((win0_11.blk t).view.emb (ix3 0 r f)) :=
  h.trans (show Z (ix3 0 (row t r) f) = (win0_11.blk t).view.read (Elt Ideal) Z (ix3 0 r f) by blk_point [idx t, row])
theorem to_dg1 (Z : FVec Ideal S4x16384x704 .bf16) (r : Fin 256) (f : Fin 704) (e : EReal) (h : e = Z (ix3 1 (row t r) f)) :
    e = Z ((win0_11.blk t).view.emb (ix3 1 r f)) :=
  h.trans (show Z (ix3 1 (row t r) f) = (win0_11.blk t).view.read (Elt Ideal) Z (ix3 1 r f) by blk_point [idx t, row])
theorem to_dg2 (Z : FVec Ideal S4x16384x704 .bf16) (r : Fin 256) (f : Fin 704) (e : EReal) (h : e = Z (ix3 2 (row t r) f)) :
    e = Z ((win0_11.blk t).view.emb (ix3 2 r f)) :=
  h.trans (show Z (ix3 2 (row t r) f) = (win0_11.blk t).view.read (Elt Ideal) Z (ix3 2 r f) by blk_point [idx t, row])
theorem to_dg3 (Z : FVec Ideal S4x16384x704 .bf16) (r : Fin 256) (f : Fin 704) (e : EReal) (h : e = Z (ix3 3 (row t r) f)) :
    e = Z ((win0_11.blk t).view.emb (ix3 3 r f)) :=
  h.trans (show Z (ix3 3 (row t r) f) = (win0_11.blk t).view.read (Elt Ideal) Z (ix3 3 r f) by blk_point [idx t, row])
theorem to_du0 (Z : FVec Ideal S4x16384x704 .bf16) (r : Fin 256) (f : Fin 704) (e : EReal) (h : e = Z (ix3 0 (row t r) f)) :
    e = Z ((win0_12.blk t).view.emb (ix3 0 r f)) :=
  h.trans (show Z (ix3 0 (row t r) f) = (win0_12.blk t).view.read (Elt Ideal) Z (ix3 0 r f) by blk_point [idx t, row])
theorem to_du1 (Z : FVec Ideal S4x16384x704 .bf16) (r : Fin 256) (f : Fin 704) (e : EReal) (h : e = Z (ix3 1 (row t r) f)) :
    e = Z ((win0_12.blk t).view.emb (ix3 1 r f)) :=
  h.trans (show Z (ix3 1 (row t r) f) = (win0_12.blk t).view.read (Elt Ideal) Z (ix3 1 r f) by blk_point [idx t, row])
theorem to_du2 (Z : FVec Ideal S4x16384x704 .bf16) (r : Fin 256) (f : Fin 704) (e : EReal) (h : e = Z (ix3 2 (row t r) f)) :
    e = Z ((win0_12.blk t).view.emb (ix3 2 r f)) :=
  h.trans (show Z (ix3 2 (row t r) f) = (win0_12.blk t).view.read (Elt Ideal) Z (ix3 2 r f) by blk_point [idx t, row])
theorem to_du3 (Z : FVec Ideal S4x16384x704 .bf16) (r : Fin 256) (f : Fin 704) (e : EReal) (h : e = Z (ix3 3 (row t r) f)) :
    e = Z ((win0_12.blk t).view.emb (ix3 3 r f)) :=
  h.trans (show Z (ix3 3 (row t r) f) = (win0_12.blk t).view.read (Elt Ideal) Z (ix3 3 r f) by blk_point [idx t, row])
theorem to_act0 (Z : FVec Ideal S4x16384x704 .bf16) (r : Fin 256) (f : Fin 704) (e : EReal) (h : e = Z (ix3 0 (row t r) f)) :
    e = Z ((win0_13.blk t).view.emb (ix3 0 r f)) :=
  h.trans (show Z (ix3 0 (row t r) f) = (win0_13.blk t).view.read (Elt Ideal) Z (ix3 0 r f) by blk_point [idx t, row])
theorem to_act1 (Z : FVec Ideal S4x16384x704 .bf16) (r : Fin 256) (f : Fin 704) (e : EReal) (h : e = Z (ix3 1 (row t r) f)) :
    e = Z ((win0_13.blk t).view.emb (ix3 1 r f)) :=
  h.trans (show Z (ix3 1 (row t r) f) = (win0_13.blk t).view.read (Elt Ideal) Z (ix3 1 r f) by blk_point [idx t, row])
theorem to_act2 (Z : FVec Ideal S4x16384x704 .bf16) (r : Fin 256) (f : Fin 704) (e : EReal) (h : e = Z (ix3 2 (row t r) f)) :
    e = Z ((win0_13.blk t).view.emb (ix3 2 r f)) :=
  h.trans (show Z (ix3 2 (row t r) f) = (win0_13.blk t).view.read (Elt Ideal) Z (ix3 2 r f) by blk_point [idx t, row])
theorem to_act3 (Z : FVec Ideal S4x16384x704 .bf16) (r : Fin 256) (f : Fin 704) (e : EReal) (h : e = Z (ix3 3 (row t r) f)) :
    e = Z ((win0_13.blk t).view.emb (ix3 3 r f)) :=
  h.trans (show Z (ix3 3 (row t r) f) = (win0_13.blk t).view.read (Elt Ideal) Z (ix3 3 r f) by blk_point [idx t, row])

end blocks

/-! ## The arrays, from those the grid reads -/

section arrays

variable (x dy : FVec Ideal S16384x1024 .f32) (a : FVec Ideal S1x1024 .f32) (g u : FVec Ideal S4x16384x704 .bf16)
  (w : FVec Ideal S4x16x704x1024 .bf16) (wd : FVec Ideal S4x8x704x1024 .bf16)

/-- The product's gradient: half the row of `dy` against a row of the down projection. -/
def dactA (e : Fin 4) (r : Fin 16384) (f : Fin 704) : EReal := Ideal.ofBits .f32 0x3F000000#32 * ∑ k : Fin 1024, dy (ix2 r k) * wd (ix4 e 0 f k)
/-- The gate's gradient, -/
def dgArr : FVec Ideal S4x16384x704 .bf16 := fun i => dgOf (dactA dy wd (i 0) (i 1) (i 2)) (g i) (u i)
/-- the up projection's, -/
def duArr : FVec Ideal S4x16384x704 .bf16 := fun i => duOf (dactA dy wd (i 0) (i 1) (i 2)) (g i)
/-- and the product of gate and up. -/
def actArr : FVec Ideal S4x16384x704 .bf16 := fun i => actOf (g i) (u i)
/-- What one chip's units add to the normalised rows' gradient, -/
def chipA (r : Fin 16384) (k : Fin 1024) (e : Fin 4) : EReal :=
  ∑ f : Fin 704, dgOf (dactA dy wd e r f) (g (ix3 e r f)) (u (ix3 e r f)) * w (ix4 e 0 f k)
    + ∑ f : Fin 704, duOf (dactA dy wd e r f) (g (ix3 e r f)) * w (ix4 e 4 f k)
/-- and all four chips. -/
def dhA (r : Fin 16384) (k : Fin 1024) : EReal :=
  chipA dy g u w wd r k 0 + chipA dy g u w wd r k 1 + chipA dy g u w wd r k 2 + chipA dy g u w wd r k 3
/-- A row's scale. -/
def rstdA (r : Fin 16384) : EReal :=
  Ideal.rsqrt (Ideal.div (∑ k : Fin 1024, x (ix2 r k) * x (ix2 r k)) (Ideal.ofBits .f32 0x44800000#32) + Ideal.ofBits .f32 0x358637BD#32)
/-- What the normalisation passes on, -/
def dnA (r : Fin 16384) (k : Fin 1024) : EReal :=
  rstdA x r * (dhA dy g u w wd r k * a (ix2 0 k) - x (ix2 r k) * rstdA x r
    * Ideal.div (∑ k : Fin 1024, dhA dy g u w wd r k * a (ix2 0 k) * (x (ix2 r k) * rstdA x r)) (Ideal.ofBits .f32 0x44800000#32))
/-- the rows' gradient, -/
def dxArr : FVec Ideal S16384x1024 .f32 := fun i => dy i + dnA x dy a g u w wd (i 0) (i 1)
/-- and the gain's. -/
def dgainArr : FVec Ideal S1x1024 .f32 := fun i => ∑ r : Fin 16384, dhA dy g u w wd r (i 1) * (x (ix2 r (i 1)) * rstdA x r)

end arrays

variable (m : (ℓ : Loc nD τ sig) → Buf (Elt Ideal) ℓ) (c : Dev nD)

section reads

variable (t : Fin cfg0.N)

theorem blk_x (r : Fin 256) (k : Fin 1024) : iblk m c 0 t (ix2 r k) = V m c main_arg0 (ix2 (row t r) k) := at_x t (V m c main_arg0) r k
theorem blk_gain (k : Fin 1024) : iblk m c 1 t (ix2 0 k) = V m c main_arg1 (ix2 0 k) := at_gain t (V m c main_arg1) k
theorem blk_dy (r : Fin 256) (k : Fin 1024) : iblk m c 2 t (ix2 r k) = V m c main_arg8 (ix2 (row t r) k) := at_dy t (V m c main_arg8) r k
abbrev g0 : Vec Ideal S1x256x704 .bf16 := View.ld (iblk m c 3 t) (Rect.unit ![0, 0, 0] ![1, 256, 704] inb_S4x256x704_S1x256x704_0_0_0)
theorem blk_g0 (r : Fin 256) (f : Fin 704) : g0 m c t (ix3 0 r f) = V m c main_v30 (ix3 0 (row t r) f) :=
  (tile0 _ r f).trans (at_g t (V m c main_v30) 0 r f)
abbrev g1 : Vec Ideal S1x256x704 .bf16 := View.ld (iblk m c 3 t) (Rect.unit ![1, 0, 0] ![1, 256, 704] inb_S4x256x704_S1x256x704_1_0_0)
theorem blk_g1 (r : Fin 256) (f : Fin 704) : g1 m c t (ix3 0 r f) = V m c main_v30 (ix3 1 (row t r) f) :=
  (tile1 _ r f).trans (at_g t (V m c main_v30) 1 r f)
abbrev g2 : Vec Ideal S1x256x704 .bf16 := View.ld (iblk m c 3 t) (Rect.unit ![2, 0, 0] ![1, 256, 704] inb_S4x256x704_S1x256x704_2_0_0)
theorem blk_g2 (r : Fin 256) (f : Fin 704) : g2 m c t (ix3 0 r f) = V m c main_v30 (ix3 2 (row t r) f) :=
  (tile2 _ r f).trans (at_g t (V m c main_v30) 2 r f)
abbrev g3 : Vec Ideal S1x256x704 .bf16 := View.ld (iblk m c 3 t) (Rect.unit ![3, 0, 0] ![1, 256, 704] inb_S4x256x704_S1x256x704_3_0_0)
theorem blk_g3 (r : Fin 256) (f : Fin 704) : g3 m c t (ix3 0 r f) = V m c main_v30 (ix3 3 (row t r) f) :=
  (tile3 _ r f).trans (at_g t (V m c main_v30) 3 r f)
abbrev u0 : Vec Ideal S1x256x704 .bf16 := View.ld (iblk m c 4 t) (Rect.unit ![0, 0, 0] ![1, 256, 704] inb_S4x256x704_S1x256x704_0_0_0)
theorem blk_u0 (r : Fin 256) (f : Fin 704) : u0 m c t (ix3 0 r f) = V m c main_v31 (ix3 0 (row t r) f) :=
  (tile0 _ r f).trans (at_u t (V m c main_v31) 0 r f)
abbrev u1 : Vec Ideal S1x256x704 .bf16 := View.ld (iblk m c 4 t) (Rect.unit ![1, 0, 0] ![1, 256, 704] inb_S4x256x704_S1x256x704_1_0_0)
theorem blk_u1 (r : Fin 256) (f : Fin 704) : u1 m c t (ix3 0 r f) = V m c main_v31 (ix3 1 (row t r) f) :=
  (tile1 _ r f).trans (at_u t (V m c main_v31) 1 r f)
abbrev u2 : Vec Ideal S1x256x704 .bf16 := View.ld (iblk m c 4 t) (Rect.unit ![2, 0, 0] ![1, 256, 704] inb_S4x256x704_S1x256x704_2_0_0)
theorem blk_u2 (r : Fin 256) (f : Fin 704) : u2 m c t (ix3 0 r f) = V m c main_v31 (ix3 2 (row t r) f) :=
  (tile2 _ r f).trans (at_u t (V m c main_v31) 2 r f)
abbrev u3 : Vec Ideal S1x256x704 .bf16 := View.ld (iblk m c 4 t) (Rect.unit ![3, 0, 0] ![1, 256, 704] inb_S4x256x704_S1x256x704_3_0_0)
theorem blk_u3 (r : Fin 256) (f : Fin 704) : u3 m c t (ix3 0 r f) = V m c main_v31 (ix3 3 (row t r) f) :=
  (tile3 _ r f).trans (at_u t (V m c main_v31) 3 r f)
abbrev wg0 : Vec Ideal S1x1x704x1024 .bf16 := View.ld (iblk m c 5 t) (Rect.unit ![0, 0, 0, 0] ![1, 1, 704, 1024] inb_S4x1x704x1024_S1x1x704x1024_0_0_0_0)
theorem blk_wg0 (f : Fin 704) (k : Fin 1024) : wg0 m c t (ix4 0 0 f k) = V m c main_v6 (ix4 0 0 f k) :=
  (plane0 _ f k).trans (at_wg t (V m c main_v6) 0 f k)
abbrev wg1 : Vec Ideal S1x1x704x1024 .bf16 := View.ld (iblk m c 5 t) (Rect.unit ![1, 0, 0, 0] ![1, 1, 704, 1024] inb_S4x1x704x1024_S1x1x704x1024_1_0_0_0)
theorem blk_wg1 (f : Fin 704) (k : Fin 1024) : wg1 m c t (ix4 0 0 f k) = V m c main_v6 (ix4 1 0 f k) :=
  (plane1 _ f k).trans (at_wg t (V m c main_v6) 1 f k)
abbrev wg2 : Vec Ideal S1x1x704x1024 .bf16 := View.ld (iblk m c 5 t) (Rect.unit ![2, 0, 0, 0] ![1, 1, 704, 1024] inb_S4x1x704x1024_S1x1x704x1024_2_0_0_0)
theorem blk_wg2 (f : Fin 704) (k : Fin 1024) : wg2 m c t (ix4 0 0 f k) = V m c main_v6 (ix4 2 0 f k) :=
  (plane2 _ f k).trans (at_wg t (V m c main_v6) 2 f k)
abbrev wg3 : Vec Ideal S1x1x704x1024 .bf16 := View.ld (iblk m c 5 t) (Rect.unit ![3, 0, 0, 0] ![1, 1, 704, 1024] inb_S4x1x704x1024_S1x1x704x1024_3_0_0_0)
theorem blk_wg3 (f : Fin 704) (k : Fin 1024) : wg3 m c t (ix4 0 0 f k) = V m c main_v6 (ix4 3 0 f k) :=
  (plane3 _ f k).trans (at_wg t (V m c main_v6) 3 f k)
abbrev wu0 : Vec Ideal S1x1x704x1024 .bf16 := View.ld (iblk m c 6 t) (Rect.unit ![0, 0, 0, 0] ![1, 1, 704, 1024] inb_S4x1x704x1024_S1x1x704x1024_0_0_0_0)
theorem blk_wu0 (f : Fin 704) (k : Fin 1024) : wu0 m c t (ix4 0 0 f k) = V m c main_v6 (ix4 0 4 f k) :=
  (plane0 _ f k).trans (at_wu t (V m c main_v6) 0 f k)
abbrev wu1 : Vec Ideal S1x1x704x1024 .bf16 := View.ld (iblk m c 6 t) (Rect.unit ![1, 0, 0, 0] ![1, 1, 704, 1024] inb_S4x1x704x1024_S1x1x704x1024_1_0_0_0)
theorem blk_wu1 (f : Fin 704) (k : Fin 1024) : wu1 m c t (ix4 0 0 f k) = V m c main_v6 (ix4 1 4 f k) :=
  (plane1 _ f k).trans (at_wu t (V m c main_v6) 1 f k)
abbrev wu2 : Vec Ideal S1x1x704x1024 .bf16 := View.ld (iblk m c 6 t) (Rect.unit ![2, 0, 0, 0] ![1, 1, 704, 1024] inb_S4x1x704x1024_S1x1x704x1024_2_0_0_0)
theorem blk_wu2 (f : Fin 704) (k : Fin 1024) : wu2 m c t (ix4 0 0 f k) = V m c main_v6 (ix4 2 4 f k) :=
  (plane2 _ f k).trans (at_wu t (V m c main_v6) 2 f k)
abbrev wu3 : Vec Ideal S1x1x704x1024 .bf16 := View.ld (iblk m c 6 t) (Rect.unit ![3, 0, 0, 0] ![1, 1, 704, 1024] inb_S4x1x704x1024_S1x1x704x1024_3_0_0_0)
theorem blk_wu3 (f : Fin 704) (k : Fin 1024) : wu3 m c t (ix4 0 0 f k) = V m c main_v6 (ix4 3 4 f k) :=
  (plane3 _ f k).trans (at_wu t (V m c main_v6) 3 f k)
abbrev wd0 : Vec Ideal S1x1x704x1024 .bf16 := View.ld (iblk m c 7 t) (Rect.unit ![0, 0, 0, 0] ![1, 1, 704, 1024] inb_S4x1x704x1024_S1x1x704x1024_0_0_0_0)
theorem blk_wd0 (f : Fin 704) (k : Fin 1024) : wd0 m c t (ix4 0 0 f k) = V m c main_v8 (ix4 0 0 f k) :=
  (plane0 _ f k).trans (at_wd t (V m c main_v8) 0 f k)
abbrev wd1 : Vec Ideal S1x1x704x1024 .bf16 := View.ld (iblk m c 7 t) (Rect.unit ![1, 0, 0, 0] ![1, 1, 704, 1024] inb_S4x1x704x1024_S1x1x704x1024_1_0_0_0)
theorem blk_wd1 (f : Fin 704) (k : Fin 1024) : wd1 m c t (ix4 0 0 f k) = V m c main_v8 (ix4 1 0 f k) :=
  (plane1 _ f k).trans (at_wd t (V m c main_v8) 1 f k)
abbrev wd2 : Vec Ideal S1x1x704x1024 .bf16 := View.ld (iblk m c 7 t) (Rect.unit ![2, 0, 0, 0] ![1, 1, 704, 1024] inb_S4x1x704x1024_S1x1x704x1024_2_0_0_0)
theorem blk_wd2 (f : Fin 704) (k : Fin 1024) : wd2 m c t (ix4 0 0 f k) = V m c main_v8 (ix4 2 0 f k) :=
  (plane2 _ f k).trans (at_wd t (V m c main_v8) 2 f k)
abbrev wd3 : Vec Ideal S1x1x704x1024 .bf16 := View.ld (iblk m c 7 t) (Rect.unit ![3, 0, 0, 0] ![1, 1, 704, 1024] inb_S4x1x704x1024_S1x1x704x1024_3_0_0_0)
theorem blk_wd3 (f : Fin 704) (k : Fin 1024) : wd3 m c t (ix4 0 0 f k) = V m c main_v8 (ix4 3 0 f k) :=
  (plane3 _ f k).trans (at_wd t (V m c main_v8) 3 f k)

theorem dact0 (r : Fin 256) (f : Fin 704) : dactB (iblk m c 2 t) (wd0 m c t) r f = dactA (V m c main_arg8) (V m c main_v8) 0 (row t r) f :=
  congrArg (fun z : EReal => Ideal.ofBits .f32 0x3F000000#32 * z) (Finset.sum_congr rfl fun k _ =>
    congrArg₂ (fun a b : EReal => a * b) (blk_dy m c t r k) (blk_wd0 m c t f k))
theorem dgT0 (r : Fin 256) (f : Fin 704) : dgOf (dactB (iblk m c 2 t) (wd0 m c t) r f) (g0 m c t (ix3 0 r f)) (u0 m c t (ix3 0 r f))
    = dgOf (dactA (V m c main_arg8) (V m c main_v8) 0 (row t r) f) (V m c main_v30 (ix3 0 (row t r) f)) (V m c main_v31 (ix3 0 (row t r) f)) := by
  rw [dact0, blk_g0, blk_u0]
theorem duT0 (r : Fin 256) (f : Fin 704) : duOf (dactB (iblk m c 2 t) (wd0 m c t) r f) (g0 m c t (ix3 0 r f))
    = duOf (dactA (V m c main_arg8) (V m c main_v8) 0 (row t r) f) (V m c main_v30 (ix3 0 (row t r) f)) := by
  rw [dact0, blk_g0]
theorem chipT0 (r : Fin 256) (k : Fin 1024) : chipB (iblk m c 2 t) (g0 m c t) (u0 m c t) (wg0 m c t) (wu0 m c t) (wd0 m c t) r k
    = chipA (V m c main_arg8) (V m c main_v30) (V m c main_v31) (V m c main_v6) (V m c main_v8) (row t r) k 0 :=
  congrArg₂ (fun a b : EReal => a + b)
    (Finset.sum_congr rfl fun f _ => congrArg₂ (fun a b : EReal => a * b) (dgT0 m c t r f) (blk_wg0 m c t f k))
    (Finset.sum_congr rfl fun f _ => congrArg₂ (fun a b : EReal => a * b) (duT0 m c t r f) (blk_wu0 m c t f k))
theorem dact1 (r : Fin 256) (f : Fin 704) : dactB (iblk m c 2 t) (wd1 m c t) r f = dactA (V m c main_arg8) (V m c main_v8) 1 (row t r) f :=
  congrArg (fun z : EReal => Ideal.ofBits .f32 0x3F000000#32 * z) (Finset.sum_congr rfl fun k _ =>
    congrArg₂ (fun a b : EReal => a * b) (blk_dy m c t r k) (blk_wd1 m c t f k))
theorem dgT1 (r : Fin 256) (f : Fin 704) : dgOf (dactB (iblk m c 2 t) (wd1 m c t) r f) (g1 m c t (ix3 0 r f)) (u1 m c t (ix3 0 r f))
    = dgOf (dactA (V m c main_arg8) (V m c main_v8) 1 (row t r) f) (V m c main_v30 (ix3 1 (row t r) f)) (V m c main_v31 (ix3 1 (row t r) f)) := by
  rw [dact1, blk_g1, blk_u1]
theorem duT1 (r : Fin 256) (f : Fin 704) : duOf (dactB (iblk m c 2 t) (wd1 m c t) r f) (g1 m c t (ix3 0 r f))
    = duOf (dactA (V m c main_arg8) (V m c main_v8) 1 (row t r) f) (V m c main_v30 (ix3 1 (row t r) f)) := by
  rw [dact1, blk_g1]
theorem chipT1 (r : Fin 256) (k : Fin 1024) : chipB (iblk m c 2 t) (g1 m c t) (u1 m c t) (wg1 m c t) (wu1 m c t) (wd1 m c t) r k
    = chipA (V m c main_arg8) (V m c main_v30) (V m c main_v31) (V m c main_v6) (V m c main_v8) (row t r) k 1 :=
  congrArg₂ (fun a b : EReal => a + b)
    (Finset.sum_congr rfl fun f _ => congrArg₂ (fun a b : EReal => a * b) (dgT1 m c t r f) (blk_wg1 m c t f k))
    (Finset.sum_congr rfl fun f _ => congrArg₂ (fun a b : EReal => a * b) (duT1 m c t r f) (blk_wu1 m c t f k))
theorem dact2 (r : Fin 256) (f : Fin 704) : dactB (iblk m c 2 t) (wd2 m c t) r f = dactA (V m c main_arg8) (V m c main_v8) 2 (row t r) f :=
  congrArg (fun z : EReal => Ideal.ofBits .f32 0x3F000000#32 * z) (Finset.sum_congr rfl fun k _ =>
    congrArg₂ (fun a b : EReal => a * b) (blk_dy m c t r k) (blk_wd2 m c t f k))
theorem dgT2 (r : Fin 256) (f : Fin 704) : dgOf (dactB (iblk m c 2 t) (wd2 m c t) r f) (g2 m c t (ix3 0 r f)) (u2 m c t (ix3 0 r f))
    = dgOf (dactA (V m c main_arg8) (V m c main_v8) 2 (row t r) f) (V m c main_v30 (ix3 2 (row t r) f)) (V m c main_v31 (ix3 2 (row t r) f)) := by
  rw [dact2, blk_g2, blk_u2]
theorem duT2 (r : Fin 256) (f : Fin 704) : duOf (dactB (iblk m c 2 t) (wd2 m c t) r f) (g2 m c t (ix3 0 r f))
    = duOf (dactA (V m c main_arg8) (V m c main_v8) 2 (row t r) f) (V m c main_v30 (ix3 2 (row t r) f)) := by
  rw [dact2, blk_g2]
theorem chipT2 (r : Fin 256) (k : Fin 1024) : chipB (iblk m c 2 t) (g2 m c t) (u2 m c t) (wg2 m c t) (wu2 m c t) (wd2 m c t) r k
    = chipA (V m c main_arg8) (V m c main_v30) (V m c main_v31) (V m c main_v6) (V m c main_v8) (row t r) k 2 :=
  congrArg₂ (fun a b : EReal => a + b)
    (Finset.sum_congr rfl fun f _ => congrArg₂ (fun a b : EReal => a * b) (dgT2 m c t r f) (blk_wg2 m c t f k))
    (Finset.sum_congr rfl fun f _ => congrArg₂ (fun a b : EReal => a * b) (duT2 m c t r f) (blk_wu2 m c t f k))
theorem dact3 (r : Fin 256) (f : Fin 704) : dactB (iblk m c 2 t) (wd3 m c t) r f = dactA (V m c main_arg8) (V m c main_v8) 3 (row t r) f :=
  congrArg (fun z : EReal => Ideal.ofBits .f32 0x3F000000#32 * z) (Finset.sum_congr rfl fun k _ =>
    congrArg₂ (fun a b : EReal => a * b) (blk_dy m c t r k) (blk_wd3 m c t f k))
theorem dgT3 (r : Fin 256) (f : Fin 704) : dgOf (dactB (iblk m c 2 t) (wd3 m c t) r f) (g3 m c t (ix3 0 r f)) (u3 m c t (ix3 0 r f))
    = dgOf (dactA (V m c main_arg8) (V m c main_v8) 3 (row t r) f) (V m c main_v30 (ix3 3 (row t r) f)) (V m c main_v31 (ix3 3 (row t r) f)) := by
  rw [dact3, blk_g3, blk_u3]
theorem duT3 (r : Fin 256) (f : Fin 704) : duOf (dactB (iblk m c 2 t) (wd3 m c t) r f) (g3 m c t (ix3 0 r f))
    = duOf (dactA (V m c main_arg8) (V m c main_v8) 3 (row t r) f) (V m c main_v30 (ix3 3 (row t r) f)) := by
  rw [dact3, blk_g3]
theorem chipT3 (r : Fin 256) (k : Fin 1024) : chipB (iblk m c 2 t) (g3 m c t) (u3 m c t) (wg3 m c t) (wu3 m c t) (wd3 m c t) r k
    = chipA (V m c main_arg8) (V m c main_v30) (V m c main_v31) (V m c main_v6) (V m c main_v8) (row t r) k 3 :=
  congrArg₂ (fun a b : EReal => a + b)
    (Finset.sum_congr rfl fun f _ => congrArg₂ (fun a b : EReal => a * b) (dgT3 m c t r f) (blk_wg3 m c t f k))
    (Finset.sum_congr rfl fun f _ => congrArg₂ (fun a b : EReal => a * b) (duT3 m c t r f) (blk_wu3 m c t f k))
/-- The two readings above with each chip's blocks named. -/
theorem dhB4_at (dy : Vec Ideal S256x1024 .f32) (G0 G1 G2 G3 U0 U1 U2 U3 : Vec Ideal S1x256x704 .bf16) (A0 A1 A2 A3 B0 B1 B2 B3 D0 D1 D2 D3 : Vec Ideal S1x1x704x1024 .bf16)
    (r : Fin 256) (k : Fin 1024) :
    dhB dy ![G0, G1, G2, G3] ![U0, U1, U2, U3] ![A0, A1, A2, A3] ![B0, B1, B2, B3] ![D0, D1, D2, D3] (ix2 r k)
      = chipB dy G0 U0 A0 B0 D0 r k + chipB dy G1 U1 A1 B1 D1 r k + chipB dy G2 U2 A2 B2 D2 r k + chipB dy G3 U3 A3 B3 D3 r k :=
  dhB_at _ _ _ _ _ _ r k

/-- A tile's gradient of the normalised rows. -/
def dhT : FVec Ideal S256x1024 .f32 :=
  dhB (iblk m c 2 t) ![g0 m c t, g1 m c t, g2 m c t, g3 m c t] ![u0 m c t, u1 m c t, u2 m c t, u3 m c t] ![wg0 m c t, wg1 m c t, wg2 m c t, wg3 m c t] ![wu0 m c t, wu1 m c t, wu2 m c t, wu3 m c t] ![wd0 m c t, wd1 m c t, wd2 m c t, wd3 m c t]
theorem dhT_at (r : Fin 256) (k : Fin 1024) : dhT m c t (ix2 r k)
    = dhA (V m c main_arg8) (V m c main_v30) (V m c main_v31) (V m c main_v6) (V m c main_v8) (row t r) k := by
  unfold dhT
  rw [dhB4_at, chipT0, chipT1, chipT2, chipT3]
  rfl
theorem rstdT_at (r : Fin 256) : rstdB (iblk m c 0 t) r = rstdA (V m c main_arg0) (row t r) :=
  congrArg (fun z : EReal => Ideal.rsqrt (Ideal.div z (Ideal.ofBits .f32 0x44800000#32) + Ideal.ofBits .f32 0x358637BD#32))
    (Finset.sum_congr rfl fun k _ => congrArg₂ (fun a b : EReal => a * b) (blk_x m c t r k) (blk_x m c t r k))
theorem dnB_eq (h x : Vec Ideal S256x1024 .f32) (a : Vec Ideal S1x1024 .f32) (H X A : Fin 1024 → EReal) (ρ : EReal) (r : Fin 256) (k : Fin 1024)
    (hh : ∀ k, h (ix2 r k) = H k) (hx : ∀ k, x (ix2 r k) = X k) (ha : ∀ k, a (ix2 0 k) = A k) (hr : rstdB x r = ρ) :
    dnB h x a r k = ρ * (H k * A k - X k * ρ * Ideal.div (∑ k : Fin 1024, H k * A k * (X k * ρ)) (Ideal.ofBits .f32 0x44800000#32)) := by
  simp only [dnB, hh, hx, ha, hr]
theorem dnT_at (r : Fin 256) (k : Fin 1024) : dnB (dhT m c t) (iblk m c 0 t) (iblk m c 1 t) r k
    = dnA (V m c main_arg0) (V m c main_arg8) (V m c main_arg1) (V m c main_v30) (V m c main_v31) (V m c main_v6) (V m c main_v8) (row t r) k :=
  dnB_eq (dhT m c t) (iblk m c 0 t) (iblk m c 1 t) (fun k => dhA (V m c main_arg8) (V m c main_v30) (V m c main_v31) (V m c main_v6) (V m c main_v8) (row t r) k) (fun k => V m c main_arg0 (ix2 (row t r) k)) (fun k => V m c main_arg1 (ix2 0 k))
    (rstdA (V m c main_arg0) (row t r)) r k (fun k => dhT_at m c t r k) (fun k => blk_x m c t r k) (fun k => blk_gain m c t k) (rstdT_at m c t r)

end reads

/-! ## What the grid leaves -/

/-- A stored tile's index, and its place in the block of all four chips. -/
theorem tileIx (e : Fin 4) (y : S4x256x704.Idx) (x : S1x256x704.Idx) (h0 : (y 0).val = e.val) (h1 : (y 1).val = (x 1).val) (h2 : (y 2).val = (x 2).val) :
    ∃ (r : Fin 256) (f : Fin 704), x = ix3 0 r f ∧ y = ix3 e r f :=
  ⟨x 1, x 2, by rw [eq_ix3 x]; exact congrArg (fun z : Fin 1 => ix3 z (x 1) (x 2)) (Subsingleton.elim _ _),
    by rw [eq_ix3 y, show y 0 = e from Fin.ext h0, show y 1 = x 1 from Fin.ext h1, show y 2 = x 2 from Fin.ext h2]⟩

set_option maxHeartbeats 1600000 in
theorem dx_final : (dats m 0 c).arrAt 8 cfg0.N
    = dxArr (V m c main_arg0) (V m c main_arg8) (V m c main_arg1) (V m c main_v30) (V m c main_v31) (V m c main_v6) (V m c main_v8) := by
  refine (dats m 0 c).arrAt_eq_of_covers 8 _ (by decide +kernel) fun t _ y => ?_
  obtain ⟨r, k, rfl⟩ : ∃ (r : Fin 256) (k : Fin 1024), y = ix2 r k := ⟨y 0, y 1, eq_ix2 y⟩
  blk_simp
  rw [after0_8]
  have key : k0_pay2 (k0_pay58 (k0_pay43 (k0_pay32
      (k0_pay19 (k0_pay8 (g0 m c t)) (k0_pay10 (g0 m c t)) (k0_pay11 (g0 m c t)) (k0_pay12 (iblk m c 2 t) (wd0 m c t)) (k0_pay13 (iblk m c 2 t) (wd0 m c t) (u0 m c t)) (FloatOps.ofBits FTy.f32 1065353216#32) (wg0 m c t) (wu0 m c t))
      (k0_pay30 (k0_pay5 (iblk m c 2 t) (wd1 m c t)) (k0_pay20 (g1 m c t)) (u1 m c t) (wg1 m c t)) (k0_pay31 (k0_pay5 (iblk m c 2 t) (wd1 m c t)) (k0_pay20 (g1 m c t)) (wu1 m c t)))
      (k0_pay38 (k0_pay6 (iblk m c 2 t) (wd2 m c t)) (g2 m c t) (u2 m c t)) (k0_pay39 (k0_pay6 (iblk m c 2 t) (wd2 m c t)) (g2 m c t)) (wg2 m c t) (wu2 m c t))
    (k0_pay49 (k0_pay7 (iblk m c 2 t) (wd3 m c t)) (g3 m c t) (u3 m c t)) (k0_pay50 (k0_pay7 (iblk m c 2 t) (wd3 m c t)) (g3 m c t)) (wg3 m c t) (wu3 m c t)
    (iblk m c 0 t) (iblk m c 0 t) (iblk m c 1 t)) (iblk m c 2 t) (ix2 r k)
      = dxArr (V m c main_arg0) (V m c main_arg8) (V m c main_arg1) (V m c main_v30) (V m c main_v31) (V m c main_v6) (V m c main_v8) (ix2 (row t r) k) := by
    rw [add_at, dn_at]
    exact congrArg₂ (fun a b : EReal => a + b) (blk_dy m c t r k) (dnT_at m c t r k)
  by_cases h : t.val % 64 = 0
  · rw [outsAt0_A m c t h (first t h)]; frame_out
    exact to_dx t _ r k _ key
  · rw [outsAt0_B m c t h (by omega)]; frame_out
    exact to_dx t _ r k _ key

set_option maxHeartbeats 1600000 in
theorem dgain_final : (dats m 0 c).arrAt 9 cfg0.N
    = dgainArr (V m c main_arg0) (V m c main_arg8) (V m c main_v30) (V m c main_v31) (V m c main_v6) (V m c main_v8) := by
  refine (dats m 0 c).arrAt_eq_of_covers 9 _ (by decide +kernel) fun t hf j => ?_
  obtain ⟨k, rfl⟩ : ∃ k : Fin 1024, j = ix2 0 k := ⟨j 1, by rw [eq_ix2 j]; exact congrArg (fun z : Fin 1 => ix2 z (j 1)) (Subsingleton.elim _ _)⟩
  blk_simp
  refine to_dgain t _ k _ ?_
  rw [after0_9, Pipeline.eq_sum_fin_of_reset_step_apply_of_flush (fun n h => (outsAt0 m c n h).2.1) 64 (fun _ => 0)
    (fun t j => ∑ r : Fin 256, dhT m c t (ix2 r (j 1)) * k0_pay57 (iblk m c 0 t) (iblk m c 0 t) (ix2 r (j 1)))
    (fun t h j => by
      obtain ⟨k, rfl⟩ : ∃ k : Fin 1024, j = ix2 0 k := ⟨j 1, by rw [eq_ix2 j]; exact congrArg (fun z : Fin 1 => ix2 z (j 1)) (Subsingleton.elim _ _)⟩
      rw [outsAt0_A m c t h (first t h)]; frame_out; rw [gainB_at, zero_add]; rfl)
    (fun t h j => by
      obtain ⟨k, rfl⟩ : ∃ k : Fin 1024, j = ix2 0 k := ⟨j 1, by rw [eq_ix2 j]; exact congrArg (fun z : Fin 1 => ix2 z (j 1)) (Subsingleton.elim _ _)⟩
      rw [outsAt0_B m c t h (by omega)]; frame_out; rw [gainB_add]; rfl)
    t ((flush0_9 t).mp hf) _, zero_add]
  refine Fin.sum_mul_add_congr fun p r hr => ?_
  have e : row ⟨64 * (t.val / 64) + p.val, Pipeline.run_point_lt_of_flush t ((flush0_9 t).mp hf) p⟩ r = ⟨p.val * 256 + r.val, hr⟩ :=
    Fin.ext (by have := (show t.val < 64 from t.isLt); simp only [row]; omega)
  show dhT m c _ (ix2 r k) * k0_pay57 (iblk m c 0 _) (iblk m c 0 _) (ix2 r k) = _
  rw [norm_at, dhT_at, rstdT_at, blk_x, e]
  rfl

theorem dg_final : (dats m 0 c).arrAt 11 cfg0.N = dgArr (V m c main_arg8) (V m c main_v30) (V m c main_v31) (V m c main_v8) := by
  refine (dats m 0 c).arrAt_eq_of_covers 11 _ (by decide +kernel) fun t _ y => ?_
  blk_simp
  rw [after0_11]
  by_cases h : t.val % 64 = 0
  · rw [outsAt0_A m c t h (first t h)]; frame_out
    canon_tiles x h
    · obtain ⟨r, f, rfl, rfl⟩ := tileIx 3 y x (by omega) h1 h2
      exact to_dg3 t _ r f _ ((dgStored3_at _ _ _ _ r f).trans (dgT3 m c t r f))
    · obtain ⟨r, f, rfl, rfl⟩ := tileIx 2 y x (by omega) h1 h2
      exact to_dg2 t _ r f _ ((dgStored2_at _ _ _ _ r f).trans (dgT2 m c t r f))
    · obtain ⟨r, f, rfl, rfl⟩ := tileIx 1 y x (by omega) h1 h2
      exact to_dg1 t _ r f _ ((dgStored1_at _ _ _ _ r f).trans (dgT1 m c t r f))
    · obtain ⟨r, f, rfl, rfl⟩ := tileIx 0 y x (by omega) h1 h2
      exact to_dg0 t _ r f _ ((dgStored0_at _ _ _ _ r f).trans (dgT0 m c t r f))
  · rw [outsAt0_B m c t h (by omega)]; frame_out
    canon_tiles x h
    · obtain ⟨r, f, rfl, rfl⟩ := tileIx 3 y x (by omega) h1 h2
      exact to_dg3 t _ r f _ ((dgStored3_at _ _ _ _ r f).trans (dgT3 m c t r f))
    · obtain ⟨r, f, rfl, rfl⟩ := tileIx 2 y x (by omega) h1 h2
      exact to_dg2 t _ r f _ ((dgStored2_at _ _ _ _ r f).trans (dgT2 m c t r f))
    · obtain ⟨r, f, rfl, rfl⟩ := tileIx 1 y x (by omega) h1 h2
      exact to_dg1 t _ r f _ ((dgStored1_at _ _ _ _ r f).trans (dgT1 m c t r f))
    · obtain ⟨r, f, rfl, rfl⟩ := tileIx 0 y x (by omega) h1 h2
      exact to_dg0 t _ r f _ ((dgStored0_at _ _ _ _ r f).trans (dgT0 m c t r f))

theorem du_final : (dats m 0 c).arrAt 12 cfg0.N = duArr (V m c main_arg8) (V m c main_v30) (V m c main_v8) := by
  refine (dats m 0 c).arrAt_eq_of_covers 12 _ (by decide +kernel) fun t _ y => ?_
  blk_simp
  rw [after0_12]
  by_cases h : t.val % 64 = 0
  · rw [outsAt0_A m c t h (first t h)]; frame_out
    canon_tiles x h
    · obtain ⟨r, f, rfl, rfl⟩ := tileIx 3 y x (by omega) h1 h2
      exact to_du3 t _ r f _ ((duStored3_at _ _ _ r f).trans (duT3 m c t r f))
    · obtain ⟨r, f, rfl, rfl⟩ := tileIx 2 y x (by omega) h1 h2
      exact to_du2 t _ r f _ ((duStored2_at _ _ _ r f).trans (duT2 m c t r f))
    · obtain ⟨r, f, rfl, rfl⟩ := tileIx 1 y x (by omega) h1 h2
      exact to_du1 t _ r f _ ((duStored1_at _ _ _ r f).trans (duT1 m c t r f))
    · obtain ⟨r, f, rfl, rfl⟩ := tileIx 0 y x (by omega) h1 h2
      exact to_du0 t _ r f _ ((duStored0_at _ _ _ r f).trans (duT0 m c t r f))
  · rw [outsAt0_B m c t h (by omega)]; frame_out
    canon_tiles x h
    · obtain ⟨r, f, rfl, rfl⟩ := tileIx 3 y x (by omega) h1 h2
      exact to_du3 t _ r f _ ((duStored3_at _ _ _ r f).trans (duT3 m c t r f))
    · obtain ⟨r, f, rfl, rfl⟩ := tileIx 2 y x (by omega) h1 h2
      exact to_du2 t _ r f _ ((duStored2_at _ _ _ r f).trans (duT2 m c t r f))
    · obtain ⟨r, f, rfl, rfl⟩ := tileIx 1 y x (by omega) h1 h2
      exact to_du1 t _ r f _ ((duStored1_at _ _ _ r f).trans (duT1 m c t r f))
    · obtain ⟨r, f, rfl, rfl⟩ := tileIx 0 y x (by omega) h1 h2
      exact to_du0 t _ r f _ ((duStored0_at _ _ _ r f).trans (duT0 m c t r f))

theorem act_final : (dats m 0 c).arrAt 13 cfg0.N = actArr (V m c main_v30) (V m c main_v31) := by
  refine (dats m 0 c).arrAt_eq_of_covers 13 _ (by decide +kernel) fun t _ y => ?_
  blk_simp
  rw [after0_13]
  by_cases h : t.val % 64 = 0
  · rw [outsAt0_A m c t h (first t h)]; frame_out
    canon_tiles x h
    · obtain ⟨r, f, rfl, rfl⟩ := tileIx 3 y x (by omega) h1 h2
      exact to_act3 t _ r f _ ((act3_at _ _ r f).trans (congrArg₂ actOf (blk_g3 m c t r f) (blk_u3 m c t r f)))
    · obtain ⟨r, f, rfl, rfl⟩ := tileIx 2 y x (by omega) h1 h2
      exact to_act2 t _ r f _ ((act2_at _ _ r f).trans (congrArg₂ actOf (blk_g2 m c t r f) (blk_u2 m c t r f)))
    · obtain ⟨r, f, rfl, rfl⟩ := tileIx 1 y x (by omega) h1 h2
      exact to_act1 t _ r f _ ((act1_at _ _ r f).trans (congrArg₂ actOf (blk_g1 m c t r f) (blk_u1 m c t r f)))
    · obtain ⟨r, f, rfl, rfl⟩ := tileIx 0 y x (by omega) h1 h2
      exact to_act0 t _ r f _ ((act0_at _ _ r f).trans (congrArg₂ actOf (blk_g0 m c t r f) (blk_u0 m c t r f)))
  · rw [outsAt0_B m c t h (by omega)]; frame_out
    canon_tiles x h
    · obtain ⟨r, f, rfl, rfl⟩ := tileIx 3 y x (by omega) h1 h2
      exact to_act3 t _ r f _ ((act3_at _ _ r f).trans (congrArg₂ actOf (blk_g3 m c t r f) (blk_u3 m c t r f)))
    · obtain ⟨r, f, rfl, rfl⟩ := tileIx 2 y x (by omega) h1 h2
      exact to_act2 t _ r f _ ((act2_at _ _ r f).trans (congrArg₂ actOf (blk_g2 m c t r f) (blk_u2 m c t r f)))
    · obtain ⟨r, f, rfl, rfl⟩ := tileIx 1 y x (by omega) h1 h2
      exact to_act1 t _ r f _ ((act1_at _ _ r f).trans (congrArg₂ actOf (blk_g1 m c t r f) (blk_u1 m c t r f)))
    · obtain ⟨r, f, rfl, rfl⟩ := tileIx 0 y x (by omega) h1 h2
      exact to_act0 t _ r f _ ((act0_at _ _ r f).trans (congrArg₂ actOf (blk_g0 m c t r f) (blk_u0 m c t r f)))

end Cert.FfnValue

end
-- ==== Proof.FfnHost.lean ====
/- The host lines before the feed-forward layer's backward call: what they leave in the arrays its grid reads, entry by entry. -/
module

public import proofs.«01_k».proof.Proof.Gen.FfnBwdKernelIdeal.Frame
public import Idealize.ShloMosaic.Lib.Pointwise

@[expose] public section

set_option maxRecDepth 16384

noncomputable section

namespace Cert.FfnValue

open Idealize.ShloMosaic Idealize.ShloMosaic.TcCoe Idealize.SL.Sem
open Cert.FfnBwdKernelIdeal Cert.FfnBwdKernelIdeal.Gen

/-- The gate and up weights of all layers, transposed, by chips. -/
def packUp (a b c d : FVec Ideal S4x1024x2816 .f32) : FVec Ideal S4x16x704x1024 .bf16 :=
  transpose S4x16x704x1024 [1, 0, 2, 3] (shapeCast S16x4x704x1024 (truncf .bf16 (transpose S16x2816x1024 [0, 2, 1]
      (concatenate S16x1024x2816 0 [⟨S4x1024x2816, a⟩, ⟨S4x1024x2816, b⟩, ⟨S4x1024x2816, c⟩, ⟨S4x1024x2816, d⟩] concatenates_S4x1024x2816_S4x1024x2816_S4x1024x2816_S4x1024x2816_S16x1024x2816_d0)
      transposes_S16x1024x2816_S16x2816x1024_0_2_1) bitsLt_bf16_f32) shapeCasts_S16x2816x1024_S16x4x704x1024)
    transposes_S16x4x704x1024_S4x16x704x1024_1_0_2_3
/-- The down weights of all layers, by chips. -/
def packDown (a b : FVec Ideal S4x2816x1024 .f32) : FVec Ideal S4x8x704x1024 .bf16 :=
  transpose S4x8x704x1024 [1, 0, 2, 3] (shapeCast S8x4x704x1024 (truncf .bf16
      (concatenate S8x2816x1024 0 [⟨S4x2816x1024, a⟩, ⟨S4x2816x1024, b⟩] concatenates_S4x2816x1024_S4x2816x1024_S8x2816x1024_d0)
      bitsLt_bf16_f32) shapeCasts_S8x2816x1024_S8x4x704x1024)
    transposes_S8x4x704x1024_S4x8x704x1024_1_0_2_3
/-- The rows' mean squares and epsilon. -/
def meanSqH (x : FVec Ideal S16384x1024 .f32) : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))
/-- The normalised rows. -/
def rowsH (x : FVec Ideal S16384x1024 .f32) (a : FVec Ideal S1x1024 .f32) : FVec Ideal S16384x1024 .bf16 :=
  truncf .bf16 (mulf (mulf x (broadcastInDim S16384x1024 ![0, 1] bcast_S16384x1_S16384x1024_0_1 (Host.rsqrt (meanSqH x))))
    (broadcastInDim S16384x1024 ![0, 1] bcast_S1x1024_S16384x1024_0_1 a)) bitsLt_bf16_f32
/-- One layer's gate products, -/
def gateH (w : FVec Ideal S4x16x704x1024 .bf16) (h : FVec Ideal S16384x1024 .bf16) : FVec Ideal S4x16384x704 .bf16 :=
  transpose S4x16384x704 [0, 2, 1] (truncf .bf16 (Host.dotGeneral dot_S4x704x1024_S16384x1024_S4x704x16384_2_1_01_0_n_n none
    (shapeCast S4x704x1024 (extractStridedSlice S4x1x704x1024 ![0, 0, 0, 0] w slices_S4x16x704x1024_S4x1x704x1024_0_0_0_0) shapeCasts_S4x1x704x1024_S4x704x1024) h)
    bitsLt_bf16_f32) transposes_S4x704x16384_S4x16384x704_0_2_1
/-- and its up products. -/
def upH (w : FVec Ideal S4x16x704x1024 .bf16) (h : FVec Ideal S16384x1024 .bf16) : FVec Ideal S4x16384x704 .bf16 :=
  transpose S4x16384x704 [0, 2, 1] (truncf .bf16 (Host.dotGeneral dot_S4x704x1024_S16384x1024_S4x704x16384_2_1_01_0_n_n none
    (shapeCast S4x704x1024 (extractStridedSlice S4x1x704x1024 ![0, 4, 0, 0] w slices_S4x16x704x1024_S4x1x704x1024_0_4_0_0) shapeCasts_S4x1x704x1024_S4x704x1024) h)
    bitsLt_bf16_f32) transposes_S4x704x16384_S4x16384x704_0_2_1

section

variable (m : (ℓ : Loc nD τ sig) → Buf (Elt Ideal) ℓ) (c : Dev nD)

/-- The device's packed gate and up weights. -/
def wUp : FVec Ideal S4x16x704x1024 .bf16 := packUp (m ((c : Thread nD τ).loc main_arg2)) (m ((c : Thread nD τ).loc main_arg3))
  (m ((c : Thread nD τ).loc main_arg5)) (m ((c : Thread nD τ).loc main_arg6))

theorem V_wUp : V m c main_v6 = wUp m c := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl
theorem V_wDown : V m c main_v8 = packDown (m ((c : Thread nD τ).loc main_arg4)) (m ((c : Thread nD τ).loc main_arg7)) := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl
theorem V_gate : V m c main_v30 = gateH (wUp m c) (rowsH (m ((c : Thread nD τ).loc main_arg0)) (m ((c : Thread nD τ).loc main_arg1))) := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl
theorem V_up : V m c main_v31 = upH (wUp m c) (rowsH (m ((c : Thread nD τ).loc main_arg0)) (m ((c : Thread nD τ).loc main_arg1))) := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl

end

theorem packUp_gate (a b c d) (e : Fin 4) (f : Fin 704) (k : Fin 1024) :
    packUp a b c d (ix4 e 0 f k) = a (ix3 0 k ⟨e.val * 704 + f.val, by omega⟩) := by
  pointwise [packUp]
theorem packUp_up (a b c d) (e : Fin 4) (f : Fin 704) (k : Fin 1024) :
    packUp a b c d (ix4 e 4 f k) = b (ix3 0 k ⟨e.val * 704 + f.val, by omega⟩) := by
  pointwise [packUp]
theorem packDown_at (a b) (e : Fin 4) (f : Fin 704) (k : Fin 1024) :
    packDown a b (ix4 e 0 f k) = a (ix3 0 ⟨e.val * 704 + f.val, by omega⟩ k) := by
  pointwise [packDown]
theorem meanSqH_at (x) (r : Fin 16384) : meanSqH x (ix2 r 0)
    = Ideal.div (∑ k : Fin 1024, x (ix2 r k) * x (ix2 r k)) (Ideal.ofBits .f32 0x44800000#32) + Ideal.ofBits .f32 0x358637BD#32 := by
  pointwise [meanSqH]
theorem rowsH_at (x a) (r : Fin 16384) (k : Fin 1024) : rowsH x a (ix2 r k)
    = x (ix2 r k) * Ideal.rsqrt (meanSqH x (ix2 r 0)) * a (ix2 0 k) := by
  pointwise [rowsH]
theorem gateH_at (w h) (e : Fin 4) (r : Fin 16384) (f : Fin 704) : gateH w h (ix3 e r f) = ∑ k : Fin 1024, w (ix4 e 0 f k) * h (ix2 r k) := by
  pointwise [gateH]
theorem upH_at (w h) (e : Fin 4) (r : Fin 16384) (f : Fin 704) : upH w h (ix3 e r f) = ∑ k : Fin 1024, w (ix4 e 4 f k) * h (ix2 r k) := by
  pointwise [upH]

end Cert.FfnValue

end
-- ==== Proof.FfnRef.lean ====
/- The reference's gradient of the feed-forward layer, operation by operation, read entry by entry. -/
module

public import proofs.«01_k».proof.Proof.Gen.FfnBwdRefIdeal.Run
public import Idealize.ShloMosaic.Lib.Pointwise

@[expose] public section

set_option maxRecDepth 16384

noncomputable section

namespace Cert.FfnRefValue

open Idealize.ShloMosaic Idealize.ShloMosaic.TcCoe Idealize.SL.Sem
open Cert.FfnBwdRefIdeal Cert.FfnBwdRefIdeal.Gen Cert.FfnBwdRefIdeal.Value

/-- The rows' mean squares and epsilon, -/
def meanSq (x : FVec Ideal S16384x1024 .f32) : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))
/-- and the rows' scales. -/
def rstd (v : FVec Ideal S16384x1 .f32) : FVec Ideal S16384x1 .f32 := Host.rsqrt v
/-- A column over all columns. -/
def wide (v : FVec Ideal S16384x1 .f32) : FVec Ideal S16384x1024 .f32 := broadcastInDim S16384x1024 ![0, 1] bcast_S16384x1_S16384x1024_0_1 v
/-- The gain over all rows. -/
def gains (a : FVec Ideal S1x1024 .f32) : FVec Ideal S16384x1024 .f32 :=
  broadcastInDim S16384x1024 ![0, 1] bcast_S1x1024_S16384x1024_0_1 (broadcastInDim S1x1024 ![1] bcast_S1024_S1x1024_1 (shapeCast _ a shapeCasts_S1x1024_S1024))
/-- One layer's gate or up weights, -/
def upW (w : FVec Ideal S4x1024x2816 .f32) : FVec Ideal S1024x2816 .f32 :=
  shapeCast _ (extractStridedSlice S1x1024x2816 ![0, 0, 0] w slices_S4x1024x2816_S1x1024x2816_0_0_0) shapeCasts_S1x1024x2816_S1024x2816
/-- and its down weights. -/
def downW (w : FVec Ideal S4x2816x1024 .f32) : FVec Ideal S2816x1024 .f32 :=
  shapeCast _ (extractStridedSlice S1x2816x1024 ![0, 0, 0] w slices_S4x2816x1024_S1x2816x1024_0_0_0) shapeCasts_S1x2816x1024_S2816x1024
/-- A product of the rows. -/
def proj (h : FVec Ideal S16384x1024 .f32) (w : FVec Ideal S1024x2816 .f32) : FVec Ideal S16384x2816 .f32 :=
  Host.dotGeneral dot_S16384x1024_S1024x2816_S16384x2816_1_0_0_1_n_n none h w
/-- The logistic function. -/
def logis (g : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf g)))
/-- The gradient of the product of gate and up. -/
def dprod (dy : FVec Ideal S16384x1024 .f32) (w : FVec Ideal S2816x1024 .f32) : FVec Ideal S16384x2816 .f32 :=
  Host.dotGeneral dot_S16384x1024_S2816x1024_S16384x2816_1_1_0_0_n_n none
    (mulf (broadcastInDim S16384x1024 ![] bcast_S_S16384x1024 (constant S_ .f32 0x3F000000#32)) (shapeCast _ dy shapeCasts_S16384x1024_S16384x1024)) w
/-- The gate's gradient, -/
def dgate (d g u s : FVec Ideal S16384x2816 .f32) : FVec Ideal S16384x2816 .f32 :=
  addf (mulf (mulf d u) s)
    (mulf (mulf g (mulf d u)) (mulf s (subf (broadcastInDim S16384x2816 ![] bcast_S_S16384x2816 (constant S_ .f32 0x3F800000#32)) s)))
/-- the up projection's, -/
def dup (d g s : FVec Ideal S16384x2816 .f32) : FVec Ideal S16384x2816 .f32 := mulf (mulf g s) d
/-- and the product of gate and up. -/
def prod (g u s : FVec Ideal S16384x2816 .f32) : FVec Ideal S16384x2816 .f32 := mulf (mulf g s) u
/-- The normalised rows' gradient. -/
def dnorm (dg du : FVec Ideal S16384x2816 .f32) (wg wu : FVec Ideal S1024x2816 .f32) : FVec Ideal S16384x1024 .f32 :=
  addf (Host.dotGeneral dot_S16384x2816_S1024x2816_S16384x1024_1_1_0_0_n_n none du wu)
    (Host.dotGeneral dot_S16384x2816_S1024x2816_S16384x1024_1_1_0_0_n_n none dg wg)
/-- The gain's gradient. -/
def dgainOf (n dh : FVec Ideal S16384x1024 .f32) : FVec Ideal S1x1024 .f32 :=
  broadcastInDim S1x1024 ![1] bcast_S1024_S1x1024_1 (Host.reduceAdd (shapeCast _
      (Host.reduceAdd (mulf n dh) (constant S_ .f32 0x00000000#32) reducesTo_S16384x1024_S1024_d0 h_S_) shapeCasts_S1024_S1x1024)
    (constant S_ .f32 0x00000000#32) reducesTo_S1x1024_S1024_d0 h_S_)
/-- What each row's scale contributes. -/
def scaleGrad (x gy : FVec Ideal S16384x1024 .f32) (v : FVec Ideal S16384x1 .f32) : FVec Ideal S16384x1024 .f32 :=
  broadcastInDim S16384x1024 ![0] bcast_S16384_S16384x1024_0 (Host.reduceAdd (Host.divf (mulf
      (shapeCast _ (Host.reduceAdd (mulf x gy) (constant S_ .f32 0x00000000#32) reducesTo_S16384x1024_S16384_d1 h_S_) shapeCasts_S16384_S16384x1)
      (mulf (broadcastInDim S16384x1 ![] bcast_S_S16384x1 (constant S_ .f32 0xBF000000#32)) (Host.divf (rstd v) v)))
      (broadcastInDim S16384x1 ![] bcast_S_S16384x1 (constant S_ .f32 0x44800000#32)))
    (constant S_ .f32 0x00000000#32) reducesTo_S16384x1_S16384_d1 h_S_)
/-- The rows' gradient. -/
def dxOf (x dy gy e : FVec Ideal S16384x1024 .f32) (v : FVec Ideal S16384x1 .f32) : FVec Ideal S16384x1024 .f32 :=
  addf dy (addf (addf (mulf gy (wide (rstd v))) (mulf x e)) (mulf e x))
/-- An array's columns by chips. -/
def chips (a : FVec Ideal S16384x2816 .f32) : FVec Ideal S4x16384x704 .bf16 :=
  truncf .bf16 (transpose S4x16384x704 [1, 0, 2] (shapeCast _ a shapeCasts_S16384x2816_S16384x4x704) transposes_S16384x4x704_S4x16384x704_1_0_2) bitsLt_bf16_f32

section

variable (m : (ℓ : Loc nD τ sig) → Buf (Elt Ideal) ℓ) (c : Dev nD)

/-- The device's arrays: the rows, -/
def xs : FVec Ideal S16384x1024 .f32 := m ((c.tc : Thread nD τ).loc main_arg0)
/-- the normalised rows before the gain, -/
def norm : FVec Ideal S16384x1024 .f32 := mulf (xs m c) (wide (rstd (meanSq (xs m c))))
/-- and with it, -/
def rowsOf : FVec Ideal S16384x1024 .f32 := mulf (norm m c) (gains (m ((c.tc : Thread nD τ).loc main_arg1)))
/-- the gate, -/
def gate : FVec Ideal S16384x2816 .f32 := proj (rowsOf m c) (upW (m ((c.tc : Thread nD τ).loc main_arg2)))
/-- the up projection, -/
def up : FVec Ideal S16384x2816 .f32 := proj (rowsOf m c) (upW (m ((c.tc : Thread nD τ).loc main_arg3)))
/-- the product's gradient, -/
def dact : FVec Ideal S16384x2816 .f32 := dprod (m ((c.tc : Thread nD τ).loc main_arg8)) (downW (m ((c.tc : Thread nD τ).loc main_arg4)))
/-- the gate's gradient, -/
def dg : FVec Ideal S16384x2816 .f32 := dgate (dact m c) (gate m c) (up m c) (logis (gate m c))
/-- the up projection's gradient, -/
def du : FVec Ideal S16384x2816 .f32 := dup (dact m c) (gate m c) (logis (gate m c))
/-- the normalised rows' gradient, -/
def dh : FVec Ideal S16384x1024 .f32 := dnorm (dg m c) (du m c) (upW (m ((c.tc : Thread nD τ).loc main_arg2))) (upW (m ((c.tc : Thread nD τ).loc main_arg3)))
/-- and that times the gain. -/
def gy : FVec Ideal S16384x1024 .f32 := mulf (dh m c) (gains (m ((c.tc : Thread nD τ).loc main_arg1)))

theorem res_dg : res_out3 m c = chips (dg m c) := by unfold res_out3 res_main_v66; rfl
theorem res_dgain : res_out1 m c = dgainOf (norm m c) (dh m c) := by unfold res_out1 res_main_v61; rfl
theorem res_dx : res_out0 m c
    = dxOf (xs m c) (m ((c.tc : Thread nD τ).loc main_arg8)) (gy m c) (scaleGrad (xs m c) (gy m c) (meanSq (xs m c))) (meanSq (xs m c)) := by
  unfold res_out0 res_main_v62; rfl

end

theorem meanSq_at (x) (r : Fin 16384) : meanSq x (ix2 r 0)
    = Ideal.div (∑ k : Fin 1024, x (ix2 r k) * x (ix2 r k)) (Ideal.ofBits .f32 0x44800000#32) + Ideal.ofBits .f32 0x358637BD#32 := by
  pointwise [meanSq]
theorem rstd_at (v) (r : Fin 16384) : rstd v (ix2 r 0) = Ideal.rsqrt (v (ix2 r 0)) := by
  pointwise [rstd]
theorem wide_at (v) (r : Fin 16384) (k : Fin 1024) : wide v (ix2 r k) = v (ix2 r 0) := by
  pointwise [wide]
theorem gains_at (a) (r : Fin 16384) (k : Fin 1024) : gains a (ix2 r k) = a (ix2 0 k) := by
  pointwise [gains]
theorem upW_at (w) (k : Fin 1024) (j : Fin 2816) : upW w (ix2 k j) = w (ix3 0 k j) := by
  pointwise [upW]
theorem downW_at (w) (j : Fin 2816) (k : Fin 1024) : downW w (ix2 j k) = w (ix3 0 j k) := by
  pointwise [downW]
theorem proj_at (h w) (r : Fin 16384) (j : Fin 2816) : proj h w (ix2 r j) = ∑ k : Fin 1024, h (ix2 r k) * w (ix2 k j) := by
  pointwise [proj]
theorem logis_at (g) (r : Fin 16384) (j : Fin 2816) : logis g (ix2 r j)
    = Ideal.div (Ideal.ofBits .f32 0x3F800000#32) (Ideal.ofBits .f32 0x3F800000#32 + Ideal.exp (-g (ix2 r j))) := by
  pointwise [logis]
theorem dprod_at (dy w) (r : Fin 16384) (j : Fin 2816) : dprod dy w (ix2 r j)
    = ∑ k : Fin 1024, (Ideal.ofBits .f32 0x3F000000#32 * dy (ix2 r k)) * w (ix2 j k) := by
  pointwise [dprod]
theorem dgate_at (d g u s) (r : Fin 16384) (j : Fin 2816) : dgate d g u s (ix2 r j)
    = d (ix2 r j) * u (ix2 r j) * s (ix2 r j)
      + g (ix2 r j) * (d (ix2 r j) * u (ix2 r j)) * (s (ix2 r j) * (Ideal.ofBits .f32 0x3F800000#32 - s (ix2 r j))) := by
  pointwise [dgate]
theorem dup_at (d g s) (r : Fin 16384) (j : Fin 2816) : dup d g s (ix2 r j) = g (ix2 r j) * s (ix2 r j) * d (ix2 r j) := by
  pointwise [dup]
theorem prod_at (g u s) (r : Fin 16384) (j : Fin 2816) : prod g u s (ix2 r j) = g (ix2 r j) * s (ix2 r j) * u (ix2 r j) := by
  pointwise [prod]
theorem dnorm_at (dg du wg wu) (r : Fin 16384) (k : Fin 1024) : dnorm dg du wg wu (ix2 r k)
    = ∑ j : Fin 2816, du (ix2 r j) * wu (ix2 k j) + ∑ j : Fin 2816, dg (ix2 r j) * wg (ix2 k j) := by
  pointwise [dnorm]
theorem dgainOf_at (n dh) (k : Fin 1024) : dgainOf n dh (ix2 0 k) = ∑ r : Fin 16384, n (ix2 r k) * dh (ix2 r k) := by
  pointwise [dgainOf]
  exact Fin.sum_univ_one _
theorem scaleGrad_at (x gy v) (r : Fin 16384) (k : Fin 1024) : scaleGrad x gy v (ix2 r k)
    = Ideal.div ((∑ k : Fin 1024, x (ix2 r k) * gy (ix2 r k)) * (Ideal.ofBits .f32 0xBF000000#32 * Ideal.div (rstd v (ix2 r 0)) (v (ix2 r 0))))
        (Ideal.ofBits .f32 0x44800000#32) := by
  pointwise [scaleGrad]
  exact Fin.sum_univ_one _
theorem dxOf_at (x dy gy e v) (r : Fin 16384) (k : Fin 1024) : dxOf x dy gy e v (ix2 r k)
    = dy (ix2 r k) + (gy (ix2 r k) * rstd v (ix2 r 0) + x (ix2 r k) * e (ix2 r k) + e (ix2 r k) * x (ix2 r k)) := by
  pointwise [dxOf, wide]
theorem chips_at (a) (c : Fin 4) (r : Fin 16384) (f : Fin 704) : chips a (ix3 c r f) = a (ix2 r ⟨c.val * 704 + f.val, by omega⟩) := by
  pointwise [chips]

end Cert.FfnRefValue

end
-- ==== Proof.FfnReal.lean ====
/- The feed-forward layer's gradient over the real numbers: the grid's arrays and the reference's are both it. -/
module

public import proofs.«01_k».proof.Proof.Consts
public import proofs.«01_k».proof.Proof.FlashMath
public import proofs.«01_k».proof.Proof.FfnFinal
public import proofs.«01_k».proof.Proof.FfnHost
public import proofs.«01_k».proof.Proof.FfnRef

@[expose] public section

set_option maxRecDepth 16384

noncomputable section

namespace Cert.FfnReal

open Idealize.ShloMosaic Idealize.ShloMosaic.TcCoe Idealize.SL.Sem
open Cert.FlashMath

/-- Real rows, a gain, one layer's gate, up and down weights, and the output's gradient. -/
structure Args where
  x : Fin 16384 → Fin 1024 → ℝ
  α : Fin 1024 → ℝ
  wg : Fin 1024 → Fin 2816 → ℝ
  wu : Fin 1024 → Fin 2816 → ℝ
  wd : Fin 2816 → Fin 1024 → ℝ
  dy : Fin 16384 → Fin 1024 → ℝ

variable (a : Args)

/-- A chip's unit among all. -/
abbrev at' (e : Fin 4) (f : Fin 704) : Fin 2816 := ⟨e.val * 704 + f.val, by omega⟩

/-- The mean square and epsilon, -/
def v (r : Fin 16384) : ℝ := (∑ k, a.x r k * a.x r k) / 1024 + 8796093 / 8796093022208
/-- the scale, -/
def ρ (r : Fin 16384) : ℝ := (Real.sqrt (v a r))⁻¹
/-- the normalised row, -/
def h (r : Fin 16384) (k : Fin 1024) : ℝ := a.x r k * ρ a r * a.α k
/-- gate and up, -/
def G (r : Fin 16384) (j : Fin 2816) : ℝ := ∑ k, h a r k * a.wg k j
def U (r : Fin 16384) (j : Fin 2816) : ℝ := ∑ k, h a r k * a.wu k j
/-- the gradient of their product, -/
def D (r : Fin 16384) (j : Fin 2816) : ℝ := ∑ k, (1 / 2 * a.dy r k) * a.wd j k
/-- the logistic function of the gate, -/
def s (r : Fin 16384) (j : Fin 2816) : ℝ := (1 + Real.exp (-(G a r j)))⁻¹
/-- the gradients of gate and up, -/
def dg (r : Fin 16384) (j : Fin 2816) : ℝ := D a r j * U a r j * (s a r j * (1 + G a r j * (1 - s a r j)))
def du (r : Fin 16384) (j : Fin 2816) : ℝ := D a r j * (G a r j * s a r j)
/-- the product, -/
def act (r : Fin 16384) (j : Fin 2816) : ℝ := G a r j * s a r j * U a r j
/-- the normalised row's gradient, -/
def dh (r : Fin 16384) (k : Fin 1024) : ℝ := ∑ j, dg a r j * a.wg k j + ∑ j, du a r j * a.wu k j
/-- the row's, -/
def dx (r : Fin 16384) (k : Fin 1024) : ℝ := a.dy r k + ρ a r * (dh a r k * a.α k - a.x r k * ρ a r * ((∑ k, dh a r k * a.α k * (a.x r k * ρ a r)) / 1024))
/-- and the gain's. -/
def dgain (k : Fin 1024) : ℝ := ∑ r, dh a r k * (a.x r k * ρ a r)

theorem v_pos (r : Fin 16384) : 0 < v a r :=
  add_pos_of_nonneg_of_pos (div_nonneg (Finset.sum_nonneg fun k _ => mul_self_nonneg _) (by norm_num)) (by norm_num)
theorem ρ_sq (r : Fin 16384) : ρ a r * ρ a r = (v a r)⁻¹ := by
  rw [ρ, ← mul_inv, Real.mul_self_sqrt (v_pos a r).le]

/-- The scale from the row's mean square. -/
theorem rsqrt_v (r : Fin 16384) : Ideal.rsqrt (v a r : EReal) = (ρ a r : EReal) := by
  rw [Ideal.rsqrt_coe, if_neg (not_lt.mpr (v_pos a r).le), if_neg (v_pos a r).ne', ρ]
theorem meanSq_real (X : Fin 1024 → EReal) (r : Fin 16384) (hx : ∀ k, X k = (a.x r k : EReal)) :
    Ideal.div (∑ k : Fin 1024, X k * X k) (Ideal.ofBits .f32 0x44800000#32) + Ideal.ofBits .f32 0x358637BD#32 = (v a r : EReal) := by
  simp only [hx, ← EReal.coe_mul, coe_sum]
  rw [Consts.f32_1024, Consts.f32_eps, div_real _ _ (by norm_num), ← EReal.coe_add]
  rfl

/-- Arrays that hold the real arguments. -/
structure Holds (x : (⟨2, ![16384, 1024]⟩ : Shape).Idx → EReal) (α : (⟨2, ![1, 1024]⟩ : Shape).Idx → EReal)
    (wg wu : (⟨3, ![4, 1024, 2816]⟩ : Shape).Idx → EReal) (wd : (⟨3, ![4, 2816, 1024]⟩ : Shape).Idx → EReal)
    (dy : (⟨2, ![16384, 1024]⟩ : Shape).Idx → EReal) : Prop where
  x : ∀ r k, x (ix2 r k) = (a.x r k : EReal)
  α : ∀ k, α (ix2 0 k) = (a.α k : EReal)
  wg : ∀ k j, wg (ix3 0 k j) = (a.wg k j : EReal)
  wu : ∀ k j, wu (ix3 0 k j) = (a.wu k j : EReal)
  wd : ∀ j k, wd (ix3 0 j k) = (a.wd j k : EReal)
  dy : ∀ r k, dy (ix2 r k) = (a.dy r k : EReal)

section Kernel

open Cert.FfnBwdKernelIdeal Cert.FfnValue

variable {x dy : FVec Ideal S16384x1024 .f32} {α : FVec Ideal S1x1024 .f32} {w1 w2 w3 w4 : FVec Ideal S4x1024x2816 .f32} {d1 d2 : FVec Ideal S4x2816x1024 .f32}
  (H : Holds a x α w1 w2 d1 dy)

/-- What the grid reads: the arrays of the host's lines hold the real gate and up products and weights. -/
structure Grid (x dy : FVec Ideal S16384x1024 .f32) (α : FVec Ideal S1x1024 .f32) (g u : FVec Ideal S4x16384x704 .bf16) (w : FVec Ideal S4x16x704x1024 .bf16)
    (wd : FVec Ideal S4x8x704x1024 .bf16) : Prop where
  x : ∀ r k, x (ix2 r k) = (a.x r k : EReal)
  dy : ∀ r k, dy (ix2 r k) = (a.dy r k : EReal)
  α : ∀ k, α (ix2 0 k) = (a.α k : EReal)
  g : ∀ e r f, g (ix3 e r f) = (G a r (at' e f) : EReal)
  u : ∀ e r f, u (ix3 e r f) = (U a r (at' e f) : EReal)
  wg : ∀ e f k, w (ix4 e 0 f k) = (a.wg k (at' e f) : EReal)
  wu : ∀ e f k, w (ix4 e 4 f k) = (a.wu k (at' e f) : EReal)
  wd : ∀ e f k, wd (ix4 e 0 f k) = (a.wd (at' e f) k : EReal)

include H in
theorem rows_real (r : Fin 16384) (k : Fin 1024) : rowsH x α (ix2 r k) = (h a r k : EReal) := by
  rw [rowsH_at, meanSqH_at, meanSq_real a _ r (H.x r), rsqrt_v, H.x, H.α, ← EReal.coe_mul, ← EReal.coe_mul]
  rfl

include H in
theorem grid_holds : Grid a x dy α (gateH (packUp w1 w2 w3 w4) (rowsH x α)) (upH (packUp w1 w2 w3 w4) (rowsH x α)) (packUp w1 w2 w3 w4) (packDown d1 d2) where
  x := H.x
  dy := H.dy
  α := H.α
  g e r f := by
    rw [gateH_at]
    simp only [rows_real a H, packUp_gate, H.wg, ← EReal.coe_mul, coe_sum]
    exact congrArg _ (Finset.sum_congr rfl fun k _ => mul_comm _ _)
  u e r f := by
    rw [upH_at]
    simp only [rows_real a H, packUp_up, H.wu, ← EReal.coe_mul, coe_sum]
    exact congrArg _ (Finset.sum_congr rfl fun k _ => mul_comm _ _)
  wg e f k := by rw [packUp_gate, H.wg]
  wu e f k := by rw [packUp_up, H.wu]
  wd e f k := by rw [packDown_at, H.wd]

variable {g u : FVec Ideal S4x16384x704 .bf16} {w : FVec Ideal S4x16x704x1024 .bf16} {wd : FVec Ideal S4x8x704x1024 .bf16}
  (K : Grid a x dy α g u w wd)
include K

theorem dact_real (e : Fin 4) (r : Fin 16384) (f : Fin 704) : dactA dy wd e r f = (D a r (at' e f) : EReal) := by
  simp only [dactA, K.dy, K.wd, ← EReal.coe_mul, coe_sum]
  rw [Consts.f32_half, ← EReal.coe_mul, D, Finset.mul_sum]
  exact congrArg _ (Finset.sum_congr rfl fun k _ => (mul_assoc _ _ _).symm)

theorem dg_val (e : Fin 4) (r : Fin 16384) (f : Fin 704) : dgOf (dactA dy wd e r f) (g (ix3 e r f)) (u (ix3 e r f)) = (dg a r (at' e f) : EReal) := by
  rw [dact_real a K, K.g, K.u]
  simp only [dgOf, sgm, Ideal.logistic_coe, Consts.f32_one, ← EReal.coe_mul, ← EReal.coe_add, ← EReal.coe_sub]
  rfl
theorem du_val (e : Fin 4) (r : Fin 16384) (f : Fin 704) : duOf (dactA dy wd e r f) (g (ix3 e r f)) = (du a r (at' e f) : EReal) := by
  rw [dact_real a K, K.g]
  simp only [duOf, sgm, Ideal.logistic_coe, ← EReal.coe_mul]
  rfl

theorem kernel_dg (e : Fin 4) (r : Fin 16384) (f : Fin 704) : dgArr dy g u wd (ix3 e r f) = (dg a r (at' e f) : EReal) := dg_val a K e r f
theorem kernel_du (e : Fin 4) (r : Fin 16384) (f : Fin 704) : duArr dy g wd (ix3 e r f) = (du a r (at' e f) : EReal) := du_val a K e r f
theorem kernel_act (e : Fin 4) (r : Fin 16384) (f : Fin 704) : actArr g u (ix3 e r f) = (act a r (at' e f) : EReal) := by
  show actOf (g (ix3 e r f)) (u (ix3 e r f)) = _
  rw [K.g, K.u]
  simp only [actOf, sgm, Ideal.logistic_coe, ← EReal.coe_mul]
  rfl

/-- The units by chips are all units. -/
theorem sum_chips (F : Fin 2816 → ℝ) : ∑ e : Fin 4, ∑ f : Fin 704, F (at' e f) = ∑ j : Fin 2816, F j :=
  Fin.sum_mul_add_congr fun e f hf => rfl

theorem chip_real (r : Fin 16384) (k : Fin 1024) (e : Fin 4) : chipA dy g u w wd r k e
    = ((∑ f : Fin 704, dg a r (at' e f) * a.wg k (at' e f) + ∑ f : Fin 704, du a r (at' e f) * a.wu k (at' e f) : ℝ) : EReal) := by
  simp only [chipA, dg_val a K, du_val a K, K.wg, K.wu, ← EReal.coe_mul, coe_sum, ← EReal.coe_add]
theorem dh_real (r : Fin 16384) (k : Fin 1024) : dhA dy g u w wd r k = (dh a r k : EReal) := by
  rw [dhA, chip_real a K, chip_real a K, chip_real a K, chip_real a K, ← EReal.coe_add, ← EReal.coe_add, ← EReal.coe_add, dh,
    ← sum_chips a K (fun j => dg a r j * a.wg k j), ← sum_chips a K (fun j => du a r j * a.wu k j), Fin.sum_univ_four, Fin.sum_univ_four]
  exact congrArg _ (by ring)
theorem rstd_real (r : Fin 16384) : rstdA x r = (ρ a r : EReal) := by
  rw [rstdA, meanSq_real a _ r (K.x r), rsqrt_v]
theorem kernel_dx (r : Fin 16384) (k : Fin 1024) : dxArr x dy α g u w wd (ix2 r k) = (dx a r k : EReal) := by
  show dy (ix2 r k) + dnA x dy α g u w wd r k = _
  simp only [dnA, dh_real a K, rstd_real a K, K.x, K.α, K.dy, ← EReal.coe_mul, coe_sum]
  rw [Consts.f32_1024, div_real _ _ (by norm_num)]
  simp only [← EReal.coe_mul, ← EReal.coe_sub, ← EReal.coe_add]
  rfl
theorem kernel_dgain (k : Fin 1024) : dgainArr x dy g u w wd (ix2 0 k) = (dgain a k : EReal) := by
  show ∑ r : Fin 16384, dhA dy g u w wd r k * (x (ix2 r k) * rstdA x r) = _
  simp only [dh_real a K, rstd_real a K, K.x, ← EReal.coe_mul, coe_sum]
  rfl

end Kernel

section Reference

open Cert.FfnBwdRefIdeal Cert.FfnBwdRefIdeal.Value Cert.FfnRefValue

variable {m : (ℓ : Loc nD τ sig) → Buf (Elt Ideal) ℓ} {c : Dev nD}
  (H : Holds a (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg8)))
include H

theorem ref_v (r : Fin 16384) : meanSq (xs m c) (ix2 r 0) = (v a r : EReal) := by
  rw [meanSq_at]; exact meanSq_real a _ r (H.x r)
theorem ref_rstd (r : Fin 16384) : rstd (meanSq (xs m c)) (ix2 r 0) = (ρ a r : EReal) := by
  rw [rstd_at, ref_v a H, rsqrt_v]
theorem ref_norm (r : Fin 16384) (k : Fin 1024) : norm m c (ix2 r k) = ((a.x r k * ρ a r : ℝ) : EReal) := by
  show xs m c (ix2 r k) * wide (rstd (meanSq (xs m c))) (ix2 r k) = _
  rw [wide_at, ref_rstd a H, EReal.coe_mul]
  exact congrArg (fun z : EReal => z * (ρ a r : EReal)) (H.x r k)
theorem ref_rows (r : Fin 16384) (k : Fin 1024) : rowsOf m c (ix2 r k) = (h a r k : EReal) := by
  show norm m c (ix2 r k) * gains _ (ix2 r k) = _
  rw [gains_at, ref_norm a H, h, EReal.coe_mul (a.x r k * ρ a r)]
  exact congrArg (fun z : EReal => ((a.x r k * ρ a r : ℝ) : EReal) * z) (H.α k)
theorem ref_wg (k : Fin 1024) (j : Fin 2816) : upW (m ((c.tc : Thread nD τ).loc main_arg2)) (ix2 k j) = (a.wg k j : EReal) := by
  rw [upW_at]; exact H.wg k j
theorem ref_wu (k : Fin 1024) (j : Fin 2816) : upW (m ((c.tc : Thread nD τ).loc main_arg3)) (ix2 k j) = (a.wu k j : EReal) := by
  rw [upW_at]; exact H.wu k j
theorem ref_wd (j : Fin 2816) (k : Fin 1024) : downW (m ((c.tc : Thread nD τ).loc main_arg4)) (ix2 j k) = (a.wd j k : EReal) := by
  rw [downW_at]; exact H.wd j k
theorem ref_gate (r : Fin 16384) (j : Fin 2816) : gate m c (ix2 r j) = (G a r j : EReal) := by
  rw [gate, proj_at]
  simp only [ref_rows a H, ref_wg a H, ← EReal.coe_mul, coe_sum]
  rfl
theorem ref_up (r : Fin 16384) (j : Fin 2816) : up m c (ix2 r j) = (U a r j : EReal) := by
  rw [up, proj_at]
  simp only [ref_rows a H, ref_wu a H, ← EReal.coe_mul, coe_sum]
  rfl
theorem ref_s (r : Fin 16384) (j : Fin 2816) : logis (gate m c) (ix2 r j) = (s a r j : EReal) := by
  rw [logis_at, ref_gate a H, Consts.f32_one, ← EReal.coe_neg, Ideal.exp_coe, ← EReal.coe_add,
    div_real _ _ (by have := Real.exp_pos (-(G a r j)); positivity), one_div]
  rfl
theorem ref_dact (r : Fin 16384) (j : Fin 2816) : dact m c (ix2 r j) = (D a r j : EReal) := by
  have hdy : ∀ k, m ((c.tc : Thread nD τ).loc main_arg8) (ix2 r k) = (a.dy r k : EReal) := H.dy r
  rw [dact, dprod_at]
  simp only [hdy, ref_wd a H, Consts.f32_half, ← EReal.coe_mul, coe_sum]
  rfl
theorem ref_dg (r : Fin 16384) (j : Fin 2816) : FfnRefValue.dg m c (ix2 r j) = (dg a r j : EReal) := by
  rw [FfnRefValue.dg, dgate_at, ref_dact a H, ref_gate a H, ref_up a H, ref_s a H, Consts.f32_one]
  simp only [← EReal.coe_mul, ← EReal.coe_add, ← EReal.coe_sub]
  exact congrArg _ (by rw [dg]; ring)
theorem ref_du (r : Fin 16384) (j : Fin 2816) : FfnRefValue.du m c (ix2 r j) = (du a r j : EReal) := by
  rw [FfnRefValue.du, dup_at, ref_dact a H, ref_gate a H, ref_s a H]
  simp only [← EReal.coe_mul]
  exact congrArg _ (by rw [du]; ring)
theorem ref_act (r : Fin 16384) (j : Fin 2816) : prod (gate m c) (up m c) (logis (gate m c)) (ix2 r j) = (act a r j : EReal) := by
  rw [prod_at, ref_gate a H, ref_up a H, ref_s a H]
  simp only [← EReal.coe_mul]
  rfl
theorem ref_dh (r : Fin 16384) (k : Fin 1024) : FfnRefValue.dh m c (ix2 r k) = (dh a r k : EReal) := by
  rw [FfnRefValue.dh, dnorm_at]
  simp only [ref_dg a H, ref_du a H, ref_wg a H, ref_wu a H, ← EReal.coe_mul, coe_sum, ← EReal.coe_add]
  exact congrArg _ (by rw [dh, add_comm])
theorem ref_dgain (k : Fin 1024) : dgainOf (norm m c) (FfnRefValue.dh m c) (ix2 0 k) = (dgain a k : EReal) := by
  rw [dgainOf_at]
  simp only [ref_norm a H, ref_dh a H, ← EReal.coe_mul, coe_sum]
  exact congrArg _ (Finset.sum_congr rfl fun r _ => mul_comm _ _)
theorem ref_gy (r : Fin 16384) (k : Fin 1024) : gy m c (ix2 r k) = ((dh a r k * a.α k : ℝ) : EReal) := by
  show FfnRefValue.dh m c (ix2 r k) * gains _ (ix2 r k) = _
  rw [gains_at, ref_dh a H, EReal.coe_mul]
  exact congrArg (fun z : EReal => (dh a r k : EReal) * z) (H.α k)
theorem ref_e (r : Fin 16384) (k : Fin 1024) : scaleGrad (xs m c) (gy m c) (meanSq (xs m c)) (ix2 r k)
    = (((∑ k, a.x r k * (dh a r k * a.α k)) * (-(1 / 2) * (ρ a r / v a r)) / 1024 : ℝ) : EReal) := by
  have hx : ∀ k, xs m c (ix2 r k) = (a.x r k : EReal) := H.x r
  rw [scaleGrad_at, ref_rstd a H, ref_v a H, div_real _ _ (v_pos a r).ne', Consts.f32_neg_half, Consts.f32_1024]
  simp only [hx, ref_gy a H, ← EReal.coe_mul, coe_sum]
  rw [div_real _ _ (by norm_num)]
theorem ref_dx (r : Fin 16384) (k : Fin 1024) :
    dxOf (xs m c) (m ((c.tc : Thread nD τ).loc main_arg8)) (gy m c) (scaleGrad (xs m c) (gy m c) (meanSq (xs m c))) (meanSq (xs m c)) (ix2 r k) = (dx a r k : EReal) := by
  have hx : xs m c (ix2 r k) = (a.x r k : EReal) := H.x r k
  have hdy : m ((c.tc : Thread nD τ).loc main_arg8) (ix2 r k) = (a.dy r k : EReal) := H.dy r k
  rw [dxOf_at, hx, hdy, ref_e a H, ref_gy a H, ref_rstd a H]
  simp only [← EReal.coe_mul, ← EReal.coe_add]
  refine congrArg _ ?_
  have e1 : ∑ k, dh a r k * a.α k * (a.x r k * ρ a r) = (∑ k, a.x r k * (dh a r k * a.α k)) * ρ a r := by
    rw [Finset.sum_mul]; exact Finset.sum_congr rfl fun k _ => by ring
  have e2 : ρ a r / v a r = ρ a r * (ρ a r * ρ a r) := by rw [ρ_sq, div_eq_mul_inv]
  rw [dx, e1, e2]
  ring

end Reference

/-- Finite arrays hold real arguments. -/
theorem exists_args (x : (⟨2, ![16384, 1024]⟩ : Shape).Idx → EReal) (α : (⟨2, ![1, 1024]⟩ : Shape).Idx → EReal)
    (wg wu : (⟨3, ![4, 1024, 2816]⟩ : Shape).Idx → EReal) (wd : (⟨3, ![4, 2816, 1024]⟩ : Shape).Idx → EReal) (dy : (⟨2, ![16384, 1024]⟩ : Shape).Idx → EReal)
    (h0 : ∀ i, ∃ y : ℝ, x i = y) (h1 : ∀ i, ∃ y : ℝ, α i = y) (h2 : ∀ i, ∃ y : ℝ, wg i = y) (h3 : ∀ i, ∃ y : ℝ, wu i = y)
    (h4 : ∀ i, ∃ y : ℝ, wd i = y) (h5 : ∀ i, ∃ y : ℝ, dy i = y) : ∃ a : Args, Holds a x α wg wu wd dy := by
  choose f0 e0 using h0
  choose f1 e1 using h1
  choose f2 e2 using h2
  choose f3 e3 using h3
  choose f4 e4 using h4
  choose f5 e5 using h5
  exact ⟨⟨fun r k => f0 (ix2 r k), fun k => f1 (ix2 0 k), fun k j => f2 (ix3 0 k j), fun k j => f3 (ix3 0 k j), fun j k => f4 (ix3 0 j k), fun r k => f5 (ix2 r k)⟩,
    fun _ _ => e0 _, fun _ => e1 _, fun _ _ => e2 _, fun _ _ => e3 _, fun _ _ => e4 _, fun _ _ => e5 _⟩

end Cert.FfnReal

end
-- ==== Proof.FfnClaims.lean ====
/- The claims of the feed-forward layer's backward call. The value: on finite arguments the grid's six arrays and the
   reference's are the same real sums (`FfnReal.lean`). -/
module

public import proofs.«01_k».proof.Defs
public import proofs.«01_k».proof.Proof.FfnReal
public import proofs.«01_k».proof.Proof.FlashReal
public import proofs.«01_k».proof.Proof.Gen.FfnBwdKernelIdeal.Frame
public import proofs.«01_k».proof.Proof.Gen.FfnBwdRefIdeal.Run
public import Idealize.ShloMosaic.Lib.Claim

@[expose] public section

set_option maxRecDepth 16384

open Idealize.ShloMosaic Idealize.ShloMosaic.TcCoe Idealize.SL.Sem

namespace Cert.FfnValue

/-- The reference's frame. -/
theorem ref_frame : Cert.quiescent_FfnBwdRefIdeal := fun m ρ _ =>
  (θ_run Cert.FfnBwdRefIdeal.defs _ _).mono (fun r h => ⟨fun c => (h c).2.2.2.2.2.2, sem_eq_zero_of_no_sems (by decide) r.2⟩)
    (Cert.FfnBwdRefIdeal.Value.run (F := Ideal) m ρ)

/-- The side conditions of the precondition. -/
instance pre_facts : Cert.Pre_ffn_finite.Facts := ⟨by decide, by decide, by decide, by decide⟩

/-- Finite arguments are real. -/
theorem exists_args [Cert.Pre_ffn_finite.Facts]
    (m : (ℓ : Loc Cert.FfnBwdKernelIdeal.nD Cert.FfnBwdKernelIdeal.τ Cert.FfnBwdKernelIdeal.sig) → Buf (Elt Ideal) ℓ)
    (hm : Cert.Pre_FfnBwdKernelIdeal_ffn_finite m) (c : Dev Cert.FfnBwdKernelIdeal.nD) :
    ∃ a : FfnReal.Args, FfnReal.Holds a (m ((c.tc : Thread Cert.FfnBwdKernelIdeal.nD Cert.FfnBwdKernelIdeal.τ).loc Cert.FfnBwdKernelIdeal.main_arg0))
    (m ((c.tc : Thread Cert.FfnBwdKernelIdeal.nD Cert.FfnBwdKernelIdeal.τ).loc Cert.FfnBwdKernelIdeal.main_arg1))
    (m ((c.tc : Thread Cert.FfnBwdKernelIdeal.nD Cert.FfnBwdKernelIdeal.τ).loc Cert.FfnBwdKernelIdeal.main_arg2))
    (m ((c.tc : Thread Cert.FfnBwdKernelIdeal.nD Cert.FfnBwdKernelIdeal.τ).loc Cert.FfnBwdKernelIdeal.main_arg3))
    (m ((c.tc : Thread Cert.FfnBwdKernelIdeal.nD Cert.FfnBwdKernelIdeal.τ).loc Cert.FfnBwdKernelIdeal.main_arg4))
    (m ((c.tc : Thread Cert.FfnBwdKernelIdeal.nD Cert.FfnBwdKernelIdeal.τ).loc Cert.FfnBwdKernelIdeal.main_arg8)) :=
  FfnReal.exists_args _ _ _ _ _ _ (fun i => FlashReal.real_of_abs_lt _ (congrFun (hm c).1 i)) (fun i => FlashReal.real_of_abs_lt _ (congrFun (hm c).2.1 i))
    (fun i => FlashReal.real_of_abs_lt _ (congrFun (hm c).2.2.1 i)) (fun i => FlashReal.real_of_abs_lt _ (congrFun (hm c).2.2.2.1 i))
    (fun i => FlashReal.real_of_abs_lt _ (congrFun (hm c).2.2.2.2.1 i)) (fun i => FlashReal.real_of_abs_lt _ (congrFun (hm c).2.2.2.2.2 i))

section

variable {a : FfnReal.Args} (m : (ℓ : Loc Cert.FfnBwdKernelIdeal.nD Cert.FfnBwdKernelIdeal.τ Cert.FfnBwdKernelIdeal.sig) → Buf (Elt Ideal) ℓ)
  (m' : (ℓ : Loc Cert.FfnBwdRefIdeal.nD Cert.FfnBwdRefIdeal.τ Cert.FfnBwdRefIdeal.sig) → Buf (Elt Ideal) ℓ) (c : Dev Cert.FfnBwdKernelIdeal.nD)
  (H : FfnReal.Holds a (m ((c.tc : Thread Cert.FfnBwdKernelIdeal.nD Cert.FfnBwdKernelIdeal.τ).loc Cert.FfnBwdKernelIdeal.main_arg0))
    (m ((c.tc : Thread Cert.FfnBwdKernelIdeal.nD Cert.FfnBwdKernelIdeal.τ).loc Cert.FfnBwdKernelIdeal.main_arg1))
    (m ((c.tc : Thread Cert.FfnBwdKernelIdeal.nD Cert.FfnBwdKernelIdeal.τ).loc Cert.FfnBwdKernelIdeal.main_arg2))
    (m ((c.tc : Thread Cert.FfnBwdKernelIdeal.nD Cert.FfnBwdKernelIdeal.τ).loc Cert.FfnBwdKernelIdeal.main_arg3))
    (m ((c.tc : Thread Cert.FfnBwdKernelIdeal.nD Cert.FfnBwdKernelIdeal.τ).loc Cert.FfnBwdKernelIdeal.main_arg4))
    (m ((c.tc : Thread Cert.FfnBwdKernelIdeal.nD Cert.FfnBwdKernelIdeal.τ).loc Cert.FfnBwdKernelIdeal.main_arg8)))
  (H' : FfnReal.Holds a (m' ((c.tc : Thread Cert.FfnBwdRefIdeal.nD Cert.FfnBwdRefIdeal.τ).loc Cert.FfnBwdRefIdeal.main_arg0))
    (m' ((c.tc : Thread Cert.FfnBwdRefIdeal.nD Cert.FfnBwdRefIdeal.τ).loc Cert.FfnBwdRefIdeal.main_arg1))
    (m' ((c.tc : Thread Cert.FfnBwdRefIdeal.nD Cert.FfnBwdRefIdeal.τ).loc Cert.FfnBwdRefIdeal.main_arg2))
    (m' ((c.tc : Thread Cert.FfnBwdRefIdeal.nD Cert.FfnBwdRefIdeal.τ).loc Cert.FfnBwdRefIdeal.main_arg3))
    (m' ((c.tc : Thread Cert.FfnBwdRefIdeal.nD Cert.FfnBwdRefIdeal.τ).loc Cert.FfnBwdRefIdeal.main_arg4))
    (m' ((c.tc : Thread Cert.FfnBwdRefIdeal.nD Cert.FfnBwdRefIdeal.τ).loc Cert.FfnBwdRefIdeal.main_arg8)))

include H in
theorem grid_real : FfnReal.Grid a (Cert.FfnBwdKernelIdeal.Gen.V m c Cert.FfnBwdKernelIdeal.main_arg0) (Cert.FfnBwdKernelIdeal.Gen.V m c Cert.FfnBwdKernelIdeal.main_arg8)
    (Cert.FfnBwdKernelIdeal.Gen.V m c Cert.FfnBwdKernelIdeal.main_arg1) (Cert.FfnBwdKernelIdeal.Gen.V m c Cert.FfnBwdKernelIdeal.main_v30) (Cert.FfnBwdKernelIdeal.Gen.V m c Cert.FfnBwdKernelIdeal.main_v31)
    (Cert.FfnBwdKernelIdeal.Gen.V m c Cert.FfnBwdKernelIdeal.main_v6) (Cert.FfnBwdKernelIdeal.Gen.V m c Cert.FfnBwdKernelIdeal.main_v8) := by
  rw [V_gate, V_up, V_wUp, V_wDown, Cert.FfnBwdKernelIdeal.Gen.V_main_arg0, Cert.FfnBwdKernelIdeal.Gen.V_main_arg1, Cert.FfnBwdKernelIdeal.Gen.V_main_arg8]
  exact FfnReal.grid_holds a H

include H H'

/-- The rows' gradients agree, -/
theorem dx_same : Cert.FfnBwdRefIdeal.Value.res_main_v62 m' c = (Cert.FfnBwdKernelIdeal.Gen.dats m 0 c).arrAt 8 Cert.FfnBwdKernelIdeal.cfg0.N := by
  rw [dx_final]
  refine (FfnRefValue.res_dx m' c).trans (funext fun j => ?_)
  rw [show j = ix2 (j 0) (j 1) from eq_ix2 j]
  exact (FfnReal.ref_dx a H' _ _).trans (FfnReal.kernel_dx a (grid_real m c H) _ _).symm
/-- the gain's, -/
theorem dgain_same : Cert.FfnBwdRefIdeal.Value.res_main_v61 m' c = (Cert.FfnBwdKernelIdeal.Gen.dats m 0 c).arrAt 9 Cert.FfnBwdKernelIdeal.cfg0.N := by
  rw [dgain_final]
  refine (FfnRefValue.res_dgain m' c).trans (funext fun j => ?_)
  obtain ⟨k, rfl⟩ : ∃ k : Fin 1024, j = ix2 0 k := ⟨j 1, by rw [eq_ix2 j]; exact congrArg (fun z : Fin 1 => ix2 z (j 1)) (Subsingleton.elim _ _)⟩
  exact (FfnReal.ref_dgain a H' k).trans (FfnReal.kernel_dgain a (grid_real m c H) k).symm
/-- the gate's, -/
theorem dg_same : FfnRefValue.chips (FfnRefValue.dg m' c) = (Cert.FfnBwdKernelIdeal.Gen.dats m 0 c).arrAt 11 Cert.FfnBwdKernelIdeal.cfg0.N := by
  rw [dg_final]
  refine funext fun j => ?_
  rw [show j = ix3 (j 0) (j 1) (j 2) from eq_ix3 j]
  exact (FfnRefValue.chips_at _ _ _ _).trans ((FfnReal.ref_dg a H' _ _).trans (FfnReal.kernel_dg a (grid_real m c H) _ _ _).symm)
/-- the up projection's, -/
theorem du_same : FfnRefValue.chips (FfnRefValue.du m' c) = (Cert.FfnBwdKernelIdeal.Gen.dats m 0 c).arrAt 12 Cert.FfnBwdKernelIdeal.cfg0.N := by
  rw [du_final]
  refine funext fun j => ?_
  rw [show j = ix3 (j 0) (j 1) (j 2) from eq_ix3 j]
  exact (FfnRefValue.chips_at _ _ _ _).trans ((FfnReal.ref_du a H' _ _).trans (FfnReal.kernel_du a (grid_real m c H) _ _ _).symm)
/-- and the products. -/
theorem act_same : FfnRefValue.chips (FfnRefValue.prod (FfnRefValue.gate m' c) (FfnRefValue.up m' c) (FfnRefValue.logis (FfnRefValue.gate m' c)))
    = (Cert.FfnBwdKernelIdeal.Gen.dats m 0 c).arrAt 13 Cert.FfnBwdKernelIdeal.cfg0.N := by
  rw [act_final]
  refine funext fun j => ?_
  rw [show j = ix3 (j 0) (j 1) (j 2) from eq_ix3 j]
  exact (FfnRefValue.chips_at _ _ _ _).trans ((FfnReal.ref_act a H' _ _).trans (FfnReal.kernel_act a (grid_real m c H) _ _ _).symm)

end

set_option maxHeartbeats 4000000 in
theorem ffn_algebraic [Cert.Pre_ffn_finite.Facts] : Cert.algebraic_FfnBwdKernelIdeal_FfnBwdRefIdeal_pre_ffn_finite := by
  pair_intro
  · run_from Cert.FfnBwdKernelIdeal.Gen.run_main m g
  · refine (θ_run Cert.FfnBwdRefIdeal.defs _ _).mono (fun r h c => ?_) (Cert.FfnBwdRefIdeal.Value.run (F := Ideal) m' g')
    obtain ⟨h0, h1, h2, h3, h4, h5, hrest⟩ := h c
    obtain ⟨a, H⟩ := exists_args m hpre c
    obtain ⟨e0, e1, e2, e3, e4, -, -, -, e8⟩ := hagree c
    have H' := H
    rw [← e0, ← e1, ← e2, ← e3, ← e4, ← e8] at H'
    refine ⟨h0.trans (dx_same m m' c H H'), h1.trans (dgain_same m m' c H H'), h2.trans ?_, (h3.trans (FfnRefValue.res_dg m' c)).trans (dg_same m m' c H H'),
      (h4.trans (show _ = FfnRefValue.chips (FfnRefValue.du m' c) from rfl)).trans (du_same m m' c H H'),
      (h5.trans (show _ = FfnRefValue.chips (FfnRefValue.prod (FfnRefValue.gate m' c) (FfnRefValue.up m' c) (FfnRefValue.logis (FfnRefValue.gate m' c))) from rfl)).trans
        (act_same m m' c H H'), hrest⟩
    rw [dyb_final, e8]
    rfl

end Cert.FfnValue
-- ==== Proof.PoolClaims.lean ====
/- The claims of the pooling mixer's backward call. -/
module

public import proofs.«01_k».proof.Defs
public import proofs.«01_k».proof.Proof.Gen.PoolBwdRefIdeal.Run
public import Idealize.ShloMosaic.Lib.Claim

@[expose] public section

set_option maxRecDepth 16384

open Idealize.ShloMosaic Idealize.ShloMosaic.TcCoe Idealize.SL.Sem

namespace Cert.PoolValue

/-- The reference's frame. -/
theorem ref_frame : Cert.quiescent_PoolBwdRefIdeal := fun m ρ _ =>
  (θ_run Cert.PoolBwdRefIdeal.defs _ _).mono (fun r h => ⟨fun c => (h c).2.2.2.2, sem_eq_zero_of_no_sems (by decide) r.2⟩)
    (Cert.PoolBwdRefIdeal.Value.run (F := Ideal) m ρ)

end Cert.PoolValue
-- ==== Proof.FlashFwdRun.lean ====
/- The attention's forward call at one grid point: the body's run in its two cases, an odd and an even number of key tiles
   below the diagonal. -/
module

public import proofs.«01_k».proof.Proof.Gen.FlashFwdKernelIdeal.Frame
public import proofs.«01_k».proof.Proof.Gen.FlashFwdKernelIdeal.Loops
public import Idealize.ShloMosaic.Lib.LoopRemainder
public import Idealize.ShloMosaic.Lib.Claim

@[expose] public section

set_option maxRecDepth 16384

noncomputable section

namespace Cert.FlashFwdRun

open Cert.FlashFwdKernelIdeal Cert.FlashFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where the accesses lie

Query tile `i` meets the key tiles `0 … i`: trip `k` of the loop works on the tiles `2k` and `2k + 1`, fetching the next. -/

theorem off1_eq : ∀ (i : grid0.Coords) (k : Fin (k0_t1_loop i).trips), k0_off1 i k = ![0, 1024 * (2 * k.val + 1), 0] := by decide +kernel
theorem off2_eq : ∀ (i : grid0.Coords) (k : Fin (k0_t1_loop i).trips), k0_off2 i k = ![0, 2 * k.val, 0, 0] := by decide +kernel
theorem off3_eq : ∀ (i : grid0.Coords) (k : Fin (k0_t1_loop i).trips), k0_off3 i k = ![0, 1024 * (2 * k.val + 2), 0] := by decide +kernel
theorem off4_eq : ∀ (i : grid0.Coords) (k : Fin (k0_t1_loop i).trips), k0_off4 i k = ![0, 2 * k.val + 1, 0, 0] := by decide +kernel
theorem off9_eq : ∀ i : grid0.Coords, k0_cond1 i = 1#1 → k0_off9 i = ![0, 1024 * (i 1).val, 0] := by decide +kernel
theorem off10_eq : ∀ i : grid0.Coords, k0_cond1 i = 1#1 → k0_off10 i = ![0, (i 1).val - 1, 0, 0] := by decide +kernel
theorem off11_eq : ∀ i : grid0.Coords, k0_off11 i = ![0, (i 1).val, 0, 0] := by decide +kernel
theorem off12_eq : ∀ i : grid0.Coords, k0_off12 i = ![0, (i 1).val, 0, 0] := by decide +kernel
theorem trips_eq : ∀ i : grid0.Coords, (k0_t1_loop i).trips = (i 1).val / 2 := by decide +kernel
theorem odd_eq : ∀ i : grid0.Coords, k0_cond1 i = 1#1 ↔ (i 1).val % 2 = 1 := by decide +kernel
theorem even_eq : ∀ i : grid0.Coords, k0_cond2 i = 1#1 ↔ (i 1).val % 2 = 0 := by decide +kernel
theorem rest_eq_zero : ∀ i : grid0.Coords, (k0_t2_loop i).trips = 0 := by decide +kernel

section Body

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S1x16x136x1024 .bf16) (harg4 : arg4.IsWhole)
  (arg5 : Memref sig .tc .vmem S128x1024 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S136x1024 .f32) (harg8 : arg8.IsWhole)
  (arg9 : Memref sig .tc .vmem S2x1024x1024 .f32) (harg9 : arg9.IsWhole)
  (x2 : Vec F S1x1024x192 .bf16) (x3 : Vec F S1x16384x192 .bf16) (x4 : Vec F S1x16x136x1024 .bf16)

/-- A run of the body: from the inputs' buffers at their contents and the others at anything, to the inputs' as they were,
    the two outputs' written with the pieces `L5` and `L6`, and the scratch buffers at anything. The scratch buffers start
    at the contents the run is found for. -/
def Runs (f7 : Buf (Elt F) (arg7.view.loc (c : Thread nD τ))) (f8 : Buf (Elt F) (arg8.view.loc (c : Thread nD τ)))
    (f9 : Buf (Elt F) (arg9.view.loc (c : Thread nD τ)))
    (L5 : List (View.Piece (Elt F) S128x1024 .f32)) (L6 : List (View.Piece (Elt F) S1x1x1024 .f32)) : Prop :=
  ∀ K : PUnit → sProp 𝕄,
    iprop(owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d)
        ∗ (arg7.view.loc (c : Thread nD τ) ↦[arg7.view.set]{fullShare} f7)
        ∗ (arg8.view.loc (c : Thread nD τ) ↦[arg8.view.set]{fullShare} f8)
        ∗ (arg9.view.loc (c : Thread nD τ) ↦[arg9.view.set]{fullShare} f9)
        ∗ (iprop(owns (c : Thread nD τ) arg2 fullShare x2 ∗ owns (c : Thread nD τ) arg3 fullShare x3 ∗ owns (c : Thread nD τ) arg4 fullShare x4
            ∗ (∃ f, arg5.view.loc (c : Thread nD τ) ↦[arg5.view.set]{fullShare} arg5.view.writes (Elt F) f L5)
            ∗ (∃ f, arg6.view.loc (c : Thread nD τ) ↦[arg6.view.set]{fullShare} arg6.view.writes (Elt F) f L6)
            ∗ (∃ d, owns (c : Thread nD τ) arg7 fullShare d) ∗ (∃ d, owns (c : Thread nD τ) arg8 fullShare d)
            ∗ (∃ d, owns (c : Thread nD τ) arg9 fullShare d)) -∗ K ⟨⟩))
      ⊢ wp frame (wpE (defs₀ (F := F)) Variants.none (c : Thread nD τ) none) Set.univ
          (cc0_flash_fwd i arg2 harg2 arg3 harg3 arg4 harg4 arg5 harg5 arg6 harg6 arg7 harg7 arg8 harg8 arg9 harg9) K

variable (f7 : Buf (Elt F) (arg7.view.loc (c : Thread nD τ))) (f8 : Buf (Elt F) (arg8.view.loc (c : Thread nD τ)))
  (f9 : Buf (Elt F) (arg9.view.loc (c : Thread nD τ)))

set_option backward.proofsInPublic true in
set_option maxHeartbeats 4000000 in
/-- The body's run, found by running it, at a query tile with an odd number of key tiles below the diagonal. -/
def run_odd (h1 : k0_cond1 i = 1#1) (h2 : ¬k0_cond2 i = 1#1) :
    Σ' (L5 : List (View.Piece (Elt F) S128x1024 .f32)),
      { L6 : List (View.Piece (Elt F) S1x1x1024 .f32) // Runs c i arg2 harg2 arg3 harg3 arg4 harg4 arg5 harg5 arg6 harg6 arg7 harg7 arg8 harg8 arg9 harg9 x2 x3 x4 f7 f8 f9 L5 L6 } := by
  refine ⟨?_, ?_, fun K => ?run⟩
  case run =>
    simp only [cc0_flash_fwd_eq_skeleton]; unfold cc0_flash_fwd_skel
    simp only [k0_part5_eq_skeleton, k0_part6_eq_skeleton]
    unfold owns
    iintro ⟨⟨%f2, %hf2, H2⟩, ⟨%f3, %hf3, H3⟩, ⟨%f4, %hf4, H4⟩, ⟨%d5, %f5, -, H5⟩, ⟨%d6, %f6, -, H6⟩, H7, H8, H9, Hk⟩
    obtain rfl := harg2.eq_unread hf2; obtain rfl := harg3.eq_unread hf3; obtain rfl := harg4.eq_unread hf4
    sl_exec (disch := first | sl_exact h1 | sl_exact h2)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; iexact H5
    isplitl [H6]; · iexists _; iexact H6
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

set_option backward.proofsInPublic true in
set_option maxHeartbeats 4000000 in
/-- The body's run, found by running it, at a query tile with an even number of key tiles below the diagonal. -/
def run_even (h1 : ¬k0_cond1 i = 1#1) (h2 : k0_cond2 i = 1#1) :
    Σ' (L5 : List (View.Piece (Elt F) S128x1024 .f32)),
      { L6 : List (View.Piece (Elt F) S1x1x1024 .f32) // Runs c i arg2 harg2 arg3 harg3 arg4 harg4 arg5 harg5 arg6 harg6 arg7 harg7 arg8 harg8 arg9 harg9 x2 x3 x4 f7 f8 f9 L5 L6 } := by
  refine ⟨?_, ?_, fun K => ?run⟩
  case run =>
    simp only [cc0_flash_fwd_eq_skeleton]; unfold cc0_flash_fwd_skel
    simp only [k0_part5_eq_skeleton, k0_part6_eq_skeleton]
    unfold owns
    iintro ⟨⟨%f2, %hf2, H2⟩, ⟨%f3, %hf3, H3⟩, ⟨%f4, %hf4, H4⟩, ⟨%d5, %f5, -, H5⟩, ⟨%d6, %f6, -, H6⟩, H7, H8, H9, Hk⟩
    obtain rfl := harg2.eq_unread hf2; obtain rfl := harg3.eq_unread hf3; obtain rfl := harg4.eq_unread hf4
    sl_exec (disch := first | sl_exact h1 | sl_exact h2)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]; · iexists _; iexact H5
    isplitl [H6]; · iexists _; iexact H6
    isplitl [H7]
    · iexists _, _; isplitr
      swap; · iexact H7
      ipureintro; rfl
    isplitl [H8]
    · iexists _, _; isplitr
      swap; · iexact H8
      ipureintro; rfl
    iexists _, _; isplitr
    swap; · iexact H9
    ipureintro; rfl

end Body

end Cert.FlashFwdRun

end
-- ==== Proof.FlashFwdTile.lean ====
/- The attention's forward call at one grid point: what the body leaves in its two outputs, as a function of the query tile
   and the head's keys and values, key tile after key tile. -/
module

public import proofs.«01_k».proof.Proof.FlashFwdRun
public import Idealize.ShloMosaic.Lib.Pointwise
public import Idealize.ShloMosaic.Lib.VecWindow
public import Idealize.ShloMosaic.Lib.WholeRead

@[expose] public section

set_option maxRecDepth 16384

noncomputable section

namespace Cert.FlashFwdTile

open Cert.FlashFwdKernelIdeal Cert.FlashFwdKernelIdeal.Gen Cert.FlashFwdRun
open Idealize.ShloMosaic Idealize.ShloMosaic.TcCoe Idealize.SL.Sem

variable {F : FTy → Type} [FloatOps F]

/-! ## The functions -/

/-- Row `b` of key tile `n` in the head's sequence. -/
abbrev row (n : ℕ) (b : Fin 1024) : Fin 16384 := Fin.ofNat 16384 (1024 * n + b.val)
/-- Key tile `n` of the head, -/
def kT (x3 : Vec F S1x16384x192 .bf16) (n : ℕ) : Vec F S1x1024x192 .bf16 := fun j => x3 (ix3 0 (row n (j 1)) (j 2))
/-- and its value tile. -/
def vT (x4 : Vec F S1x16x136x1024 .bf16) (n : ℕ) : Vec F S1x1x136x1024 .bf16 := fun j => x4 (ix4 0 (Fin.ofNat 16 n) (j 2) (j 3))
/-- The scores of key tile `n` against the query tile. -/
def sc (x2 : Vec F S1x1024x192 .bf16) (x3 : Vec F S1x16384x192 .bf16) (n : ℕ) : Vec F S1x1024x1024 .f32 := k0_pay39 x2 (kT x3 n)
/-- The running state: the largest score of each query and the weighted sums of the values. -/
abbrev Acc (F : FTy → Type) : Type := Vec F S1x1024 .f32 × Vec F S136x1024 .f32
/-- One key tile below the diagonal, -/
def step (s : Acc F) (z : Vec F S1x1024x1024 .f32) (v : Vec F S1x1x136x1024 .bf16) : Acc F :=
  (k0_pay16 (k0_pay14 z s.1), k0_pay15 z s.1 s.2 v)
/-- and the one on it. -/
def last (s : Acc F) (z : Vec F S1x1024x1024 .f32) (v : Vec F S1x1x136x1024 .bf16) : Acc F := (k0_pay9 z s.1, k0_pay8 z s.1 s.2 v)

variable (x2 : Vec F S1x1024x192 .bf16) (x3 : Vec F S1x16384x192 .bf16) (x4 : Vec F S1x16x136x1024 .bf16)

/-- The state after the first `n` key tiles, -/
def st : ℕ → Acc F
  | 0 => (k0_pay36, k0_pay37)
  | n + 1 => step (st n) (sc x2 x3 n) (vT x4 n)
/-- and after the whole of query tile `n`. -/
def fin (n : ℕ) : Acc F := last (st x2 x3 x4 n) (sc x2 x3 n) (vT x4 n)
/-- The sum of the weights, -/
def den (a : Vec F S136x1024 .f32) : Vec F S1x1024 .f32 := fun j => a (ix2 128 (j 1))
/-- and the weighted sums of the values. -/
def num (a : Vec F S136x1024 .f32) : Vec F S128x1024 .f32 := fun j => a (ix2 ⟨(j 0).val, lt_trans (j 0).isLt (by decide)⟩ (j 1))
/-- The two outputs of query tile `n`. -/
def outO (n : ℕ) : Vec F S128x1024 .f32 := k0_pay10 (den (fin x2 x3 x4 n).2) (num (fin x2 x3 x4 n).2)
def outL (n : ℕ) : Vec F S1x1x1024 .f32 := k0_pay11 (den (fin x2 x3 x4 n).2) (fin x2 x3 x4 n).1

/-! ## Reads -/

section Reads

variable {sig : RefSig} {κ : Kind} {sp : Space} {s : Shape} {e : EltTy} {Val : EltTy → Type}

/-- A read where the last write went reads what was written, -/
theorem read_hit (v : View sig κ sp s e) (f : v.ty.Contents Val) {off size : Fin s.rank → ℕ}
    (inb inb' : ∀ a, off a + size a ≤ s.size a) (w : (Rect.unit off size inb').shape.Idx → Val e) (L : List (View.Piece Val s e)) :
    v.readAt Val (Rect.unit off size inb).toLoadRect (v.writes Val f (⟨Rect.unit off size inb', w⟩ :: L)) = w := by
  funext y
  exact View.read_writes_cons_unit_of_mem v f inb' w L _ y rfl fun a => by
    show off a + 1 * (y a).val = off a + (y a).val
    rw [Nat.one_mul]
/-- and one apart from it what was there before. -/
theorem read_miss (v : View sig κ sp s e) (f : v.ty.Contents Val) {off off' size size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (ha : off a + size a ≤ off' a ∨ off' a + size' a ≤ off a) :
    v.readAt Val (Rect.unit off size inb).toLoadRect (v.writes Val f (⟨Rect.unit off' size' inb', w⟩ :: L))
      = v.readAt Val (Rect.unit off size inb).toLoadRect (v.writes Val f L) := by
  funext y
  refine View.read_writes_cons_unit_of_not_mem v f inb' w L _ rfl a ?_
  show off a + 1 * (y a).val < off' a ∨ off' a + size' a ≤ off a + 1 * (y a).val
  have h : (y a).val < size a := (y a).isLt
  omega

end Reads

section Tiles

variable {off : Fin 4 → ℕ} {off3 : Fin 3 → ℕ}

/-- A read of the query tile, -/
theorem read_x2 {m : Memref sig .tc .vmem S1x1024x192 .bf16} (h : m.IsWhole) (inb) :
    View.readAt (Elt F) m.view (Rect.unit (s := S1x1024x192) ![0, 0, 0] S1x1024x192.size inb).toLoadRect (h.unread x2) = x2 := by
  funext j
  rw [h.readAt_unread]
  refine congrArg x2 ?_
  idx_ext <;> simp
/-- of a key tile -/
theorem read_k {m : Memref sig .tc .vmem S1x16384x192 .bf16} (h : m.IsWhole) {n : ℕ} (inb) (e : off3 = ![0, 1024 * n, 0]) :
    View.readAt (Elt F) m.view (Rect.unit (s := S1x16384x192) off3 S1x1024x192.size inb).toLoadRect (h.unread x3) = kT x3 n := by
  subst e
  have hn : 1024 * n + 1024 ≤ 16384 := by have := inb 1; simpa using this
  funext j
  have hj : (j 1).val < 1024 := (j 1).isLt
  rw [h.readAt_unread]
  refine congrArg x3 ?_
  idx_ext <;> simp [Nat.mod_eq_of_lt (show 1024 * n + (j 1).val < 16384 by omega)]
/-- and of a value tile. -/
theorem read_v {m : Memref sig .tc .vmem S1x16x136x1024 .bf16} (h : m.IsWhole) {n : ℕ} (inb) (e : off = ![0, n, 0, 0]) :
    View.readAt (Elt F) m.view (Rect.unit (s := S1x16x136x1024) off S1x1x136x1024.size inb).toLoadRect (h.unread x4) = vT x4 n := by
  subst e
  have hn : n < 16 := by have := inb 1; simpa using this
  funext j
  rw [h.readAt_unread]
  refine congrArg x4 ?_
  idx_ext <;> simp [Nat.mod_eq_of_lt hn]
/-- A read of the last weighted sum after a write of all, -/
theorem read_den {m : Memref sig .tc .vmem S136x1024 .f32} (f : m.view.ty.Contents (Elt F)) (inb inb')
    (w : Vec F S136x1024 .f32) (L : List (View.Piece (Elt F) S136x1024 .f32)) :
    View.readAt (Elt F) m.view (Rect.unit (s := S136x1024) ![128, 0] ![1, 1024] inb).toLoadRect
        (m.view.writes (Elt F) f (⟨Rect.unit (s := S136x1024) ![0, 0] ![136, 1024] inb', w⟩ :: L)) = den w := by
  funext j
  refine (congrFun (View.read_writes_full m.view f inb' w L) _).trans (congrArg w ?_)
  idx_ext <;> simp
/-- and of the others. -/
theorem read_num {m : Memref sig .tc .vmem S136x1024 .f32} (f : m.view.ty.Contents (Elt F)) (inb inb')
    (w : Vec F S136x1024 .f32) (L : List (View.Piece (Elt F) S136x1024 .f32)) :
    View.readAt (Elt F) m.view (Rect.unit (s := S136x1024) ![0, 0] ![128, 1024] inb).toLoadRect
        (m.view.writes (Elt F) f (⟨Rect.unit (s := S136x1024) ![0, 0] ![136, 1024] inb', w⟩ :: L)) = num w := by
  funext j
  refine (congrFun (View.read_writes_full m.view f inb' w L) _).trans (congrArg w ?_)
  idx_ext <;> simp

end Tiles

/-! ## The loop -/

section Loop

variable (c : Dev nD) (i : grid0.Coords)
  (arg2 : Memref sig .tc .vmem S1x1024x192 .bf16) (harg2 : arg2.IsWhole)
  (arg3 : Memref sig .tc .vmem S1x16384x192 .bf16) (harg3 : arg3.IsWhole)
  (arg4 : Memref sig .tc .vmem S1x16x136x1024 .bf16) (harg4 : arg4.IsWhole)
  (arg5 : Memref sig .tc .vmem S128x1024 .f32) (harg5 : arg5.IsWhole)
  (arg6 : Memref sig .tc .vmem S1x1x1024 .f32) (harg6 : arg6.IsWhole)
  (arg7 : Memref sig .tc .vmem S1x1024 .f32) (harg7 : arg7.IsWhole)
  (arg8 : Memref sig .tc .vmem S136x1024 .f32) (harg8 : arg8.IsWhole)
  (arg9 : Memref sig .tc .vmem S2x1024x1024 .f32) (harg9 : arg9.IsWhole)

/-- One trip from the state after `2k` tiles: the state after `2k + 2`, the next tile's scores fetched. -/
theorem trip_state (k : Fin (k0_t1_loop i).trips) (f7 : arg7.view.ty.Contents (Elt F)) (f8 : arg8.view.ty.Contents (Elt F))
    (f9 : arg9.view.ty.Contents (Elt F)) (L7 : List (View.Piece (Elt F) S1x1024 .f32)) (L8 : List (View.Piece (Elt F) S136x1024 .f32))
    (L9 : List (View.Piece (Elt F) S2x1024x1024 .f32))
    (h7 : View.readAt (Elt F) arg7.view (Rect.unit ![0, 0] S1x1024.size inb_S1x1024_S1x1024_0_0).toLoadRect f7 = (st x2 x3 x4 (2 * k.val)).1)
    (h8 : View.readAt (Elt F) arg8.view (Rect.unit ![0, 0] S136x1024.size inb_S136x1024_S136x1024_0_0).toLoadRect f8 = (st x2 x3 x4 (2 * k.val)).2)
    (h9 : View.readAt (Elt F) arg9.view (Rect.unit (s := S2x1024x1024) ![0, 0, 0] S1x1024x1024.size inb_S2x1024x1024_S1x1024x1024_0_0_0).toLoadRect f9 = sc x2 x3 (2 * k.val)) :
    let T := trip_k0_t1 (F := F) Variants.none c none i arg2 harg2 arg3 harg3 arg4 harg4 arg5 harg5 arg6 harg6 arg7 harg7 arg8 harg8 arg9 harg9 x2 (harg3.unread x3) (harg4.unread x4) k
    (∀ g, View.readAt (Elt F) arg7.view (Rect.unit ![0, 0] S1x1024.size inb_S1x1024_S1x1024_0_0).toLoadRect
        (arg7.view.writes (Elt F) g (T.1 f7 f8 f9 ++ L7)) = (st x2 x3 x4 (2 * (k.val + 1))).1)
    ∧ (∀ g, View.readAt (Elt F) arg8.view (Rect.unit ![0, 0] S136x1024.size inb_S136x1024_S136x1024_0_0).toLoadRect
        (arg8.view.writes (Elt F) g (T.2.1 f7 f8 f9 ++ L8)) = (st x2 x3 x4 (2 * (k.val + 1))).2)
    ∧ (∀ g, View.readAt (Elt F) arg9.view (Rect.unit (s := S2x1024x1024) ![0, 0, 0] S1x1024x1024.size inb_S2x1024x1024_S1x1024x1024_0_0_0).toLoadRect
        (arg9.view.writes (Elt F) g (T.2.2.1 f7 f8 f9 ++ L9)) = sc x2 x3 (2 * (k.val + 1))) := by
  have e92 : trip_k0_t1.sl.v92 i arg3 arg9 x2 (harg3.unread x3) k = sc x2 x3 (2 * k.val + 1) := by
    unfold trip_k0_t1.sl.v92 trip_k0_t1.sl.HW_arg9_2 View.readCov
    rw [read_miss _ _ _ _ _ _ 0 (Or.inr (by decide)), read_hit, read_k x3 harg3 _ (off1_eq i k)]; rfl
  have e94 : trip_k0_t1.sl.v94 arg7 arg9 f7 f9 = (st x2 x3 x4 (2 * k.val + 1)).1 := by
    unfold trip_k0_t1.sl.v94 trip_k0_t1.sl.HW_arg7_1 trip_k0_t1.sl.r trip_k0_t1.sl.v54 View.readCov
    rw [read_hit, h7, h9]; rfl
  have e100 : trip_k0_t1.sl.v100 i arg4 arg7 arg8 arg9 (harg4.unread x4) k f7 f8 f9 = (st x2 x3 x4 (2 * k.val + 1)).2 := by
    unfold trip_k0_t1.sl.v100 trip_k0_t1.sl.HW_arg8_1 trip_k0_t1.sl.v54 View.readCov
    rw [read_hit, h7, h8, h9, read_v x4 harg4 _ (off2_eq i k)]; rfl
  intro T
  unfold T trip_k0_t1
  dsimp only
  refine ⟨fun g => ?_, fun g => ?_, fun g => ?_⟩
  · refine (read_hit _ _ _ _ _ _).trans ?_
    unfold trip_k0_t1.sl.r_1
    rw [e92, e94]; rfl
  · refine (read_hit _ _ _ _ _ _).trans ?_
    unfold trip_k0_t1.sl.r_2 trip_k0_t1.sl.r_3
    rw [e92, e94, e100, read_v x4 harg4 _ (off4_eq i k)]; rfl
  · refine (read_hit _ _ _ _ _ _).trans ?_
    rw [read_k x3 harg3 _ (off3_eq i k)]; rfl

/-- The scratch at loop entry. -/
abbrev P7 : List (View.Piece (Elt F) S1x1024 .f32) := [⟨Rect.unit ![0, 0] S1x1024.size inb_S1x1024_S1x1024_0_0, k0_pay36⟩]
abbrev P8 : List (View.Piece (Elt F) S136x1024 .f32) := [⟨Rect.unit ![0, 0] S136x1024.size inb_S136x1024_S136x1024_0_0, k0_pay37⟩]
abbrev P9 : List (View.Piece (Elt F) S2x1024x1024 .f32) :=
  [⟨Rect.unit (s := S2x1024x1024) ![0, 0, 0] S1x1024x1024.size inb_S2x1024x1024_S1x1024x1024_0_0_0, sc x2 x3 0⟩]

/-- The pieces of the trips before `k`. -/
abbrev pb (f7 : arg7.view.ty.Contents (Elt F)) (f8 : arg8.view.ty.Contents (Elt F)) (f9 : arg9.view.ty.Contents (Elt F)) (k : ℕ) :=
  pb_k0_t1 (F := F) Variants.none c none i arg2 harg2 arg3 harg3 arg4 harg4 arg5 harg5 arg6 harg6 arg7 harg7 arg8 harg8 arg9 harg9 x2
    (harg3.unread x3) (harg4.unread x4) (arg7.view.writes (Elt F) f7 P7) (arg8.view.writes (Elt F) f8 P8) (arg9.view.writes (Elt F) f9 (P9 x2 x3)) k

/-- Before trip `k` the scratch holds the state after `2k` tiles and the next tile's scores. -/
theorem loop_state (f7 : arg7.view.ty.Contents (Elt F)) (f8 : arg8.view.ty.Contents (Elt F)) (f9 : arg9.view.ty.Contents (Elt F)) (k : ℕ)
    (hk : k ≤ (k0_t1_loop i).trips) :
    let B := pb x2 x3 x4 c i arg2 harg2 arg3 harg3 arg4 harg4 arg5 harg5 arg6 harg6 arg7 harg7 arg8 harg8 arg9 harg9 f7 f8 f9 k
    (∀ g, View.readAt (Elt F) arg7.view (Rect.unit ![0, 0] S1x1024.size inb_S1x1024_S1x1024_0_0).toLoadRect
        (arg7.view.writes (Elt F) g (B.1 ++ P7)) = (st x2 x3 x4 (2 * k)).1)
    ∧ (∀ g, View.readAt (Elt F) arg8.view (Rect.unit ![0, 0] S136x1024.size inb_S136x1024_S136x1024_0_0).toLoadRect
        (arg8.view.writes (Elt F) g (B.2.1 ++ P8)) = (st x2 x3 x4 (2 * k)).2)
    ∧ (∀ g, View.readAt (Elt F) arg9.view (Rect.unit (s := S2x1024x1024) ![0, 0, 0] S1x1024x1024.size inb_S2x1024x1024_S1x1024x1024_0_0_0).toLoadRect
        (arg9.view.writes (Elt F) g (B.2.2 ++ P9 x2 x3)) = sc x2 x3 (2 * k)) := by
  induction k with
  | zero =>
    intro B
    exact ⟨fun g => read_hit _ _ _ _ _ _, fun g => read_hit _ _ _ _ _ _, fun g => read_hit _ _ _ _ _ _⟩
  | succ k ih =>
    obtain ⟨i7, i8, i9⟩ := ih (by omega)
    let B0 := pb x2 x3 x4 c i arg2 harg2 arg3 harg3 arg4 harg4 arg5 harg5 arg6 harg6 arg7 harg7 arg8 harg8 arg9 harg9 f7 f8 f9 k
    have h := trip_state x2 x3 x4 c i arg2 harg2 arg3 harg3 arg4 harg4 arg5 harg5 arg6 harg6 arg7 harg7 arg8 harg8 arg9 harg9 ⟨k, hk⟩
      (arg7.view.writes (Elt F) (arg7.view.writes (Elt F) f7 P7) _) (arg8.view.writes (Elt F) (arg8.view.writes (Elt F) f8 P8) _)
      (arg9.view.writes (Elt F) (arg9.view.writes (Elt F) f9 (P9 x2 x3)) _) (B0.1 ++ P7) (B0.2.1 ++ P8) (B0.2.2 ++ P9 x2 x3)
      (by rw [← View.writes_append]; exact i7 f7) (by rw [← View.writes_append]; exact i8 f8) (by rw [← View.writes_append]; exact i9 f9)
    intro B
    have e : B = _ := pb_k0_t1_succ (F := F) Variants.none c none i arg2 harg2 arg3 harg3 arg4 harg4 arg5 harg5 arg6 harg6 arg7 harg7 arg8 harg8 arg9 harg9 x2
      (harg3.unread x3) (harg4.unread x4) (arg7.view.writes (Elt F) f7 P7) (arg8.view.writes (Elt F) f8 P8) (arg9.view.writes (Elt F) f9 (P9 x2 x3)) ⟨k, hk⟩
    rw [e]
    obtain ⟨h7, h8, h9⟩ := h
    refine ⟨fun g => ?_, fun g => ?_, fun g => ?_⟩
    · rw [List.append_assoc]; exact h7 g
    · rw [List.append_assoc]; exact h8 g
    · rw [List.append_assoc]; exact h9 g

variable (f7 : Buf (Elt F) (arg7.view.loc (c : Thread nD τ))) (f8 : Buf (Elt F) (arg8.view.loc (c : Thread nD τ)))
  (f9 : Buf (Elt F) (arg9.view.loc (c : Thread nD τ)))

/-- What the body stores into its outputs, an even number of key tiles below the diagonal, -/
theorem even_out (h1 : ¬k0_cond1 i = 1#1) (h2 : k0_cond2 i = 1#1) :
    let T := run_even (F := F) c i arg2 harg2 arg3 harg3 arg4 harg4 arg5 harg5 arg6 harg6 arg7 harg7 arg8 harg8 arg9 harg9 x2 x3 x4 f7 f8 f9 h1 h2
    (∀ g, arg5.view.read (Elt F) (arg5.view.writes (Elt F) g T.1) = outO x2 x3 x4 (i 1).val)
    ∧ (∀ g, arg6.view.read (Elt F) (arg6.view.writes (Elt F) g T.2.1) = outL x2 x3 x4 (i 1).val) := by
  have hi : 2 * (k0_t1_loop i).trips = (i 1).val := by have := trips_eq i; have := (even_eq i).1 h2; omega
  have hl := loop_state x2 x3 x4 c i arg2 harg2 arg3 harg3 arg4 harg4 arg5 harg5 arg6 harg6 arg7 harg7 arg8 harg8 arg9 harg9 (View.junk _) (View.junk _) f9 _ le_rfl
  rw [hi] at hl
  obtain ⟨l7, l8, l9⟩ := hl
  have e43 : run_even.sl.v43 c i arg2 harg2 arg3 harg3 arg4 harg4 arg5 harg5 arg6 harg6 arg7 harg7 arg8 harg8 arg9 harg9 x2 x3 x4 f9 = sc x2 x3 (i 1).val := by
    unfold run_even.sl.v43 View.readCov; rw [read_x2 x2 harg2, read_k x3 harg3 (n := 0) _ rfl]; exact l9 _
  have e50 : run_even.sl.v50 c i arg2 harg2 arg3 harg3 arg4 harg4 arg5 harg5 arg6 harg6 arg7 harg7 arg8 harg8 arg9 harg9 x2 x3 x4 f9 = (st x2 x3 x4 (i 1).val).1 := by
    unfold run_even.sl.v50 View.readCov; rw [read_x2 x2 harg2, read_k x3 harg3 (n := 0) _ rfl]; exact l7 _
  have e56 : run_even.sl.v56 c i arg2 harg2 arg3 harg3 arg4 harg4 arg5 harg5 arg6 harg6 arg7 harg7 arg8 harg8 arg9 harg9 x2 x3 x4 f9 = (st x2 x3 x4 (i 1).val).2 := by
    unfold run_even.sl.v56 View.readCov; rw [read_x2 x2 harg2, read_k x3 harg3 (n := 0) _ rfl]; exact l8 _
  have e60 : run_even.sl.v60 i arg4 harg4 x4 h2 = vT x4 (i 1).val := by
    unfold run_even.sl.v60; exact read_v x4 harg4 _ (off12_eq i)
  have e32 : run_even.sl.v32 c i arg2 harg2 arg3 harg3 arg4 harg4 arg5 harg5 arg6 harg6 arg7 harg7 arg8 harg8 arg9 harg9 x2 x3 x4 f9 h2 = den (fin x2 x3 x4 (i 1).val).2 := by
    unfold run_even.sl.v32 run_even.sl.H8_1_1 View.readCov
    rw [e43, e50, e56, e60]
    exact read_den _ _ _ _ _
  have e33 : run_even.sl.v33 c i arg2 harg2 arg3 harg3 arg4 harg4 arg5 harg5 arg6 harg6 arg7 harg7 arg8 harg8 arg9 harg9 x2 x3 x4 f9 h2 = num (fin x2 x3 x4 (i 1).val).2 := by
    unfold run_even.sl.v33 run_even.sl.H8_1_1 View.readCov
    rw [e43, e50, e56, e60]
    exact read_num _ _ _ _ _
  have e37 : run_even.sl.v37 c i arg2 harg2 arg3 harg3 arg4 harg4 arg5 harg5 arg6 harg6 arg7 harg7 arg8 harg8 arg9 harg9 x2 x3 x4 f9 = (fin x2 x3 x4 (i 1).val).1 := by
    unfold run_even.sl.v37 run_even.sl.H7_1_1 View.readCov
    rw [e43, e50]
    exact read_hit _ _ _ _ _ _
  intro T
  unfold T run_even
  dsimp only
  rw [e32, e33, e37]
  exact ⟨fun g => View.read_writes_full _ _ _ _ _, fun g => View.read_writes_full _ _ _ _ _⟩

/-- and an odd number. -/
theorem odd_out (h1 : k0_cond1 i = 1#1) (h2 : ¬k0_cond2 i = 1#1) :
    let T := run_odd (F := F) c i arg2 harg2 arg3 harg3 arg4 harg4 arg5 harg5 arg6 harg6 arg7 harg7 arg8 harg8 arg9 harg9 x2 x3 x4 f7 f8 f9 h1 h2
    (∀ g, arg5.view.read (Elt F) (arg5.view.writes (Elt F) g T.1) = outO x2 x3 x4 (i 1).val)
    ∧ (∀ g, arg6.view.read (Elt F) (arg6.view.writes (Elt F) g T.2.1) = outL x2 x3 x4 (i 1).val) := by
  have hi : 2 * (k0_t1_loop i).trips = (i 1).val - 1 := by have := trips_eq i; have := (odd_eq i).1 h1; omega
  have hi' : (i 1).val - 1 + 1 = (i 1).val := by have := (odd_eq i).1 h1; omega
  have hl := loop_state x2 x3 x4 c i arg2 harg2 arg3 harg3 arg4 harg4 arg5 harg5 arg6 harg6 arg7 harg7 arg8 harg8 arg9 harg9 (View.junk _) (View.junk _) f9 _ le_rfl
  rw [hi] at hl
  obtain ⟨l7, l8, l9⟩ := hl
  have e54 : run_odd.sl.v54 c i arg2 harg2 arg3 harg3 arg4 harg4 arg5 harg5 arg6 harg6 arg7 harg7 arg8 harg8 arg9 harg9 x2 x3 x4 f9 h1 = sc x2 x3 ((i 1).val - 1) := by
    unfold run_odd.sl.v54 run_odd.sl.H9_1 View.readCov
    rw [read_miss _ _ _ _ _ _ 0 (Or.inl (by decide)), read_x2 x2 harg2, read_k x3 harg3 (n := 0) _ rfl]; exact l9 _
  have e56 : run_odd.sl.v56 c i arg2 harg2 arg3 harg3 arg4 harg4 arg5 harg5 arg6 harg6 arg7 harg7 arg8 harg8 arg9 harg9 x2 x3 x4 f9 = (st x2 x3 x4 ((i 1).val - 1)).1 := by
    unfold run_odd.sl.v56 View.readCov; rw [read_x2 x2 harg2, read_k x3 harg3 (n := 0) _ rfl]; exact l7 _
  have e62 : run_odd.sl.v62 c i arg2 harg2 arg3 harg3 arg4 harg4 arg5 harg5 arg6 harg6 arg7 harg7 arg8 harg8 arg9 harg9 x2 x3 x4 f9 = (st x2 x3 x4 ((i 1).val - 1)).2 := by
    unfold run_odd.sl.v62 View.readCov; rw [read_x2 x2 harg2, read_k x3 harg3 (n := 0) _ rfl]; exact l8 _
  have e80 : run_odd.sl.v80 c i arg2 harg2 arg3 harg3 arg4 harg4 arg5 harg5 arg6 harg6 arg7 harg7 arg8 harg8 arg9 harg9 x2 x3 x4 f9 h1 = sc x2 x3 (i 1).val := by
    unfold run_odd.sl.v80 run_odd.sl.H9_1 run_odd.sl.r View.readCov
    rw [read_x2 x2 harg2]
    refine (read_hit _ _ _ _ _ _).trans ?_
    rw [read_k x3 harg3 _ (off9_eq i h1)]; rfl
  have e87 : run_odd.sl.v87 c i arg2 harg2 arg3 harg3 arg4 harg4 arg5 harg5 arg6 harg6 arg7 harg7 arg8 harg8 arg9 harg9 x2 x3 x4 f9 h1 = (st x2 x3 x4 (i 1).val).1 := by
    unfold run_odd.sl.v87 run_odd.sl.H7_1_1 run_odd.sl.r_1 View.readCov
    rw [e54, e56]
    refine (read_hit _ _ _ _ _ _).trans ?_
    rw [← hi']; rfl
  have e93 : run_odd.sl.v93 c i arg2 harg2 arg3 harg3 arg4 harg4 arg5 harg5 arg6 harg6 arg7 harg7 arg8 harg8 arg9 harg9 x2 x3 x4 f9 h1 = (st x2 x3 x4 (i 1).val).2 := by
    unfold run_odd.sl.v93 run_odd.sl.H8_1_1 View.readCov
    rw [e54, e56, e62]
    refine (read_hit _ _ _ _ _ _).trans ?_
    rw [read_v x4 harg4 _ (off10_eq i h1), ← hi']; rfl
  have e32 : run_odd.sl.v32 c i arg2 harg2 arg3 harg3 arg4 harg4 arg5 harg5 arg6 harg6 arg7 harg7 arg8 harg8 arg9 harg9 x2 x3 x4 f9 h1 = den (fin x2 x3 x4 (i 1).val).2 := by
    unfold run_odd.sl.v32 run_odd.sl.H8_2 View.readCov
    rw [e80, e87, e93]
    refine (read_den _ _ _ _ _).trans ?_
    rw [show View.readAt (Elt F) arg4.view (Rect.unit (k0_off11 i) ![1, 1, 136, 1024] _).toLoadRect (harg4.unread x4) = _ from read_v x4 harg4 _ (off11_eq i)]; rfl
  have e33 : run_odd.sl.v33 c i arg2 harg2 arg3 harg3 arg4 harg4 arg5 harg5 arg6 harg6 arg7 harg7 arg8 harg8 arg9 harg9 x2 x3 x4 f9 h1 = num (fin x2 x3 x4 (i 1).val).2 := by
    unfold run_odd.sl.v33 run_odd.sl.H8_2 View.readCov
    rw [e80, e87, e93]
    refine (read_num _ _ _ _ _).trans ?_
    rw [show View.readAt (Elt F) arg4.view (Rect.unit (k0_off11 i) ![1, 1, 136, 1024] _).toLoadRect (harg4.unread x4) = _ from read_v x4 harg4 _ (off11_eq i)]; rfl
  have e37 : run_odd.sl.v37 c i arg2 harg2 arg3 harg3 arg4 harg4 arg5 harg5 arg6 harg6 arg7 harg7 arg8 harg8 arg9 harg9 x2 x3 x4 f9 h1 = (fin x2 x3 x4 (i 1).val).1 := by
    unfold run_odd.sl.v37 run_odd.sl.H7_2 View.readCov
    rw [e80, e87]
    exact read_hit _ _ _ _ _ _
  intro T
  unfold T run_odd
  dsimp only
  rw [e32, e33, e37]
  exact ⟨fun g => View.read_writes_full _ _ _ _ _, fun g => View.read_writes_full _ _ _ _ _⟩

end Loop

end Cert.FlashFwdTile
-- ==== Proof.FlashFwdFrame.lean ====
/- The attention's forward call point by point: the pipeline's proof data, and the frame of the two programs from it. -/
module

public import proofs.«01_k».proof.Proof.FlashFwdTile

@[expose] public section

set_option maxRecDepth 16384

noncomputable section

namespace Cert.FlashFwdRun

open Cert.FlashFwdKernelIdeal Cert.FlashFwdKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a point -/

abbrev m0 (t : Fin cfg0.N) : Memref sig .tc .vmem S1x1024x192 .bf16 := win0_0.stage (cfg0.slots t 0)
abbrev m1 (t : Fin cfg0.N) : Memref sig .tc .vmem S1x16384x192 .bf16 := win0_1.stage (cfg0.slots t 1)
abbrev m2 (t : Fin cfg0.N) : Memref sig .tc .vmem S1x16x136x1024 .bf16 := win0_2.stage (cfg0.slots t 2)
abbrev m3 (t : Fin cfg0.N) : Memref sig .tc .vmem S128x1024 .f32 := win0_3.stage (cfg0.slots t 3)
abbrev m4 (t : Fin cfg0.N) : Memref sig .tc .vmem S1x1x1024 .f32 := win0_4.stage (cfg0.slots t 4)
abbrev hs0 (t : Fin cfg0.N) : (m0 t).IsWhole := hstage0_0 ((cfg0.slots t 0).cast nbuf0_0)
abbrev hs1 (t : Fin cfg0.N) : (m1 t).IsWhole := hstage0_1 ((cfg0.slots t 1).cast nbuf0_1)
abbrev hs2 (t : Fin cfg0.N) : (m2 t).IsWhole := hstage0_2 ((cfg0.slots t 2).cast nbuf0_2)
abbrev hs3 (t : Fin cfg0.N) : (m3 t).IsWhole := hstage0_3 ((cfg0.slots t 3).cast nbuf0_3)
abbrev hs4 (t : Fin cfg0.N) : (m4 t).IsWhole := hstage0_4 ((cfg0.slots t 4).cast nbuf0_4)
abbrev sc0 : Memref sig .tc .vmem S1x1024 .f32 := Memref.whole cc0_scratch0
abbrev sc1 : Memref sig .tc .vmem S136x1024 .f32 := Memref.whole cc0_scratch1
abbrev sc2 : Memref sig .tc .vmem S2x1024x1024 .f32 := Memref.whole cc0_scratch2

/-- What the pipeline keeps beside the windows: the three scratch buffers at some contents and the generator's state. -/
theorem rest_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; try rfl

/-- The query tile of point `t` has an odd or an even number of key tiles below the diagonal. -/
theorem parity : ∀ i : grid0.Coords, (k0_cond1 i = 1#1 ∧ ¬k0_cond2 i = 1#1) ∨ (¬k0_cond1 i = 1#1 ∧ k0_cond2 i = 1#1) := by
  decide +kernel

/-! ## What a point leaves -/

/-- The attention's output of the query tile at point `t`, -/
abbrev outAt (c : Dev nD) (t : Fin cfg0.N) : Vec F S128x1024 .f32 :=
  FlashFwdTile.outO (iblk m c 0 t) (iblk m c 1 t) (iblk m c 2 t) (grid0.coords t 1).val
/-- and the logarithms of its rows' sums. -/
abbrev lseAt (c : Dev nD) (t : Fin cfg0.N) : Vec F S1x1x1024 .f32 :=
  FlashFwdTile.outL (iblk m c 0 t) (iblk m c 1 t) (iblk m c 2 t) (grid0.coords t 1).val

/-! ## The pipeline's proof data -/

/-- The arrays as the launch finds them; after the body at point `t` each input's buffer at its block and the outputs' as
    the body leaves them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨4, _⟩ => lseAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]
theorem after_4 (c : Dev nD) (t : Fin cfg0.N) : (dats m 0 c).after 4 t = lseAt m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d))
    ∗ (∃ d, owns (c : Thread nD τ) (m4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (m0 t) fullShare ((dats m 0 c).after 0 t)
    ∗ owns (c : Thread nD τ) (m1 t) fullShare ((dats m 0 c).after 1 t)
    ∗ owns (c : Thread nD τ) (m2 t) fullShare ((dats m 0 c).after 2 t)
    ∗ owns (c : Thread nD τ) (m3 t) fullShare ((dats m 0 c).after 3 t)
    ∗ owns (c : Thread nD τ) (m4 t) fullShare ((dats m 0 c).after 4 t))

set_option maxHeartbeats 2000000 in
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4,
    show (dats m 0 c).Φ t.castSucc = Pipeline.ΦA spec0 c from rfl, rest_eq]
  rcases parity (grid0.coords t) with ⟨h1, h2⟩ | ⟨h1, h2⟩
  · unfold owns
    iintro ⟨⟨⟨⟨%e0, %s0, -, S0⟩, ⟨%e1, %s1, -, S1⟩, ⟨%e2, %s2, -, S2⟩⟩, Hg⟩, Ho, ⟨%d0, H0⟩, ⟨%d1, H1⟩, ⟨%d2, H2⟩, ⟨%d3, H3⟩, ⟨%d4, H4⟩⟩
    have hr := FlashFwdTile.odd_out (iblk m c 0 t) (iblk m c 1 t) (iblk m c 2 t) c (grid0.coords t) (m0 t) (hs0 t) (m1 t) (hs1 t) (m2 t) (hs2 t) (m3 t) (hs3 t) (m4 t) (hs4 t) sc0 (Memref.isWhole_whole _) sc1 (Memref.isWhole_whole _) sc2 (Memref.isWhole_whole _) s0 s1 s2 h1 h2
    iapply ((run_odd c (grid0.coords t) (m0 t) (hs0 t) (m1 t) (hs1 t) (m2 t) (hs2 t) (m3 t) (hs3 t) (m4 t) (hs4 t) sc0 (Memref.isWhole_whole _) sc1 (Memref.isWhole_whole _) sc2 (Memref.isWhole_whole _) (iblk m c 0 t) (iblk m c 1 t) (iblk m c 2 t) s0 s1 s2 h1 h2).2.2 _)
    unfold owns
    isplitl [H0]; · iexact H0
    isplitl [H1]; · iexact H1
    isplitl [H2]; · iexact H2
    isplitl [H3]; · iexists _; iexact H3
    isplitl [H4]; · iexists _; iexact H4
    isplitl [S0]; · iexact S0
    isplitl [S1]; · iexact S1
    isplitl [S2]; · iexact S2
    iintro ⟨H0, H1, H2, ⟨%g3, H3⟩, ⟨%g4, H4⟩, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]
    · iexists _; isplitr
      swap; · iexact H3
      ipureintro; exact hr.1 _
    iexists _; isplitr
    swap; · iexact H4
    ipureintro; exact hr.2 _
  · unfold owns
    iintro ⟨⟨⟨⟨%e0, %s0, -, S0⟩, ⟨%e1, %s1, -, S1⟩, ⟨%e2, %s2, -, S2⟩⟩, Hg⟩, Ho, ⟨%d0, H0⟩, ⟨%d1, H1⟩, ⟨%d2, H2⟩, ⟨%d3, H3⟩, ⟨%d4, H4⟩⟩
    have hr := FlashFwdTile.even_out (iblk m c 0 t) (iblk m c 1 t) (iblk m c 2 t) c (grid0.coords t) (m0 t) (hs0 t) (m1 t) (hs1 t) (m2 t) (hs2 t) (m3 t) (hs3 t) (m4 t) (hs4 t) sc0 (Memref.isWhole_whole _) sc1 (Memref.isWhole_whole _) sc2 (Memref.isWhole_whole _) s0 s1 s2 h1 h2
    iapply ((run_even c (grid0.coords t) (m0 t) (hs0 t) (m1 t) (hs1 t) (m2 t) (hs2 t) (m3 t) (hs3 t) (m4 t) (hs4 t) sc0 (Memref.isWhole_whole _) sc1 (Memref.isWhole_whole _) sc2 (Memref.isWhole_whole _) (iblk m c 0 t) (iblk m c 1 t) (iblk m c 2 t) s0 s1 s2 h1 h2).2.2 _)
    unfold owns
    isplitl [H0]; · iexact H0
    isplitl [H1]; · iexact H1
    isplitl [H2]; · iexact H2
    isplitl [H3]; · iexists _; iexact H3
    isplitl [H4]; · iexists _; iexact H4
    isplitl [S0]; · iexact S0
    isplitl [S1]; · iexact S1
    isplitl [S2]; · iexact S2
    iintro ⟨H0, H1, H2, ⟨%g3, H3⟩, ⟨%g4, H4⟩, S0, S1, S2⟩
    isplitl [S0 S1 S2 Hg]
    · isplitl [S0 S1 S2]
      · isplitl [S0]; · iexact S0
        isplitl [S1]; · iexact S1
        iexact S2
      iexact Hg
    isplitl [Ho]; · iexact Ho
    isplitl [H0]; · iexact H0
    isplitl [H1]; · iexact H1
    isplitl [H2]; · iexact H2
    isplitl [H3]
    · iexists _; isplitr
      swap; · iexact H3
      ipureintro; exact hr.1 _
    iexists _; isplitr
    swap; · iexact H4
    ipureintro; exact hr.2 _

/-- The body table's row at point `t`'s buffers is the body as `bodyAt0` spells it. -/
theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch and the frame -/

set_option backward.isDefEq.respectTransparency.types false in
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends as the proof data compute it. -/
theorem run_main : θ_run defs (onTc (τ := τ) (main (F := F))) (s₀ m ρ) (Pipeline.FramePost cfgs (dats m) 0 (V m)) :=
  (θ_run defs _ _).mono (fun _ h => h.1) (run_quiescent m ρ)

/-- THE FRAME, at any values. -/
theorem ideal_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.FlashFwdRun

end
-- ==== Proof.FlashFwdMath.lean ====
/- One query's row of the attention over the real numbers, key tile after key tile: a running maximum and running sums of
   the weighted values, rescaled whenever the maximum grows. -/
module

public import proofs.«01_k».proof.Proof.FlashMath

@[expose] public section

noncomputable section

namespace Cert.FlashFwdMath

open Idealize.ShloMosaic Cert.FlashMath

variable {κ ι : Type} [Fintype ι]

/-- The running maximum `x` and the running sums `A` stand for the sums `E` of the values times the scores' exponentials:
    before the first key both are at their starts, after it the sums are those with the maximum subtracted. -/
def Row (x : EReal) (A : κ → EReal) (E : κ → ℝ) : Prop :=
  (x = ⊥ ∧ ∀ d, A d = 0 ∧ E d = 0) ∨ ∃ μ : ℝ, x = (μ : EReal) ∧ ∀ d, A d = ((E d * Real.exp (-μ) : ℝ) : EReal)

/-- What a key tile adds to the sums. -/
def tileSum (live : ι → Prop) [DecidablePred live] (z : ι → ℝ) (w : κ → ι → ℝ) (d : κ) : ℝ :=
  ∑ a, w d a * (if live a then Real.exp (z a) else 0)

theorem ex_eq_mul (live : ι → Prop) [DecidablePred live] (z : ι → ℝ) (μ : ℝ) (a : ι) :
    ex live z μ a = (if live a then Real.exp (z a) else 0) * Real.exp (-μ) := by
  rw [ex_eq, Real.exp_neg, div_eq_mul_inv]

/-- One key tile: the maximum and the sums after it, a maximum that is real. -/
theorem row_step (live : ι → Prop) [DecidablePred live] (hl : ∃ a, live a) (z : ι → ℝ) (w : κ → ι → ℝ) {x x' : EReal} {A A' : κ → EReal} {E : κ → ℝ}
    (h : Row x A E) (hx : x' = max x (Finset.fold max (⊥ : EReal) (masked live z) Finset.univ))
    (hA : ∀ d, A' d = Ideal.exp (x - x') * A d + ∑ a, (w d a : EReal) * Ideal.exp (masked live z a - x')) :
    ∃ μ : ℝ, x' = (μ : EReal) ∧ ∀ d, A' d = (((E d + tileSum live z w d) * Real.exp (-μ) : ℝ) : EReal) := by
  obtain ⟨ν, hν⟩ := exists_max live z hl
  rw [hν] at hx
  have hs : ∀ (μ : ℝ) (d : κ), (∑ a, (w d a : EReal) * Ideal.exp (masked live z a - (μ : EReal)))
      = ((tileSum live z w d * Real.exp (-μ) : ℝ) : EReal) := fun μ d => by
    simp only [exp_masked, ← EReal.coe_mul, coe_sum]
    refine congrArg _ ?_
    rw [tileSum, Finset.sum_mul]
    exact Finset.sum_congr rfl fun a _ => by rw [ex_eq_mul, mul_assoc]
  rcases h with ⟨rfl, h⟩ | ⟨μ, rfl, h⟩
  · have e : x' = (ν : EReal) := hx.trans (bot_sup_eq _)
    refine ⟨ν, e, fun d => ?_⟩
    rw [hA, e, hs, (h d).1, (h d).2, mul_zero, zero_add, zero_add]
  · have e : x' = ((max μ ν : ℝ) : EReal) := by
      rw [hx]
      exact (EReal.coe_strictMono.monotone.map_max).symm
    refine ⟨max μ ν, e, fun d => ?_⟩
    rw [hA, e, hs, h d, ← EReal.coe_sub, Ideal.exp_coe, ← EReal.coe_mul, ← EReal.coe_add]
    refine congrArg _ ?_
    rw [add_mul]
    congr 1
    rw [mul_left_comm, ← Real.exp_add]
    congr 2
    ring

/-- The output and the row's log-sum from the running sums. -/
theorem quotient (μ e l : ℝ) (hl : 0 < l) :
    Ideal.div ((e * Real.exp (-μ) : ℝ) : EReal) ((l * Real.exp (-μ) : ℝ) : EReal) = ((e / l : ℝ) : EReal) := by
  rw [div_real _ _ (mul_pos hl (Real.exp_pos _)).ne', mul_div_mul_right _ _ (Real.exp_pos _).ne']
theorem logsum (μ l : ℝ) (hl : 0 < l) :
    (μ : EReal) + Ideal.log ((l * Real.exp (-μ) : ℝ) : EReal) = ((Real.log l : ℝ) : EReal) := by
  have hp := mul_pos hl (Real.exp_pos (-μ))
  rw [Ideal.log_coe, if_neg (not_le.mpr hp), ← EReal.coe_add, Real.log_mul hl.ne' (Real.exp_pos _).ne', Real.log_exp]
  exact congrArg _ (by ring)

end Cert.FlashFwdMath

end
-- ==== Proof.FlashFwdPoint.lean ====
/- The attention's forward call at one grid point: the kernel's tile operations entry by entry, and the two outputs of a
   query tile over the real numbers. -/
module

public import proofs.«01_k».proof.Proof.FlashFwdTile
public import proofs.«01_k».proof.Proof.FlashFwdMath
public import proofs.«01_k».proof.Proof.FlashTile
public import proofs.«01_k».proof.Proof.Consts

@[expose] public section

set_option maxRecDepth 16384

noncomputable section

namespace Cert.FlashFwdTile

open Cert.FlashFwdKernelIdeal Cert.FlashFwdKernelIdeal.Gen
open Idealize.ShloMosaic Idealize.ShloMosaic.TcCoe Idealize.SL.Sem
open Cert.FlashMath Cert.FlashFwdMath

theorem start_max_at (b : Fin 1024) : (k0_pay36 (F := Ideal)) (ix2 0 b) = ⊥ := by
  pointwise [k0_pay36]
  exact Consts.f32_ninf
theorem start_sum_at (d : Fin 136) (b : Fin 1024) : (k0_pay37 (F := Ideal)) (ix2 d b) = 0 := by
  pointwise [k0_pay37]
theorem score_at (q k : FVec Ideal S1x1024x192 .bf16) (a b : Fin 1024) :
    (k0_pay39 (F := Ideal) q k (ix3 0 a b) : EReal) = ∑ d : Fin 192, k (ix3 0 a d) * q (ix3 0 b d) := by
  pointwise [k0_pay39, k0_pay38]
theorem max_at (z : FVec Ideal S1x1024x1024 .f32) (m : FVec Ideal S1x1024 .f32) (b : Fin 1024) :
    (k0_pay14 (F := Ideal) z m (ix2 0 b) : EReal) = max (m (ix2 0 b)) (Finset.fold max (Ideal.ofBits .f32 0xFF800000#32) (fun a : Fin 1024 => z (ix3 0 a b)) Finset.univ) := by
  pointwise [k0_pay14, k0_pay13]
theorem sum_at (z : FVec Ideal S1x1024x1024 .f32) (m : FVec Ideal S1x1024 .f32) (A : FVec Ideal S136x1024 .f32)
    (v : FVec Ideal S1x1x136x1024 .bf16) (d : Fin 136) (b : Fin 1024) :
    (k0_pay15 (F := Ideal) z m A v (ix2 d b) : EReal) = Ideal.exp (m (ix2 0 b) - k0_pay14 (F := Ideal) z m (ix2 0 b)) * A (ix2 d b)
      + ∑ a : Fin 1024, v (ix4 0 0 d a) * Ideal.exp (z (ix3 0 a b) - k0_pay14 (F := Ideal) z m (ix2 0 b)) := by
  pointwise [k0_pay15, k0_pay13]
theorem keep_at (x : FVec Ideal S1x1024 .f32) (b : Fin 1024) : k0_pay16 x (ix2 0 b) = x (ix2 0 b) := by pointwise [k0_pay16]
theorem masked_at (z : FVec Ideal S1x1024x1024 .f32) (a b : Fin 1024) :
    (k0_pay6 (F := Ideal) z (ix2 a b) : EReal) = if a ≤ b then z (ix3 0 a b) else ⊥ := by
  pointwise [k0_pay6]
  rw [FlashTile.select_le _ _ (by omega) (by omega), Cert.Consts.f32_ninf]
  rfl
theorem last_max_at (z : FVec Ideal S1x1024x1024 .f32) (m : FVec Ideal S1x1024 .f32) (b : Fin 1024) :
    (k0_pay7 (F := Ideal) z m (ix2 0 b) : EReal) = max (m (ix2 0 b)) (Finset.fold max (Ideal.ofBits .f32 0xFF800000#32) (fun a : Fin 1024 => k0_pay6 (F := Ideal) z (ix2 a b)) Finset.univ) := by
  pointwise [k0_pay7]
theorem last_sum_at (z : FVec Ideal S1x1024x1024 .f32) (m : FVec Ideal S1x1024 .f32) (A : FVec Ideal S136x1024 .f32)
    (v : FVec Ideal S1x1x136x1024 .bf16) (d : Fin 136) (b : Fin 1024) :
    (k0_pay8 (F := Ideal) z m A v (ix2 d b) : EReal) = Ideal.exp (m (ix2 0 b) - k0_pay7 (F := Ideal) z m (ix2 0 b)) * A (ix2 d b)
      + ∑ a : Fin 1024, v (ix4 0 0 d a) * Ideal.exp (k0_pay6 (F := Ideal) z (ix2 a b) - k0_pay7 (F := Ideal) z m (ix2 0 b)) := by
  pointwise [k0_pay8]
theorem last_keep_at (z : FVec Ideal S1x1024x1024 .f32) (m : FVec Ideal S1x1024 .f32) (b : Fin 1024) :
    (k0_pay9 (F := Ideal) z m (ix2 0 b) : EReal) = k0_pay7 (F := Ideal) z m (ix2 0 b) := by pointwise [k0_pay9]
theorem out_at (l : FVec Ideal S1x1024 .f32) (A : FVec Ideal S128x1024 .f32) (d : Fin 128) (b : Fin 1024) :
    (k0_pay10 (F := Ideal) l A (ix2 d b) : EReal) = Ideal.div (A (ix2 d b)) (l (ix2 0 b)) := by pointwise [k0_pay10]
theorem lse_at (l m : FVec Ideal S1x1024 .f32) (b : Fin 1024) :
    (k0_pay11 (F := Ideal) l m (ix3 0 0 b) : EReal) = m (ix2 0 b) + Ideal.log (l (ix2 0 b)) := by pointwise [k0_pay11]

end Cert.FlashFwdTile

end
-- ==== Proof.FlashFwdReal.lean ====
/- The attention over the real numbers: a query tile's outputs are sums over all the keys a query sees. -/
module

public import proofs.«01_k».proof.Proof.FlashFwdPoint
public import proofs.«01_k».proof.Proof.FlashReal

@[expose] public section

set_option maxRecDepth 16384

noncomputable section

namespace Cert.FlashFwdReal

open Idealize.ShloMosaic Idealize.ShloMosaic.TcCoe Idealize.SL.Sem
open Cert.FlashMath Cert.FlashFwdMath Cert.FlashReal

variable (a : Args)

/-- A head's values by column, and ones below them. -/
def val (h : Fin 8) (d : Fin 136) (s : Fin 16384) : ℝ := if hd : d.val < 128 then a.v s (at' h ⟨d.val, hd⟩) else 1
/-- A score's exponential, zero for a key the query does not see. -/
def wt (h : Fin 8) (r s : Fin 16384) : ℝ := if live r s then Real.exp (z a h r s) else 0
/-- The sums of the weighted values. -/
def total (h : Fin 8) (r : Fin 16384) (d : Fin 136) : ℝ := ∑ s, val a h d s * wt a h r s

theorem total_ones (h : Fin 8) (r : Fin 16384) : total a h r 128 = ∑ s, wt a h r s :=
  Finset.sum_congr rfl fun s _ => by rw [val, dif_neg (by decide), one_mul]
theorem total_pos (h : Fin 8) (r : Fin 16384) : 0 < total a h r 128 := by
  rw [total_ones]
  refine Finset.sum_pos' (fun s _ => ?_) ⟨r, Finset.mem_univ _, ?_⟩
  · unfold wt; split
    · exact (Real.exp_pos _).le
    · exact le_refl _
  · rw [wt, if_pos (show live r r from le_refl r.val)]; exact Real.exp_pos _

section Regroup

open Cert.FlashFwdTile (row)

theorem row_val (n : ℕ) (hn : n < 16) (b : Fin 1024) : (row n b).val = 1024 * n + b.val := by
  simp only [row, Fin.val_ofNat]; omega

/-- A sum over the keys is one over the tiles and their places. -/
theorem sum_tiles (f : Fin 16384 → ℝ) : ∑ s, f s = ∑ n ∈ Finset.range 16, ∑ b : Fin 1024, f (row n b) := by
  rw [Finset.sum_range]
  refine (Fin.sum_mul_add_congr fun n b hq => ?_).symm
  refine congrArg f (Fin.ext ?_)
  rw [row_val _ n.isLt]
  show 1024 * n.val + b.val = n.val * 1024 + b.val
  omega

/-- The tiles below the diagonal whole and the one on it masked are all the keys seen. -/
theorem tiles_total (h : Fin 8) (n : Fin 16) (b : Fin 1024) (d : Fin 136) :
    (∑ k ∈ Finset.range n.val, tileSum (fun _ : Fin 1024 => True) (fun i => z a h (row n.val b) (row k i)) (fun d i => val a h d (row k i)) d)
      + tileSum (fun i : Fin 1024 => i ≤ b) (fun i => z a h (row n.val b) (row n.val i)) (fun d i => val a h d (row n.val i)) d
      = total a h (row n.val b) d := by
  rw [total, sum_tiles, ← Finset.sum_subset (Finset.range_subset_range.mpr (Nat.succ_le_of_lt n.isLt)) fun k hk hk' => ?_, Finset.sum_range_succ]
  · refine congrArg₂ (· + ·) (Finset.sum_congr rfl fun k hk => ?_) ?_
    · have hk := Finset.mem_range.mp hk
      refine Finset.sum_congr rfl fun i _ => congrArg _ ?_
      rw [wt, if_pos trivial, if_pos]
      show (row k i).val ≤ (row n.val b).val
      rw [row_val _ n.isLt, row_val _ (by omega)]; omega
    · refine Finset.sum_congr rfl fun i _ => congrArg _ ?_
      rw [wt]
      refine if_congr ?_ rfl rfl
      show i.val ≤ b.val ↔ (row n.val i).val ≤ (row n.val b).val
      rw [row_val _ n.isLt, row_val _ n.isLt]; omega
  · have h1 := Finset.mem_range.mp hk
    have h2 : ¬ k < n.val + 1 := fun hlt => hk' (Finset.mem_range.mpr hlt)
    refine Finset.sum_eq_zero fun i _ => ?_
    rw [wt, if_neg, mul_zero]
    show ¬ (row k i).val ≤ (row n.val b).val
    rw [row_val _ n.isLt, row_val _ h1]; omega

end Regroup

section Point

open Cert.FlashFwdKernelIdeal Cert.FlashFwdKernelIdeal.Gen Cert.FlashFwdTile

variable (h : Fin 8) (n : Fin 16) {x2 : FVec Ideal S1x1024x192 .bf16} {x3 : FVec Ideal S1x16384x192 .bf16} {x4 : FVec Ideal S1x16x136x1024 .bf16}
  (hq : ∀ b d, x2 (ix3 0 b d) = ((a.q h (row n.val b) d * a.c : ℝ) : EReal)) (hk : ∀ s d, x3 (ix3 0 s d) = (a.k h s d : EReal))
  (hv : ∀ (k : Fin 16) d b, x4 (ix4 0 k d b) = (val a h d (row k.val b) : EReal))
include hq hk hv

theorem sc_real (k : ℕ) (i b : Fin 1024) : (sc (F := Ideal) x2 x3 k (ix3 0 i b) : EReal) = (z a h (row n.val b) (row k i) : EReal) := by
  refine (score_at x2 (kT (F := Ideal) x3 k) i b).trans ?_
  have e : ∀ d, (kT (F := Ideal) x3 k (ix3 0 i d) : EReal) = (a.k h (row k i) d : EReal) := fun d => hk (row k i) d
  simp only [e, hq, ← EReal.coe_mul, coe_sum]
  rw [z, Finset.sum_mul]
  exact congrArg _ (Finset.sum_congr rfl fun d _ => by ring)
theorem vT_real (k : ℕ) (hk' : k < 16) (d : Fin 136) (i : Fin 1024) : (vT (F := Ideal) x4 k (ix4 0 0 d i) : EReal) = (val a h d (row k i) : EReal) := by
  have e : (Fin.ofNat 16 k).val = k := Nat.mod_eq_of_lt hk'
  exact (hv (Fin.ofNat 16 k) d i).trans (by rw [e])

/-- A query's row after `k` whole tiles. -/
theorem st_row (b : Fin 1024) (k : ℕ) (hk' : k ≤ 16) :
    Row ((st (F := Ideal) x2 x3 x4 k).1 (ix2 0 b)) (fun d : Fin 136 => ((st (F := Ideal) x2 x3 x4 k).2 (ix2 d b) : EReal))
      (fun d => ∑ j ∈ Finset.range k, tileSum (fun _ : Fin 1024 => True) (fun i => z a h (row n.val b) (row j i)) (fun d i => val a h d (row j i)) d) := by
  induction k with
  | zero => exact Or.inl ⟨start_max_at b, fun d => ⟨start_sum_at d b, Finset.sum_range_zero _⟩⟩
  | succ k ih =>
    have ih := ih (by omega)
    have hs : ∀ i, (sc (F := Ideal) x2 x3 k (ix3 0 i b) : EReal) = masked (fun _ : Fin 1024 => True) (fun i => z a h (row n.val b) (row k i)) i := fun i =>
      (sc_real a h n hq hk hv k i b).trans (if_pos trivial).symm
    simp only [Finset.sum_range_succ]
    have e1 : ((st (F := Ideal) x2 x3 x4 (k + 1)).1 (ix2 0 b) : EReal) = k0_pay14 (F := Ideal) (sc (F := Ideal) x2 x3 k) (st (F := Ideal) x2 x3 x4 k).1 (ix2 0 b) :=
      keep_at (k0_pay14 (F := Ideal) (sc (F := Ideal) x2 x3 k) (st (F := Ideal) x2 x3 x4 k).1) b
    refine Or.inr (row_step (fun _ : Fin 1024 => True) ⟨0, trivial⟩ (fun i => z a h (row n.val b) (row k i)) (fun d i => val a h d (row k i)) ih ?_ fun d => ?_)
    · rw [e1, max_at, Consts.f32_ninf]
      exact congrArg (fun f => max _ (Finset.fold max (⊥ : EReal) f Finset.univ)) (funext hs)
    · rw [e1]
      refine (sum_at (sc (F := Ideal) x2 x3 k) (st (F := Ideal) x2 x3 x4 k).1 (st (F := Ideal) x2 x3 x4 k).2 (vT (F := Ideal) x4 k) d b).trans ?_
      refine congrArg _ (Finset.sum_congr rfl fun i _ => ?_)
      rw [vT_real a h n hq hk hv k (by omega), hs]

/-- A query's row after its whole tile. -/
theorem fin_row (b : Fin 1024) : ∃ μ : ℝ, ((fin (F := Ideal) x2 x3 x4 n.val).1 (ix2 0 b) : EReal) = (μ : EReal)
    ∧ ∀ d, ((fin (F := Ideal) x2 x3 x4 n.val).2 (ix2 d b) : EReal) = ((total a h (row n.val b) d * Real.exp (-μ) : ℝ) : EReal) := by
  have hs : ∀ i, (k0_pay6 (F := Ideal) (sc (F := Ideal) x2 x3 n.val) (ix2 i b) : EReal) = masked (fun i : Fin 1024 => i ≤ b) (fun i => z a h (row n.val b) (row n.val i)) i :=
    fun i => (masked_at (sc (F := Ideal) x2 x3 n.val) i b).trans (by rw [sc_real a h n hq hk hv n.val i b]; rfl)
  have e1 : ((fin (F := Ideal) x2 x3 x4 n.val).1 (ix2 0 b) : EReal) = k0_pay7 (F := Ideal) (sc (F := Ideal) x2 x3 n.val) (st (F := Ideal) x2 x3 x4 n.val).1 (ix2 0 b) := last_keep_at _ _ b
  obtain ⟨μ, h1, h2⟩ := row_step (fun i : Fin 1024 => i ≤ b) ⟨b, le_refl b⟩ (fun i => z a h (row n.val b) (row n.val i)) (fun d i => val a h d (row n.val i))
    (x' := (fin (F := Ideal) x2 x3 x4 n.val).1 (ix2 0 b)) (A' := fun d : Fin 136 => ((fin (F := Ideal) x2 x3 x4 n.val).2 (ix2 d b) : EReal))
    (st_row a h n hq hk hv b n.val n.isLt.le)
    (by
      rw [e1, last_max_at, Consts.f32_ninf]
      exact congrArg (fun f => max _ (Finset.fold max (⊥ : EReal) f Finset.univ)) (funext hs))
    (fun d => by
      rw [e1]
      refine (last_sum_at (sc (F := Ideal) x2 x3 n.val) (st (F := Ideal) x2 x3 x4 n.val).1 (st (F := Ideal) x2 x3 x4 n.val).2 (vT (F := Ideal) x4 n.val) d b).trans ?_
      refine congrArg _ (Finset.sum_congr rfl fun i _ => ?_)
      rw [vT_real a h n hq hk hv n.val n.isLt, hs])
  exact ⟨μ, h1, fun d => (h2 d).trans (by rw [tiles_total])⟩

theorem outO_real (d : Fin 128) (b : Fin 1024) : (outO (F := Ideal) x2 x3 x4 n.val (ix2 d b) : EReal)
    = ((total a h (row n.val b) ⟨d.val, by omega⟩ / total a h (row n.val b) 128 : ℝ) : EReal) := by
  obtain ⟨μ, h1, h2⟩ := fin_row a h n hq hk hv b
  refine (out_at (den (F := Ideal) (fin (F := Ideal) x2 x3 x4 n.val).2) (num (F := Ideal) (fin (F := Ideal) x2 x3 x4 n.val).2) d b).trans ?_
  have e1 : (num (F := Ideal) (fin (F := Ideal) x2 x3 x4 n.val).2 (ix2 d b) : EReal) = _ := h2 ⟨d.val, by omega⟩
  have e2 : (den (F := Ideal) (fin (F := Ideal) x2 x3 x4 n.val).2 (ix2 0 b) : EReal) = _ := h2 128
  rw [e1, e2, quotient _ _ _ (total_pos a h _)]
theorem outL_real (b : Fin 1024) : (outL (F := Ideal) x2 x3 x4 n.val (ix3 0 0 b) : EReal) = ((Real.log (total a h (row n.val b) 128) : ℝ) : EReal) := by
  obtain ⟨μ, h1, h2⟩ := fin_row a h n hq hk hv b
  refine (lse_at (den (F := Ideal) (fin (F := Ideal) x2 x3 x4 n.val).2) (fin (F := Ideal) x2 x3 x4 n.val).1 b).trans ?_
  have e2 : (den (F := Ideal) (fin (F := Ideal) x2 x3 x4 n.val).2 (ix2 0 b) : EReal) = _ := h2 128
  rw [h1, e2, logsum _ _ (total_pos a h _)]

end Point

end Cert.FlashFwdReal

end
-- ==== Proof.FlashFwdHost.lean ====
/- The host lines before the attention's forward call: what they leave in the arrays its grid reads, entry by entry. -/
module

public import proofs.«01_k».proof.Proof.Gen.FlashFwdKernelIdeal.Frame
public import Idealize.ShloMosaic.Lib.Pointwise

@[expose] public section

set_option maxRecDepth 16384

noncomputable section

namespace Cert.FlashFwdValue

open Idealize.ShloMosaic Idealize.ShloMosaic.TcCoe Idealize.SL.Sem
open Cert.FlashFwdKernelIdeal Cert.FlashFwdKernelIdeal.Gen

/-- The scaled queries. -/
def queries (q : FVec Ideal S8x16384x192 .f32) : FVec Ideal S8x16384x192 .bf16 :=
  truncf .bf16 (mulf q (broadcastInDim S8x16384x192 ![] bcast_S_S8x16384x192 (constant S_ .f32 0x3D93CD3A#32))) bitsLt_bf16_f32
/-- The keys. -/
def keys (k : FVec Ideal S8x16384x192 .f32) : FVec Ideal S8x16384x192 .bf16 := truncf .bf16 k bitsLt_bf16_f32
/-- The values by heads, key tiles and columns, -/
def tiles (v : FVec Ideal S16384x1024 .f32) : FVec Ideal S8x16x128x1024 .bf16 :=
  transpose S8x16x128x1024 [2, 0, 3, 1] (shapeCast S16x1024x8x128 (truncf .bf16 v bitsLt_bf16_f32 : FVec Ideal S16384x1024 .bf16) shapeCasts_S16384x1024_S16x1024x8x128)
    transposes_S16x1024x8x128_S8x16x128x1024_2_0_3_1
/-- ones, -/
def ones : FVec Ideal S8x16x8x1024 .bf16 := broadcastInDim S8x16x8x1024 ![] bcast_S_S8x16x8x1024 (constant S_ .bf16 0x3F80#16)
/-- and the values with the ones below them. -/
def values (v : FVec Ideal S16384x1024 .f32) : FVec Ideal S8x16x136x1024 .bf16 :=
  concatenate S8x16x136x1024 2 [⟨S8x16x128x1024, tiles v⟩, ⟨S8x16x8x1024, ones⟩] concatenates_S8x16x128x1024_S8x16x8x1024_S8x16x136x1024_d2

section

variable (m : (ℓ : Loc nD τ sig) → Buf (Elt Ideal) ℓ) (c : Dev nD)

theorem V_q : V m c main_v7 = queries (m ((c : Thread nD τ).loc main_arg0)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_k : V m c main_v8 = keys (m ((c : Thread nD τ).loc main_arg1)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl
theorem V_v : V m c main_v4 = values (m ((c : Thread nD τ).loc main_arg2)) := by
  unfold V
  simp only [hostOps0, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp <;> rfl

end

theorem queries_at (q) (h : Fin 8) (r : Fin 16384) (d : Fin 192) :
    (queries q (ix3 h r d) : EReal) = q (ix3 h r d) * Ideal.ofBits .f32 0x3D93CD3A#32 := by
  pointwise [queries]
theorem keys_at (k) (h : Fin 8) (r : Fin 16384) (d : Fin 192) : (keys k (ix3 h r d) : EReal) = k (ix3 h r d) := by
  pointwise [keys]
theorem tiles_at (v) (h : Fin 8) (n : Fin 16) (d : Fin 128) (b : Fin 1024) :
    (tiles v (ix4 h n d b) : EReal) = v (ix2 ⟨1024 * n.val + b.val, by omega⟩ ⟨128 * h.val + d.val, by omega⟩) := by
  pointwise [tiles]
  exact congrArg₂ (fun i j => v (ix2 i j)) (Fin.ext (by simp only; omega)) (Fin.ext (by simp only; omega))
theorem bf16_one : Ideal.ofBits .bf16 0x3F80#16 = ((1 : ℝ) : EReal) := by
  simp [Ideal.ofBits, Ideal.ieee, -EReal.coe_mul]; norm_num
theorem ones_at (h : Fin 8) (n : Fin 16) (d : Fin 8) (b : Fin 1024) : (ones (ix4 h n d b) : EReal) = Ideal.ofBits .bf16 0x3F80#16 := by
  pointwise [ones]
theorem values_at (v) (h : Fin 8) (n : Fin 16) (d : Fin 136) (b : Fin 1024) :
    (values v (ix4 h n d b) : EReal)
      = if hd : d.val < 128 then tiles v (ix4 h n ⟨d.val, hd⟩ b) else ones (ix4 h n ⟨d.val - 128, by omega⟩ b) := by
  pointwise [values]

end Cert.FlashFwdValue

end
-- ==== Proof.FlashFwdFinal.lean ====
/- The attention's forward call: the two arrays the kernel leaves, from the arrays its grid reads, over the real numbers. -/
module

public import proofs.«01_k».proof.Proof.FlashFwdFrame
public import proofs.«01_k».proof.Proof.FlashFwdReal
public import proofs.«01_k».proof.Proof.FlashFwdHost
public import Idealize.ShloMosaic.Lib.Pipeline.ValueKit
public import Idealize.ShloMosaic.Lib.Pointwise

@[expose] public section

set_option maxRecDepth 16384

noncomputable section

namespace Cert.FlashFwdValue

open Idealize.ShloMosaic Idealize.ShloMosaic.TcCoe Idealize.SL.Sem
open Idealize.ShloMosaic.Pipeline (Dat)
open Cert.FlashFwdKernelIdeal Cert.FlashFwdKernelIdeal.Gen Cert.FlashFwdRun
open Cert.FlashFwdTile (row)
open Cert.FlashReal (Args at')
open Cert.FlashFwdReal (val total)

/-- Point `t`'s head -/
abbrev hd (t : Fin cfg0.N) : Fin 8 := ⟨t.val / 16, by have := t.isLt; change _ < 128 at this; omega⟩
/-- and query tile. -/
abbrev tile (t : Fin cfg0.N) : Fin 16 := ⟨t.val % 16, by omega⟩

theorem tile_no : ∀ t : Fin cfg0.N, (grid0.coords t 1).val = t.val % 16 := (by decide +kernel : ∀ t : Fin grid0.N, _)

theorem idx : ∀ t : Fin cfg0.N, win0_0.index t = ![t.val / 16, t.val % 16, 0] ∧ win0_1.index t = ![t.val / 16, 0, 0]
    ∧ win0_2.index t = ![t.val / 16, 0, 0, 0] ∧ win0_3.index t = ![t.val / 16, t.val % 16]
    ∧ win0_4.index t = ![t.val / 16, 0, t.val % 16] :=
  (by decide +kernel : ∀ t : Fin grid0.N, _)

/-- A row of a point's query tile. -/
abbrev qry (t : Fin cfg0.N) (b : Fin 1024) : Fin 16384 := ⟨1024 * (t.val % 16) + b.val, by have := b.isLt; omega⟩
theorem qry_row (t : Fin cfg0.N) (b : Fin 1024) : qry t b = row (tile t).val b :=
  Fin.ext (by rw [FlashFwdReal.row_val _ (tile t).isLt])

section Blocks

variable (t : Fin cfg0.N)

theorem at_q (X : FVec Ideal S8x16384x192 .bf16) (b : Fin 1024) (d : Fin 192) :
    (win0_0.blk t).view.read (Elt Ideal) X (ix3 0 b d) = X (ix3 (hd t) (qry t b) d) := by blk_point [idx t]
theorem at_k (X : FVec Ideal S8x16384x192 .bf16) (s : Fin 16384) (d : Fin 192) :
    (win0_1.blk t).view.read (Elt Ideal) X (ix3 0 s d) = X (ix3 (hd t) s d) := by blk_point [idx t]
theorem at_v (X : FVec Ideal S8x16x136x1024 .bf16) (n : Fin 16) (d : Fin 136) (b : Fin 1024) :
    (win0_2.blk t).view.read (Elt Ideal) X (ix4 0 n d b) = X (ix4 (hd t) n d b) := by blk_point [idx t]
theorem at_o (X : FVec Ideal S1024x16384 .f32) (d : Fin 128) (b : Fin 1024) :
    (win0_3.blk t).view.read (Elt Ideal) X (ix2 d b) = X (ix2 (at' (hd t) d) (qry t b)) := by blk_point [idx t]
theorem at_l (X : FVec Ideal S8x1x16384 .f32) (b : Fin 1024) :
    (win0_4.blk t).view.read (Elt Ideal) X (ix3 0 0 b) = X (ix3 (hd t) 0 (qry t b)) := by blk_point [idx t]
theorem to_o (f : FVec Ideal S1024x16384 .f32) (d : Fin 128) (b : Fin 1024) (x : EReal) (h : x = f (ix2 (at' (hd t) d) (qry t b))) :
    x = f ((win0_3.blk t).view.emb (ix2 d b)) := h.trans (at_o t f d b).symm
theorem to_l (f : FVec Ideal S8x1x16384 .f32) (b : Fin 1024) (x : EReal) (h : x = f (ix3 (hd t) 0 (qry t b))) :
    x = f ((win0_4.blk t).view.emb (ix3 0 0 b)) := h.trans (at_l t f b).symm

end Blocks

variable (m : (ℓ : Loc nD τ sig) → Buf (Elt Ideal) ℓ) (c : Dev nD) (t : Fin cfg0.N)

theorem blk_q (b : Fin 1024) (d : Fin 192) : iblk m c 0 t (ix3 0 b d) = V m c main_v7 (ix3 (hd t) (qry t b) d) := at_q t (V m c main_v7) b d
theorem blk_k (s : Fin 16384) (d : Fin 192) : iblk m c 1 t (ix3 0 s d) = V m c main_v8 (ix3 (hd t) s d) := at_k t (V m c main_v8) s d
theorem blk_v (n : Fin 16) (d : Fin 136) (b : Fin 1024) : iblk m c 2 t (ix4 0 n d b) = V m c main_v4 (ix4 (hd t) n d b) := at_v t (V m c main_v4) n d b

section Real

variable {a : Args} {g : FVec Ideal S16384x1024 .f32}

theorem values_real {v : FVec Ideal S16384x1024 .f32} (hv : ∀ r j, v (ix2 r j) = (a.v r j : EReal)) (h : Fin 8) (n : Fin 16) (d : Fin 136) (b : Fin 1024) :
    (values v (ix4 h n d b) : EReal) = (val a h d (row n.val b) : EReal) := by
  rw [values_at, val]
  by_cases hd : d.val < 128
  · rw [dif_pos hd, dif_pos hd, tiles_at, hv]
    rw [show (⟨1024 * n.val + b.val, by omega⟩ : Fin 16384) = row n.val b from Fin.ext (by rw [FlashFwdReal.row_val _ n.isLt])]
  · rw [dif_neg hd, dif_neg hd, ones_at, bf16_one]

variable (H : FlashReal.Holds a (m ((c : Thread nD τ).loc main_arg0)) (m ((c : Thread nD τ).loc main_arg1)) (m ((c : Thread nD τ).loc main_arg2)) g)
include H

theorem real_q (b : Fin 1024) (d : Fin 192) :
    (iblk m c 0 t (ix3 0 b d) : EReal) = ((a.q (hd t) (row (tile t).val b) d * a.c : ℝ) : EReal) := by
  refine (blk_q m c t b d).trans ?_
  rw [V_q, qry_row, EReal.coe_mul, ← H.c, ← H.q]
  exact queries_at _ _ _ _
theorem real_k (s : Fin 16384) (d : Fin 192) : (iblk m c 1 t (ix3 0 s d) : EReal) = (a.k (hd t) s d : EReal) := by
  refine (blk_k m c t s d).trans ?_
  rw [V_k, ← H.k]
  exact keys_at _ _ _ _
theorem real_v (n : Fin 16) (d : Fin 136) (b : Fin 1024) : (iblk m c 2 t (ix4 0 n d b) : EReal) = (val a (hd t) d (row n.val b) : EReal) := by
  refine (blk_v m c t n d b).trans ?_
  rw [V_v]
  exact values_real H.v _ _ _ _

/-- The output's array. -/
theorem out_final (X : FVec Ideal S1024x16384 .f32)
    (hX : ∀ h d r, X (ix2 (at' h d) r) = ((total a h r ⟨d.val, by omega⟩ / total a h r 128 : ℝ) : EReal)) : (dats m 0 c).arrAt 3 cfg0.N = X := by
  refine (dats m 0 c).arrAt_eq_of_covers 3 _ (by decide +kernel) fun t _ y => ?_
  blk_simp
  rw [after_3]
  obtain ⟨d, b, rfl⟩ : ∃ (d : Fin 128) (b : Fin 1024), y = ix2 d b := ⟨y 0, y 1, eq_ix2 y⟩
  refine to_o t X d b _ ?_
  rw [hX, qry_row]
  unfold outAt
  rw [tile_no t]
  exact FlashFwdReal.outO_real a (hd t) (tile t) (real_q m c t H) (real_k m c t H) (real_v m c t H) d b
/-- The log-sums' array. -/
theorem lse_final (X : FVec Ideal S8x1x16384 .f32)
    (hX : ∀ h r, X (ix3 h 0 r) = ((Real.log (total a h r 128) : ℝ) : EReal)) : (dats m 0 c).arrAt 4 cfg0.N = X := by
  refine (dats m 0 c).arrAt_eq_of_covers 4 _ (by decide +kernel) fun t _ y => ?_
  blk_simp
  rw [after_4]
  obtain ⟨u, w, b, rfl⟩ : ∃ (u w : Fin 1) (b : Fin 1024), y = ix3 u w b := ⟨y 0, y 1, y 2, eq_ix3 y⟩
  obtain rfl : u = 0 := Subsingleton.elim _ _
  obtain rfl : w = 0 := Subsingleton.elim _ _
  refine to_l t X b _ ?_
  rw [hX, qry_row]
  unfold lseAt
  rw [tile_no t]
  exact FlashFwdReal.outL_real a (hd t) (tile t) (real_q m c t H) (real_k m c t H) (real_v m c t H) b

end Real

end Cert.FlashFwdValue

end
-- ==== Proof.FlashFwdRef.lean ====
/- The reference's attention: its two results read entry by entry, over the real numbers the same sums as the grid's. -/
module

public import proofs.«01_k».proof.Proof.FlashFwdReal
public import proofs.«01_k».proof.Proof.Gen.FlashFwdRefIdeal.Run
public import Idealize.ShloMosaic.Lib.Pointwise

@[expose] public section

set_option maxRecDepth 16384

noncomputable section

namespace Cert.FlashFwdRefValue

open Idealize.ShloMosaic Idealize.ShloMosaic.TcCoe Idealize.SL.Sem
open Cert.FlashFwdRefIdeal Cert.FlashFwdRefIdeal.Gen Cert.FlashFwdRefIdeal.Value
open Cert.FlashMath Cert.FlashReal Cert.FlashFwdReal

/-- The output by heads and columns, -/
def mix (p : FVec Ideal S8x16384x16384 .f32) (v : FVec Ideal S16384x1024 .f32) : FVec Ideal S8x128x16384 .f32 :=
  Host.dotGeneral dot_S16384x8x128_S8x16384x16384_S8x128x16384_0_2_2_1_1_0 none (shapeCast S16384x8x128 v shapeCasts_S16384x1024_S16384x8x128) p
/-- and by columns of all heads. -/
def output (x : FVec Ideal S8x128x16384 .f32) : FVec Ideal S1024x16384 .f32 := shapeCast S1024x16384 x shapeCasts_S8x128x16384_S1024x16384
/-- The exponentials of the scores less the rows' maxima, -/
def exps (z : FVec Ideal S8x16384x16384 .f32) (M : FVec Ideal S8x16384 .f32) : FVec Ideal S8x16384x16384 .f32 :=
  Host.exp (subf z (broadcastInDim S8x16384x16384 ![0, 1, 2] bcast_S8x16384x1_S8x16384x16384_0_1_2
    (broadcastInDim S8x16384x1 ![0, 1] bcast_S8x16384_S8x16384x1_0_1 M)))
/-- and the rows' log-sums. -/
def logSums (e : FVec Ideal S8x16384x16384 .f32) (M : FVec Ideal S8x16384 .f32) : FVec Ideal S8x1x16384 .f32 :=
  broadcastInDim S8x1x16384 ![0, 2] bcast_S8x16384_S8x1x16384_0_2
    (addf M (Host.log (Host.reduceAdd e (constant S_ .f32 0x00000000#32) reducesTo_S8x16384x16384_S8x16384_d2 h_S_)))

section

variable (m : (ℓ : Loc nD τ sig) → Buf (Elt Ideal) ℓ) (c : Dev nD)

/-- The device's scores. -/
def scoresOf : FVec Ideal S8x16384x16384 .f32 :=
  FlashRefValue.scores (m ((c.tc : Thread nD τ).loc main_arg0)) (m ((c.tc : Thread nD τ).loc main_arg1))

theorem res_out : res_out0 m c = output (mix (FlashRefValue.probs (FlashRefValue.exps (scoresOf m c))) (m ((c.tc : Thread nD τ).loc main_arg2))) := by
  unfold res_out0 res_main_v31; rfl

end

theorem mix_at (p v) (h : Fin 8) (d : Fin 128) (r : Fin 16384) :
    (mix p v (ix3 h d r) : EReal) = ∑ s : Fin 16384, v (ix2 s ⟨h.val * 128 + d.val, by omega⟩) * p (ix3 h r s) := by
  pointwise [mix]
theorem output_at (x) (h : Fin 8) (d : Fin 128) (r : Fin 16384) : output x (ix2 (at' h d) r) = x (ix3 h d r) := by
  refine shapeCast_apply x _ _ _ ?_
  simp only [Shape.rowMajor_val_two, Shape.rowMajor_val_three]
  show (h.val * 128 + d.val) * 16384 + r.val = (128 * h.val + d.val) * 16384 + r.val
  omega
theorem exps_at (z M) (h : Fin 8) (r s : Fin 16384) : (exps z M (ix3 h r s) : EReal) = Ideal.exp (z (ix3 h r s) - M (ix2 h r)) := by
  pointwise [exps]
theorem logSums_at (e M) (h : Fin 8) (r : Fin 16384) :
    (logSums e M (ix3 h 0 r) : EReal) = M (ix2 h r) + Ideal.log (∑ s : Fin 16384, (e (ix3 h r s) : EReal)) := by
  pointwise [logSums]

section

variable {a : Args} {q k : FVec Ideal S8x16384x192 .f32} {v g : FVec Ideal S16384x1024 .f32} (H : Holds a q k v g)
include H

/-- The reference's output. -/
theorem ref_out (h : Fin 8) (d : Fin 128) (r : Fin 16384) :
    (output (mix (FlashRefValue.probs (FlashRefValue.exps (FlashRefValue.scores q k))) v) (ix2 (at' h d) r) : EReal)
      = ((total a h r ⟨d.val, by omega⟩ / total a h r 128 : ℝ) : EReal) := by
  rw [output_at, mix_at]
  simp only [ref_probs_eq a H, H.v, ← EReal.coe_mul, coe_sum]
  rw [total_ones, total, Finset.sum_div]
  refine congrArg _ (Finset.sum_congr rfl fun s _ => ?_)
  rw [val, dif_pos d.isLt, p, prob, wt, mul_div_assoc]
  rw [show (⟨h.val * 128 + d.val, by omega⟩ : Fin 1024) = at' h ⟨d.val, d.isLt⟩ from Fin.ext (by simp only; omega)]
  refine congrArg _ ?_
  split
  · rfl
  · exact (zero_div _).symm
/-- The reference's log-sums. -/
theorem ref_lse (h : Fin 8) (r : Fin 16384) :
    (logSums (exps (FlashRefValue.scores q k) (FlashRefValue.rowMaxima (FlashRefValue.scores q k)))
        (FlashRefValue.rowMaxima (FlashRefValue.scores q k)) (ix3 h 0 r) : EReal)
      = ((Real.log (total a h r 128) : ℝ) : EReal) := by
  obtain ⟨μ, hμ⟩ := exists_max (live r) (z a h r) (exists_live r)
  have e : FlashRefValue.rowMaxima (FlashRefValue.scores q k) (ix2 h r) = (μ : EReal) := by
    rw [FlashRefValue.rowMaxima_at, Consts.f32_ninf, ← hμ]
    exact congrArg (fun f => Finset.fold max (⊥ : EReal) f Finset.univ) (funext fun s => ref_scores_eq a H h r s)
  have hs : (∑ s, ex (live r) (z a h r) μ s) = total a h r 128 * Real.exp (-μ) := by
    rw [total_ones, Finset.sum_mul]
    exact Finset.sum_congr rfl fun s _ => FlashFwdMath.ex_eq_mul (live r) (z a h r) μ s
  rw [logSums_at, e]
  simp only [exps_at, e, ref_scores_eq a H, exp_masked, coe_sum]
  rw [hs, FlashFwdMath.logsum _ _ (total_pos a h r)]

end

end Cert.FlashFwdRefValue

end
-- ==== Proof.FlashFwdClaims.lean ====
/- The claims of the attention's forward call. The frames: the run of `FlashFwdFrame.lean` is over any values, and the
   program as written is the same text, so one run gives both; the reference's is its run. The value: on finite
   arguments the grid's two arrays and the reference's are the same quotients and logarithms of real sums. -/
module

public import proofs.«01_k».proof.Defs
public import proofs.«01_k».proof.Proof.FlashFwdFinal
public import proofs.«01_k».proof.Proof.FlashFwdRef
public import proofs.«01_k».proof.Proof.Gen.FlashFwdRefIdeal.Run
public import Idealize.ShloMosaic.Lib.Claim

@[expose] public section

set_option maxRecDepth 16384

open Idealize.ShloMosaic Idealize.ShloMosaic.TcCoe Idealize.SL.Sem

namespace Cert.FlashFwdRun

/-- The frame of the call as written. -/
theorem kernel_frame [Cert.FlashFwdKernel.Facts] : Cert.quiescent_FlashFwdKernel := fun m ρ _ =>
  Eq.mp (by sl_kernel_rfl) (ideal_frame (F := Bits) m ρ)

end Cert.FlashFwdRun

namespace Cert.FlashFwdValue

/-- The reference's frame. -/
theorem ref_frame : Cert.quiescent_FlashFwdRefIdeal := fun m ρ _ =>
  (θ_run Cert.FlashFwdRefIdeal.defs _ _).mono (fun r h => ⟨fun c => (h c).2.2, sem_eq_zero_of_no_sems (by decide) r.2⟩)
    (Cert.FlashFwdRefIdeal.Value.run (F := Ideal) m ρ)

/-- The side conditions of the precondition. -/
instance pre_facts : Cert.Pre_flashf_finite.Facts := ⟨by decide, by decide⟩

/-- Finite arguments are real. -/
theorem exists_args [Cert.Pre_flashf_finite.Facts]
    (m : (ℓ : Loc Cert.FlashFwdKernelIdeal.nD Cert.FlashFwdKernelIdeal.τ Cert.FlashFwdKernelIdeal.sig) → Buf (Elt Ideal) ℓ)
    (hm : Cert.Pre_FlashFwdKernelIdeal_flashf_finite m) (c : Dev Cert.FlashFwdKernelIdeal.nD) :
    ∃ a : FlashReal.Args, FlashReal.Holds a (m ((c.tc : Thread Cert.FlashFwdKernelIdeal.nD Cert.FlashFwdKernelIdeal.τ).loc Cert.FlashFwdKernelIdeal.main_arg0)) (m ((c.tc : Thread Cert.FlashFwdKernelIdeal.nD Cert.FlashFwdKernelIdeal.τ).loc Cert.FlashFwdKernelIdeal.main_arg1)) (m ((c.tc : Thread Cert.FlashFwdKernelIdeal.nD Cert.FlashFwdKernelIdeal.τ).loc Cert.FlashFwdKernelIdeal.main_arg2)) (m ((c.tc : Thread Cert.FlashFwdKernelIdeal.nD Cert.FlashFwdKernelIdeal.τ).loc Cert.FlashFwdKernelIdeal.main_arg2)) :=
  FlashReal.exists_args _ _ _ _ (fun i => FlashReal.real_of_abs_lt _ (congrFun (hm c).1 i)) (fun i => FlashReal.real_of_abs_lt _ (congrFun (hm c).2.1 i))
    (fun i => FlashReal.real_of_abs_lt _ (congrFun (hm c).2.2 i)) (fun i => FlashReal.real_of_abs_lt _ (congrFun (hm c).2.2 i))

section

variable {a : FlashReal.Args} (m : (ℓ : Loc Cert.FlashFwdKernelIdeal.nD Cert.FlashFwdKernelIdeal.τ Cert.FlashFwdKernelIdeal.sig) → Buf (Elt Ideal) ℓ)
  (m' : (ℓ : Loc Cert.FlashFwdRefIdeal.nD Cert.FlashFwdRefIdeal.τ Cert.FlashFwdRefIdeal.sig) → Buf (Elt Ideal) ℓ) (c : Dev Cert.FlashFwdKernelIdeal.nD)
  (H : FlashReal.Holds a (m ((c.tc : Thread Cert.FlashFwdKernelIdeal.nD Cert.FlashFwdKernelIdeal.τ).loc Cert.FlashFwdKernelIdeal.main_arg0)) (m ((c.tc : Thread Cert.FlashFwdKernelIdeal.nD Cert.FlashFwdKernelIdeal.τ).loc Cert.FlashFwdKernelIdeal.main_arg1)) (m ((c.tc : Thread Cert.FlashFwdKernelIdeal.nD Cert.FlashFwdKernelIdeal.τ).loc Cert.FlashFwdKernelIdeal.main_arg2)) (m ((c.tc : Thread Cert.FlashFwdKernelIdeal.nD Cert.FlashFwdKernelIdeal.τ).loc Cert.FlashFwdKernelIdeal.main_arg2)))
  (H' : FlashReal.Holds a (m' ((c.tc : Thread Cert.FlashFwdRefIdeal.nD Cert.FlashFwdRefIdeal.τ).loc Cert.FlashFwdRefIdeal.main_arg0)) (m' ((c.tc : Thread Cert.FlashFwdRefIdeal.nD Cert.FlashFwdRefIdeal.τ).loc Cert.FlashFwdRefIdeal.main_arg1)) (m' ((c.tc : Thread Cert.FlashFwdRefIdeal.nD Cert.FlashFwdRefIdeal.τ).loc Cert.FlashFwdRefIdeal.main_arg2)) (m' ((c.tc : Thread Cert.FlashFwdRefIdeal.nD Cert.FlashFwdRefIdeal.τ).loc Cert.FlashFwdRefIdeal.main_arg2)))
include H H'

/-- The outputs agree, -/
theorem out_same : Cert.FlashFwdRefIdeal.Value.res_main_v31 m' c = (FlashFwdRun.dats m 0 c).arrAt 3 Cert.FlashFwdKernelIdeal.cfg0.N := by
  refine (FlashFwdRefValue.res_out m' c).trans (out_final m c H _ fun h d r => ?_).symm
  exact FlashFwdRefValue.ref_out H' h d r
/-- and the rows' log-sums. -/
theorem lse_same : FlashFwdRefValue.logSums
      (FlashFwdRefValue.exps (FlashFwdRefValue.scoresOf m' c) (FlashRefValue.rowMaxima (FlashFwdRefValue.scoresOf m' c)))
      (FlashRefValue.rowMaxima (FlashFwdRefValue.scoresOf m' c))
    = (FlashFwdRun.dats m 0 c).arrAt 4 Cert.FlashFwdKernelIdeal.cfg0.N := by
  refine (lse_final m c H _ fun h r => ?_).symm
  exact FlashFwdRefValue.ref_lse H' h r

end

set_option maxHeartbeats 4000000 in
theorem flashFwd_algebraic [Cert.Pre_flashf_finite.Facts] : Cert.algebraic_FlashFwdKernelIdeal_FlashFwdRefIdeal_pre_flashf_finite := by
  pair_intro
  · run_from Cert.FlashFwdRun.run_main m g
  · refine (θ_run Cert.FlashFwdRefIdeal.defs _ _).mono (fun r h c => ?_) (Cert.FlashFwdRefIdeal.Value.run (F := Ideal) m' g')
    obtain ⟨h0, h1, hrest⟩ := h c
    obtain ⟨a, H⟩ := exists_args m hpre c
    obtain ⟨e0, e1, e2⟩ := hagree c
    have H' := H
    rw [← e0, ← e1, ← e2] at H'
    exact ⟨h0.trans (out_same m m' c H H'), h1.trans (lse_same m m' c H H'), hrest⟩

end Cert.FlashFwdValue
-- ==== Proof.FfnFwdTile.lean ====
/- The feed-forward layer's forward call: the arrays the kernel leaves, from the arrays its grid reads. -/
module

public import proofs.«01_k».proof.Proof.Gen.FfnFwdKernelIdeal.Value
public import Idealize.ShloMosaic.Lib.Pipeline.ValueKit
public import Idealize.ShloMosaic.Lib.Pointwise

@[expose] public section

set_option maxRecDepth 16384

noncomputable section

namespace Cert.FfnFwdValue

open Idealize.ShloMosaic Idealize.ShloMosaic.TcCoe Idealize.SL.Sem
open Idealize.ShloMosaic.Pipeline (Dat)
open Cert.FfnFwdKernelIdeal Cert.FfnFwdKernelIdeal.Gen

/-- The product of gate and up. -/
def actOf (g u : EReal) : EReal := g * Ideal.logistic g * u

/-! ## Within a tile -/

section blocks

variable (x : Vec Ideal S512x1024 .f32) (a : Vec Ideal S1x1024 .f32) (h : FVec Ideal S512x1024 .bf16) (w : Vec Ideal S1x1x704x1024 .bf16)

/-- A row's scale, -/
def rstdB (r : Fin 512) : EReal :=
  Ideal.rsqrt (Ideal.div (∑ k : Fin 1024, (x (ix2 r k) : EReal) * x (ix2 r k)) (Ideal.ofBits .f32 0x44800000#32) + Ideal.ofBits .f32 0x358637BD#32)
/-- and the normalised rows. -/
def rowsB (r : Fin 512) (k : Fin 1024) : EReal := (x (ix2 r k) : EReal) * rstdB x r * a (ix2 0 k)

theorem rows_at (r : Fin 512) (k : Fin 1024) : (k0_pay4 (F := Ideal) x a (ix2 r k) : EReal) = rowsB x a r k := by
  pointwise [k0_pay4, rowsB, rstdB]

theorem pay5_at (r : Fin 512) (f : Fin 704) : (k0_pay5 (F := Ideal) x a w (ix2 r f) : EReal) = ∑ k : Fin 1024, rowsB x a r k * (w (ix4 0 0 f k) : EReal) := by
  refine (show (k0_pay5 (F := Ideal) x a w (ix2 r f) : EReal) = ∑ k : Fin 1024, (k0_pay4 (F := Ideal) x a (ix2 r k) : EReal) * (w (ix4 0 0 f k) : EReal) by pointwise [k0_pay5]).trans ?_
  exact Finset.sum_congr rfl fun k _ => congrArg (fun z : EReal => z * (w (ix4 0 0 f k) : EReal)) (rows_at x a r k)
theorem pay6_at (r : Fin 512) (f : Fin 704) : (k0_pay6 (F := Ideal) x a w (ix2 r f) : EReal) = ∑ k : Fin 1024, rowsB x a r k * (w (ix4 0 0 f k) : EReal) := by
  refine (show (k0_pay6 (F := Ideal) x a w (ix2 r f) : EReal) = ∑ k : Fin 1024, (k0_pay4 (F := Ideal) x a (ix2 r k) : EReal) * (w (ix4 0 0 f k) : EReal) by pointwise [k0_pay6]).trans ?_
  exact Finset.sum_congr rfl fun k _ => congrArg (fun z : EReal => z * (w (ix4 0 0 f k) : EReal)) (rows_at x a r k)
theorem pay7_at (r : Fin 512) (f : Fin 704) : (k0_pay7 (F := Ideal) x a w (ix2 r f) : EReal) = ∑ k : Fin 1024, rowsB x a r k * (w (ix4 0 0 f k) : EReal) := by
  refine (show (k0_pay7 (F := Ideal) x a w (ix2 r f) : EReal) = ∑ k : Fin 1024, (k0_pay4 (F := Ideal) x a (ix2 r k) : EReal) * (w (ix4 0 0 f k) : EReal) by pointwise [k0_pay7]).trans ?_
  exact Finset.sum_congr rfl fun k _ => congrArg (fun z : EReal => z * (w (ix4 0 0 f k) : EReal)) (rows_at x a r k)
theorem pay8_at (r : Fin 512) (f : Fin 704) : (k0_pay8 (F := Ideal) x a w (ix2 r f) : EReal) = ∑ k : Fin 1024, rowsB x a r k * (w (ix4 0 0 f k) : EReal) := by
  refine (show (k0_pay8 (F := Ideal) x a w (ix2 r f) : EReal) = ∑ k : Fin 1024, (k0_pay4 (F := Ideal) x a (ix2 r k) : EReal) * (w (ix4 0 0 f k) : EReal) by pointwise [k0_pay8]).trans ?_
  exact Finset.sum_congr rfl fun k _ => congrArg (fun z : EReal => z * (w (ix4 0 0 f k) : EReal)) (rows_at x a r k)
theorem pay9_at (r : Fin 512) (f : Fin 704) : (k0_pay9 (F := Ideal) h w (ix2 r f) : EReal) = ∑ k : Fin 1024, (h (ix2 r k) : EReal) * (w (ix4 0 0 f k) : EReal) := by
  pointwise [k0_pay9]
theorem pay10_at (r : Fin 512) (f : Fin 704) : (k0_pay10 (F := Ideal) h w (ix2 r f) : EReal) = ∑ k : Fin 1024, (h (ix2 r k) : EReal) * (w (ix4 0 0 f k) : EReal) := by
  pointwise [k0_pay10]
theorem pay11_at (r : Fin 512) (f : Fin 704) : (k0_pay11 (F := Ideal) h w (ix2 r f) : EReal) = ∑ k : Fin 1024, (h (ix2 r k) : EReal) * (w (ix4 0 0 f k) : EReal) := by
  pointwise [k0_pay11]
theorem pay12_at (r : Fin 512) (f : Fin 704) : (k0_pay12 (F := Ideal) h w (ix2 r f) : EReal) = ∑ k : Fin 1024, (h (ix2 r k) : EReal) * (w (ix4 0 0 f k) : EReal) := by
  pointwise [k0_pay12]

variable (g u g1 u1 : FVec Ideal S512x704 .f32) (p : FVec Ideal S512x1024 .f32) (w1 : Vec Ideal S1x1x704x1024 .bf16)

/-- What one chip's units add to the result. -/
def partB (r : Fin 512) (k : Fin 1024) : EReal := ∑ f : Fin 704, actOf (g (ix2 r f)) (u (ix2 r f)) * (w (ix4 0 0 f k) : EReal)

theorem pay15_at (r : Fin 512) (k : Fin 1024) : (k0_pay15 (F := Ideal) g u w (ix2 r k) : EReal) = partB w g u r k := by
  pointwise [k0_pay15, partB, actOf]
theorem pay21_at (r : Fin 512) (k : Fin 1024) : (k0_pay21 (F := Ideal) g u g1 u1 p w w1 (ix2 r k) : EReal)
    = (p (ix2 r k) : EReal) + partB w g u r k + partB w1 g1 u1 r k := by
  pointwise [k0_pay21, partB, actOf]
theorem pay3_at (r : Fin 512) (k : Fin 1024) : (k0_pay3 (F := Ideal) g u p w x (ix2 r k) : EReal)
    = (x (ix2 r k) : EReal) + Ideal.ofBits .f32 0x3F000000#32 * ((p (ix2 r k) : EReal) + partB w g u r k) := by
  pointwise [k0_pay3, partB, actOf]
theorem pay2_at (r : Fin 512) (f : Fin 704) : (k0_pay2 (F := Ideal) g (ix3 0 r f) : EReal) = (g (ix2 r f) : EReal) := by
  pointwise [k0_pay2]
theorem pay13_at (r : Fin 512) (f : Fin 704) : (k0_pay13 (F := Ideal) g (ix3 0 r f) : EReal) = (g (ix2 r f) : EReal) := by
  pointwise [k0_pay13]
theorem pay14_at (r : Fin 512) (f : Fin 704) : (k0_pay14 (F := Ideal) g (ix3 0 r f) : EReal) = (g (ix2 r f) : EReal) := by
  pointwise [k0_pay14]
theorem pay18_at (r : Fin 512) (f : Fin 704) : (k0_pay18 (F := Ideal) g (ix3 0 r f) : EReal) = (g (ix2 r f) : EReal) := by
  pointwise [k0_pay18]
theorem pay19_at (r : Fin 512) (f : Fin 704) : (k0_pay19 (F := Ideal) g (ix3 0 r f) : EReal) = (g (ix2 r f) : EReal) := by
  pointwise [k0_pay19]
theorem pay20_at (r : Fin 512) (f : Fin 704) : (k0_pay20 (F := Ideal) g (ix3 0 r f) : EReal) = (g (ix2 r f) : EReal) := by
  pointwise [k0_pay20]
theorem pay17_at (r : Fin 512) (f : Fin 704) : (k0_pay17 (F := Ideal) (k0_pay16 g) (ix3 0 r f) : EReal) = (g (ix2 r f) : EReal) := by
  pointwise [k0_pay17, k0_pay16]
theorem pay1_at (r : Fin 512) (f : Fin 704) : (k0_pay1 (F := Ideal) (k0_pay22 g) (ix3 0 r f) : EReal) = (g (ix2 r f) : EReal) := by
  pointwise [k0_pay1, k0_pay22]

end blocks

end Cert.FfnFwdValue

end
-- ==== Proof.FfnFwdFinal.lean ====
/- The feed-forward layer's forward call: the four arrays the kernel leaves, from the arrays its grid reads. -/
module

public import proofs.«01_k».proof.Proof.FfnFwdTile
@[expose] public section

set_option maxRecDepth 16384

noncomputable section

namespace Cert.FfnFwdValue

open Idealize.ShloMosaic Idealize.ShloMosaic.TcCoe Idealize.SL.Sem
open Idealize.ShloMosaic.Pipeline (Dat)
open Cert.FfnFwdKernelIdeal Cert.FfnFwdKernelIdeal.Gen

theorem idx : ∀ t : Fin cfg0.N, win0_0.index t = ![t.val, 0] ∧ win0_1.index t = ![0, 0]
    ∧ win0_2.index t = ![0, 0, 0, 0] ∧ win0_3.index t = ![0, 4, 0, 0] ∧ win0_4.index t = ![0, 0, 0, 0]
    ∧ win0_5.index t = ![t.val, 0] ∧ win0_6.index t = ![t.val, 0] ∧ win0_7.index t = ![0, t.val, 0] ∧ win0_8.index t = ![0, t.val, 0] :=
  (by decide +kernel : ∀ t : Fin grid0.N, _)

/-- Row `r` of tile `t`. -/
def row (t : Fin cfg0.N) (r : Fin 512) : Fin 16384 := ⟨t.val * 512 + r.val, by have := (show t.val < 32 from t.isLt); have := r.isLt; omega⟩

section blocks

variable (t : Fin cfg0.N)

theorem at_x (X : FVec Ideal S16384x1024 .f32) (r : Fin 512) (k : Fin 1024) :
    (win0_0.blk t).view.read (Elt Ideal) X (ix2 r k) = X (ix2 (row t r) k) := by blk_point [idx t, row]
theorem at_gain (X : FVec Ideal S1x1024 .f32) (k : Fin 1024) :
    (win0_1.blk t).view.read (Elt Ideal) X (ix2 0 k) = X (ix2 0 k) := by blk_point [idx t, row]
theorem at_wg (X : FVec Ideal S4x16x704x1024 .bf16) (e : Fin 4) (f : Fin 704) (k : Fin 1024) :
    (win0_2.blk t).view.read (Elt Ideal) X (ix4 e 0 f k) = X (ix4 e 0 f k) := by blk_point [idx t, row]
theorem at_wu (X : FVec Ideal S4x16x704x1024 .bf16) (e : Fin 4) (f : Fin 704) (k : Fin 1024) :
    (win0_3.blk t).view.read (Elt Ideal) X (ix4 e 0 f k) = X (ix4 e 4 f k) := by blk_point [idx t, row]
theorem at_wd (X : FVec Ideal S4x8x704x1024 .bf16) (e : Fin 4) (f : Fin 704) (k : Fin 1024) :
    (win0_4.blk t).view.read (Elt Ideal) X (ix4 e 0 f k) = X (ix4 e 0 f k) := by blk_point [idx t, row]
theorem whole_x (Y : Vec Ideal S512x1024 .f32) (r : Fin 512) (k : Fin 1024) : View.ld Y r0_0 (ix2 r k) = Y (ix2 r k) :=
  View.ld_unit_apply_of _ _ _ _ _ _ (by intro a; fin_cases a <;> simp)
theorem whole_gain (Y : Vec Ideal S1x1024 .f32) (k : Fin 1024) : View.ld Y r0_1 (ix2 0 k) = Y (ix2 0 k) :=
  View.ld_unit_apply_of _ _ _ _ _ _ (by intro a; fin_cases a <;> simp)
theorem plane0 (Y : Vec Ideal S4x1x704x1024 .bf16) (f : Fin 704) (k : Fin 1024) : View.ld Y r0_2 (ix4 0 0 f k) = Y (ix4 0 0 f k) :=
  View.ld_unit_apply_of _ _ _ _ _ _ (by intro a; fin_cases a <;> simp)
theorem plane1 (Y : Vec Ideal S4x1x704x1024 .bf16) (f : Fin 704) (k : Fin 1024) : View.ld Y r0_3 (ix4 0 0 f k) = Y (ix4 1 0 f k) :=
  View.ld_unit_apply_of _ _ _ _ _ _ (by intro a; fin_cases a <;> simp)
theorem plane2 (Y : Vec Ideal S4x1x704x1024 .bf16) (f : Fin 704) (k : Fin 1024) : View.ld Y r0_4 (ix4 0 0 f k) = Y (ix4 2 0 f k) :=
  View.ld_unit_apply_of _ _ _ _ _ _ (by intro a; fin_cases a <;> simp)
theorem plane3 (Y : Vec Ideal S4x1x704x1024 .bf16) (f : Fin 704) (k : Fin 1024) : View.ld Y r0_5 (ix4 0 0 f k) = Y (ix4 3 0 f k) :=
  View.ld_unit_apply_of _ _ _ _ _ _ (by intro a; fin_cases a <;> simp)
theorem to_res (Z : FVec Ideal S16384x1024 .f32) (r : Fin 512) (k : Fin 1024) (e : EReal) (h : e = Z (ix2 (row t r) k)) :
    e = Z ((win0_5.blk t).view.emb (ix2 r k)) :=
  h.trans (show Z (ix2 (row t r) k) = (win0_5.blk t).view.read (Elt Ideal) Z (ix2 r k) by blk_point [idx t, row])
theorem to_rows (Z : FVec Ideal S16384x1024 .bf16) (r : Fin 512) (k : Fin 1024) (e : EReal) (h : e = Z (ix2 (row t r) k)) :
    e = Z ((win0_6.blk t).view.emb (ix2 r k)) :=
  h.trans (show Z (ix2 (row t r) k) = (win0_6.blk t).view.read (Elt Ideal) Z (ix2 r k) by blk_point [idx t, row])
theorem to_gate (Z : FVec Ideal S4x16384x704 .bf16) (n : Fin 4) (r : Fin 512) (f : Fin 704) (e : EReal) (h : e = Z (ix3 n (row t r) f)) :
    e = Z ((win0_7.blk t).view.emb (ix3 n r f)) :=
  h.trans (show Z (ix3 n (row t r) f) = (win0_7.blk t).view.read (Elt Ideal) Z (ix3 n r f) by blk_point [idx t, row])
theorem to_up (Z : FVec Ideal S4x16384x704 .bf16) (n : Fin 4) (r : Fin 512) (f : Fin 704) (e : EReal) (h : e = Z (ix3 n (row t r) f)) :
    e = Z ((win0_8.blk t).view.emb (ix3 n r f)) :=
  h.trans (show Z (ix3 n (row t r) f) = (win0_8.blk t).view.read (Elt Ideal) Z (ix3 n r f) by blk_point [idx t, row])

end blocks

/-! ## The arrays, from those the grid reads -/

section arrays

variable (x : FVec Ideal S16384x1024 .f32) (a : FVec Ideal S1x1024 .f32) (w : FVec Ideal S4x16x704x1024 .bf16) (wd : FVec Ideal S4x8x704x1024 .bf16)

/-- A row's scale, -/
def rstdA (r : Fin 16384) : EReal :=
  Ideal.rsqrt (Ideal.div (∑ k : Fin 1024, (x (ix2 r k) : EReal) * x (ix2 r k)) (Ideal.ofBits .f32 0x44800000#32) + Ideal.ofBits .f32 0x358637BD#32)
/-- and the normalised rows. -/
def rowsA (r : Fin 16384) (k : Fin 1024) : EReal := (x (ix2 r k) : EReal) * rstdA x r * a (ix2 0 k)
/-- A product of the rows with the units of one chip, -/
def projA (l : Fin 16) (e : Fin 4) (r : Fin 16384) (f : Fin 704) : EReal := ∑ k : Fin 1024, rowsA x a r k * (w (ix4 e l f k) : EReal)
/-- and what the chip's units add to the result. -/
def partA (e : Fin 4) (r : Fin 16384) (k : Fin 1024) : EReal :=
  ∑ f : Fin 704, actOf (projA x a w 0 e r f) (projA x a w 4 e r f) * (wd (ix4 e 0 f k) : EReal)
/-- The normalised rows' array, -/
def rowsArr : FVec Ideal S16384x1024 .bf16 := fun i => rowsA x a (i 0) (i 1)
/-- the gate's, -/
def gateArr : FVec Ideal S4x16384x704 .bf16 := fun i => projA x a w 0 (i 0) (i 1) (i 2)
/-- the up projection's, -/
def upArr : FVec Ideal S4x16384x704 .bf16 := fun i => projA x a w 4 (i 0) (i 1) (i 2)
/-- and the layer's result. -/
def resArr : FVec Ideal S16384x1024 .f32 := fun i => (x i : EReal) + Ideal.ofBits .f32 0x3F000000#32
  * (partA x a w wd 0 (i 0) (i 1) + partA x a w wd 1 (i 0) (i 1) + partA x a w wd 2 (i 0) (i 1) + partA x a w wd 3 (i 0) (i 1))

end arrays

variable (m : (ℓ : Loc nD τ sig) → Buf (Elt Ideal) ℓ) (c : Dev nD)

section reads

variable (t : Fin cfg0.N)

/-- The point's rows and gain. -/
abbrev xB : Vec Ideal S512x1024 .f32 := View.ld (iblk m c 0 t) r0_0
abbrev aB : Vec Ideal S1x1024 .f32 := View.ld (iblk m c 1 t) r0_1

theorem ld_x : xB m c t = iblk m c 0 t := by
  refine funext fun j => ?_
  obtain ⟨r, k, rfl⟩ : ∃ (r : Fin 512) (k : Fin 1024), j = ix2 r k := ⟨j 0, j 1, eq_ix2 j⟩
  exact whole_x _ _ _
theorem ld_a : aB m c t = iblk m c 1 t := by
  refine funext fun j => ?_
  obtain ⟨k, rfl⟩ : ∃ k : Fin 1024, j = ix2 0 k := ⟨j 1, by rw [eq_ix2 j]; exact congrArg (fun z : Fin 1 => ix2 z (j 1)) (Subsingleton.elim _ _)⟩
  exact whole_gain _ _
theorem blk_x (r : Fin 512) (k : Fin 1024) : xB m c t (ix2 r k) = V m c main_arg0 (ix2 (row t r) k) :=
  (whole_x _ r k).trans (at_x t (V m c main_arg0) r k)
theorem blk_gain (k : Fin 1024) : aB m c t (ix2 0 k) = V m c main_arg1 (ix2 0 k) := (whole_gain _ k).trans (at_gain t (V m c main_arg1) k)
theorem blk_wg0 (f : Fin 704) (k : Fin 1024) : View.ld (iblk m c 2 t) r0_2 (ix4 0 0 f k) = V m c main_v6 (ix4 0 0 f k) :=
  (plane0 _ f k).trans (at_wg t (V m c main_v6) 0 f k)
theorem blk_wu0 (f : Fin 704) (k : Fin 1024) : View.ld (iblk m c 3 t) r0_2 (ix4 0 0 f k) = V m c main_v6 (ix4 0 4 f k) :=
  (plane0 _ f k).trans (at_wu t (V m c main_v6) 0 f k)
theorem blk_wd0 (f : Fin 704) (k : Fin 1024) : View.ld (iblk m c 4 t) r0_2 (ix4 0 0 f k) = V m c main_v8 (ix4 0 0 f k) :=
  (plane0 _ f k).trans (at_wd t (V m c main_v8) 0 f k)
theorem blk_wg1 (f : Fin 704) (k : Fin 1024) : View.ld (iblk m c 2 t) r0_3 (ix4 0 0 f k) = V m c main_v6 (ix4 1 0 f k) :=
  (plane1 _ f k).trans (at_wg t (V m c main_v6) 1 f k)
theorem blk_wu1 (f : Fin 704) (k : Fin 1024) : View.ld (iblk m c 3 t) r0_3 (ix4 0 0 f k) = V m c main_v6 (ix4 1 4 f k) :=
  (plane1 _ f k).trans (at_wu t (V m c main_v6) 1 f k)
theorem blk_wd1 (f : Fin 704) (k : Fin 1024) : View.ld (iblk m c 4 t) r0_3 (ix4 0 0 f k) = V m c main_v8 (ix4 1 0 f k) :=
  (plane1 _ f k).trans (at_wd t (V m c main_v8) 1 f k)
theorem blk_wg2 (f : Fin 704) (k : Fin 1024) : View.ld (iblk m c 2 t) r0_4 (ix4 0 0 f k) = V m c main_v6 (ix4 2 0 f k) :=
  (plane2 _ f k).trans (at_wg t (V m c main_v6) 2 f k)
theorem blk_wu2 (f : Fin 704) (k : Fin 1024) : View.ld (iblk m c 3 t) r0_4 (ix4 0 0 f k) = V m c main_v6 (ix4 2 4 f k) :=
  (plane2 _ f k).trans (at_wu t (V m c main_v6) 2 f k)
theorem blk_wd2 (f : Fin 704) (k : Fin 1024) : View.ld (iblk m c 4 t) r0_4 (ix4 0 0 f k) = V m c main_v8 (ix4 2 0 f k) :=
  (plane2 _ f k).trans (at_wd t (V m c main_v8) 2 f k)
theorem blk_wg3 (f : Fin 704) (k : Fin 1024) : View.ld (iblk m c 2 t) r0_5 (ix4 0 0 f k) = V m c main_v6 (ix4 3 0 f k) :=
  (plane3 _ f k).trans (at_wg t (V m c main_v6) 3 f k)
theorem blk_wu3 (f : Fin 704) (k : Fin 1024) : View.ld (iblk m c 3 t) r0_5 (ix4 0 0 f k) = V m c main_v6 (ix4 3 4 f k) :=
  (plane3 _ f k).trans (at_wu t (V m c main_v6) 3 f k)
theorem blk_wd3 (f : Fin 704) (k : Fin 1024) : View.ld (iblk m c 4 t) r0_5 (ix4 0 0 f k) = V m c main_v8 (ix4 3 0 f k) :=
  (plane3 _ f k).trans (at_wd t (V m c main_v8) 3 f k)

theorem rstdT (r : Fin 512) : rstdB (xB m c t) r = rstdA (V m c main_arg0) (row t r) := by
  unfold rstdB rstdA
  exact congrArg (fun s : EReal => Ideal.rsqrt (Ideal.div s (Ideal.ofBits .f32 0x44800000#32) + Ideal.ofBits .f32 0x358637BD#32))
    (Finset.sum_congr rfl fun k _ => congrArg (fun z : EReal => z * z) (blk_x m c t r k))
theorem rowsT (r : Fin 512) (k : Fin 1024) : rowsB (xB m c t) (aB m c t) r k = rowsA (V m c main_arg0) (V m c main_arg1) (row t r) k := by
  unfold rowsB rowsA
  rw [rstdT]
  exact congrArg₂ (fun y z : EReal => y * rstdA (V m c main_arg0) (row t r) * z) (blk_x m c t r k) (blk_gain m c t k)
theorem storedT (r : Fin 512) (k : Fin 1024) : (k0_pay4 (F := Ideal) (xB m c t) (aB m c t) (ix2 r k) : EReal) = rowsA (V m c main_arg0) (V m c main_arg1) (row t r) k :=
  (rows_at _ _ r k).trans (rowsT m c t r k)
theorem gateT0 (r : Fin 512) (f : Fin 704) : (k0_pay24 (F := Ideal) (iblk m c 0 t) (iblk m c 1 t) (iblk m c 2 t) (iblk m c 3 t) (iblk m c 4 t) (ix2 r f) : EReal) = projA (V m c main_arg0) (V m c main_arg1) (V m c main_v6) 0 0 (row t r) f := by
  refine (pay5_at _ _ _ r f).trans (Finset.sum_congr rfl fun k _ => ?_)
  exact congrArg₂ (fun y z : EReal => y * z) (rowsT m c t r k) (blk_wg0 m c t f k)
theorem gateT1 (r : Fin 512) (f : Fin 704) : (k0_pay26 (F := Ideal) (iblk m c 0 t) (iblk m c 1 t) (iblk m c 2 t) (iblk m c 3 t) (iblk m c 4 t) (ix2 r f) : EReal) = projA (V m c main_arg0) (V m c main_arg1) (V m c main_v6) 0 1 (row t r) f := by
  refine (pay7_at _ _ _ r f).trans (Finset.sum_congr rfl fun k _ => ?_)
  exact congrArg₂ (fun y z : EReal => y * z) (rowsT m c t r k) (blk_wg1 m c t f k)
theorem gateT2 (r : Fin 512) (f : Fin 704) : (k0_pay28 (F := Ideal) (iblk m c 0 t) (iblk m c 1 t) (iblk m c 2 t) (iblk m c 3 t) (iblk m c 4 t) (ix2 r f) : EReal) = projA (V m c main_arg0) (V m c main_arg1) (V m c main_v6) 0 2 (row t r) f := by
  refine (pay9_at _ _ r f).trans (Finset.sum_congr rfl fun k _ => ?_)
  exact congrArg₂ (fun y z : EReal => y * z) (storedT m c t r k) (blk_wg2 m c t f k)
theorem gateT3 (r : Fin 512) (f : Fin 704) : (k0_pay30 (F := Ideal) (iblk m c 0 t) (iblk m c 1 t) (iblk m c 2 t) (iblk m c 3 t) (iblk m c 4 t) (ix2 r f) : EReal) = projA (V m c main_arg0) (V m c main_arg1) (V m c main_v6) 0 3 (row t r) f := by
  refine (pay11_at _ _ r f).trans (Finset.sum_congr rfl fun k _ => ?_)
  exact congrArg₂ (fun y z : EReal => y * z) (storedT m c t r k) (blk_wg3 m c t f k)
theorem upT0 (r : Fin 512) (f : Fin 704) : (k0_pay25 (F := Ideal) (iblk m c 0 t) (iblk m c 1 t) (iblk m c 2 t) (iblk m c 3 t) (iblk m c 4 t) (ix2 r f) : EReal) = projA (V m c main_arg0) (V m c main_arg1) (V m c main_v6) 4 0 (row t r) f := by
  refine (pay6_at _ _ _ r f).trans (Finset.sum_congr rfl fun k _ => ?_)
  exact congrArg₂ (fun y z : EReal => y * z) (rowsT m c t r k) (blk_wu0 m c t f k)
theorem upT1 (r : Fin 512) (f : Fin 704) : (k0_pay27 (F := Ideal) (iblk m c 0 t) (iblk m c 1 t) (iblk m c 2 t) (iblk m c 3 t) (iblk m c 4 t) (ix2 r f) : EReal) = projA (V m c main_arg0) (V m c main_arg1) (V m c main_v6) 4 1 (row t r) f := by
  refine (pay8_at _ _ _ r f).trans (Finset.sum_congr rfl fun k _ => ?_)
  exact congrArg₂ (fun y z : EReal => y * z) (rowsT m c t r k) (blk_wu1 m c t f k)
theorem upT2 (r : Fin 512) (f : Fin 704) : (k0_pay29 (F := Ideal) (iblk m c 0 t) (iblk m c 1 t) (iblk m c 2 t) (iblk m c 3 t) (iblk m c 4 t) (ix2 r f) : EReal) = projA (V m c main_arg0) (V m c main_arg1) (V m c main_v6) 4 2 (row t r) f := by
  refine (pay10_at _ _ r f).trans (Finset.sum_congr rfl fun k _ => ?_)
  exact congrArg₂ (fun y z : EReal => y * z) (storedT m c t r k) (blk_wu2 m c t f k)
theorem upT3 (r : Fin 512) (f : Fin 704) : (k0_pay31 (F := Ideal) (iblk m c 0 t) (iblk m c 1 t) (iblk m c 2 t) (iblk m c 3 t) (iblk m c 4 t) (ix2 r f) : EReal) = projA (V m c main_arg0) (V m c main_arg1) (V m c main_v6) 4 3 (row t r) f := by
  refine (pay12_at _ _ r f).trans (Finset.sum_congr rfl fun k _ => ?_)
  exact congrArg₂ (fun y z : EReal => y * z) (storedT m c t r k) (blk_wu3 m c t f k)
theorem partT0 (r : Fin 512) (k : Fin 1024) : partB (View.ld (iblk m c 4 t) r0_2) (k0_pay24 (F := Ideal) (iblk m c 0 t) (iblk m c 1 t) (iblk m c 2 t) (iblk m c 3 t) (iblk m c 4 t)) (k0_pay25 (F := Ideal) (iblk m c 0 t) (iblk m c 1 t) (iblk m c 2 t) (iblk m c 3 t) (iblk m c 4 t)) r k
    = partA (V m c main_arg0) (V m c main_arg1) (V m c main_v6) (V m c main_v8) 0 (row t r) k :=
  Finset.sum_congr rfl fun f _ => congrArg₂ (fun y z : EReal => y * z) (congrArg₂ actOf (gateT0 m c t r f) (upT0 m c t r f)) (blk_wd0 m c t f k)
theorem partT1 (r : Fin 512) (k : Fin 1024) : partB (View.ld (iblk m c 4 t) r0_3) (k0_pay26 (F := Ideal) (iblk m c 0 t) (iblk m c 1 t) (iblk m c 2 t) (iblk m c 3 t) (iblk m c 4 t)) (k0_pay27 (F := Ideal) (iblk m c 0 t) (iblk m c 1 t) (iblk m c 2 t) (iblk m c 3 t) (iblk m c 4 t)) r k
    = partA (V m c main_arg0) (V m c main_arg1) (V m c main_v6) (V m c main_v8) 1 (row t r) k :=
  Finset.sum_congr rfl fun f _ => congrArg₂ (fun y z : EReal => y * z) (congrArg₂ actOf (gateT1 m c t r f) (upT1 m c t r f)) (blk_wd1 m c t f k)
theorem partT2 (r : Fin 512) (k : Fin 1024) : partB (View.ld (iblk m c 4 t) r0_4) (k0_pay28 (F := Ideal) (iblk m c 0 t) (iblk m c 1 t) (iblk m c 2 t) (iblk m c 3 t) (iblk m c 4 t)) (k0_pay29 (F := Ideal) (iblk m c 0 t) (iblk m c 1 t) (iblk m c 2 t) (iblk m c 3 t) (iblk m c 4 t)) r k
    = partA (V m c main_arg0) (V m c main_arg1) (V m c main_v6) (V m c main_v8) 2 (row t r) k :=
  Finset.sum_congr rfl fun f _ => congrArg₂ (fun y z : EReal => y * z) (congrArg₂ actOf (gateT2 m c t r f) (upT2 m c t r f)) (blk_wd2 m c t f k)
theorem partT3 (r : Fin 512) (k : Fin 1024) : partB (View.ld (iblk m c 4 t) r0_5) (k0_pay30 (F := Ideal) (iblk m c 0 t) (iblk m c 1 t) (iblk m c 2 t) (iblk m c 3 t) (iblk m c 4 t)) (k0_pay31 (F := Ideal) (iblk m c 0 t) (iblk m c 1 t) (iblk m c 2 t) (iblk m c 3 t) (iblk m c 4 t)) r k
    = partA (V m c main_arg0) (V m c main_arg1) (V m c main_v6) (V m c main_v8) 3 (row t r) k :=
  Finset.sum_congr rfl fun f _ => congrArg₂ (fun y z : EReal => y * z) (congrArg₂ actOf (gateT3 m c t r f) (upT3 m c t r f)) (blk_wd3 m c t f k)

end reads

/-- A stored tile's index, and its place in the block of all four chips. -/
theorem tileIx (e : Fin 4) (y : S4x512x704.Idx) (x : S1x512x704.Idx) (h0 : (y 0).val = e.val) (h1 : (y 1).val = (x 1).val) (h2 : (y 2).val = (x 2).val) :
    ∃ (r : Fin 512) (f : Fin 704), x = ix3 0 r f ∧ y = ix3 e r f :=
  ⟨x 1, x 2, by rw [eq_ix3 x]; exact congrArg (fun z : Fin 1 => ix3 z (x 1) (x 2)) (Subsingleton.elim _ _),
    by rw [eq_ix3 y, show y 0 = e from Fin.ext h0, show y 1 = x 1 from Fin.ext h1, show y 2 = x 2 from Fin.ext h2]⟩

theorem rows_final : (dats m 0 c).arrAt 6 cfg0.N = rowsArr (V m c main_arg0) (V m c main_arg1) := by
  refine (dats m 0 c).arrAt_eq_of_covers 6 _ (by decide +kernel) fun t _ y => ?_
  obtain ⟨r, k, rfl⟩ : ∃ (r : Fin 512) (k : Fin 1024), y = ix2 r k := ⟨y 0, y 1, eq_ix2 y⟩
  blk_simp
  rw [after0_6]
  frame_out
  have e := storedT m c t r k
  rw [ld_x m c t, ld_a m c t] at e
  exact to_rows t _ r k _ e

theorem res_final : (dats m 0 c).arrAt 5 cfg0.N = resArr (V m c main_arg0) (V m c main_arg1) (V m c main_v6) (V m c main_v8) := by
  refine (dats m 0 c).arrAt_eq_of_covers 5 _ (by decide +kernel) fun t _ y => ?_
  obtain ⟨r, k, rfl⟩ : ∃ (r : Fin 512) (k : Fin 1024), y = ix2 r k := ⟨y 0, y 1, eq_ix2 y⟩
  blk_simp
  rw [after0_5]
  frame_out
  refine to_res t _ r k _ ?_
  refine (pay3_at _ _ _ _ _ r k).trans ?_
  refine congrArg₂ (fun y z : EReal => y + Ideal.ofBits .f32 0x3F000000#32 * z) (at_x t (V m c main_arg0) r k) ?_
  refine congrArg₂ (fun y z : EReal => y + z) ?_ (partT3 m c t r k)
  refine (pay21_at _ _ _ _ _ _ _ r k).trans ?_
  refine congrArg₂ (fun y z : EReal => y + z) (congrArg₂ (fun y z : EReal => y + z) ?_ (partT1 m c t r k)) (partT2 m c t r k)
  exact (pay15_at _ _ _ r k).trans (partT0 m c t r k)

theorem gate_final : (dats m 0 c).arrAt 7 cfg0.N = gateArr (V m c main_arg0) (V m c main_arg1) (V m c main_v6) := by
  refine (dats m 0 c).arrAt_eq_of_covers 7 _ (by decide +kernel) fun t _ y => ?_
  blk_simp
  rw [after0_7]
  frame_out
  canon_tiles x h
  · obtain ⟨r, f, rfl, rfl⟩ := tileIx 3 y x (by omega) h1 h2
    exact to_gate t _ 3 r f _ ((pay1_at _ r f).trans (gateT3 m c t r f))
  · obtain ⟨r, f, rfl, rfl⟩ := tileIx 2 y x (by omega) h1 h2
    exact to_gate t _ 2 r f _ ((pay19_at _ r f).trans (gateT2 m c t r f))
  · obtain ⟨r, f, rfl, rfl⟩ := tileIx 1 y x (by omega) h1 h2
    exact to_gate t _ 1 r f _ ((pay17_at _ r f).trans (gateT1 m c t r f))
  · obtain ⟨r, f, rfl, rfl⟩ := tileIx 0 y x (by omega) h1 h2
    exact to_gate t _ 0 r f _ ((pay13_at _ r f).trans (gateT0 m c t r f))

theorem up_final : (dats m 0 c).arrAt 8 cfg0.N = upArr (V m c main_arg0) (V m c main_arg1) (V m c main_v6) := by
  refine (dats m 0 c).arrAt_eq_of_covers 8 _ (by decide +kernel) fun t _ y => ?_
  blk_simp
  rw [after0_8]
  frame_out
  canon_tiles x h
  · obtain ⟨r, f, rfl, rfl⟩ := tileIx 3 y x (by omega) h1 h2
    exact to_up t _ 3 r f _ ((pay2_at _ r f).trans (upT3 m c t r f))
  · obtain ⟨r, f, rfl, rfl⟩ := tileIx 2 y x (by omega) h1 h2
    exact to_up t _ 2 r f _ ((pay20_at _ r f).trans (upT2 m c t r f))
  · obtain ⟨r, f, rfl, rfl⟩ := tileIx 1 y x (by omega) h1 h2
    exact to_up t _ 1 r f _ ((pay18_at _ r f).trans (upT1 m c t r f))
  · obtain ⟨r, f, rfl, rfl⟩ := tileIx 0 y x (by omega) h1 h2
    exact to_up t _ 0 r f _ ((pay14_at _ r f).trans (upT0 m c t r f))

end Cert.FfnFwdValue

end
-- ==== Proof.FfnFwdHost.lean ====
/- The host lines before the feed-forward layer's forward call: what they leave in the arrays its grid reads, entry by entry. -/
module

public import proofs.«01_k».proof.Proof.Gen.FfnFwdKernelIdeal.Frame
public import Idealize.ShloMosaic.Lib.Pointwise

@[expose] public section

set_option maxRecDepth 16384

noncomputable section

namespace Cert.FfnFwdValue

open Idealize.ShloMosaic Idealize.ShloMosaic.TcCoe Idealize.SL.Sem
open Cert.FfnFwdKernelIdeal Cert.FfnFwdKernelIdeal.Gen

/-- The gate and up weights of all layers, transposed, by chips. -/
def packUp (a b c d : FVec Ideal S4x1024x2816 .f32) : FVec Ideal S4x16x704x1024 .bf16 :=
  transpose S4x16x704x1024 [1, 0, 2, 3] (shapeCast S16x4x704x1024 (truncf .bf16 (transpose S16x2816x1024 [0, 2, 1]
      (concatenate S16x1024x2816 0 [⟨S4x1024x2816, a⟩, ⟨S4x1024x2816, b⟩, ⟨S4x1024x2816, c⟩, ⟨S4x1024x2816, d⟩] concatenates_S4x1024x2816_S4x1024x2816_S4x1024x2816_S4x1024x2816_S16x1024x2816_d0)
      transposes_S16x1024x2816_S16x2816x1024_0_2_1) bitsLt_bf16_f32) shapeCasts_S16x2816x1024_S16x4x704x1024)
    transposes_S16x4x704x1024_S4x16x704x1024_1_0_2_3
/-- The down weights of all layers, by chips. -/
def packDown (a b : FVec Ideal S4x2816x1024 .f32) : FVec Ideal S4x8x704x1024 .bf16 :=
  transpose S4x8x704x1024 [1, 0, 2, 3] (shapeCast S8x4x704x1024 (truncf .bf16
      (concatenate S8x2816x1024 0 [⟨S4x2816x1024, a⟩, ⟨S4x2816x1024, b⟩] concatenates_S4x2816x1024_S4x2816x1024_S8x2816x1024_d0)
      bitsLt_bf16_f32) shapeCasts_S8x2816x1024_S8x4x704x1024)
    transposes_S8x4x704x1024_S4x8x704x1024_1_0_2_3
section

variable (m : (ℓ : Loc nD τ sig) → Buf (Elt Ideal) ℓ) (c : Dev nD)

/-- The device's packed gate and up weights. -/
def wUp : FVec Ideal S4x16x704x1024 .bf16 := packUp (m ((c : Thread nD τ).loc main_arg2)) (m ((c : Thread nD τ).loc main_arg3))
  (m ((c : Thread nD τ).loc main_arg5)) (m ((c : Thread nD τ).loc main_arg6))

theorem V_wUp : V m c main_v6 = wUp m c := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl
theorem V_wDown : V m c main_v8 = packDown (m ((c : Thread nD τ).loc main_arg4)) (m ((c : Thread nD τ).loc main_arg7)) := by
  unfold V
  simp only [hostOps0, List.flatten_cons, List.flatten_nil, List.append_nil, List.cons_append, List.nil_append,
    StableHlo.TRef.nullary, StableHlo.TRef.unary, StableHlo.TRef.binary, StableHlo.TRef.toBuf, StableHlo.TRef.ofBuf, cast_eq]
  after_results_simp <;> rfl
end

theorem packUp_gate (a b c d) (e : Fin 4) (f : Fin 704) (k : Fin 1024) :
    packUp a b c d (ix4 e 0 f k) = a (ix3 0 k ⟨e.val * 704 + f.val, by omega⟩) := by
  pointwise [packUp]
theorem packUp_up (a b c d) (e : Fin 4) (f : Fin 704) (k : Fin 1024) :
    packUp a b c d (ix4 e 4 f k) = b (ix3 0 k ⟨e.val * 704 + f.val, by omega⟩) := by
  pointwise [packUp]
theorem packDown_at (a b) (e : Fin 4) (f : Fin 704) (k : Fin 1024) :
    packDown a b (ix4 e 0 f k) = a (ix3 0 ⟨e.val * 704 + f.val, by omega⟩ k) := by
  pointwise [packDown]

end Cert.FfnFwdValue

end
-- ==== Proof.FfnFwdRef.lean ====
/- The feed-forward layer's forward call: the reference's arrays, entry by entry. -/
module

public import proofs.«01_k».proof.Proof.Gen.FfnFwdRefIdeal.Run
public import Idealize.ShloMosaic.Lib.Pointwise

@[expose] public section

set_option maxRecDepth 16384

noncomputable section

namespace Cert.FfnFwdRefValue

open Idealize.ShloMosaic Idealize.ShloMosaic.TcCoe Idealize.SL.Sem
open Cert.FfnFwdRefIdeal Cert.FfnFwdRefIdeal.Gen Cert.FfnFwdRefIdeal.Value

/-- The rows' mean squares and epsilon, -/
def meanSq (x : FVec Ideal S16384x1024 .f32) : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))
/-- and the rows' scales. -/
def rstd (v : FVec Ideal S16384x1 .f32) : FVec Ideal S16384x1 .f32 := Host.rsqrt v
/-- A column over all columns. -/
def wide (v : FVec Ideal S16384x1 .f32) : FVec Ideal S16384x1024 .f32 := broadcastInDim S16384x1024 ![0, 1] bcast_S16384x1_S16384x1024_0_1 v
/-- The gain over all rows. -/
def gains (a : FVec Ideal S1x1024 .f32) : FVec Ideal S16384x1024 .f32 :=
  broadcastInDim S16384x1024 ![0, 1] bcast_S1x1024_S16384x1024_0_1 (broadcastInDim S1x1024 ![1] bcast_S1024_S1x1024_1 (shapeCast _ a shapeCasts_S1x1024_S1024))
/-- One layer's gate or up weights, -/
def upW (w : FVec Ideal S4x1024x2816 .f32) : FVec Ideal S1024x2816 .f32 :=
  shapeCast _ (extractStridedSlice S1x1024x2816 ![0, 0, 0] w slices_S4x1024x2816_S1x1024x2816_0_0_0) shapeCasts_S1x1024x2816_S1024x2816
/-- and its down weights. -/
def downW (w : FVec Ideal S4x2816x1024 .f32) : FVec Ideal S2816x1024 .f32 :=
  shapeCast _ (extractStridedSlice S1x2816x1024 ![0, 0, 0] w slices_S4x2816x1024_S1x2816x1024_0_0_0) shapeCasts_S1x2816x1024_S2816x1024
/-- A product of the rows. -/
def proj (h : FVec Ideal S16384x1024 .f32) (w : FVec Ideal S1024x2816 .f32) : FVec Ideal S16384x2816 .f32 :=
  Host.dotGeneral dot_S16384x1024_S1024x2816_S16384x2816_1_0_0_1_n_n none h w
/-- The logistic function. -/
def logis (g : FVec Ideal S16384x2816 .f32) : FVec Ideal S16384x2816 .f32 :=
  Host.divf (broadcastInDim S16384x2816 ![] bcast_S_S16384x2816 (constant S_ .f32 0x3F800000#32))
    (addf (broadcastInDim S16384x2816 ![] bcast_S_S16384x2816 (constant S_ .f32 0x3F800000#32)) (Host.exp (Host.negf g)))
/-- The product of gate and up, -/
def prod (g u : FVec Ideal S16384x2816 .f32) : FVec Ideal S16384x2816 .f32 := mulf (mulf g (logis g)) u
/-- and the layer's result. -/
def resOf (x : FVec Ideal S16384x1024 .f32) (p : FVec Ideal S16384x2816 .f32) (w : FVec Ideal S2816x1024 .f32) : FVec Ideal S16384x1024 .f32 :=
  addf x (mulf (broadcastInDim S16384x1024 ![] bcast_S_S16384x1024 (constant S_ .f32 0x3F000000#32))
    (Host.dotGeneral dot_S16384x2816_S2816x1024_S16384x1024_1_0_0_1_n_n none p w))
/-- An array's columns by chips. -/
def chips (a : FVec Ideal S16384x2816 .f32) : FVec Ideal S4x16384x704 .bf16 :=
  truncf .bf16 (transpose S4x16384x704 [1, 0, 2] (shapeCast _ a shapeCasts_S16384x2816_S16384x4x704) transposes_S16384x4x704_S4x16384x704_1_0_2) bitsLt_bf16_f32

/-- The normalised rows. -/
def rowsOf (x : FVec Ideal S16384x1024 .f32) (a : FVec Ideal S1x1024 .f32) : FVec Ideal S16384x1024 .f32 :=
  mulf (mulf x (wide (rstd (meanSq x)))) (gains a)
/-- The normalised rows, as stored. -/
def storedRows (x : FVec Ideal S16384x1024 .f32) (a : FVec Ideal S1x1024 .f32) : FVec Ideal S16384x1024 .bf16 := truncf .bf16 (rowsOf x a) bitsLt_bf16_f32

theorem meanSq_at (x) (r : Fin 16384) : meanSq x (ix2 r 0)
    = Ideal.div (∑ k : Fin 1024, x (ix2 r k) * x (ix2 r k)) (Ideal.ofBits .f32 0x44800000#32) + Ideal.ofBits .f32 0x358637BD#32 := by
  pointwise [meanSq]
theorem rstd_at (v) (r : Fin 16384) : rstd v (ix2 r 0) = Ideal.rsqrt (v (ix2 r 0)) := by
  pointwise [rstd]
theorem wide_at (v) (r : Fin 16384) (k : Fin 1024) : wide v (ix2 r k) = v (ix2 r 0) := by
  pointwise [wide]
theorem gains_at (a) (r : Fin 16384) (k : Fin 1024) : gains a (ix2 r k) = a (ix2 0 k) := by
  pointwise [gains]
theorem upW_at (w) (k : Fin 1024) (j : Fin 2816) : upW w (ix2 k j) = w (ix3 0 k j) := by
  pointwise [upW]
theorem downW_at (w) (j : Fin 2816) (k : Fin 1024) : downW w (ix2 j k) = w (ix3 0 j k) := by
  pointwise [downW]
theorem proj_at (h w) (r : Fin 16384) (j : Fin 2816) : proj h w (ix2 r j) = ∑ k : Fin 1024, h (ix2 r k) * w (ix2 k j) := by
  pointwise [proj]
theorem logis_at (g) (r : Fin 16384) (j : Fin 2816) : logis g (ix2 r j)
    = Ideal.div (Ideal.ofBits .f32 0x3F800000#32) (Ideal.ofBits .f32 0x3F800000#32 + Ideal.exp (-g (ix2 r j))) := by
  pointwise [logis]
theorem prod_at (g u) (r : Fin 16384) (j : Fin 2816) : prod g u (ix2 r j) = g (ix2 r j) * logis g (ix2 r j) * u (ix2 r j) := by
  pointwise [prod]
theorem resOf_at (x p w) (r : Fin 16384) (k : Fin 1024) : resOf x p w (ix2 r k)
    = x (ix2 r k) + Ideal.ofBits .f32 0x3F000000#32 * ∑ j : Fin 2816, p (ix2 r j) * w (ix2 j k) := by
  pointwise [resOf]
theorem rowsOf_at (x a) (r : Fin 16384) (k : Fin 1024) : rowsOf x a (ix2 r k)
    = x (ix2 r k) * Ideal.rsqrt (Ideal.div (∑ k : Fin 1024, x (ix2 r k) * x (ix2 r k)) (Ideal.ofBits .f32 0x44800000#32) + Ideal.ofBits .f32 0x358637BD#32)
      * a (ix2 0 k) := by
  rw [← meanSq_at, ← rstd_at, ← wide_at (rstd (meanSq x)) r k, ← gains_at a r k]
  pointwise [rowsOf]
theorem storedRows_at (x a) (r : Fin 16384) (k : Fin 1024) : storedRows x a (ix2 r k) = rowsOf x a (ix2 r k) := by
  pointwise [storedRows]
theorem chips_at (a) (c : Fin 4) (r : Fin 16384) (f : Fin 704) : chips a (ix3 c r f) = a (ix2 r ⟨c.val * 704 + f.val, by omega⟩) := by
  pointwise [chips]

end Cert.FfnFwdRefValue

end
-- ==== Proof.FfnFwdClaims.lean ====
/- The claims of the feed-forward layer's forward call. The frames of both grids are the generated runs; the reference's
   is its run. The value: row by row the two programs name the same sums; the layer's result sums the units chip by chip,
   which is the sum over all units in any order. It holds of all arguments, so there is no precondition. -/
module

public import proofs.«01_k».proof.Defs
public import proofs.«01_k».proof.Proof.FfnFwdFinal
public import proofs.«01_k».proof.Proof.FfnFwdHost
public import proofs.«01_k».proof.Proof.FfnFwdRef
public import proofs.«01_k».proof.Proof.Consts
public import proofs.«01_k».proof.Proof.Gen.FfnFwdKernelIdeal.Frame
public import proofs.«01_k».proof.Proof.Gen.FfnFwdRefIdeal.Run
public import Idealize.ShloMosaic.Lib.Claim

@[expose] public section

set_option maxRecDepth 16384

open Idealize.ShloMosaic Idealize.ShloMosaic.TcCoe Idealize.SL.Sem

namespace Cert.FfnFwdValue

/-- The reference's frame. -/
theorem ref_frame : Cert.quiescent_FfnFwdRefIdeal := fun m ρ _ =>
  (θ_run Cert.FfnFwdRefIdeal.defs _ _).mono (fun r h => ⟨fun c => (h c).2.2.2.2, sem_eq_zero_of_no_sems (by decide) r.2⟩)
    (Cert.FfnFwdRefIdeal.Value.run (F := Ideal) m ρ)

section

variable (x : FVec Ideal (⟨2, ![16384, 1024]⟩ : Shape) .f32) (a : FVec Ideal (⟨2, ![1, 1024]⟩ : Shape) .f32)
  (w1 w2 w3 w4 : FVec Ideal (⟨3, ![4, 1024, 2816]⟩ : Shape) .f32) (d1 d2 : FVec Ideal (⟨3, ![4, 2816, 1024]⟩ : Shape) .f32)

/-- A chip's unit among all units. -/
abbrev at' (e : Fin 4) (f : Fin 704) : Fin 2816 := ⟨e.val * 704 + f.val, by omega⟩

/-- The units by chips are all units. -/
theorem sum_chips (F : Fin 2816 → EReal) : ∑ e : Fin 4, ∑ f : Fin 704, F (at' e f) = ∑ j : Fin 2816, F j :=
  Fin.sum_mul_add_congr fun e f hf => rfl
theorem rows_same (r : Fin 16384) (k : Fin 1024) : (FfnFwdRefValue.rowsOf x a (ix2 r k) : EReal) = rowsA x a r k := FfnFwdRefValue.rowsOf_at x a r k
theorem gate_same (e : Fin 4) (r : Fin 16384) (f : Fin 704) :
    (FfnFwdRefValue.proj (FfnFwdRefValue.rowsOf x a) (FfnFwdRefValue.upW w1) (ix2 r (at' e f)) : EReal) = projA x a (packUp w1 w2 w3 w4) 0 e r f := by
  refine (FfnFwdRefValue.proj_at _ _ r _).trans (Finset.sum_congr rfl fun k _ => ?_)
  exact congrArg₂ (fun y z : EReal => y * z) (rows_same x a r k) ((FfnFwdRefValue.upW_at w1 k _).trans (packUp_gate w1 w2 w3 w4 e f k).symm)
theorem up_same (e : Fin 4) (r : Fin 16384) (f : Fin 704) :
    (FfnFwdRefValue.proj (FfnFwdRefValue.rowsOf x a) (FfnFwdRefValue.upW w2) (ix2 r (at' e f)) : EReal) = projA x a (packUp w1 w2 w3 w4) 4 e r f := by
  refine (FfnFwdRefValue.proj_at _ _ r _).trans (Finset.sum_congr rfl fun k _ => ?_)
  exact congrArg₂ (fun y z : EReal => y * z) (rows_same x a r k) ((FfnFwdRefValue.upW_at w2 k _).trans (packUp_up w1 w2 w3 w4 e f k).symm)
theorem logis_same (g : FVec Ideal (⟨2, ![16384, 2816]⟩ : Shape) .f32) (r : Fin 16384) (j : Fin 2816) :
    (FfnFwdRefValue.logis g (ix2 r j) : EReal) = Ideal.logistic (g (ix2 r j)) := by
  rw [FfnFwdRefValue.logis_at, Consts.f32_one, EReal.coe_one]
  rfl
theorem act_same (e : Fin 4) (r : Fin 16384) (f : Fin 704) :
    (FfnFwdRefValue.prod (FfnFwdRefValue.proj (FfnFwdRefValue.rowsOf x a) (FfnFwdRefValue.upW w1))
        (FfnFwdRefValue.proj (FfnFwdRefValue.rowsOf x a) (FfnFwdRefValue.upW w2)) (ix2 r (at' e f)) : EReal)
      = actOf (projA x a (packUp w1 w2 w3 w4) 0 e r f) (projA x a (packUp w1 w2 w3 w4) 4 e r f) := by
  rw [FfnFwdRefValue.prod_at, logis_same, gate_same x a w1 w2 w3 w4, up_same x a w1 w2 w3 w4, actOf]
theorem res_same (r : Fin 16384) (k : Fin 1024) :
    (FfnFwdRefValue.resOf x (FfnFwdRefValue.prod (FfnFwdRefValue.proj (FfnFwdRefValue.rowsOf x a) (FfnFwdRefValue.upW w1))
        (FfnFwdRefValue.proj (FfnFwdRefValue.rowsOf x a) (FfnFwdRefValue.upW w2))) (FfnFwdRefValue.downW d1) (ix2 r k) : EReal)
      = resArr x a (packUp w1 w2 w3 w4) (packDown d1 d2) (ix2 r k) := by
  refine (FfnFwdRefValue.resOf_at _ _ _ r k).trans ?_
  refine congrArg (fun z : EReal => (x (ix2 r k) : EReal) + Ideal.ofBits .f32 0x3F000000#32 * z) ?_
  refine (sum_chips _).symm.trans (Eq.trans (Finset.sum_congr rfl fun e _ => ?_) (Fin.sum_univ_four (fun e => partA x a (packUp w1 w2 w3 w4) (packDown d1 d2) e r k)))
  refine Finset.sum_congr rfl fun f _ => ?_
  exact congrArg₂ (fun y z : EReal => y * z) (act_same x a w1 w2 w3 w4 e r f) ((FfnFwdRefValue.downW_at d1 _ k).trans (packDown_at d1 d2 e f k).symm)

end

section

variable (m : (ℓ : Loc Cert.FfnFwdKernelIdeal.nD Cert.FfnFwdKernelIdeal.τ Cert.FfnFwdKernelIdeal.sig) → Buf (Elt Ideal) ℓ) (c : Dev Cert.FfnFwdKernelIdeal.nD)

/-- The layer's results agree, -/
theorem out_res : FfnFwdRefValue.resOf (m ((c.tc : Thread Cert.FfnFwdKernelIdeal.nD Cert.FfnFwdKernelIdeal.τ).loc Cert.FfnFwdKernelIdeal.main_arg0)) (FfnFwdRefValue.prod (FfnFwdRefValue.proj (FfnFwdRefValue.rowsOf (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1))) (FfnFwdRefValue.upW (m ((c.tc : Thread Cert.FfnFwdKernelIdeal.nD Cert.FfnFwdKernelIdeal.τ).loc Cert.FfnFwdKernelIdeal.main_arg2))))
      (FfnFwdRefValue.proj (FfnFwdRefValue.rowsOf (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1))) (FfnFwdRefValue.upW (m ((c.tc : Thread Cert.FfnFwdKernelIdeal.nD Cert.FfnFwdKernelIdeal.τ).loc Cert.FfnFwdKernelIdeal.main_arg3))))) (FfnFwdRefValue.downW (m ((c.tc : Thread Cert.FfnFwdKernelIdeal.nD Cert.FfnFwdKernelIdeal.τ).loc Cert.FfnFwdKernelIdeal.main_arg4)))
    = (Cert.FfnFwdKernelIdeal.Gen.dats m 0 c).arrAt 5 Cert.FfnFwdKernelIdeal.cfg0.N := by
  rw [res_final, V_wUp, V_wDown, Cert.FfnFwdKernelIdeal.Gen.V_main_arg0, Cert.FfnFwdKernelIdeal.Gen.V_main_arg1]
  refine funext fun j => ?_
  rw [show j = ix2 (j 0) (j 1) from eq_ix2 j]
  exact res_same _ _ _ _ _ _ _ _ _ _
/-- the normalised rows, -/
theorem out_rows : FfnFwdRefValue.storedRows (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1))
    = (Cert.FfnFwdKernelIdeal.Gen.dats m 0 c).arrAt 6 Cert.FfnFwdKernelIdeal.cfg0.N := by
  rw [rows_final, Cert.FfnFwdKernelIdeal.Gen.V_main_arg0, Cert.FfnFwdKernelIdeal.Gen.V_main_arg1]
  refine funext fun j => ?_
  rw [show j = ix2 (j 0) (j 1) from eq_ix2 j]
  exact (FfnFwdRefValue.storedRows_at _ _ _ _).trans (rows_same _ _ _ _)
/-- the gates, -/
theorem out_gate : FfnFwdRefValue.chips (FfnFwdRefValue.proj (FfnFwdRefValue.rowsOf (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1))) (FfnFwdRefValue.upW (m ((c.tc : Thread Cert.FfnFwdKernelIdeal.nD Cert.FfnFwdKernelIdeal.τ).loc Cert.FfnFwdKernelIdeal.main_arg2))))
    = (Cert.FfnFwdKernelIdeal.Gen.dats m 0 c).arrAt 7 Cert.FfnFwdKernelIdeal.cfg0.N := by
  rw [gate_final, V_wUp, Cert.FfnFwdKernelIdeal.Gen.V_main_arg0, Cert.FfnFwdKernelIdeal.Gen.V_main_arg1]
  refine funext fun j => ?_
  rw [show j = ix3 (j 0) (j 1) (j 2) from eq_ix3 j]
  exact (FfnFwdRefValue.chips_at _ _ _ _).trans (gate_same _ _ _ _ _ _ _ _ _)
/-- and the up projections. -/
theorem out_up : FfnFwdRefValue.chips (FfnFwdRefValue.proj (FfnFwdRefValue.rowsOf (m ((c.tc : Thread Cert.FfnFwdKernelIdeal.nD Cert.FfnFwdKernelIdeal.τ).loc Cert.FfnFwdKernelIdeal.main_arg0)) (m ((c.tc : Thread Cert.FfnFwdKernelIdeal.nD Cert.FfnFwdKernelIdeal.τ).loc Cert.FfnFwdKernelIdeal.main_arg1))) (FfnFwdRefValue.upW (m ((c.tc : Thread Cert.FfnFwdKernelIdeal.nD Cert.FfnFwdKernelIdeal.τ).loc Cert.FfnFwdKernelIdeal.main_arg3))))
    = (Cert.FfnFwdKernelIdeal.Gen.dats m 0 c).arrAt 8 Cert.FfnFwdKernelIdeal.cfg0.N := by
  rw [up_final, V_wUp, Cert.FfnFwdKernelIdeal.Gen.V_main_arg0, Cert.FfnFwdKernelIdeal.Gen.V_main_arg1]
  refine funext fun j => ?_
  rw [show j = ix3 (j 0) (j 1) (j 2) from eq_ix3 j]
  exact (FfnFwdRefValue.chips_at _ _ _ _).trans (up_same _ _ _ _ _ _ _ _ _)

end

set_option maxHeartbeats 4000000 in
theorem ffnFwd_algebraic : Cert.algebraic_FfnFwdKernelIdeal_FfnFwdRefIdeal := by
  pair_intro
  · run_from Cert.FfnFwdKernelIdeal.Gen.run_main m g
  · refine (θ_run Cert.FfnFwdRefIdeal.defs _ _).mono (fun r h c => ?_) (Cert.FfnFwdRefIdeal.Value.run (F := Ideal) m' g')
    obtain ⟨h0, h1, h2, h3, hrest⟩ := h c
    obtain ⟨e0, e1, e2, e3, e4, -, -, -⟩ := hagree c
    rw [e0, e1, e2, e3, e4] at h0
    rw [e0, e1] at h1
    rw [e0, e1, e2] at h2
    rw [e0, e1, e3] at h3
    exact ⟨h0.trans (out_res m c), h1.trans (out_rows m c), h2.trans (out_gate m c), h3.trans (out_up m c), hrest⟩

end Cert.FfnFwdValue
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossRefIdeal
public import proofs.«01_k».proof.Proof.Gen.LossKernelIdeal.Value
public import proofs.«01_k».proof.Proof.Gen.LossRefIdeal.Run
public import proofs.«01_k».proof.Proof.LossClaims
public import proofs.«01_k».proof.Proof.OutClaims
public import proofs.«01_k».proof.Proof.Gen.OutBwdKernelIdeal.Value
public import proofs.«01_k».proof.Proof.Gen.OutBwdRefIdeal.Run
public import proofs.«01_k».proof.Proof.Gen.OutBwdKernel
public import proofs.«01_k».proof.Proof.Gen.OutBwdKernel.Skeleton
public import proofs.«01_k».proof.Proof.Gen.OutBwdKernel.Launch
public import proofs.«01_k».proof.Proof.Gen.OutBwdKernel.Points
public import proofs.«01_k».proof.Proof.Gen.OutBwdKernel.Frame
public import proofs.«01_k».proof.Proof.Gen.OutBwdKernelIdeal
public import proofs.«01_k».proof.Proof.Gen.OutBwdKernelIdeal.Skeleton
public import proofs.«01_k».proof.Proof.Gen.OutBwdKernelIdeal.Launch
public import proofs.«01_k».proof.Proof.Gen.OutBwdKernelIdeal.Points
public import proofs.«01_k».proof.Proof.Gen.OutBwdKernelIdeal.Frame
public import proofs.«01_k».proof.Proof.Gen.OutBwdRefIdeal
public import proofs.«01_k».proof.Proof.Gen.FlashBwdKernel
public import proofs.«01_k».proof.Proof.Gen.FlashBwdKernel.Skeleton
public import proofs.«01_k».proof.Proof.Gen.FlashBwdKernel.Launch
public import proofs.«01_k».proof.Proof.Gen.FlashBwdKernel.Points
public import proofs.«01_k».proof.Proof.Gen.FlashBwdKernel.Frame
public import proofs.«01_k».proof.Proof.Gen.FlashBwdKernel.Loops
public import proofs.«01_k».proof.Proof.Gen.FlashBwdKernelIdeal
public import proofs.«01_k».proof.Proof.Gen.FlashBwdKernelIdeal.Skeleton
public import proofs.«01_k».proof.Proof.Gen.FlashBwdKernelIdeal.Launch
public import proofs.«01_k».proof.Proof.Gen.FlashBwdKernelIdeal.Points
public import proofs.«01_k».proof.Proof.Gen.FlashBwdKernelIdeal.Frame
public import proofs.«01_k».proof.Proof.Gen.FlashBwdKernelIdeal.Loops
public import proofs.«01_k».proof.Proof.Gen.FlashBwdRefIdeal
public import proofs.«01_k».proof.Proof.Gen.FlashBwdRefIdeal.Run
public import proofs.«01_k».proof.Proof.FlashClaims
public import proofs.«01_k».proof.Proof.Gen.FfnBwdKernel
public import proofs.«01_k».proof.Proof.Gen.FfnBwdKernel.Skeleton
public import proofs.«01_k».proof.Proof.Gen.FfnBwdKernel.Launch
public import proofs.«01_k».proof.Proof.Gen.FfnBwdKernel.Points
public import proofs.«01_k».proof.Proof.Gen.FfnBwdKernel.Frame
public import proofs.«01_k».proof.Proof.Gen.FfnBwdKernelIdeal
public import proofs.«01_k».proof.Proof.Gen.FfnBwdKernelIdeal.Skeleton
public import proofs.«01_k».proof.Proof.Gen.FfnBwdKernelIdeal.Launch
public import proofs.«01_k».proof.Proof.Gen.FfnBwdKernelIdeal.Points
public import proofs.«01_k».proof.Proof.Gen.FfnBwdKernelIdeal.Frame
public import proofs.«01_k».proof.Proof.Gen.FfnBwdRefIdeal
public import proofs.«01_k».proof.Proof.Gen.FfnBwdKernelIdeal.Value
public import proofs.«01_k».proof.Proof.Gen.FfnBwdRefIdeal.Run
public import proofs.«01_k».proof.Proof.Gen.PoolBwdKernel
public import proofs.«01_k».proof.Proof.Gen.PoolBwdKernel.Skeleton
public import proofs.«01_k».proof.Proof.Gen.PoolBwdKernel.Launch
public import proofs.«01_k».proof.Proof.Gen.PoolBwdKernel.Points
public import proofs.«01_k».proof.Proof.Gen.PoolBwdKernel.Frame
public import proofs.«01_k».proof.Proof.Gen.PoolBwdKernelIdeal
public import proofs.«01_k».proof.Proof.Gen.PoolBwdKernelIdeal.Skeleton
public import proofs.«01_k».proof.Proof.Gen.PoolBwdKernelIdeal.Launch
public import proofs.«01_k».proof.Proof.Gen.PoolBwdKernelIdeal.Points
public import proofs.«01_k».proof.Proof.Gen.PoolBwdKernelIdeal.Frame
public import proofs.«01_k».proof.Proof.Gen.PoolBwdRefIdeal
public import proofs.«01_k».proof.Proof.Gen.PoolBwdKernelIdeal.Value
public import proofs.«01_k».proof.Proof.Gen.PoolBwdRefIdeal.Run
public import proofs.«01_k».proof.Proof.FfnClaims
public import proofs.«01_k».proof.Proof.PoolClaims
public import proofs.«01_k».proof.Proof.Gen.FlashFwdKernel
public import proofs.«01_k».proof.Proof.Gen.FlashFwdKernel.Skeleton
public import proofs.«01_k».proof.Proof.Gen.FlashFwdKernel.Launch
public import proofs.«01_k».proof.Proof.Gen.FlashFwdKernel.Points
public import proofs.«01_k».proof.Proof.Gen.FlashFwdKernel.Frame
public import proofs.«01_k».proof.Proof.Gen.FlashFwdKernelIdeal
public import proofs.«01_k».proof.Proof.Gen.FlashFwdKernelIdeal.Skeleton
public import proofs.«01_k».proof.Proof.Gen.FlashFwdKernelIdeal.Launch
public import proofs.«01_k».proof.Proof.Gen.FlashFwdKernelIdeal.Points
public import proofs.«01_k».proof.Proof.Gen.FlashFwdKernelIdeal.Frame
public import proofs.«01_k».proof.Proof.Gen.FlashFwdKernelIdeal.Loops
public import proofs.«01_k».proof.Proof.Gen.FlashFwdRefIdeal
public import proofs.«01_k».proof.Proof.Gen.FlashFwdRefIdeal.Run
public import proofs.«01_k».proof.Proof.FlashFwdClaims
public import proofs.«01_k».proof.Proof.Gen.FfnFwdKernel
public import proofs.«01_k».proof.Proof.Gen.FfnFwdKernel.Skeleton
public import proofs.«01_k».proof.Proof.Gen.FfnFwdKernel.Launch
public import proofs.«01_k».proof.Proof.Gen.FfnFwdKernel.Points
public import proofs.«01_k».proof.Proof.Gen.FfnFwdKernel.Frame
public import proofs.«01_k».proof.Proof.Gen.FfnFwdKernelIdeal
public import proofs.«01_k».proof.Proof.Gen.FfnFwdKernelIdeal.Skeleton
public import proofs.«01_k».proof.Proof.Gen.FfnFwdKernelIdeal.Launch
public import proofs.«01_k».proof.Proof.Gen.FfnFwdKernelIdeal.Points
public import proofs.«01_k».proof.Proof.Gen.FfnFwdKernelIdeal.Frame
public import proofs.«01_k».proof.Proof.Gen.FfnFwdRefIdeal
public import proofs.«01_k».proof.Proof.Gen.FfnFwdKernelIdeal.Value
public import proofs.«01_k».proof.Proof.Gen.FfnFwdRefIdeal.Run
public import proofs.«01_k».proof.Proof.FfnFwdClaims
public import Idealize.ShloMosaic.Lib.Claim
public import Idealize.ShloMosaic.Adequacy
public import Idealize.ShloMosaic.Init

@[expose] public section

noncomputable section

namespace Cert.Proof

theorem claim : Cert.Claim := ⟨Cert.LossKernel.Gen.facts,
  Cert.LossKernelIdeal.Gen.facts,
  Cert.LossRefIdeal.Gen.facts,
  Cert.OutBwdKernel.Gen.facts,
  Cert.OutBwdKernelIdeal.Gen.facts,
  Cert.OutBwdRefIdeal.Gen.facts,
  Cert.FlashBwdKernel.Gen.facts,
  Cert.FlashBwdKernelIdeal.Gen.facts,
  Cert.FlashBwdRefIdeal.Gen.facts,
  Cert.FfnBwdKernel.Gen.facts,
  Cert.FfnBwdKernelIdeal.Gen.facts,
  Cert.FfnBwdRefIdeal.Gen.facts,
  Cert.PoolBwdKernel.Gen.facts,
  Cert.PoolBwdKernelIdeal.Gen.facts,
  Cert.PoolBwdRefIdeal.Gen.facts,
  Cert.FlashFwdKernel.Gen.facts,
  Cert.FlashFwdKernelIdeal.Gen.facts,
  Cert.FlashFwdRefIdeal.Gen.facts,
  Cert.FfnFwdKernel.Gen.facts,
  Cert.FfnFwdKernelIdeal.Gen.facts,
  Cert.FfnFwdRefIdeal.Gen.facts,
  Cert.FlashValue.pre_facts,
  Cert.FfnValue.pre_facts,
  Cert.FlashFwdValue.pre_facts,
  fun m ρ _ => Cert.LossKernel.Gen.frame m ρ,
  fun m ρ _ => Cert.LossKernelIdeal.Gen.frame m ρ,
  Cert.LossValue.ref_frame,
  fun m ρ _ => Cert.OutBwdKernel.Gen.frame m ρ,
  fun m ρ _ => Cert.OutBwdKernelIdeal.Gen.frame m ρ,
  Cert.OutValue.ref_frame,
  Cert.FlashBwdRun.kernel_frame,
  fun m ρ _ => Cert.FlashBwdRun.ideal_frame m ρ,
  fun m ρ _ => Cert.FlashBwdRun.ideal_frame m ρ,
  Cert.FlashValue.ref_frame,
  fun m ρ _ => Cert.FlashValue.ref_frame m ρ trivial,
  fun m ρ _ => Cert.FfnBwdKernel.Gen.frame m ρ,
  fun m ρ _ => Cert.FfnBwdKernelIdeal.Gen.frame m ρ,
  fun m ρ _ => Cert.FfnBwdKernelIdeal.Gen.frame m ρ,
  Cert.FfnValue.ref_frame,
  fun m ρ _ => Cert.FfnValue.ref_frame m ρ trivial,
  fun m ρ _ => Cert.PoolBwdKernel.Gen.frame m ρ,
  fun m ρ _ => Cert.PoolBwdKernelIdeal.Gen.frame m ρ,
  Cert.PoolValue.ref_frame,
  Cert.FlashFwdRun.kernel_frame,
  fun m ρ _ => Cert.FlashFwdRun.ideal_frame m ρ,
  fun m ρ _ => Cert.FlashFwdRun.ideal_frame m ρ,
  Cert.FlashFwdValue.ref_frame,
  fun m ρ _ => Cert.FlashFwdValue.ref_frame m ρ trivial,
  fun m ρ _ => Cert.FfnFwdKernel.Gen.frame m ρ,
  fun m ρ _ => Cert.FfnFwdKernelIdeal.Gen.frame m ρ,
  Cert.FfnFwdValue.ref_frame,
  trivial,
  Cert.LossValue.loss_algebraic,
  trivial,
  Cert.OutValue.out_algebraic,
  trivial,
  Cert.FlashValue.flash_algebraic,
  trivial,
  Cert.FfnValue.ffn_algebraic,
  trivial,
  trivial,
  Cert.FlashFwdValue.flashFwd_algebraic,
  trivial,
  Cert.FfnFwdValue.ffnFwd_algebraic⟩

end Cert.Proof

end
